-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_gate1 [hPre_finite_gate1 : Cert.Pre_finite_gate1.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_gate1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_gate1 [hPre_finite_gate1 : Cert.Pre_finite_gate1.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_gate1.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conv [hPre_finite_conv : Cert.Pre_finite_conv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conv [hPre_finite_conv : Cert.Pre_finite_conv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_gate1 [hKernel3Ideal : Cert.Kernel3Ideal.Facts] [hPre_finite_gate1 : Cert.Pre_finite_gate1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_gate1 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_gate1 [hReference3Ideal : Cert.Reference3Ideal.Facts] [hPre_finite_gate1 : Cert.Pre_finite_gate1.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_gate1 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_conv [hKernel4Ideal : Cert.Kernel4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_conv [hReference4Ideal : Cert.Reference4Ideal.Facts] [hPre_finite_conv : Cert.Pre_finite_conv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "masked" .f32 0xF1800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_gate1 [hKernel3Ideal : Cert.Kernel3Ideal.Facts] [hReference3Ideal : Cert.Reference3Ideal.Facts] [hPre_finite_gate1 : Cert.Pre_finite_gate1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_gate1 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_conv [hKernel4Ideal : Cert.Kernel4Ideal.Facts] [hReference4Ideal : Cert.Reference4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)) (v4 : (c : Dev Cert.Kernel4Ideal.nD) → Buf (Elt Ideal) ((c.tc : Thread Cert.Kernel4Ideal.nD Cert.Kernel4Ideal.τ).loc Cert.Kernel4Ideal.main_v23_4)) (v5 : (c : Dev Cert.Kernel4Ideal.nD) → Buf (Elt Ideal) ((c.tc : Thread Cert.Kernel4Ideal.nD Cert.Kernel4Ideal.τ).loc Cert.Kernel4Ideal.main_v23_5)) (v6 : (c : Dev Cert.Kernel4Ideal.nD) → Buf (Elt Ideal) ((c.tc : Thread Cert.Kernel4Ideal.nD Cert.Kernel4Ideal.τ).loc Cert.Kernel4Ideal.main_v23_6)) (v7 : (c : Dev Cert.Kernel4Ideal.nD) → Buf (Elt Ideal) ((c.tc : Thread Cert.Kernel4Ideal.nD Cert.Kernel4Ideal.τ).loc Cert.Kernel4Ideal.main_v23_7)) (v8 : (c : Dev Cert.Kernel4Ideal.nD) → Buf (Elt Ideal) ((c.tc : Thread Cert.Kernel4Ideal.nD Cert.Kernel4Ideal.τ).loc Cert.Kernel4Ideal.main_v23_8)) (v9 : (c : Dev Cert.Kernel4Ideal.nD) → Buf (Elt Ideal) ((c.tc : Thread Cert.Kernel4Ideal.nD Cert.Kernel4Ideal.τ).loc Cert.Kernel4Ideal.main_v23_9)) (v10 : (c : Dev Cert.Kernel4Ideal.nD) → Buf (Elt Ideal) ((c.tc : Thread Cert.Kernel4Ideal.nD Cert.Kernel4Ideal.τ).loc Cert.Kernel4Ideal.main_v23_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_v23_4) = v4 c
          ∧ r.2.mem ((c.tc : Thread Cert.Kernel4Ideal.nD Cert.Kernel4Ideal.τ).loc Cert.Kernel4Ideal.main_v23_5) = v5 c
          ∧ r.2.mem ((c.tc : Thread Cert.Kernel4Ideal.nD Cert.Kernel4Ideal.τ).loc Cert.Kernel4Ideal.main_v23_6) = v6 c
          ∧ r.2.mem ((c.tc : Thread Cert.Kernel4Ideal.nD Cert.Kernel4Ideal.τ).loc Cert.Kernel4Ideal.main_v23_7) = v7 c
          ∧ r.2.mem ((c.tc : Thread Cert.Kernel4Ideal.nD Cert.Kernel4Ideal.τ).loc Cert.Kernel4Ideal.main_v23_8) = v8 c
          ∧ r.2.mem ((c.tc : Thread Cert.Kernel4Ideal.nD Cert.Kernel4Ideal.τ).loc Cert.Kernel4Ideal.main_v23_9) = v9 c
          ∧ r.2.mem ((c.tc : Thread Cert.Kernel4Ideal.nD Cert.Kernel4Ideal.τ).loc Cert.Kernel4Ideal.main_v23_10) = v10 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v49) = v3 c
          ∧ r.2.mem ((c.tc : Thread Cert.Reference4Ideal.nD Cert.Reference4Ideal.τ).loc Cert.Reference4Ideal.main_v52) = v4 c
          ∧ r.2.mem ((c.tc : Thread Cert.Reference4Ideal.nD Cert.Reference4Ideal.τ).loc Cert.Reference4Ideal.main_v55) = v5 c
          ∧ r.2.mem ((c.tc : Thread Cert.Reference4Ideal.nD Cert.Reference4Ideal.τ).loc Cert.Reference4Ideal.main_v58) = v6 c
          ∧ r.2.mem ((c.tc : Thread Cert.Reference4Ideal.nD Cert.Reference4Ideal.τ).loc Cert.Reference4Ideal.main_v64) = v7 c
          ∧ r.2.mem ((c.tc : Thread Cert.Reference4Ideal.nD Cert.Reference4Ideal.τ).loc Cert.Reference4Ideal.main_v68) = v8 c
          ∧ r.2.mem ((c.tc : Thread Cert.Reference4Ideal.nD Cert.Reference4Ideal.τ).loc Cert.Reference4Ideal.main_v72) = v9 c
          ∧ r.2.mem ((c.tc : Thread Cert.Reference4Ideal.nD Cert.Reference4Ideal.τ).loc Cert.Reference4Ideal.main_v75) = v10 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12)) (v1 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_v13) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gate : Cert.Pre_finite_gate.Facts) (hPre_finite_gate1 : Cert.Pre_finite_gate1.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Kernel3Ideal_pre_finite_gate1 (hKernel3Ideal := hKernel3Ideal) (hPre_finite_gate1 := hPre_finite_gate1)
    ∧ quiescent_Reference3Ideal (hReference3Ideal := hReference3Ideal)
    ∧ quiescent_Reference3Ideal_pre_finite_gate1 (hReference3Ideal := hReference3Ideal) (hPre_finite_gate1 := hPre_finite_gate1)
    ∧ quiescent_Kernel4 (hKernel4 := hKernel4)
    ∧ quiescent_Kernel4Ideal (hKernel4Ideal := hKernel4Ideal)
    ∧ quiescent_Kernel4Ideal_pre_finite_conv (hKernel4Ideal := hKernel4Ideal) (hPre_finite_conv := hPre_finite_conv)
    ∧ quiescent_Reference4Ideal (hReference4Ideal := hReference4Ideal)
    ∧ quiescent_Reference4Ideal_pre_finite_conv (hReference4Ideal := hReference4Ideal) (hPre_finite_conv := hPre_finite_conv)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal_pre_finite_gate1 (hKernel3Ideal := hKernel3Ideal) (hReference3Ideal := hReference3Ideal) (hPre_finite_gate1 := hPre_finite_gate1)
    ∧ preserves_Kernel4_Kernel4Ideal
    ∧ algebraic_Kernel4Ideal_Reference4Ideal_pre_finite_conv (hKernel4Ideal := hKernel4Ideal) (hReference4Ideal := hReference4Ideal) (hPre_finite_conv := hPre_finite_conv)
    ∧ preserves_Kernel5_Kernel5Ideal
    ∧ algebraic_Kernel5Ideal_Reference5Ideal (hKernel5Ideal := hKernel5Ideal) (hReference5Ideal := hReference5Ideal)
-- ==== Pre_finite.lean ====
abbrev S16x4096x1536 : Shape := ⟨3, ![16, 4096, 1536]⟩
abbrev S16x4096x512 : Shape := ⟨3, ![16, 4096, 512]⟩
abbrev S16x4096x4 : Shape := ⟨3, ![16, 4096, 4]⟩
abbrev S4 : Shape := ⟨1, ![4]⟩
abbrev S128 : Shape := ⟨1, ![128]⟩
abbrev S_ : Shape := ⟨0, ![]⟩

class Facts : Prop where
  bcast_S_S16x4096x1536 : S_.BroadcastsInDim S16x4096x1536 (![] : Fin 0 → Fin S16x4096x1536.rank)
  bcast_S_S16x4096x512 : S_.BroadcastsInDim S16x4096x512 (![] : Fin 0 → Fin S16x4096x512.rank)
  bcast_S_S16x4096x4 : S_.BroadcastsInDim S16x4096x4 (![] : Fin 0 → Fin S16x4096x4.rank)
  bcast_S_S4 : S_.BroadcastsInDim S4 (![] : Fin 0 → Fin S4.rank)

variable [Facts]

def fn {F : FTy → Type} [FloatOps F] (main_arg0 : FVec F S16x4096x1536 .f32) (main_arg1 : FVec F S16x4096x512 .f32) (main_arg2 : FVec F S16x4096x4 .f32) (main_arg3 : FVec F S16x4096x4 .f32) (main_arg4 : FVec F S4 .f32) (main_arg5 : FVec F S4 .f32) (main_arg6 : FVec F S128 .f32) : IVec S16x4096x1536 1 × IVec S16x4096x512 1 × IVec S16x4096x4 1 × IVec S4 1 × IVec S4 1 :=
  let main_v0 : FVec F S16x4096x1536 .f32 := Host.absf main_arg0
  let main_cst : FVec F S_ .f32 := constant S_ .f32 0x7F800000#32
  let main_v1 : FVec F S16x4096x1536 .f32 := broadcastInDim S16x4096x1536 ![] bcast_S_S16x4096x1536 main_cst
  let main_v2 : IVec S16x4096x1536 1 := cmpf .olt main_v0 main_v1
  let main_v3 : FVec F S16x4096x512 .f32 := Host.absf main_arg1
  let main_cst_0 : FVec F S_ .f32 := constant S_ .f32 0x7F800000#32
  let main_v4 : FVec F S16x4096x512 .f32 := broadcastInDim S16x4096x512 ![] bcast_S_S16x4096x512 main_cst_0
  let main_v5 : IVec S16x4096x512 1 := cmpf .olt main_v3 main_v4
  let main_v6 : FVec F S16x4096x4 .f32 := Host.absf main_arg3
  let main_cst_1 : FVec F S_ .f32 := constant S_ .f32 0x7F800000#32
  let main_v7 : FVec F S16x4096x4 .f32 := broadcastInDim S16x4096x4 ![] bcast_S_S16x4096x4 main_cst_1
  let main_v8 : IVec S16x4096x4 1 := cmpf .olt main_v6 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_v12 : FVec F S4 .f32 := Host.absf main_arg5
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  (main_v2, main_v5, main_v8, main_v11, main_v14)
-- ==== Pre_finite_conv.lean ====
abbrev S16x4096x1024 : Shape := ⟨3, ![16, 4096, 1024]⟩
abbrev S1024x3360 : Shape := ⟨2, ![1024, 3360]⟩
abbrev S4x1536 : Shape := ⟨2, ![4, 1536]⟩
abbrev S_ : Shape := ⟨0, ![]⟩
abbrev S1024x1536 : Shape := ⟨2, ![1024, 1536]⟩

class Facts : Prop where
  bcast_S_S16x4096x1024 : S_.BroadcastsInDim S16x4096x1024 (![] : Fin 0 → Fin S16x4096x1024.rank)
  slices_S1024x3360_S1024x1536_0_0 : S1024x3360.Slices ![0, 0] S1024x1536
  bcast_S_S1024x1536 : S_.BroadcastsInDim S1024x1536 (![] : Fin 0 → Fin S1024x1536.rank)
  bcast_S_S4x1536 : S_.BroadcastsInDim S4x1536 (![] : Fin 0 → Fin S4x1536.rank)

variable [Facts]

def fn {F : FTy → Type} [FloatOps F] (main_arg0 : FVec F S16x4096x1024 .f32) (main_arg1 : FVec F S1024x3360 .f32) (main_arg2 : FVec F S4x1536 .f32) : IVec S16x4096x1024 1 × IVec S1024x1536 1 × IVec S4x1536 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_v3 : FVec F S1024x1536 .f32 := (extractStridedSlice S1024x1536 ![0, 0] · slices_S1024x3360_S1024x1536_0_0) main_arg1
  let main_v4 : FVec F S1024x1536 .f32 := Host.absf main_v3
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_v7 : FVec F S4x1536 .f32 := Host.absf main_arg2
  let main_cst_1 : FVec F S_ .f32 := constant S_ .f32 0x7F800000#32
  let main_v8 : FVec F S4x1536 .f32 := broadcastInDim S4x1536 ![] bcast_S_S4x1536 main_cst_1
  let main_v9 : IVec S4x1536 1 := cmpf .olt main_v7 main_v8
  (main_v2, main_v6, main_v9)
-- ==== Pre_finite_gate.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024x2816 : S_.BroadcastsInDim S1024x2816 (![] : Fin 0 → Fin S1024x2816.rank)

variable [Facts]

def fn {F : FTy → Type} [FloatOps F] (main_arg0 : FVec F S16x4096x1024 .f32) (main_arg1 : FVec F S16x4096x512 .f32) (main_arg2 : FVec F S16x4096x512 .f32) (main_arg3 : FVec F S1024x1024 .f32) (main_arg4 : FVec F S1024 .f32) (main_arg5 : FVec F S1024 .f32) (main_arg6 : FVec F S1024x2816 .f32) (main_arg7 : FVec F S1024x2816 .f32) (main_arg8 : FVec F S2816x1024 .f32) (main_arg9 : FVec F S1024 .f32) (main_arg10 : FVec F S1024 .f32) : IVec S1024x2816 1 :=
  let main_v0 : FVec F S1024x2816 .f32 := Host.absf main_arg6
  let main_cst : FVec F S_ .f32 := constant S_ .f32 0x7F800000#32
  let main_v1 : FVec F S1024x2816 .f32 := broadcastInDim S1024x2816 ![] bcast_S_S1024x2816 main_cst
  let main_v2 : IVec S1024x2816 1 := cmpf .olt main_v0 main_v1
  main_v2
-- ==== Pre_finite_gate1.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S1024x2816 : S_.BroadcastsInDim S1024x2816 (![] : Fin 0 → Fin S1024x2816.rank)

variable [Facts]

def fn {F : FTy → Type} [FloatOps F] (main_arg0 : FVec F S16x4096x1024 .f32) (main_arg1 : FVec F S1024x2816 .f32) (main_arg2 : FVec F S1024x2816 .f32) (main_arg3 : FVec F S2816x1024 .f32) (main_arg4 : FVec F S1024 .f32) (main_arg5 : FVec F S1024 .f32) : IVec S1024x2816 1 :=
  let main_v0 : FVec F S1024x2816 .f32 := Host.absf main_arg1
  let main_cst : FVec F S_ .f32 := constant S_ .f32 0x7F800000#32
  let main_v1 : FVec F S1024x2816 .f32 := broadcastInDim S1024x2816 ![] bcast_S_S1024x2816 main_cst
  let main_v2 : IVec S1024x2816 1 := cmpf .olt main_v0 main_v1
  main_v2
-- ==== Kernel.lean ====
abbrev S16x4096x1536 : Shape := ⟨3, ![16, 4096, 1536]⟩
abbrev S16x4096x512 : Shape := ⟨3, ![16, 4096, 512]⟩
abbrev S16x4096x4 : Shape := ⟨3, ![16, 4096, 4]⟩
abbrev S4 : Shape := ⟨1, ![4]⟩
abbrev S128 : Shape := ⟨1, ![128]⟩
abbrev S_ : Shape := ⟨0, ![]⟩
abbrev S16x4096x120 : Shape := ⟨3, ![16, 4096, 120]⟩
abbrev S16x4096x128 : Shape := ⟨3, ![16, 4096, 128]⟩
abbrev S16x4096x8 : Shape := ⟨3, ![16, 4096, 8]⟩
abbrev S16x64x64x8 : Shape := ⟨4, ![16, 64, 64, 8]⟩
abbrev S16x64x8x64 : Shape := ⟨4, ![16, 64, 8, 64]⟩
abbrev S8x128 : Shape := ⟨2, ![8, 128]⟩
abbrev S1 : Shape := ⟨1, ![1]⟩
abbrev S2 : Shape := ⟨1, ![2]⟩
abbrev S1x128 : Shape := ⟨2, ![1, 128]⟩
abbrev S2x256x1536 : Shape := ⟨3, ![2, 256, 1536]⟩
abbrev S2x256x512 : Shape := ⟨3, ![2, 256, 512]⟩
abbrev S2x256x128 : Shape := ⟨3, ![2, 256, 128]⟩
abbrev S2x4x8x64 : Shape := ⟨4, ![2, 4, 8, 64]⟩
abbrev S8x128x128 : Shape := ⟨3, ![8, 128, 128]⟩
abbrev S64x64 : Shape := ⟨2, ![64, 64]⟩
abbrev S1x64x128 : Shape := ⟨3, ![1, 64, 128]⟩
abbrev S64x128 : Shape := ⟨2, ![64, 128]⟩
abbrev S1x1x8x64 : Shape := ⟨4, ![1, 1, 8, 64]⟩
abbrev S8x64 : Shape := ⟨2, ![8, 64]⟩
abbrev S8x1 : Shape := ⟨2, ![8, 1]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 43
  | .vmem => 14
  | .smem => 0
  | _ => 0

abbrev bufTy : (tb : Table) → Fin (tcTables nBuf tb) → BufTy
  | .hbm, ⟨0, _⟩ => ⟨S16x4096x1536, .f32⟩
  | .hbm, ⟨1, _⟩ => ⟨S16x4096x512, .f32⟩
  | .hbm, ⟨2, _⟩ => ⟨S16x4096x4, .f32⟩
  | .hbm, ⟨3, _⟩ => ⟨S16x4096x4, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S_, .f32⟩
  | .hbm, ⟨8, _⟩ => ⟨S16x4096x120, .f32⟩
  | .hbm, ⟨9, _⟩ => ⟨S16x4096x128, .f32⟩
  | .hbm, ⟨10, _⟩ => ⟨S16x4096x8, .f32⟩
  | .hbm, ⟨11, _⟩ => ⟨S16x64x64x8, .f32⟩
  | .hbm, ⟨12, _⟩ => ⟨S16x64x8x64, .f32⟩
  | .hbm, ⟨13, _⟩ => ⟨S_, .f32⟩
  | .hbm, ⟨14, _⟩ => ⟨S8x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S8x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S8x128, .f32⟩
  | .hbm, ⟨41, _⟩ => ⟨S1x128, .f32⟩
  | .hbm, ⟨42, _⟩ => ⟨S16x4096x512, .f32⟩
  | .local _ .vmem, ⟨0, _⟩ => ⟨S2x256x1536, .f32⟩
  | .local _ .vmem, ⟨1, _⟩ => ⟨S2x256x1536, .f32⟩
  | .local _ .vmem, ⟨2, _⟩ => ⟨S2x256x512, .f32⟩
  | .local _ .vmem, ⟨3, _⟩ => ⟨S2x256x512, .f32⟩
  | .local _ .vmem, ⟨4, _⟩ => ⟨S2x256x128, .f32⟩
  | .local _ .vmem, ⟨5, _⟩ => ⟨S2x256x128, .f32⟩
  | .local _ .vmem, ⟨6, _⟩ => ⟨S2x4x8x64, .f32⟩
  | .local _ .vmem, ⟨7, _⟩ => ⟨S2x4x8x64, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S2x256x512, .f32⟩
  | .local _ .vmem, ⟨12, _⟩ => ⟨S2x256x512, .f32⟩
  | .local _ .vmem, ⟨13, _⟩ => ⟨S8x128x128, .f32⟩
  | _, _ => ⟨S16x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_c_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_7 : Ref sig .tc := ⟨.hbm, 35, rfl⟩
abbrev main_v19 : Ref sig .tc := ⟨.hbm, 36, rfl⟩
abbrev main_c_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S16x4096x1536 : Shape := ⟨3, ![16, 4096, 1536]⟩
abbrev S16x4096x512 : Shape := ⟨3, ![16, 4096, 512]⟩
abbrev S16x4096x4 : Shape := ⟨3, ![16, 4096, 4]⟩
abbrev S4 : Shape := ⟨1, ![4]⟩
abbrev S128 : Shape := ⟨1, ![128]⟩
abbrev S16x4096x4x128 : Shape := ⟨4, ![16, 4096, 4, 128]⟩
abbrev S_ : Shape := ⟨0, ![]⟩
abbrev S16x4096x4x1 : Shape := ⟨4, ![16, 4096, 4, 1]⟩
abbrev S1x1x4 : Shape := ⟨3, ![1, 1, 4]⟩
abbrev S4096x16x4x128 : Shape := ⟨4, ![4096, 16, 4, 128]⟩
abbrev S4096x16x4 : Shape := ⟨3, ![4096, 16, 4]⟩
abbrev S16x4x128x128 : Shape := ⟨4, ![16, 4, 128, 128]⟩
abbrev S1x16x4x128 : Shape := ⟨4, ![1, 16, 4, 128]⟩
abbrev S16x4x128 : Shape := ⟨3, ![16, 4, 128]⟩
abbrev S1x16x4 : Shape := ⟨3, ![1, 16, 4]⟩
abbrev S16x4 : Shape := ⟨2, ![16, 4]⟩
abbrev S16x4x1x1 : Shape := ⟨4, ![16, 4, 1, 1]⟩
abbrev S16x4x1 : Shape := ⟨3, ![16, 4, 1]⟩
abbrev S16x4x128x1 : Shape := ⟨4, ![16, 4, 128, 1]⟩
abbrev S16x4x1x128 : Shape := ⟨4, ![16, 4, 1, 128]⟩
abbrev S1x1x1x128 : Shape := ⟨4, ![1, 1, 1, 128]⟩

abbrev nBuf : Space → Nat
  | .hbm => 169
  | .vmem => 0
  | .smem => 0
  | _ => 0

abbrev hbmTy0_0 (i : Nat) : BufTy := match i % 128 with
  | 0 => ⟨S16x4096x1536, .f32⟩
  | 1 => ⟨S16x4096x512, .f32⟩
  | 2 => ⟨S16x4096x4, .f32⟩
  | 3 => ⟨S16x4096x4, .f32⟩
  | 4 => ⟨S4, .f32⟩
  | 5 => ⟨S4, .f32⟩
  | 6 => ⟨S128, .f32⟩
  | 7 => ⟨S16x4096x512, .f32⟩
  | 8 => ⟨S16x4096x512, .f32⟩
  | 9 => ⟨S16x4096x512, .f32⟩
  | 10 => ⟨S16x4096x4x128, .f32⟩
  | 11 => ⟨S16x4096x4x128, .f32⟩
  | 12 => ⟨S_, .f32⟩
  | 13 => ⟨S16x4096x4, .f32⟩
  | 14 => ⟨S16x4096x4x1, .f32⟩
  | 15 => ⟨S_, .f32⟩
  | 16 => ⟨S16x4096x4x1, .f32⟩
  | 17 => ⟨S16x4096x4x1, .f32⟩
  | 18 => ⟨S16x4096x4x1, .f32⟩
  | 19 => ⟨S16x4096x4x128, .f32⟩
  | 20 => ⟨S16x4096x4x128, .f32⟩
  | 21 => ⟨S_, .f32⟩
  | 22 => ⟨S16x4096x4x128, .f32⟩
  | 23 => ⟨S16x4096x4x128, .f32⟩
  | 24 => ⟨S16x4096x4x128, .f32⟩
  | 25 => ⟨S16x4096x4x128, .f32⟩
  | 26 => ⟨S_, .f32⟩
  | 27 => ⟨S16x4096x4, .f32⟩
  | 28 => ⟨S16x4096x4x1, .f32⟩
  | 29 => ⟨S_, .f32⟩
  | 30 => ⟨S16x4096x4x1, .f32⟩
  | 31 => ⟨S16x4096x4x1, .f32⟩
  | 32 => ⟨S16x4096x4x1, .f32⟩
  | 33 => ⟨S16x4096x4x128, .f32⟩
  | 34 => ⟨S16x4096x4x128, .f32⟩
  | 35 => ⟨S16x4096x4x128, .f32⟩
  | 36 => ⟨S16x4096x4, .f32⟩
  | 37 => ⟨S16x4096x4, .f32⟩
  | 38 => ⟨S_, .f32⟩
  | 39 => ⟨S16x4096x4, .f32⟩
  | 40 => ⟨S16x4096x4, .f32⟩
  | 41 => ⟨S_, .f32⟩
  | 42 => ⟨S16x4096x4, .f32⟩
  | 43 => ⟨S16x4096x4, .f32⟩
  | 44 => ⟨S4, .f32⟩
  | 45 => ⟨S4, .f32⟩
  | 46 => ⟨S1x1x4, .f32⟩
  | 47 => ⟨S16x4096x4, .f32⟩
  | 48 => ⟨S16x4096x4, .f32⟩
  | 49 => ⟨S_, .f32⟩
  | 50 => ⟨S16x4096x4, .f32⟩
  | 51 => ⟨S16x4096x4, .f32⟩
  | 52 => ⟨S16x4096x4, .f32⟩
  | 53 => ⟨S16x4096x4, .f32⟩
  | 54 => ⟨S16x4096x4, .i1⟩
  | 55 => ⟨S16x4096x4, .f32⟩
  | 56 => ⟨S16x4096x4, .f32⟩
  | 57 => ⟨S16x4096x4, .f32⟩
  | 58 => ⟨S16x4096x4, .f32⟩
  | 59 => ⟨S16x4096x4, .f32⟩
  | 60 => ⟨S16x4096x4, .f32⟩
  | 61 => ⟨S16x4096x4, .f32⟩
  | 62 => ⟨S16x4096x4, .f32⟩
  | 63 => ⟨S1x1x4, .f32⟩
  | 64 => ⟨S16x4096x4, .f32⟩
  | 65 => ⟨S16x4096x4, .f32⟩
  | 66 => ⟨S4096x16x4x128, .f32⟩
  | 67 => ⟨S4096x16x4x128, .f32⟩
  | 68 => ⟨S4096x16x4x128, .f32⟩
  | 69 => ⟨S4096x16x4, .f32⟩
  | 70 => ⟨S4096x16x4, .f32⟩
  | 71 => ⟨S_, .f32⟩
  | 72 => ⟨S16x4x128x128, .f32⟩
  | 73 => ⟨S_, .f32⟩
  | 74 => ⟨S4096x16x4x128, .f32⟩
  | 75 => ⟨S_, .i32⟩
  | 76 => ⟨S4096x16x4x128, .f32⟩
  | 77 => ⟨S4096x16x4x128, .f32⟩
  | 78 => ⟨S4096x16x4x128, .f32⟩
  | 79 => ⟨S4096x16x4, .f32⟩
  | 80 => ⟨S4096x16x4, .f32⟩
  | 81 => ⟨S_, .i32⟩
  | 82 => ⟨S16x4x128x128, .f32⟩
  | 83 => ⟨S4096x16x4x128, .f32⟩
  | 84 => ⟨S_, .i32⟩
  | 85 => ⟨S_, .i1⟩
  | 86 => ⟨S_, .i32⟩
  | 87 => ⟨S_, .i32⟩
  | 88 => ⟨S_, .i32⟩
  | 89 => ⟨S1x16x4x128, .f32⟩
  | 90 => ⟨S16x4x128, .f32⟩
  | 91 => ⟨S_, .i32⟩
  | 92 => ⟨S_, .i32⟩
  | 93 => ⟨S_, .i32⟩
  | 94 => ⟨S1x16x4x128, .f32⟩
  | 95 => ⟨S16x4x128, .f32⟩
  | 96 => ⟨S_, .i32⟩
  | 97 => ⟨S_, .i32⟩
  | 98 => ⟨S_, .i32⟩
  | 99 => ⟨S1x16x4x128, .f32⟩
  | 100 => ⟨S16x4x128, .f32⟩
  | 101 => ⟨S_, .i32⟩
  | 102 => ⟨S_, .i32⟩
  | 103 => ⟨S1x16x4, .f32⟩
  | 104 => ⟨S16x4, .f32⟩
  | 105 => ⟨S_, .i32⟩
  | 106 => ⟨S_, .i32⟩
  | 107 => ⟨S1x16x4, .f32⟩
  | 108 => ⟨S16x4, .f32⟩
  | 109 => ⟨S16x4x128, .f32⟩
  | 110 => ⟨S16x4, .f32⟩
  | 111 => ⟨S16x4x1x1, .f32⟩
  | 112 => ⟨S16x4x1, .f32⟩
  | 113 => ⟨S16x4x128, .f32⟩
  | 114 => ⟨S16x4x128, .f32⟩
  | 115 => ⟨S16x4x128x1, .f32⟩
  | 116 => ⟨S16x4x1x128, .f32⟩
  | 117 => ⟨S16x4x128x128, .f32⟩
  | 118 => ⟨S16x4x128x128, .f32⟩
  | 119 => ⟨S16x4x128x128, .f32⟩
  | 120 => ⟨S16x4x128x128, .f32⟩
  | 121 => ⟨S16x4x128x128, .f32⟩
  | 122 => ⟨S16x4x128x128, .f32⟩
  | 123 => ⟨S16x4x1, .f32⟩
  | 124 => ⟨S16x4x128, .f32⟩
  | 125 => ⟨S16x4x128, .f32⟩
  | 126 => ⟨S16x4x128x1, .f32⟩
  | 127 => ⟨S16x4x1x128, .f32⟩
  | _ => ⟨S16x4096x1536, .f32⟩

abbrev hbmTy0_1 (i : Nat) : BufTy := match i % 128 with
  | 0 => ⟨S16x4x128x128, .f32⟩
  | 1 => ⟨S16x4x128x128, .f32⟩
  | 2 => ⟨S16x4x128x128, .f32⟩
  | 3 => ⟨S16x4x128x128, .f32⟩
  | 4 => ⟨S16x4x128, .f32⟩
  | 5 => ⟨S1x16x4x128, .f32⟩
  | 6 => ⟨S_, .i32⟩
  | 7 => ⟨S_, .i32⟩
  | 8 => ⟨S_, .i32⟩
  | 9 => ⟨S4096x16x4x128, .f32⟩
  | 10 => ⟨S_, .i32⟩
  | 11 => ⟨S_, .i32⟩
  | 12 => ⟨S16x4096x4x128, .f32⟩
  | 13 => ⟨S16x4096x4x128, .f32⟩
  | 14 => ⟨S_, .f32⟩
  | 15 => ⟨S16x4096x4, .f32⟩
  | 16 => ⟨S16x4096x4x1, .f32⟩
  | 17 => ⟨S_, .f32⟩
  | 18 => ⟨S16x4096x4x1, .f32⟩
  | 19 => ⟨S16x4096x4x1, .f32⟩
  | 20 => ⟨S_, .f32⟩
  | 21 => ⟨S16x4096x4x1, .f32⟩
  | 22 => ⟨S16x4096x4x1, .f32⟩
  | 23 => ⟨S16x4096x4x1, .f32⟩
  | 24 => ⟨S16x4096x4x128, .f32⟩
  | 25 => ⟨S16x4096x4x128, .f32⟩
  | 26 => ⟨S1x1x1x128, .f32⟩
  | 27 => ⟨S16x4096x4x128, .f32⟩
  | 28 => ⟨S16x4096x4x128, .f32⟩
  | 29 => ⟨S16x4096x4x128, .f32⟩
  | 30 => ⟨S16x4096x4x128, .f32⟩
  | 31 => ⟨S16x4096x4x128, .f32⟩
  | 32 => ⟨S_, .f32⟩
  | 33 => ⟨S16x4096x4x128, .f32⟩
  | 34 => ⟨S16x4096x4x128, .f32⟩
  | 35 => ⟨S_, .f32⟩
  | 36 => ⟨S16x4096x4x128, .f32⟩
  | 37 => ⟨S16x4096x4x128, .f32⟩
  | 38 => ⟨S16x4096x4x128, .f32⟩
  | 39 => ⟨S16x4096x4x128, .f32⟩
  | 40 => ⟨S16x4096x512, .f32⟩
  | _ => ⟨S16x4096x1536, .f32⟩

abbrev hbmTy (i : Nat) : BufTy := match i / 128 with
  | 0 => hbmTy0_0 i
  | 1 => hbmTy0_1 i
  | _ => ⟨S16x4096x1536, .f32⟩

abbrev bufTy : (tb : Table) → Fin (tcTables nBuf tb) → BufTy
  | .hbm, ⟨i, _⟩ => hbmTy i
  | _, _ => ⟨S16x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_c : Ref sig .tc := ⟨.hbm, 75, rfl⟩
abbrev main_v46_0 : Ref sig .tc := ⟨.hbm, 76, rfl⟩
abbrev main_v46_1 : Ref sig .tc := ⟨.hbm, 77, rfl⟩
abbrev main_v46_2 : Ref sig .tc := ⟨.hbm, 78, rfl⟩
abbrev main_v46_3 : Ref sig .tc := ⟨.hbm, 79, rfl⟩
abbrev main_v46_4 : Ref sig .tc := ⟨.hbm, 80, rfl⟩
abbrev main_v46_5 : Ref sig .tc := ⟨.hbm, 81, rfl⟩
abbrev main_v46_6 : Ref sig .tc := ⟨.hbm, 82, rfl⟩
abbrev main_v46_7 : Ref sig .tc := ⟨.hbm, 83, rfl⟩
abbrev main_while0c_c_18 : Ref sig .tc := ⟨.hbm, 84, rfl⟩
abbrev main_while0c_v65 : Ref sig .tc := ⟨.hbm, 85, rfl⟩
abbrev main_while0b_call1_c : Ref sig .tc := ⟨.hbm, 86, rfl⟩
abbrev main_while0b_call1_c_0 : Ref sig .tc := ⟨.hbm, 87, rfl⟩
abbrev main_while0b_call1_c_1 : Ref sig .tc := ⟨.hbm, 88, rfl⟩
abbrev main_while0b_call1_v0 : Ref sig .tc := ⟨.hbm, 89, rfl⟩
abbrev main_while0b_v65 : Ref sig .tc := ⟨.hbm, 90, rfl⟩
abbrev main_while0b_call2_c : Ref sig .tc := ⟨.hbm, 91, rfl⟩
abbrev main_while0b_call2_c_0 : Ref sig .tc := ⟨.hbm, 92, rfl⟩
abbrev main_while0b_call2_c_1 : Ref sig .tc := ⟨.hbm, 93, rfl⟩
abbrev main_while0b_call2_v0 : Ref sig .tc := ⟨.hbm, 94, rfl⟩
abbrev main_while0b_v66 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_v0 : Ref sig .tc := ⟨.hbm, 99, rfl⟩
abbrev main_while0b_v67 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_v0 : Ref sig .tc := ⟨.hbm, 103, rfl⟩
abbrev main_while0b_v68 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_v0 : Ref sig .tc := ⟨.hbm, 107, rfl⟩
abbrev main_while0b_v69 : Ref sig .tc := ⟨.hbm, 108, rfl⟩
abbrev main_while0b_v70 : Ref sig .tc := ⟨.hbm, 109, rfl⟩
abbrev main_while0b_v71 : Ref sig .tc := ⟨.hbm, 110, rfl⟩
abbrev main_while0b_v72 : Ref sig .tc := ⟨.hbm, 111, rfl⟩
abbrev main_while0b_v73 : Ref sig .tc := ⟨.hbm, 112, rfl⟩
abbrev main_while0b_v74 : Ref sig .tc := ⟨.hbm, 113, rfl⟩
abbrev main_while0b_v75 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_v92 : Ref sig .tc := ⟨.hbm, 131, rfl⟩
abbrev main_while0b_v93 : Ref sig .tc := ⟨.hbm, 132, rfl⟩
abbrev main_while0b_call6_v0 : Ref sig .tc := ⟨.hbm, 133, rfl⟩
abbrev main_while0b_call6_c : Ref sig .tc := ⟨.hbm, 134, rfl⟩
abbrev main_while0b_call6_c_0 : Ref sig .tc := ⟨.hbm, 135, rfl⟩
abbrev main_while0b_call6_c_1 : Ref sig .tc := ⟨.hbm, 136, rfl⟩
abbrev main_while0b_v94 : Ref sig .tc := ⟨.hbm, 137, rfl⟩
abbrev main_while0b_c_18 : Ref sig .tc := ⟨.hbm, 138, rfl⟩
abbrev main_while0b_v95 : Ref sig .tc := ⟨.hbm, 139, rfl⟩
abbrev main_v47 : Ref sig .tc := ⟨.hbm, 140, rfl⟩
abbrev main_v48 : Ref sig .tc := ⟨.hbm, 141, rfl⟩
abbrev main_cst_8 : Ref sig .tc := ⟨.hbm, 142, rfl⟩
abbrev main_v49 : Ref sig .tc := ⟨.hbm, 143, rfl⟩
abbrev main_v50 : Ref sig .tc := ⟨.hbm, 144, rfl⟩
abbrev main_cst_9 : Ref sig .tc := ⟨.hbm, 145, rfl⟩
abbrev main_v51 : Ref sig .tc := ⟨.hbm, 146, rfl⟩
abbrev main_v52 : Ref sig .tc := ⟨.hbm, 147, rfl⟩
abbrev main_cst_10 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_call7_v0 : Ref sig .tc := ⟨.hbm, 158, rfl⟩
abbrev main_call7_v1 : Ref sig .tc := ⟨.hbm, 159, rfl⟩
abbrev main_call7_cst : Ref sig .tc := ⟨.hbm, 160, rfl⟩
abbrev main_call7_v2 : Ref sig .tc := ⟨.hbm, 161, rfl⟩
abbrev main_call7_v3 : Ref sig .tc := ⟨.hbm, 162, rfl⟩
abbrev main_call7_cst_0 : Ref sig .tc := ⟨.hbm, 163, rfl⟩
abbrev main_call7_v4 : Ref sig .tc := ⟨.hbm, 164, rfl⟩
abbrev main_call7_v5 : Ref sig .tc := ⟨.hbm, 165, rfl⟩
abbrev main_v62 : Ref sig .tc := ⟨.hbm, 166, rfl⟩
abbrev main_v63 : Ref sig .tc := ⟨.hbm, 167, rfl⟩
abbrev main_v64 : Ref sig .tc := ⟨.hbm, 168, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S512x1024 : Shape := ⟨2, ![512, 1024]⟩
abbrev S1x1024 : Shape := ⟨2, ![1, 1024]⟩
abbrev S512x512 : Shape := ⟨2, ![512, 512]⟩
abbrev S512x2816 : Shape := ⟨2, ![512, 2816]⟩
abbrev S64x1024 : Shape := ⟨2, ![64, 1024]⟩
abbrev S64 : Shape := ⟨1, ![64]⟩
abbrev S64x1 : Shape := ⟨2, ![64, 1]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩

abbrev nBuf : Space → Nat
  | .hbm => 25
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S65536x1024, .f32⟩
  | .hbm, ⟨13, _⟩ => ⟨S65536x512, .f32⟩
  | .hbm, ⟨14, _⟩ => ⟨S65536x512, .f32⟩
  | .hbm, ⟨15, _⟩ => ⟨S512x1024, .bf16⟩
  | .hbm, ⟨16, _⟩ => ⟨S512x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x2816, .bf16⟩
  | .local _ .vmem, ⟨18, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S16x4096x1024 : Shape := ⟨3, ![16, 4096, 1024]⟩
abbrev S16x4096x512 : Shape := ⟨3, ![16, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096x1, .f32⟩
  | .hbm, ⟨36, _⟩ => ⟨S16x4096x1, .f32⟩
  | .hbm, ⟨37, _⟩ => ⟨S16x4096x1, .f32⟩
  | .hbm, ⟨38, _⟩ => ⟨S16x4096x1024, .f32⟩
  | .hbm, ⟨39, _⟩ => ⟨S16x4096x1024, .f32⟩
  | .hbm, ⟨40, _⟩ => ⟨S1x1x1024, .f32⟩
  | .hbm, ⟨41, _⟩ => ⟨S16x4096x1024, .f32⟩
  | .hbm, ⟨42, _⟩ => ⟨S16x4096x1024, .f32⟩
  | .hbm, ⟨43, _⟩ => ⟨S1x1x1024, .f32⟩
  | .hbm, ⟨44, _⟩ => ⟨S16x4096x1024, .f32⟩
  | .hbm, ⟨45, _⟩ => ⟨S16x4096x1024, .f32⟩
  | .hbm, ⟨46, _⟩ => ⟨S_, .f32⟩
  | .hbm, ⟨47, _⟩ => ⟨S16x4096x1024, .f32⟩
  | .hbm, ⟨48, _⟩ => ⟨S16x4096x1024, .f32⟩
  | .hbm, ⟨49, _⟩ => ⟨S16x4096x2816, .f32⟩
  | .hbm, ⟨50, _⟩ => ⟨S16x4096x2816, .f32⟩
  | .hbm, ⟨51, _⟩ => ⟨S16x4096x2816, .f32⟩
  | .hbm, ⟨52, _⟩ => ⟨S_, .f32⟩
  | .hbm, ⟨53, _⟩ => ⟨S16x4096x2816, .f32⟩
  | .hbm, ⟨54, _⟩ => ⟨S16x4096x2816, .f32⟩
  | .hbm, ⟨55, _⟩ => ⟨S_, .f32⟩
  | .hbm, ⟨56, _⟩ => ⟨S16x4096x2816, .f32⟩
  | .hbm, ⟨57, _⟩ => ⟨S16x4096x2816, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S16x4096x1024, .f32⟩
  | .hbm, ⟨62, _⟩ => ⟨S_, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1024, .f32⟩
  | .hbm, ⟨73, _⟩ => ⟨S16x4096x1024, .f32⟩
  | .hbm, ⟨74, _⟩ => ⟨S16x4096x1024, .f32⟩
  | .hbm, ⟨75, _⟩ => ⟨S_, .f32⟩
  | .hbm, ⟨76, _⟩ => ⟨S16x4096, .f32⟩
  | .hbm, ⟨77, _⟩ => ⟨S16x4096x1, .f32⟩
  | .hbm, ⟨78, _⟩ => ⟨S_, .f32⟩
  | .hbm, ⟨79, _⟩ => ⟨S16x4096x1, .f32⟩
  | .hbm, ⟨80, _⟩ => ⟨S16x4096x1, .f32⟩
  | .hbm, ⟨81, _⟩ => ⟨S16x4096x1024, .f32⟩
  | .hbm, ⟨82, _⟩ => ⟨S16x4096x1024, .f32⟩
  | .hbm, ⟨83, _⟩ => ⟨S_, .f32⟩
  | .hbm, ⟨84, _⟩ => ⟨S16x4096x1, .f32⟩
  | .hbm, ⟨85, _⟩ => ⟨S16x4096x1, .f32⟩
  | .hbm, ⟨86, _⟩ => ⟨S16x4096x1, .f32⟩
  | .hbm, ⟨87, _⟩ => ⟨S16x4096x1024, .f32⟩
  | .hbm, ⟨88, _⟩ => ⟨S16x4096x1024, .f32⟩
  | .hbm, ⟨89, _⟩ => ⟨S1x1x1024, .f32⟩
  | .hbm, ⟨90, _⟩ => ⟨S16x4096x1024, .f32⟩
  | .hbm, ⟨91, _⟩ => ⟨S16x4096x1024, .f32⟩
  | .hbm, ⟨92, _⟩ => ⟨S1x1x1024, .f32⟩
  | .hbm, ⟨93, _⟩ => ⟨S16x4096x1024, .f32⟩
  | .hbm, ⟨94, _⟩ => ⟨S16x4096x1024, .f32⟩
  | .hbm, ⟨95, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Kernel3.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S512x2816 : Shape := ⟨2, ![512, 2816]⟩
abbrev S64x1024 : Shape := ⟨2, ![64, 1024]⟩
abbrev S64 : Shape := ⟨1, ![64]⟩
abbrev S64x1 : Shape := ⟨2, ![64, 1]⟩
abbrev S1024x256 : Shape := ⟨2, ![1024, 256]⟩
abbrev S512x256 : Shape := ⟨2, ![512, 256]⟩
abbrev S1x256 : Shape := ⟨2, ![1, 256]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | .local _ .vmem, ⟨10, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x4096x1024 : Shape := ⟨3, ![16, 4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16x4096x2816 : Shape := ⟨3, ![16, 4096, 2816]⟩
abbrev S16x4096 : Shape := ⟨2, ![16, 4096]⟩
abbrev S16x4096x1 : Shape := ⟨3, ![16, 4096, 1]⟩
abbrev S1x1x1024 : Shape := ⟨3, ![1, 1, 1024]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16x4096x1024, .f32⟩
  | .hbm, ⟨8, _⟩ => ⟨S16x4096x1024, .f32⟩
  | .hbm, ⟨9, _⟩ => ⟨S16x4096x2816, .f32⟩
  | .hbm, ⟨10, _⟩ => ⟨S16x4096x2816, .f32⟩
  | .hbm, ⟨11, _⟩ => ⟨S16x4096x2816, .f32⟩
  | .hbm, ⟨12, _⟩ => ⟨S_, .f32⟩
  | .hbm, ⟨13, _⟩ => ⟨S16x4096x2816, .f32⟩
  | .hbm, ⟨14, _⟩ => ⟨S16x4096x2816, .f32⟩
  | .hbm, ⟨15, _⟩ => ⟨S_, .f32⟩
  | .hbm, ⟨16, _⟩ => ⟨S16x4096x2816, .f32⟩
  | .hbm, ⟨17, _⟩ => ⟨S16x4096x2816, .f32⟩
  | .hbm, ⟨18, _⟩ => ⟨S16x4096x2816, .f32⟩
  | .hbm, ⟨19, _⟩ => ⟨S16x4096x2816, .f32⟩
  | .hbm, ⟨20, _⟩ => ⟨S16x4096x2816, .f32⟩
  | .hbm, ⟨21, _⟩ => ⟨S16x4096x1024, .f32⟩
  | .hbm, ⟨22, _⟩ => ⟨S_, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S_, .f32⟩
  | .hbm, ⟨30, _⟩ => ⟨S16x4096x1, .f32⟩
  | .hbm, ⟨31, _⟩ => ⟨S16x4096x1, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1024, .f32⟩
  | .hbm, ⟨42, _⟩ => ⟨S16x4096x1024, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S16x4096x1, .f32⟩
  | .hbm, ⟨47, _⟩ => ⟨S16x4096x1024, .f32⟩
  | .hbm, ⟨48, _⟩ => ⟨S16x4096x1024, .f32⟩
  | .hbm, ⟨49, _⟩ => ⟨S1x1x1024, .f32⟩
  | .hbm, ⟨50, _⟩ => ⟨S16x4096x1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024x3360 : Shape := ⟨2, ![1024, 3360]⟩
abbrev S4x1536 : Shape := ⟨2, ![4, 1536]⟩
abbrev S1024x512 : Shape := ⟨2, ![1024, 512]⟩
abbrev S1024x4 : Shape := ⟨2, ![1024, 4]⟩
abbrev S1024x128 : Shape := ⟨2, ![1024, 128]⟩
abbrev S1024x24 : Shape := ⟨2, ![1024, 24]⟩
abbrev S_ : Shape := ⟨0, ![]⟩
abbrev S1024x120 : Shape := ⟨2, ![1024, 120]⟩
abbrev S1024x2688 : Shape := ⟨2, ![1024, 2688]⟩
abbrev S1024x8 : Shape := ⟨2, ![1024, 8]⟩
abbrev S1024x800 : Shape := ⟨2, ![1024, 800]⟩
abbrev S800x1024 : Shape := ⟨2, ![800, 1024]⟩
abbrev S65536x1024 : Shape := ⟨2, ![65536, 1024]⟩
abbrev S65536x1536 : Shape := ⟨2, ![65536, 1536]⟩
abbrev S65536x512 : Shape := ⟨2, ![65536, 512]⟩
abbrev S65536x128 : Shape := ⟨2, ![65536, 128]⟩
abbrev S16x2x256x1024 : Shape := ⟨4, ![16, 2, 256, 1024]⟩
abbrev S16x2x4096x64 : Shape := ⟨4, ![16, 2, 4096, 64]⟩
abbrev S16x2x16x64x1024 : Shape := ⟨5, ![16, 2, 16, 64, 1024]⟩
abbrev S16x2x16x64x256 : Shape := ⟨5, ![16, 2, 16, 64, 256]⟩
abbrev S16x2x16x3x1024 : Shape := ⟨5, ![16, 2, 16, 3, 1024]⟩
abbrev S512x1024 : Shape := ⟨2, ![512, 1024]⟩
abbrev S16x1024 : Shape := ⟨2, ![16, 1024]⟩
abbrev S512x1536 : Shape := ⟨2, ![512, 1536]⟩
abbrev S512x512 : Shape := ⟨2, ![512, 512]⟩
abbrev S512x128 : Shape := ⟨2, ![512, 128]⟩
abbrev S1x2x32x1024 : Shape := ⟨4, ![1, 2, 32, 1024]⟩
abbrev S1x2x512x64 : Shape := ⟨4, ![1, 2, 512, 64]⟩
abbrev S1x2x2x64x1024 : Shape := ⟨5, ![1, 2, 2, 64, 1024]⟩
abbrev S1x2x2x64x256 : Shape := ⟨5, ![1, 2, 2, 64, 256]⟩
abbrev S1x2x2x3x1024 : Shape := ⟨5, ![1, 2, 2, 3, 1024]⟩
abbrev S2x512x128 : Shape := ⟨3, ![2, 512, 128]⟩
abbrev S528x1024 : Shape := ⟨2, ![528, 1024]⟩
abbrev S1024x256 : Shape := ⟨2, ![1024, 256]⟩
abbrev S528x256 : Shape := ⟨2, ![528, 256]⟩
abbrev S1x256 : Shape := ⟨2, ![1, 256]⟩
abbrev S512x256 : Shape := ⟨2, ![512, 256]⟩
abbrev S512x64 : Shape := ⟨2, ![512, 64]⟩
abbrev S1x1x512x64 : Shape := ⟨4, ![1, 1, 512, 64]⟩
abbrev S1x512x128 : Shape := ⟨3, ![1, 512, 128]⟩
abbrev S1x32x128 : Shape := ⟨3, ![1, 32, 128]⟩
abbrev S32x128 : Shape := ⟨2, ![32, 128]⟩
abbrev S32x64 : Shape := ⟨2, ![32, 64]⟩
abbrev S1x1x32x64 : Shape := ⟨4, ![1, 1, 32, 64]⟩
abbrev S256x1024 : Shape := ⟨2, ![256, 1024]⟩
abbrev S256x512 : Shape := ⟨2, ![256, 512]⟩
abbrev S64x256 : Shape := ⟨2, ![64, 256]⟩
abbrev S1x1x1x64x256 : Shape := ⟨5, ![1, 1, 1, 64, 256]⟩
abbrev S288x1024 : Shape := ⟨2, ![288, 1024]⟩
abbrev S288x512 : Shape := ⟨2, ![288, 512]⟩
abbrev S1x1x1x1x256 : Shape := ⟨5, ![1, 1, 1, 1, 256]⟩

abbrev nBuf : Space → Nat
  | .hbm => 39
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S1024x3360, .f32⟩
  | .hbm, ⟨2, _⟩ => ⟨S4x1536, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x24, .f32⟩
  | .hbm, ⟨17, _⟩ => ⟨S_, .f32⟩
  | .hbm, ⟨18, _⟩ => ⟨S1024x120, .f32⟩
  | .hbm, ⟨19, _⟩ => ⟨S1024x128, .f32⟩
  | .hbm, ⟨20, _⟩ => ⟨S1024x2688, .f32⟩
  | .hbm, ⟨21, _⟩ => ⟨S_, .f32⟩
  | .hbm, ⟨22, _⟩ => ⟨S1024x8, .f32⟩
  | .hbm, ⟨23, _⟩ => ⟨S1024x800, .f32⟩
  | .hbm, ⟨24, _⟩ => ⟨S800x1024, .f32⟩
  | .hbm, ⟨25, _⟩ => ⟨S1024x2688, .bf16⟩
  | .hbm, ⟨26, _⟩ => ⟨S800x1024, .bf16⟩
  | .hbm, ⟨27, _⟩ => ⟨S65536x1024, .f32⟩
  | .hbm, ⟨28, _⟩ => ⟨S65536x1536, .f32⟩
  | .hbm, ⟨29, _⟩ => ⟨S65536x512, .f32⟩
  | .hbm, ⟨30, _⟩ => ⟨S65536x128, .f32⟩
  | .hbm, ⟨31, _⟩ => ⟨S16x2x256x1024, .f32⟩
  | .hbm, ⟨32, _⟩ => ⟨S16x2x256x1024, .f32⟩
  | .hbm, ⟨33, _⟩ => ⟨S16x2x4096x64, .bf16⟩
  | .hbm, ⟨34, _⟩ => ⟨S16x2x4096x64, .bf16⟩
  | .hbm, ⟨35, _⟩ => ⟨S16x2x16x64x1024, .bf16⟩
  | .hbm, ⟨36, _⟩ => ⟨S16x2x16x64x256, .bf16⟩
  | .hbm, ⟨37, _⟩ => ⟨S16x2x16x64x256, .bf16⟩
  | .hbm, ⟨38, _⟩ => ⟨S16x2x16x3x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1024x2688, .bf16⟩
  | .local _ .vmem, ⟨5, _⟩ => ⟨S800x1024, .bf16⟩
  | .local _ .vmem, ⟨6, _⟩ => ⟨S4x1536, .f32⟩
  | .local _ .vmem, ⟨7, _⟩ => ⟨S512x1536, .f32⟩
  | .local _ .vmem, ⟨8, _⟩ => ⟨S512x1536, .f32⟩
  | .local _ .vmem, ⟨9, _⟩ => ⟨S512x512, .f32⟩
  | .local _ .vmem, ⟨10, _⟩ => ⟨S512x512, .f32⟩
  | .local _ .vmem, ⟨11, _⟩ => ⟨S512x128, .f32⟩
  | .local _ .vmem, ⟨12, _⟩ => ⟨S512x128, .f32⟩
  | .local _ .vmem, ⟨13, _⟩ => ⟨S1x2x32x1024, .f32⟩
  | .local _ .vmem, ⟨14, _⟩ => ⟨S1x2x32x1024, .f32⟩
  | .local _ .vmem, ⟨15, _⟩ => ⟨S1x2x32x1024, .f32⟩
  | .local _ .vmem, ⟨16, _⟩ => ⟨S1x2x32x1024, .f32⟩
  | .local _ .vmem, ⟨17, _⟩ => ⟨S1x2x512x64, .bf16⟩
  | .local _ .vmem, ⟨18, _⟩ => ⟨S1x2x512x64, .bf16⟩
  | .local _ .vmem, ⟨19, _⟩ => ⟨S1x2x512x64, .bf16⟩
  | .local _ .vmem, ⟨20, _⟩ => ⟨S1x2x512x64, .bf16⟩
  | .local _ .vmem, ⟨21, _⟩ => ⟨S1x2x2x64x1024, .bf16⟩
  | .local _ .vmem, ⟨22, _⟩ => ⟨S1x2x2x64x1024, .bf16⟩
  | .local _ .vmem, ⟨23, _⟩ => ⟨S1x2x2x64x256, .bf16⟩
  | .local _ .vmem, ⟨24, _⟩ => ⟨S1x2x2x64x256, .bf16⟩
  | .local _ .vmem, ⟨25, _⟩ => ⟨S1x2x2x64x256, .bf16⟩
  | .local _ .vmem, ⟨26, _⟩ => ⟨S1x2x2x64x256, .bf16⟩
  | .local _ .vmem, ⟨27, _⟩ => ⟨S1x2x2x3x1024, .f32⟩
  | .local _ .vmem, ⟨28, _⟩ => ⟨S1x2x2x3x1024, .f32⟩
  | .local _ .vmem, ⟨29, _⟩ => ⟨S2x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev main_v23_4 : Ref sig .tc := ⟨.hbm, 32, rfl⟩
abbrev main_v23_5 : Ref sig .tc := ⟨.hbm, 33, rfl⟩
abbrev main_v23_6 : Ref sig .tc := ⟨.hbm, 34, rfl⟩
abbrev main_v23_7 : Ref sig .tc := ⟨.hbm, 35, rfl⟩
abbrev main_v23_8 : Ref sig .tc := ⟨.hbm, 36, rfl⟩
abbrev main_v23_9 : Ref sig .tc := ⟨.hbm, 37, rfl⟩
abbrev main_v23_10 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_13 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_14 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_15 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x2x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x2x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x2x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x2x3x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16x4096x1024 : Shape := ⟨3, ![16, 4096, 1024]⟩
abbrev S1024x3360 : Shape := ⟨2, ![1024, 3360]⟩
abbrev S4x1536 : Shape := ⟨2, ![4, 1536]⟩
abbrev S16x4096x3360 : Shape := ⟨3, ![16, 4096, 3360]⟩
abbrev S16x4096x1536 : Shape := ⟨3, ![16, 4096, 1536]⟩
abbrev S16x4096x512 : Shape := ⟨3, ![16, 4096, 512]⟩
abbrev S16x4096x8 : Shape := ⟨3, ![16, 4096, 8]⟩
abbrev S16x4096x128 : Shape := ⟨3, ![16, 4096, 128]⟩
abbrev S16x4096x24 : Shape := ⟨3, ![16, 4096, 24]⟩
abbrev S_ : Shape := ⟨0, ![]⟩
abbrev S16x4099x1536 : Shape := ⟨3, ![16, 4099, 1536]⟩
abbrev S1x1536 : Shape := ⟨2, ![1, 1536]⟩
abbrev S1536 : Shape := ⟨1, ![1536]⟩
abbrev S1x1x1536 : Shape := ⟨3, ![1, 1, 1536]⟩
abbrev S65536x1536 : Shape := ⟨2, ![65536, 1536]⟩
abbrev S65536x512 : Shape := ⟨2, ![65536, 512]⟩
abbrev S65536x128 : Shape := ⟨2, ![65536, 128]⟩
abbrev S16x4096x2x64 : Shape := ⟨4, ![16, 4096, 2, 64]⟩
abbrev S16x2x4096x64 : Shape := ⟨4, ![16, 2, 4096, 64]⟩
abbrev S16x2x256x1024 : Shape := ⟨4, ![16, 2, 256, 1024]⟩
abbrev S16x16x256x2x4x64 : Shape := ⟨6, ![16, 16, 256, 2, 4, 64]⟩
abbrev S16x2x16x64x4x256 : Shape := ⟨6, ![16, 2, 16, 64, 4, 256]⟩
abbrev S16x2x16x64x1024 : Shape := ⟨5, ![16, 2, 16, 64, 1024]⟩
abbrev S16x16x256x2x1x64 : Shape := ⟨6, ![16, 16, 256, 2, 1, 64]⟩
abbrev S16x2x16x64x1x256 : Shape := ⟨6, ![16, 2, 16, 64, 1, 256]⟩
abbrev S16x2x16x64x256 : Shape := ⟨5, ![16, 2, 16, 64, 256]⟩
abbrev S16x16x256x2x4x3 : Shape := ⟨6, ![16, 16, 256, 2, 4, 3]⟩
abbrev S16x2x16x3x4x256 : Shape := ⟨6, ![16, 2, 16, 3, 4, 256]⟩
abbrev S16x2x16x3x1024 : Shape := ⟨5, ![16, 2, 16, 3, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x3360, .f32⟩
  | .hbm, ⟨2, _⟩ => ⟨S4x1536, .f32⟩
  | .hbm, ⟨3, _⟩ => ⟨S16x4096x3360, .f32⟩
  | .hbm, ⟨4, _⟩ => ⟨S16x4096x1536, .f32⟩
  | .hbm, ⟨5, _⟩ => ⟨S16x4096x512, .f32⟩
  | .hbm, ⟨6, _⟩ => ⟨S16x4096x8, .f32⟩
  | .hbm, ⟨7, _⟩ => ⟨S16x4096x512, .f32⟩
  | .hbm, ⟨8, _⟩ => ⟨S16x4096x128, .f32⟩
  | .hbm, ⟨9, _⟩ => ⟨S16x4096x128, .f32⟩
  | .hbm, ⟨10, _⟩ => ⟨S16x4096x128, .f32⟩
  | .hbm, ⟨11, _⟩ => ⟨S16x4096x128, .f32⟩
  | .hbm, ⟨12, _⟩ => ⟨S16x4096x128, .f32⟩
  | .hbm, ⟨13, _⟩ => ⟨S16x4096x128, .f32⟩
  | .hbm, ⟨14, _⟩ => ⟨S16x4096x24, .f32⟩
  | .hbm, ⟨15, _⟩ => ⟨S_, .i32⟩
  | .hbm, ⟨16, _⟩ => ⟨S_, .f32⟩
  | .hbm, ⟨17, _⟩ => ⟨S16x4099x1536, .f32⟩
  | .hbm, ⟨18, _⟩ => ⟨S1x1536, .f32⟩
  | .hbm, ⟨19, _⟩ => ⟨S1536, .f32⟩
  | .hbm, ⟨20, _⟩ => ⟨S16x4096x1536, .f32⟩
  | .hbm, ⟨21, _⟩ => ⟨S1x1x1536, .f32⟩
  | .hbm, ⟨22, _⟩ => ⟨S16x4096x1536, .f32⟩
  | .hbm, ⟨23, _⟩ => ⟨S16x4096x1536, .f32⟩
  | .hbm, ⟨24, _⟩ => ⟨S_, .f32⟩
  | .hbm, ⟨25, _⟩ => ⟨S16x4096x1536, .f32⟩
  | .hbm, ⟨26, _⟩ => ⟨S16x4096x1536, .f32⟩
  | .hbm, ⟨27, _⟩ => ⟨S1x1536, .f32⟩
  | .hbm, ⟨28, _⟩ => ⟨S1536, .f32⟩
  | .hbm, ⟨29, _⟩ => ⟨S16x4096x1536, .f32⟩
  | .hbm, ⟨30, _⟩ => ⟨S1x1x1536, .f32⟩
  | .hbm, ⟨31, _⟩ => ⟨S16x4096x1536, .f32⟩
  | .hbm, ⟨32, _⟩ => ⟨S16x4096x1536, .f32⟩
  | .hbm, ⟨33, _⟩ => ⟨S16x4096x1536, .f32⟩
  | .hbm, ⟨34, _⟩ => ⟨S1x1536, .f32⟩
  | .hbm, ⟨35, _⟩ => ⟨S1536, .f32⟩
  | .hbm, ⟨36, _⟩ => ⟨S16x4096x1536, .f32⟩
  | .hbm, ⟨37, _⟩ => ⟨S1x1x1536, .f32⟩
  | .hbm, ⟨38, _⟩ => ⟨S16x4096x1536, .f32⟩
  | .hbm, ⟨39, _⟩ => ⟨S16x4096x1536, .f32⟩
  | .hbm, ⟨40, _⟩ => ⟨S16x4096x1536, .f32⟩
  | .hbm, ⟨41, _⟩ => ⟨S1x1536, .f32⟩
  | .hbm, ⟨42, _⟩ => ⟨S1536, .f32⟩
  | .hbm, ⟨43, _⟩ => ⟨S16x4096x1536, .f32⟩
  | .hbm, ⟨44, _⟩ => ⟨S1x1x1536, .f32⟩
  | .hbm, ⟨45, _⟩ => ⟨S16x4096x1536, .f32⟩
  | .hbm, ⟨46, _⟩ => ⟨S16x4096x1536, .f32⟩
  | .hbm, ⟨47, _⟩ => ⟨S16x4096x1536, .f32⟩
  | .hbm, ⟨48, _⟩ => ⟨S16x4096x1536, .f32⟩
  | .hbm, ⟨49, _⟩ => ⟨S16x4096x1536, .f32⟩
  | .hbm, ⟨50, _⟩ => ⟨S_, .f32⟩
  | .hbm, ⟨51, _⟩ => ⟨S16x4096x1536, .f32⟩
  | .hbm, ⟨52, _⟩ => ⟨S16x4096x1536, .f32⟩
  | .hbm, ⟨53, _⟩ => ⟨S_, .f32⟩
  | .hbm, ⟨54, _⟩ => ⟨S16x4096x1536, .f32⟩
  | .hbm, ⟨55, _⟩ => ⟨S16x4096x1536, .f32⟩
  | .hbm, ⟨56, _⟩ => ⟨S16x4096x1536, .f32⟩
  | .hbm, ⟨57, _⟩ => ⟨S65536x1536, .f32⟩
  | .hbm, ⟨58, _⟩ => ⟨S65536x512, .f32⟩
  | .hbm, ⟨59, _⟩ => ⟨S_, .i32⟩
  | .hbm, ⟨60, _⟩ => ⟨S_, .f32⟩
  | .hbm, ⟨61, _⟩ => ⟨S16x4096x128, .f32⟩
  | .hbm, ⟨62, _⟩ => ⟨S65536x128, .f32⟩
  | .hbm, ⟨63, _⟩ => ⟨S16x4096x2x64, .f32⟩
  | .hbm, ⟨64, _⟩ => ⟨S16x2x4096x64, .f32⟩
  | .hbm, ⟨65, _⟩ => ⟨S16x2x256x1024, .f32⟩
  | .hbm, ⟨66, _⟩ => ⟨S16x4096x2x64, .f32⟩
  | .hbm, ⟨67, _⟩ => ⟨S16x2x4096x64, .f32⟩
  | .hbm, ⟨68, _⟩ => ⟨S16x2x256x1024, .f32⟩
  | .hbm, ⟨69, _⟩ => ⟨S16x4096x2x64, .f32⟩
  | .hbm, ⟨70, _⟩ => ⟨S16x2x4096x64, .f32⟩
  | .hbm, ⟨71, _⟩ => ⟨S16x2x4096x64, .bf16⟩
  | .hbm, ⟨72, _⟩ => ⟨S16x4096x2x64, .f32⟩
  | .hbm, ⟨73, _⟩ => ⟨S16x2x4096x64, .f32⟩
  | .hbm, ⟨74, _⟩ => ⟨S16x2x4096x64, .bf16⟩
  | .hbm, ⟨75, _⟩ => ⟨S_, .f32⟩
  | .hbm, ⟨76, _⟩ => ⟨S16x4096x512, .f32⟩
  | .hbm, ⟨77, _⟩ => ⟨S16x4096x512, .f32⟩
  | .hbm, ⟨78, _⟩ => ⟨S16x16x256x2x4x64, .f32⟩
  | .hbm, ⟨79, _⟩ => ⟨S16x2x16x64x4x256, .f32⟩
  | .hbm, ⟨80, _⟩ => ⟨S16x2x16x64x1024, .f32⟩
  | .hbm, ⟨81, _⟩ => ⟨S16x2x16x64x1024, .bf16⟩
  | .hbm, ⟨82, _⟩ => ⟨S16x16x256x2x1x64, .f32⟩
  | .hbm, ⟨83, _⟩ => ⟨S16x2x16x64x1x256, .f32⟩
  | .hbm, ⟨84, _⟩ => ⟨S16x2x16x64x256, .f32⟩
  | .hbm, ⟨85, _⟩ => ⟨S16x2x16x64x256, .bf16⟩
  | .hbm, ⟨86, _⟩ => ⟨S16x16x256x2x1x64, .f32⟩
  | .hbm, ⟨87, _⟩ => ⟨S16x2x16x64x1x256, .f32⟩
  | .hbm, ⟨88, _⟩ => ⟨S16x2x16x64x256, .f32⟩
  | .hbm, ⟨89, _⟩ => ⟨S16x2x16x64x256, .bf16⟩
  | .hbm, ⟨90, _⟩ => ⟨S16x16x256x2x4x3, .f32⟩
  | .hbm, ⟨91, _⟩ => ⟨S16x2x16x3x4x256, .f32⟩
  | .hbm, ⟨92, _⟩ => ⟨S16x2x16x3x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_0 : Ref sig .tc := ⟨.hbm, 59, rfl⟩
abbrev main_call2_v0 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_1 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Kernel5.lean ====
abbrev S16x2x4096x64 : Shape := ⟨4, ![16, 2, 4096, 64]⟩
abbrev S32x64 : Shape := ⟨2, ![32, 64]⟩
abbrev S2048x256 : Shape := ⟨2, ![2048, 256]⟩
abbrev S256x64 : Shape := ⟨2, ![256, 64]⟩
abbrev S16x2x256x1024 : Shape := ⟨4, ![16, 2, 256, 1024]⟩
abbrev S2x1024 : Shape := ⟨2, ![2, 1024]⟩
abbrev S2x1024x256 : Shape := ⟨3, ![2, 1024, 256]⟩
abbrev S64x256 : Shape := ⟨2, ![64, 256]⟩
abbrev S16x2x256x64 : Shape := ⟨4, ![16, 2, 256, 64]⟩
abbrev S16x2x64x256 : Shape := ⟨4, ![16, 2, 64, 256]⟩
abbrev S1x1x256x1024 : Shape := ⟨4, ![1, 1, 256, 1024]⟩
abbrev S1x1x256x64 : Shape := ⟨4, ![1, 1, 256, 64]⟩
abbrev S1x1x64x256 : Shape := ⟨4, ![1, 1, 64, 256]⟩
abbrev S256x1024 : Shape := ⟨2, ![256, 1024]⟩
abbrev S1x1024 : Shape := ⟨2, ![1, 1024]⟩
abbrev S1x1024x256 : Shape := ⟨3, ![1, 1024, 256]⟩
abbrev S1024x256 : Shape := ⟨2, ![1024, 256]⟩
abbrev S256x256 : Shape := ⟨2, ![256, 256]⟩
abbrev S16x2x255x64 : Shape := ⟨4, ![16, 2, 255, 64]⟩
abbrev S16x2x64x255 : Shape := ⟨4, ![16, 2, 64, 255]⟩

abbrev nBuf : Space → Nat
  | .hbm => 23
  | .vmem => 14
  | .smem => 0
  | _ => 0

abbrev bufTy : (tb : Table) → Fin (tcTables nBuf tb) → BufTy
  | .hbm, ⟨0, _⟩ => ⟨S16x2x4096x64, .f32⟩
  | .hbm, ⟨1, _⟩ => ⟨S16x2x4096x64, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S16x2x256x1024, .f32⟩
  | .hbm, ⟨9, _⟩ => ⟨S16x2x256x1024, .f32⟩
  | .hbm, ⟨10, _⟩ => ⟨S2x1024, .f32⟩
  | .hbm, ⟨11, _⟩ => ⟨S2x1024, .f32⟩
  | .hbm, ⟨12, _⟩ => ⟨S2x1024x256, .f32⟩
  | .hbm, ⟨13, _⟩ => ⟨S2x1024x256, .bf16⟩
  | .hbm, ⟨14, _⟩ => ⟨S256x64, .bf16⟩
  | .hbm, ⟨15, _⟩ => ⟨S2x1024x256, .f32⟩
  | .hbm, ⟨16, _⟩ => ⟨S2x1024x256, .bf16⟩
  | .hbm, ⟨17, _⟩ => ⟨S64x256, .f32⟩
  | .hbm, ⟨18, _⟩ => ⟨S64x256, .bf16⟩
  | .hbm, ⟨19, _⟩ => ⟨S16x2x256x64, .bf16⟩
  | .hbm, ⟨20, _⟩ => ⟨S16x2x64x256, .bf16⟩
  | .hbm, ⟨21, _⟩ => ⟨S16x2x255x64, .bf16⟩
  | .hbm, ⟨22, _⟩ => ⟨S16x2x64x255, .bf16⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S2x1024, .f32⟩
  | .local _ .vmem, ⟨5, _⟩ => ⟨S2x1024, .f32⟩
  | .local _ .vmem, ⟨6, _⟩ => ⟨S2x1024x256, .bf16⟩
  | .local _ .vmem, ⟨7, _⟩ => ⟨S256x64, .bf16⟩
  | .local _ .vmem, ⟨8, _⟩ => ⟨S2x1024x256, .bf16⟩
  | .local _ .vmem, ⟨9, _⟩ => ⟨S64x256, .bf16⟩
  | .local _ .vmem, ⟨10, _⟩ => ⟨S1x1x256x64, .bf16⟩
  | .local _ .vmem, ⟨11, _⟩ => ⟨S1x1x256x64, .bf16⟩
  | .local _ .vmem, ⟨12, _⟩ => ⟨S1x1x64x256, .bf16⟩
  | .local _ .vmem, ⟨13, _⟩ => ⟨S1x1x64x256, .bf16⟩
  | _, _ => ⟨S16x2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16x2x4096x64 : Shape := ⟨4, ![16, 2, 4096, 64]⟩
abbrev S32x64 : Shape := ⟨2, ![32, 64]⟩
abbrev S2048x256 : Shape := ⟨2, ![2048, 256]⟩
abbrev S256x64 : Shape := ⟨2, ![256, 64]⟩
abbrev S16x2x256x16x64 : Shape := ⟨5, ![16, 2, 256, 16, 64]⟩
abbrev S16x2x255x16x64 : Shape := ⟨5, ![16, 2, 255, 16, 64]⟩
abbrev S16x2x255x32x64 : Shape := ⟨5, ![16, 2, 255, 32, 64]⟩
abbrev S1x1x1x32x64 : Shape := ⟨5, ![1, 1, 1, 32, 64]⟩
abbrev S16x2x255x2048 : Shape := ⟨4, ![16, 2, 255, 2048]⟩
abbrev S16x2x255x256 : Shape := ⟨4, ![16, 2, 255, 256]⟩
abbrev S_ : Shape := ⟨0, ![]⟩
abbrev S16x2x255x64 : Shape := ⟨4, ![16, 2, 255, 64]⟩
abbrev S16x2x64x255 : Shape := ⟨4, ![16, 2, 64, 255]⟩

abbrev nBuf : Space → Nat
  | .hbm => 65
  | .vmem => 0
  | .smem => 0
  | _ => 0

abbrev bufTy : (tb : Table) → Fin (tcTables nBuf tb) → BufTy
  | .hbm, ⟨0, _⟩ => ⟨S16x2x4096x64, .f32⟩
  | .hbm, ⟨1, _⟩ => ⟨S16x2x4096x64, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S16x2x256x16x64, .f32⟩
  | .hbm, ⟨9, _⟩ => ⟨S16x2x255x16x64, .f32⟩
  | .hbm, ⟨10, _⟩ => ⟨S16x2x255x16x64, .f32⟩
  | .hbm, ⟨11, _⟩ => ⟨S16x2x255x32x64, .f32⟩
  | .hbm, ⟨12, _⟩ => ⟨S1x1x1x32x64, .f32⟩
  | .hbm, ⟨13, _⟩ => ⟨S16x2x255x32x64, .f32⟩
  | .hbm, ⟨14, _⟩ => ⟨S16x2x255x32x64, .f32⟩
  | .hbm, ⟨15, _⟩ => ⟨S16x2x255x2048, .f32⟩
  | .hbm, ⟨16, _⟩ => ⟨S16x2x255x256, .f32⟩
  | .hbm, ⟨17, _⟩ => ⟨S16x2x255x256, .f32⟩
  | .hbm, ⟨18, _⟩ => ⟨S16x2x255x256, .f32⟩
  | .hbm, ⟨19, _⟩ => ⟨S_, .f32⟩
  | .hbm, ⟨20, _⟩ => ⟨S16x2x255x256, .f32⟩
  | .hbm, ⟨21, _⟩ => ⟨S16x2x255x256, .f32⟩
  | .hbm, ⟨22, _⟩ => ⟨S16x2x255x256, .f32⟩
  | .hbm, ⟨23, _⟩ => ⟨S_, .f32⟩
  | .hbm, ⟨24, _⟩ => ⟨S16x2x255x256, .f32⟩
  | .hbm, ⟨25, _⟩ => ⟨S16x2x255x256, .f32⟩
  | .hbm, ⟨26, _⟩ => ⟨S16x2x255x256, .f32⟩
  | .hbm, ⟨27, _⟩ => ⟨S_, .f32⟩
  | .hbm, ⟨28, _⟩ => ⟨S16x2x255x256, .f32⟩
  | .hbm, ⟨29, _⟩ => ⟨S16x2x255x256, .f32⟩
  | .hbm, ⟨30, _⟩ => ⟨S_, .f32⟩
  | .hbm, ⟨31, _⟩ => ⟨S16x2x255x256, .f32⟩
  | .hbm, ⟨32, _⟩ => ⟨S16x2x255x256, .f32⟩
  | .hbm, ⟨33, _⟩ => ⟨S16x2x255x256, .f32⟩
  | .hbm, ⟨34, _⟩ => ⟨S16x2x255x64, .f32⟩
  | .hbm, ⟨35, _⟩ => ⟨S16x2x255x64, .bf16⟩
  | .hbm, ⟨36, _⟩ => ⟨S16x2x256x16x64, .f32⟩
  | .hbm, ⟨37, _⟩ => ⟨S16x2x255x16x64, .f32⟩
  | .hbm, ⟨38, _⟩ => ⟨S16x2x255x16x64, .f32⟩
  | .hbm, ⟨39, _⟩ => ⟨S16x2x255x32x64, .f32⟩
  | .hbm, ⟨40, _⟩ => ⟨S1x1x1x32x64, .f32⟩
  | .hbm, ⟨41, _⟩ => ⟨S16x2x255x32x64, .f32⟩
  | .hbm, ⟨42, _⟩ => ⟨S16x2x255x32x64, .f32⟩
  | .hbm, ⟨43, _⟩ => ⟨S16x2x255x2048, .f32⟩
  | .hbm, ⟨44, _⟩ => ⟨S16x2x255x256, .f32⟩
  | .hbm, ⟨45, _⟩ => ⟨S16x2x255x256, .f32⟩
  | .hbm, ⟨46, _⟩ => ⟨S16x2x255x256, .f32⟩
  | .hbm, ⟨47, _⟩ => ⟨S_, .f32⟩
  | .hbm, ⟨48, _⟩ => ⟨S16x2x255x256, .f32⟩
  | .hbm, ⟨49, _⟩ => ⟨S16x2x255x256, .f32⟩
  | .hbm, ⟨50, _⟩ => ⟨S16x2x255x256, .f32⟩
  | .hbm, ⟨51, _⟩ => ⟨S_, .f32⟩
  | .hbm, ⟨52, _⟩ => ⟨S16x2x255x256, .f32⟩
  | .hbm, ⟨53, _⟩ => ⟨S16x2x255x256, .f32⟩
  | .hbm, ⟨54, _⟩ => ⟨S16x2x255x256, .f32⟩
  | .hbm, ⟨55, _⟩ => ⟨S_, .f32⟩
  | .hbm, ⟨56, _⟩ => ⟨S16x2x255x256, .f32⟩
  | .hbm, ⟨57, _⟩ => ⟨S16x2x255x256, .f32⟩
  | .hbm, ⟨58, _⟩ => ⟨S_, .f32⟩
  | .hbm, ⟨59, _⟩ => ⟨S16x2x255x256, .f32⟩
  | .hbm, ⟨60, _⟩ => ⟨S16x2x255x256, .f32⟩
  | .hbm, ⟨61, _⟩ => ⟨S16x2x255x256, .f32⟩
  | .hbm, ⟨62, _⟩ => ⟨S16x2x255x64, .f32⟩
  | .hbm, ⟨63, _⟩ => ⟨S16x2x64x255, .f32⟩
  | .hbm, ⟨64, _⟩ => ⟨S16x2x64x255, .bf16⟩
  | _, _ => ⟨S16x2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Proof.GdnUnit.lean ====
/- What the kernel computes for one chunk of 64 tokens of one head, written once: the gates of a chunk, the unit of a
   head in the chunk, and the chunk's step of the head's state. The kernel's body says this thirty-two times over. -/
module

public import proofs.«01_k».proof.Proof.Gen.KernelIdeal
public import Idealize.ShloMosaic.Lib.Pipeline.FrameBody

@[expose] public section

noncomputable section

namespace GatedDelta.Unit

open Idealize.ShloMosaic Cert.KernelIdeal Cert.KernelIdeal.Gen

variable {F : FTy → Type} [FloatOps F] [Named F]

/-- The zero block of 64 rows that the matrix products start from. -/
abbrev zrows : FVec F S64x128 .f32 := constant S64x128 .f32 0x00000000#32
/-- A scalar over a block. -/
abbrev spl (s : Shape) (b : BitVec 32) : FVec F s .f32 := broadcast s (Scalar.ofBits (F := F) .f32 b)

/-- Row at or after column. -/
def causal : IVec S64x64 1 := cmpi .sge (iota .tc S64x64 32 [0] iota_S64x64_d0_w32) (iota .tc S64x64 32 [1] iota_S64x64_d1_w32)
/-- Row after column. -/
def strict : IVec S64x64 1 := cmpi .sgt (iota .tc S64x64 32 [0] iota_S64x64_d0_w32) (iota .tc S64x64 32 [1] iota_S64x64_d1_w32)
/-- One where row is at or after column, else zero. -/
def tril : FVec F S64x64 .bf16 :=
  truncf .bf16 (select causal (spl S64x64 0x3F800000#32) (spl S64x64 0x00000000#32)) bitsLt_bf16_f32
/-- One where row is at or before column, else zero. -/
def triu : FVec F S64x64 .bf16 :=
  truncf .bf16 (select (cmpi .sle (iota .tc S64x64 32 [0] iota_S64x64_d0_w32) (iota .tc S64x64 32 [1] iota_S64x64_d1_w32))
    (spl S64x64 0x3F800000#32) (spl S64x64 0x00000000#32)) bitsLt_bf16_f32
/-- One on the diagonal, else zero. -/
def eye : FVec F S64x64 .f32 :=
  select (cmpi .eq (iota .tc S64x64 32 [0] iota_S64x64_d0_w32) (iota .tc S64x64 32 [1] iota_S64x64_d1_w32))
    (spl S64x64 0x3F800000#32) (spl S64x64 0x00000000#32)

/-! ### The gates of a chunk -/

/-- The step sizes of a chunk: the sigmoid of its columns. -/
def betaAll (x : Vec F S1x64x128 .f32) : FVec F S64x128 .f32 :=
  addf (mulf (spl S64x128 0x3F000000#32) (tanh (mulf (spl S64x128 0x3F000000#32) (shapeCast S64x128 x shapeCasts_S1x64x128_S64x128))))
    (spl S64x128 0x3F000000#32)

/-- The softplus of a block, as the kernel spells it. -/
def softp (s : Shape) (x : FVec F s .f32) : FVec F s .f32 :=
  addf (maximumf x (spl s 0x00000000#32)) (log (addf (spl s 0x3F800000#32) (exp (subf (spl s 0x00000000#32) (absf x)))))

/-- The log decays of a chunk's columns. -/
def gAll (x : Vec F S1x64x128 .f32) (al dt : Vec F S1x128 .f32) : FVec F S64x128 .f32 :=
  mulf (broadcastTo S64x128 (subf (spl S1x128 0x00000000#32) (exp (shapeCast S1x128 al shapeCasts_S1x128_S1x128))) broadcasts_S1x128_S64x128)
    (softp S64x128 (addf (shapeCast S64x128 x shapeCasts_S1x64x128_S64x128)
      (broadcastTo S64x128 (shapeCast S1x128 dt shapeCasts_S1x128_S1x128) broadcasts_S1x128_S64x128)))

/-- Running sums down the columns of a block, the block in three parts. -/
def sumDown (g : FVec F S64x128 .f32) : FVec F S64x128 .f32 :=
  addf (addf (addf (spl S64x128 0x00000000#32)
    (matmul dot_S64x64_S64x128_S64x128_1_0_0_1_n_n none tril (truncf .bf16 g bitsLt_bf16_f32) zrows))
    (matmul dot_S64x64_S64x128_S64x128_1_0_0_1_n_n none tril
      (truncf .bf16 (subf g (extf .f32 (truncf .bf16 g bitsLt_bf16_f32) bitsLt_bf16_f32)) bitsLt_bf16_f32) zrows))
    (matmul dot_S64x64_S64x128_S64x128_1_0_0_1_n_n none tril
      (truncf .bf16 (subf (subf g (extf .f32 (truncf .bf16 g bitsLt_bf16_f32) bitsLt_bf16_f32))
        (extf .f32 (truncf .bf16 (subf g (extf .f32 (truncf .bf16 g bitsLt_bf16_f32) bitsLt_bf16_f32)) bitsLt_bf16_f32)
          bitsLt_bf16_f32)) bitsLt_bf16_f32) zrows)

/-- The log decays of a chunk's rows (the transposed copy). -/
def gRow (x : Vec F S1x1x8x64 .f32) (al dt : Vec F S8x1 .f32) : FVec F S8x64 .f32 :=
  mulf (broadcastTo S8x64 (subf (spl S8x1 0x00000000#32) (exp (shapeCast S8x1 al shapeCasts_S8x1_S8x1))) broadcasts_S8x1_S8x64)
    (softp S8x64 (addf (shapeCast S8x64 x shapeCasts_S1x1x8x64_S8x64)
      (broadcastTo S8x64 (shapeCast S8x1 dt shapeCasts_S8x1_S8x1) broadcasts_S8x1_S8x64)))

/-- Running sums along the rows of a block, the block in three parts. -/
def sumAlong (g : FVec F S8x64 .f32) : FVec F S8x64 .f32 :=
  addf (addf (addf (spl S8x64 0x00000000#32)
    (matmul dot_S8x64_S64x64_S8x64_1_0_0_1_n_n none (truncf .bf16 g bitsLt_bf16_f32) triu (constant S8x64 .f32 0x00000000#32)))
    (matmul dot_S8x64_S64x64_S8x64_1_0_0_1_n_n none
      (truncf .bf16 (subf g (extf .f32 (truncf .bf16 g bitsLt_bf16_f32) bitsLt_bf16_f32)) bitsLt_bf16_f32) triu
      (constant S8x64 .f32 0x00000000#32)))
    (matmul dot_S8x64_S64x64_S8x64_1_0_0_1_n_n none
      (truncf .bf16 (subf (subf g (extf .f32 (truncf .bf16 g bitsLt_bf16_f32) bitsLt_bf16_f32))
        (extf .f32 (truncf .bf16 (subf g (extf .f32 (truncf .bf16 g bitsLt_bf16_f32) bitsLt_bf16_f32)) bitsLt_bf16_f32)
          bitsLt_bf16_f32)) bitsLt_bf16_f32) triu (constant S8x64 .f32 0x00000000#32))

/-! ### The unit of a head in a chunk -/

/-- Rows over the root of their square sum. -/
def l2 (x : Vec F S1x64x128 .f32) : FVec F S64x128 .f32 :=
  mulf (shapeCast S64x128 x shapeCasts_S1x64x128_S64x128)
    (broadcastTo S64x128 (rsqrt (addf (shapeCast S64x1
      (multiReduction .add [1] S64 (mulf (shapeCast S64x128 x shapeCasts_S1x64x128_S64x128)
        (shapeCast S64x128 x shapeCasts_S1x64x128_S64x128)) 0x00000000#32 reduces_S64x128_S64 (.inl rfl) rfl) shapeCasts_S64_S64x1)
      (spl S64x1 0x358637BD#32))) broadcasts_S64x1_S64x128)

/-- The queries: normalized and scaled. -/
def qn (x : Vec F S1x64x128 .f32) : FVec F S64x128 .f32 := mulf (l2 x) (spl S64x128 0x3DB504F3#32)

/-- The decay from each token to each earlier one. -/
def dec (gcc : FVec F S64x1 .f32) (gcr : FVec F S1x64 .f32) : FVec F S64x64 .f32 :=
  exp (select causal (subf (broadcastTo S64x64 gcc broadcasts_S64x1_S64x64) (broadcastTo S64x64 gcr broadcasts_S1x64_S64x64))
    (broadcast S64x64 (Named.named (F := F) κ "masked" (φ := .f32) 0xF1800000#32)))

/-- A column over 128 lanes. -/
abbrev col (x : FVec F S64x1 .f32) : FVec F S64x128 .f32 := broadcastTo S64x128 x broadcasts_S64x1_S64x128

/-- A product with the second factor transposed. -/
abbrev nt (a b : FVec F S64x128 .bf16) : FVec F S64x64 .f32 :=
  matmul dot_S64x128_S64x128_S64x64_1_1_0_0_n_n none a b (constant S64x64 .f32 0x00000000#32)
/-- A product of two 64 × 64 blocks. -/
abbrev mm (a b : FVec F S64x64 .bf16) : FVec F S64x64 .f32 :=
  matmul dot_S64x64_S64x64_S64x64_1_0_0_1_n_n none a b (constant S64x64 .f32 0x00000000#32)
/-- A narrowing. -/
abbrev nar {s : Shape} (x : FVec F s .f32) : FVec F s .bf16 := truncf .bf16 x bitsLt_bf16_f32

/-- The chunk's strictly lower triangular matrix. -/
def lmat (k : FVec F S64x128 .f32) (β : FVec F S64x1 .f32) (d : FVec F S64x64 .f32) : FVec F S64x64 .f32 :=
  select strict (mulf (nt (nar (mulf k (col β))) (nar k)) d) (spl S64x64 0x00000000#32)

/-- A power of the matrix, squared once more. -/
def sq (p : FVec F S64x64 .f32) : FVec F S64x64 .f32 := mm (nar p) (nar p)
/-- One more factor of the inverse. -/
def grow (r p : FVec F S64x64 .f32) : FVec F S64x64 .f32 := addf r (mm (nar r) (nar p))

/-- The inverse of one plus the matrix. -/
def tinv (l : FVec F S64x64 .f32) : FVec F S64x64 .f32 :=
  grow (grow (grow (grow (grow (subf eye l) (sq l)) (sq (sq l))) (sq (sq (sq l)))) (sq (sq (sq (sq l))))) (sq (sq (sq (sq (sq l)))))

/-- The scaled keys beside the scaled values. -/
def rhs (k v : FVec F S64x128 .f32) (β gcc : FVec F S64x1 .f32) : FVec F S64x256 .bf16 :=
  nar (concatenate S64x256 1 [⟨S64x128, mulf (mulf k (col β)) (col (exp gcc))⟩, ⟨S64x128, mulf v (col β)⟩] concatenates_S64x128_S64x128_S64x256_d1)

/-- The inverse times those. -/
def wu (t : FVec F S64x64 .f32) (r : FVec F S64x256 .bf16) : FVec F S64x256 .bf16 :=
  nar (matmul dot_S64x64_S64x256_S64x256_1_0_0_1_n_n none (nar t) r (constant S64x256 .f32 0x00000000#32))

/-- The keys, decayed to the chunk's end. -/
def kend (k : FVec F S64x128 .f32) (gcc : FVec F S64x1 .f32) (gl : FVec F S1x1 .f32) : FVec F S64x128 .bf16 :=
  nar (mulf k (col (exp (subf (broadcastTo S64x1 gl broadcasts_S1x1_S64x1) gcc))))

/-- The decayed keys, transposed, times the inverse's products. -/
def pn (kd : FVec F S64x128 .bf16) (w : FVec F S64x256 .bf16) : FVec F S128x256 .f32 :=
  matmul dot_S64x128_S64x256_S128x256_0_0_1_1_n_n none kd w (constant S128x256 .f32 0x00000000#32)

/-- The masked products of queries and keys, times the inverse's products. -/
def ab (q k : FVec F S64x128 .f32) (d : FVec F S64x64 .f32) (w : FVec F S64x256 .bf16) : FVec F S64x256 .f32 :=
  matmul dot_S64x64_S64x256_S64x256_1_0_0_1_n_n none (nar (mulf (nt (nar q) (nar k)) d)) w (constant S64x256 .f32 0x00000000#32)

/-- The left half and the right half of the products. -/
abbrev lo (x : FVec F S64x256 .f32) : FVec F S64x128 .f32 := extractStridedSlice S64x128 ![0, 0] x slices_S64x256_o0_0_S64x128
abbrev hi (x : FVec F S64x256 .f32) : FVec F S64x128 .f32 := extractStridedSlice S64x128 ![0, 128] x slices_S64x256_o0_128_S64x128
abbrev lo' (x : FVec F S128x256 .f32) : FVec F S128x128 .f32 := extractStridedSlice S128x128 ![0, 0] x slices_S128x256_o0_0_S128x128
abbrev hi' (x : FVec F S128x256 .f32) : FVec F S128x128 .f32 := extractStridedSlice S128x128 ![0, 128] x slices_S128x256_o0_128_S128x128

/-- A head's inputs in a chunk: its raw queries, keys and values, its columns of step sizes and of running log decays, the
    latter as a row too, and the last of them. -/
structure In (F : FTy → Type) [FloatOps F] where
  q : Vec F S1x64x128 .f32
  k : Vec F S1x64x128 .f32
  v : Vec F S1x64x128 .f32
  β : FVec F S64x1 .f32
  gcc : FVec F S64x1 .f32
  gcr : FVec F S1x64 .f32
  gl : FVec F S1x1 .f32

/-- The inverse's products of a head in a chunk. -/
def uWu (x : In F) : FVec F S64x256 .bf16 :=
  wu (tinv (lmat (l2 x.k) x.β (dec x.gcc x.gcr))) (rhs (l2 x.k) (shapeCast S64x128 x.v shapeCasts_S1x64x128_S64x128) x.β x.gcc)
/-- The end's products. -/
def uPn (x : In F) : FVec F S128x256 .f32 := pn (kend (l2 x.k) x.gcc x.gl) (uWu x)
/-- The output's products. -/
def uAb (x : In F) : FVec F S64x256 .f32 := ab (qn x.q) (l2 x.k) (dec x.gcc x.gcr) (uWu x)

/-- The chunk's output of a head, from the state at the chunk's start. -/
def uOut (x : In F) (s : FVec F S128x128 .f32) : FVec F S64x128 .f32 :=
  addf (matmul dot_S64x128_S128x128_S64x128_1_0_0_1_n_n none (nar (subf (mulf (qn x.q) (col (exp x.gcc))) (lo (uAb x)))) (nar s) zrows)
    (hi (uAb x))

/-- The head's state after the chunk. -/
def uNext (x : In F) (s : FVec F S128x128 .f32) : FVec F S128x128 .f32 :=
  subf (addf (mulf s (broadcastTo S128x128 (exp x.gl) broadcasts_S1x1_S128x128)) (hi' (uPn x)))
    (matmul dot_S128x128_S128x128_S128x128_1_0_0_1_n_n none (nar (lo' (uPn x))) (nar s) (constant S128x128 .f32 0x00000000#32))

/-- The output, normalized and gated. -/
def uFin (o : FVec F S64x128 .f32) (nw : Vec F S1x128 .f32) (z : Vec F S1x64x128 .f32) : FVec F S64x128 .f32 :=
  mulf (mulf (mulf o (col (rsqrt (addf (divf (shapeCast S64x1
      (multiReduction .add [1] S64 (mulf o o) 0x00000000#32 reduces_S64x128_S64 (.inl rfl) rfl) shapeCasts_S64_S64x1)
      (spl S64x1 0x43000000#32)) (spl S64x1 0x358637BD#32)))))
    (broadcastTo S64x128 (shapeCast S1x128 nw shapeCasts_S1x128_S1x128) broadcasts_S1x128_S64x128))
    (addf (mulf (mulf (spl S64x128 0x3F000000#32) (shapeCast S64x128 z shapeCasts_S1x64x128_S64x128))
        (tanh (mulf (spl S64x128 0x3F000000#32) (shapeCast S64x128 z shapeCasts_S1x64x128_S64x128))))
      (mulf (spl S64x128 0x3F000000#32) (shapeCast S64x128 z shapeCasts_S1x64x128_S64x128)))

/-! ### A point of the grid: two sequences, four chunks, four heads -/

/-- The blocks a point of the grid is given, and the states the point before it left. -/
structure Pt (F : FTy → Type) [FloatOps F] where
  qkv : Vec F S2x256x1536 .f32
  z : Vec F S2x256x512 .f32
  ba : Vec F S2x256x128 .f32
  bat : Vec F S2x4x8x64 .f32
  hp : Vec F S8x128 .f32
  hpt : Vec F S8x128 .f32
  nw : Vec F S1x128 .f32
  st : Vec F S8x128x128 .f32

theorem fit_qkv (b : Fin 2) (c h : ℕ) (hc : c < 4) (hh : h < 12) :
    ∀ a, (![b.val, 64 * c, 128 * h] : Fin 3 → ℕ) a + S1x64x128.size a ≤ S2x256x1536.size a := by
  intro a
  match a with
  | ⟨0, _⟩ => show b.val + 1 ≤ 2; omega
  | ⟨1, _⟩ => show 64 * c + 64 ≤ 256; omega
  | ⟨2, _⟩ => show 128 * h + 128 ≤ 1536; omega

theorem fit_z (b : Fin 2) (c h : Fin 4) :
    ∀ a, (![b.val, 64 * c.val, 128 * h.val] : Fin 3 → ℕ) a + S1x64x128.size a ≤ S2x256x512.size a := by
  intro a
  match a with
  | ⟨0, _⟩ => show b.val + 1 ≤ 2; omega
  | ⟨1, _⟩ => show 64 * c.val + 64 ≤ 256; omega
  | ⟨2, _⟩ => show 128 * h.val + 128 ≤ 512; omega

theorem fit_ba (b : Fin 2) (c : Fin 4) :
    ∀ a, (![b.val, 64 * c.val, 0] : Fin 3 → ℕ) a + S1x64x128.size a ≤ S2x256x128.size a := by
  intro a
  match a with
  | ⟨0, _⟩ => show b.val + 1 ≤ 2; omega
  | ⟨1, _⟩ => show 64 * c.val + 64 ≤ 256; omega
  | ⟨2, _⟩ => show 0 + 128 ≤ 128; omega

theorem fit_bat (b : Fin 2) (c : Fin 4) :
    ∀ a, (![b.val, c.val, 0, 0] : Fin 4 → ℕ) a + S1x1x8x64.size a ≤ S2x4x8x64.size a := by
  intro a
  match a with
  | ⟨0, _⟩ => show b.val + 1 ≤ 2; omega
  | ⟨1, _⟩ => show c.val + 1 ≤ 4; omega
  | ⟨2, _⟩ => show 0 + 8 ≤ 8; omega
  | ⟨3, _⟩ => show 0 + 64 ≤ 64; omega

theorem fit_hp (r : Fin 2) : ∀ a, (![r.val, 0] : Fin 2 → ℕ) a + S1x128.size a ≤ S8x128.size a := by
  intro a
  match a with
  | ⟨0, _⟩ => show r.val + 1 ≤ 8; omega
  | ⟨1, _⟩ => show 0 + 128 ≤ 128; omega

theorem fit_hpt (r : Fin 2) : ∀ a, (![0, r.val] : Fin 2 → ℕ) a + S8x1.size a ≤ S8x128.size a := by
  intro a
  match a with
  | ⟨0, _⟩ => show 0 + 8 ≤ 8; omega
  | ⟨1, _⟩ => show r.val + 1 ≤ 128; omega

theorem fit_st (r : Fin 8) : ∀ a, (![r.val, 0, 0] : Fin 3 → ℕ) a + S1x128x128.size a ≤ S8x128x128.size a := by
  intro a
  match a with
  | ⟨0, _⟩ => show r.val + 1 ≤ 8; omega
  | ⟨1, _⟩ => show 0 + 128 ≤ 128; omega
  | ⟨2, _⟩ => show 0 + 128 ≤ 128; omega

theorem fit_col (h : Fin 8) : S64x128.Slices ![0, h.val] S64x1 := by revert h; decide
theorem fit_last (h : Fin 8) : S64x128.Slices ![63, h.val] S1x1 := by revert h; decide
theorem fit_row (h : Fin 8) : S8x64.Slices ![h.val, 0] S1x64 := by revert h; decide

/-- The running log decays of a chunk, by columns and by rows. -/
def gcCol (P : Pt F) (b : Fin 2) (c : Fin 4) : FVec F S64x128 .f32 :=
  sumDown (gAll (View.ld P.ba (Rect.unit _ S1x64x128.size (fit_ba b c))) (View.ld P.hp (Rect.unit _ S1x128.size (fit_hp 0)))
    (View.ld P.hp (Rect.unit _ S1x128.size (fit_hp 1))))
def gcRow (P : Pt F) (b : Fin 2) (c : Fin 4) : FVec F S8x64 .f32 :=
  sumAlong (gRow (View.ld P.bat (Rect.unit _ S1x1x8x64.size (fit_bat b c))) (View.ld P.hpt (Rect.unit _ S8x1.size (fit_hpt 0)))
    (View.ld P.hpt (Rect.unit _ S8x1.size (fit_hpt 1))))

/-- What a head's unit in a chunk is given. -/
def inp (P : Pt F) (b : Fin 2) (c h : Fin 4) : In F where
  q := View.ld P.qkv (Rect.unit _ S1x64x128.size (fit_qkv b c.val h.val c.isLt (by omega)))
  k := View.ld P.qkv (Rect.unit _ S1x64x128.size (fit_qkv b c.val (4 + h.val) c.isLt (by omega)))
  v := View.ld P.qkv (Rect.unit _ S1x64x128.size (fit_qkv b c.val (8 + h.val) c.isLt (by omega)))
  β := extractStridedSlice S64x1 ![0, h.val] (betaAll (View.ld P.ba (Rect.unit _ S1x64x128.size (fit_ba b c)))) (fit_col ⟨h.val, by omega⟩)
  gcc := extractStridedSlice S64x1 ![0, 4 + h.val] (gcCol P b c) (fit_col ⟨4 + h.val, by omega⟩)
  gcr := extractStridedSlice S1x64 ![4 + h.val, 0] (gcRow P b c) (fit_row ⟨4 + h.val, by omega⟩)
  gl := extractStridedSlice S1x1 ![63, 4 + h.val] (gcCol P b c) (fit_last ⟨4 + h.val, by omega⟩)

/-- The state of a head after the point's first `n` chunks. -/
def stN (P : Pt F) (b : Fin 2) (h : Fin 4) : ℕ → FVec F S128x128 .f32
  | 0 => shapeCast S128x128 (View.ld P.st (Rect.unit _ S1x128x128.size (fit_st ⟨4 * b.val + h.val, by omega⟩))) shapeCasts_S1x128x128_S128x128
  | n + 1 => uNext (inp P b (Fin.ofNat 4 n) h) (stN P b h n)

/-- What the point writes for a head in a chunk. -/
def outAt (P : Pt F) (b : Fin 2) (c h : Fin 4) : Vec F S1x64x128 .f32 :=
  shapeCast S1x64x128 (uFin (uOut (inp P b c h) (stN P b h c.val)) (View.ld P.nw (Rect.unit _ S1x128.size inb_S1x128_S1x128_0_0))
    (View.ld P.z (Rect.unit _ S1x64x128.size (fit_z b c h)))) shapeCasts_S64x128_S1x64x128

/-- What the point leaves for a head's state. -/
def stAt (P : Pt F) (b : Fin 2) (h : Fin 4) : Vec F S1x128x128 .f32 :=
  shapeCast S1x128x128 (stN P b h 4) shapeCasts_S128x128_S1x128x128

/-- The chunk, the sequence and the head of the point's `k`-th write from the last. -/
def cOf (k : Fin 32) : Fin 4 := ⟨3 - k.val / 8, by omega⟩
def bOf (k : Fin 32) : Fin 2 := ⟨1 - k.val % 8 / 4, by omega⟩
def hOf (k : Fin 32) : Fin 4 := ⟨3 - k.val % 4, by omega⟩

/-- Everything a point writes, the last write first. -/
def outPieces (P : Pt F) : List (View.Piece (Elt F) S2x256x512 .f32) :=
  List.ofFn fun k : Fin 32 => ⟨Rect.unit ![(bOf k).val, 64 * (cOf k).val, 128 * (hOf k).val] S1x64x128.size (fit_z (bOf k) (cOf k) (hOf k)),
    outAt P (bOf k) (cOf k) (hOf k)⟩

/-- Every state a point leaves, the last write first. -/
def stPieces (P : Pt F) : List (View.Piece (Elt F) S8x128x128 .f32) :=
  List.ofFn fun k : Fin 8 => ⟨Rect.unit ![7 - k.val, 0, 0] S1x128x128.size (fit_st ⟨7 - k.val, by omega⟩),
    stAt P ⟨1 - k.val / 4, by omega⟩ ⟨3 - k.val % 4, by omega⟩⟩

end GatedDelta.Unit

end
-- ==== Proof.GdnPoint.lean ====
/- What the kernel's body leaves at a point of the grid, as the units of `GdnUnit` say it: the run's words, which name
   every operation of the body, are those units' terms at the same blocks. -/
module

public import proofs.«01_k».proof.Proof.Gen.KernelIdeal.Value
public import proofs.«01_k».proof.Proof.GdnUnit
public import Idealize.ShloMosaic.Lib.Pipeline.ValueKit.Tiles
public import Idealize.ShloMosaic.Lib.ValueIdx

@[expose] public section

set_option maxRecDepth 100000

noncomputable section

namespace GatedDelta.Point

open Idealize.ShloMosaic Idealize.ShloMosaic.TcCoe Idealize.SL.Sem Idealize.ShloMosaic.ValueIdx
open Cert.KernelIdeal Cert.KernelIdeal.Gen GatedDelta.Unit

variable {F : FTy → Type} [FloatOps F] [Named F]

section Words

variable (c : Dev nD) (i : grid0.Coords) (arg2 : Memref sig .tc .vmem S2x256x1536 .f32) (harg2 : arg2.IsWhole)
  (arg3 : Memref sig .tc .vmem S2x256x512 .f32) (harg3 : arg3.IsWhole) (arg4 : Memref sig .tc .vmem S2x256x128 .f32) (harg4 : arg4.IsWhole)
  (arg5 : Memref sig .tc .vmem S2x4x8x64 .f32) (harg5 : arg5.IsWhole) (arg6 : Memref sig .tc .vmem S8x128 .f32) (harg6 : arg6.IsWhole)
  (arg7 : Memref sig .tc .vmem S8x128 .f32) (harg7 : arg7.IsWhole) (arg8 : Memref sig .tc .vmem S1x128 .f32) (harg8 : arg8.IsWhole)
  (arg9 : Memref sig .tc .vmem S2x256x512 .f32) (harg9 : arg9.IsWhole) (arg10 : Memref sig .tc .vmem S8x128x128 .f32) (harg10 : arg10.IsWhole)
  (x0 : Vec F S2x256x1536 .f32) (x1 : Vec F S2x256x512 .f32) (x2 : Vec F S2x256x128 .f32) (x3 : Vec F S2x4x8x64 .f32)
  (x4 : Vec F S8x128 .f32) (x5 : Vec F S8x128 .f32) (x6 : Vec F S1x128 .f32) (xs0 : Vec F S8x128x128 .f32)

/-- The point's blocks as the body reads them. -/
def raw (s : Vec F S8x128x128 .f32) : Pt F :=
  ⟨arg2.view.read (Elt F) (harg2.unread x0), arg3.view.read (Elt F) (harg3.unread x1), arg4.view.read (Elt F) (harg4.unread x2),
   arg5.view.read (Elt F) (harg5.unread x3), arg6.view.read (Elt F) (harg6.unread x4), arg7.view.read (Elt F) (harg7.unread x5),
   arg8.view.read (Elt F) (harg8.unread x6), s⟩

/-- … are the blocks. -/
theorem raw_eq (s : Vec F S8x128x128 .f32) :
    raw arg2 harg2 arg3 harg3 arg4 harg4 arg5 harg5 arg6 harg6 arg7 harg7 arg8 harg8 x0 x1 x2 x3 x4 x5 x6 s = ⟨x0, x1, x2, x3, x4, x5, x6, s⟩ := by
  unfold raw
  rw [harg2.read_unread, harg3.read_unread, harg4.read_unread, harg5.read_unread, harg6.read_unread, harg7.read_unread, harg8.read_unread]

/-- What the body writes to its output at a later point of a sequence. -/
theorem outPieces_B (hc0 : ¬cond0_0 i) : (kernelRun0_B c i arg2 harg2 arg3 harg3 arg4 harg4 arg5 harg5 arg6 harg6 arg7 harg7 arg8 harg8 arg9 harg9 arg10 harg10 hc0 x0 x1 x2 x3 x4 x5 x6 xs0).1
    = outPieces (raw arg2 harg2 arg3 harg3 arg4 harg4 arg5 harg5 arg6 harg6 arg7 harg7 arg8 harg8 x0 x1 x2 x3 x4 x5 x6 (arg10.view.read (Elt F) (harg10.unread xs0))) := by
  sl_kernel_rfl

/-- What it leaves in its states there. -/
theorem stPieces_B (hc0 : ¬cond0_0 i) : (kernelRun0_B c i arg2 harg2 arg3 harg3 arg4 harg4 arg5 harg5 arg6 harg6 arg7 harg7 arg8 harg8 arg9 harg9 arg10 harg10 hc0 x0 x1 x2 x3 x4 x5 x6 xs0).2.1
    = stPieces (raw arg2 harg2 arg3 harg3 arg4 harg4 arg5 harg5 arg6 harg6 arg7 harg7 arg8 harg8 x0 x1 x2 x3 x4 x5 x6 (arg10.view.read (Elt F) (harg10.unread xs0))) := by
  sl_kernel_rfl

/-- The write of zeros to the states that a sequence's first point makes. -/
def zeroPiece : View.Piece (Elt F) S8x128x128 .f32 :=
  ⟨Rect.unit ![0, 0, 0] S8x128x128.size inb_S8x128x128_S8x128x128_0_0_0, k0_pay4⟩

/-- What the body writes to its output at the first point of a sequence. -/
theorem outPieces_A (hc0 : cond0_0 i) : (kernelRun0_A c i arg2 harg2 arg3 harg3 arg4 harg4 arg5 harg5 arg6 harg6 arg7 harg7 arg8 harg8 arg9 harg9 arg10 harg10 hc0 x0 x1 x2 x3 x4 x5 x6).1
    = outPieces (raw arg2 harg2 arg3 harg3 arg4 harg4 arg5 harg5 arg6 harg6 arg7 harg7 arg8 harg8 x0 x1 x2 x3 x4 x5 x6
        (arg10.view.read (Elt F) (arg10.view.writes (Elt F) arg10.view.junk [zeroPiece]))) := by
  sl_kernel_rfl

/-- What it leaves in its states there. -/
theorem stPieces_A (hc0 : cond0_0 i) : (kernelRun0_A c i arg2 harg2 arg3 harg3 arg4 harg4 arg5 harg5 arg6 harg6 arg7 harg7 arg8 harg8 arg9 harg9 arg10 harg10 hc0 x0 x1 x2 x3 x4 x5 x6).2.1
    = stPieces (raw arg2 harg2 arg3 harg3 arg4 harg4 arg5 harg5 arg6 harg6 arg7 harg7 arg8 harg8 x0 x1 x2 x3 x4 x5 x6
        (arg10.view.read (Elt F) (arg10.view.writes (Elt F) arg10.view.junk [zeroPiece]))) ++ [zeroPiece] := by
  sl_kernel_rfl

end Words

/-! ### The pieces read back -/

/-- Earlier writes do not show where later ones cover. -/
theorem canon_append {S : Shape} {e : EltTy} : ∀ (L L' : List (View.Piece (Elt F) S e)) (y : S.Idx), (∃ p ∈ L, y ∈ p.1.set) →
    View.canon (L ++ L') y = View.canon L y
  | [], _, _, h => by obtain ⟨_, hp, _⟩ := h; exact absurd hp List.not_mem_nil
  | p :: L, L', y, h => by
    by_cases hm : y ∈ p.1.set
    · obtain ⟨r, w⟩ := p
      obtain ⟨x, rfl⟩ := r.exists_idx_of_mem hm
      rw [show r.idx x = r.emb x from rfl, List.cons_append, View.canon_cons_emb, View.canon_cons_emb]
    · rw [List.cons_append, View.canon_cons_of_not_mem _ _ hm, View.canon_cons_of_not_mem _ _ hm]
      refine canon_append L L' y ?_
      obtain ⟨q, hq, hy⟩ := h
      rcases List.mem_cons.mp hq with rfl | hq'
      · exact absurd hy hm
      · exact ⟨q, hq', hy⟩

/-- A point's output, read at a token and a lane of a head. -/
theorem canon_out (P : Pt F) (b : Fin 2) (c h : Fin 4) (i : Fin 64) (j : Fin 128) :
    View.canon (outPieces P) (ix3 b ⟨64 * c.val + i.val, by omega⟩ ⟨128 * h.val + j.val, by omega⟩ : S2x256x512.Idx)
      = outAt P b c h (ix3 0 i j) := by
  refine View.canon_ofFn_unit_eq_of_forall _ _ _ _ _ _ ?_ ?_
  · refine ⟨⟨31 - (8 * c.val + 4 * b.val + h.val), by omega⟩, fun a => ?_⟩
    match a with
    | ⟨0, _⟩ =>
      show 1 - (31 - (8 * c.val + 4 * b.val + h.val)) % 8 / 4 ≤ b.val ∧ b.val < 1 - (31 - (8 * c.val + 4 * b.val + h.val)) % 8 / 4 + 1
      omega
    | ⟨1, _⟩ =>
      show 64 * (3 - (31 - (8 * c.val + 4 * b.val + h.val)) / 8) ≤ 64 * c.val + i.val
        ∧ 64 * c.val + i.val < 64 * (3 - (31 - (8 * c.val + 4 * b.val + h.val)) / 8) + 64
      omega
    | ⟨2, _⟩ =>
      show 128 * (3 - (31 - (8 * c.val + 4 * b.val + h.val)) % 4) ≤ 128 * h.val + j.val
        ∧ 128 * h.val + j.val < 128 * (3 - (31 - (8 * c.val + 4 * b.val + h.val)) % 4) + 128
      omega
  · intro k x hx
    have h0 : b.val = (bOf k).val + (x 0).val := hx 0
    have h1 : 64 * c.val + i.val = 64 * (cOf k).val + (x 1).val := hx 1
    have h2 : 128 * h.val + j.val = 128 * (hOf k).val + (x 2).val := hx 2
    have l0 : (x 0).val < 1 := (x 0).isLt
    have l1 : (x 1).val < 64 := (x 1).isLt
    have l2 : (x 2).val < 128 := (x 2).isLt
    have eb : bOf k = b := Fin.ext (by omega)
    have ec : cOf k = c := Fin.ext (by omega)
    have eh : hOf k = h := Fin.ext (by omega)
    show outAt P (bOf k) (cOf k) (hOf k) x = _
    rw [eb] at h0; rw [ec] at h1; rw [eh] at h2
    rw [eb, ec, eh]
    congr 1
    funext a
    match a with
    | ⟨0, _⟩ => exact Fin.ext (by show (x 0).val = 0; omega)
    | ⟨1, _⟩ => exact Fin.ext (by show (x 1).val = i.val; omega)
    | ⟨2, _⟩ => exact Fin.ext (by show (x 2).val = j.val; omega)

/-- Some write of the states holds every state. -/
theorem covers_st (b : Fin 2) (h : Fin 4) (i j : Fin 128) :
    ∃ k : Fin 8, ∀ a, (![7 - k.val, 0, 0] : Fin 3 → ℕ) a ≤ (ix3 (⟨4 * b.val + h.val, by omega⟩ : Fin 8) i j : S8x128x128.Idx) a
      ∧ ((ix3 (⟨4 * b.val + h.val, by omega⟩ : Fin 8) i j : S8x128x128.Idx) a : ℕ) < (![7 - k.val, 0, 0] : Fin 3 → ℕ) a + S1x128x128.size a := by
  refine ⟨⟨7 - (4 * b.val + h.val), by omega⟩, fun a => ?_⟩
  match a with
  | ⟨0, _⟩ => show 7 - (7 - (4 * b.val + h.val)) ≤ 4 * b.val + h.val ∧ 4 * b.val + h.val < 7 - (7 - (4 * b.val + h.val)) + 1; omega
  | ⟨1, _⟩ => show 0 ≤ i.val ∧ i.val < 0 + 128; omega
  | ⟨2, _⟩ => show 0 ≤ j.val ∧ j.val < 0 + 128; omega

/-- A point's states, read at an entry of a head's. -/
theorem canon_st (P : Pt F) (b : Fin 2) (h : Fin 4) (i j : Fin 128) :
    View.canon (stPieces P) (ix3 (⟨4 * b.val + h.val, by omega⟩ : Fin 8) i j : S8x128x128.Idx) = stAt P b h (ix3 0 i j) := by
  refine View.canon_ofFn_unit_eq_of_forall _ _ _ _ _ _ (covers_st b h i j) ?_
  intro k x hx
  have h0 : 4 * b.val + h.val = 7 - k.val + (x 0).val := hx 0
  have h1 : i.val = 0 + (x 1).val := hx 1
  have h2 : j.val = 0 + (x 2).val := hx 2
  have l0 : (x 0).val < 1 := (x 0).isLt
  have eb : (⟨1 - k.val / 4, by omega⟩ : Fin 2) = b := Fin.ext (by show 1 - k.val / 4 = b.val; omega)
  have eh : (⟨3 - k.val % 4, by omega⟩ : Fin 4) = h := Fin.ext (by show 3 - k.val % 4 = h.val; omega)
  show stAt P ⟨1 - k.val / 4, _⟩ ⟨3 - k.val % 4, _⟩ x = _
  rw [eb, eh]
  congr 1
  funext a
  match a with
  | ⟨0, _⟩ => exact Fin.ext (by show (x 0).val = 0; omega)
  | ⟨1, _⟩ => exact Fin.ext (by show (x 1).val = i.val; omega)
  | ⟨2, _⟩ => exact Fin.ext (by show (x 2).val = j.val; omega)

/-- … and with the zeros written first. -/
theorem canon_st_zero (P : Pt F) (b : Fin 2) (h : Fin 4) (i j : Fin 128) :
    View.canon (stPieces P ++ [zeroPiece]) (ix3 (⟨4 * b.val + h.val, by omega⟩ : Fin 8) i j : S8x128x128.Idx) = stAt P b h (ix3 0 i j) := by
  rw [canon_append _ _ _ ?_, canon_st]
  obtain ⟨k, hk⟩ := covers_st b h i j
  refine ⟨_, List.mem_ofFn.mpr ⟨k, rfl⟩, ?_⟩
  exact (Rect.mem_set_unit (inb := fit_st ⟨7 - k.val, by omega⟩)).mpr hk

/-- The zeros, read back. -/
theorem zeros_read (M : Memref sig .tc .vmem S8x128x128 .f32) :
    M.view.read (Elt F) (M.view.writes (Elt F) M.view.junk [zeroPiece]) = k0_pay4 := by
  have hz : (![0, 0, 0] : Fin 3 → ℕ) = fun _ => 0 := by funext a; fin_cases a <;> rfl
  have hc : View.canon [zeroPiece (F := F)] = k0_pay4 := View.canon_unit_zero hz _ _
  rw [View.read_writes_eq_canon _ _ _ ?_, hc]
  intro y
  refine ⟨_, List.mem_singleton.mpr rfl, (Rect.mem_set_unit (inb := inb_S8x128x128_S8x128x128_0_0_0)).mpr fun a => ?_⟩
  match a with
  | ⟨0, _⟩ => exact ⟨Nat.zero_le _, by have : (y 0).val < 8 := (y 0).isLt; show (y 0).val < 0 + 8; omega⟩
  | ⟨1, _⟩ => exact ⟨Nat.zero_le _, by have : (y 1).val < 128 := (y 1).isLt; show (y 1).val < 0 + 128; omega⟩
  | ⟨2, _⟩ => exact ⟨Nat.zero_le _, by have : (y 2).val < 128 := (y 2).isLt; show (y 2).val < 0 + 128; omega⟩

/-! ### A step of the grid -/

variable (m : (ℓ : Loc nD τ sig) → Buf (Elt F) ℓ)

/-- A point's blocks, at the states it starts from. -/
def ptOf (c : Dev nD) (t : Fin cfg0.N) (s : Vec F S8x128x128 .f32) : Pt F :=
  ⟨iblk m c 0 t, iblk m c 1 t, iblk m c 2 t, iblk m c 3 t, iblk m c 4 t, iblk m c 5 t, iblk m c 6 t, s⟩

/-- The states a point starts from: zeros at a sequence's first point, else what the point before left. -/
def start (t : Fin cfg0.N) (s : Vec F S8x128x128 .f32) : Vec F S8x128x128 .f32 := if t.val % 16 = 0 then k0_pay4 else s

/-- WHAT A POINT WRITES, read at a token and a lane of a head. -/
theorem step_out (c : Dev nD) (t : Fin cfg0.N) (acc : Vec F S2x256x512 .f32 × Vec F S8x128x128 .f32)
    (b : Fin 2) (ci h : Fin 4) (i : Fin 64) (j : Fin 128) :
    (Value.stAt0 m c t.val t.isLt acc).1 (ix3 b ⟨64 * ci.val + i.val, by omega⟩ ⟨128 * h.val + j.val, by omega⟩ : S2x256x512.Idx)
      = outAt (ptOf m c t (start t acc.2)) b ci h (ix3 0 i j) := by
  by_cases h0 : t.val % 16 = 0
  · rw [Value.stAt0_A m c t acc h0]
    dsimp only
    unfold out0_A_7
    rw [View.read_writes_eq_canon _ _ _ (cover0_A_7 c _ _ _ _ _ _ _ _ _ _ _ _ _ _ _ _ _ _ _ _ _ _ _ _ _ _ _), outPieces_A, zeros_read,
      raw_eq, canon_out, start, if_pos h0]
    rfl
  · rw [Value.stAt0_B m c t acc h0]
    dsimp only
    unfold out0_B_7
    rw [View.read_writes_eq_canon _ _ _ (cover0_B_7 c _ _ _ _ _ _ _ _ _ _ _ _ _ _ _ _ _ _ _ _ _ _ _ _ _ _ _ _), outPieces_B,
      raw_eq, canon_out, start, if_neg h0, (Memref.isWhole_whole _).read_unread]
    rfl

/-- WHAT A POINT LEAVES in a head's state, read at an entry. -/
theorem step_st (c : Dev nD) (t : Fin cfg0.N) (acc : Vec F S2x256x512 .f32 × Vec F S8x128x128 .f32)
    (b : Fin 2) (h : Fin 4) (i j : Fin 128) :
    (Value.stAt0 m c t.val t.isLt acc).2 (ix3 (⟨4 * b.val + h.val, by omega⟩ : Fin 8) i j : S8x128x128.Idx)
      = stAt (ptOf m c t (start t acc.2)) b h (ix3 0 i j) := by
  by_cases h0 : t.val % 16 = 0
  · rw [Value.stAt0_A m c t acc h0]
    dsimp only
    unfold sout0_A_0
    rw [View.read_writes_eq_canon _ _ _ (scover0_A_0 c _ _ _ _ _ _ _ _ _ _ _ _ _ _ _ _ _ _ _ _ _ _ _ _ _ _ _), stPieces_A, zeros_read,
      raw_eq, canon_st_zero, start, if_pos h0]
    rfl
  · rw [Value.stAt0_B m c t acc h0]
    dsimp only
    unfold sout0_B_0
    rw [View.read_writes_eq_canon _ _ _ (scover0_B_0 c _ _ _ _ _ _ _ _ _ _ _ _ _ _ _ _ _ _ _ _ _ _ _ _ _ _ _ _), stPieces_B,
      raw_eq, canon_st, start, if_neg h0, (Memref.isWhole_whole _).read_unread]
    rfl

end GatedDelta.Point

end
-- ==== Proof.ChunkMath.lean ====
/- The real mathematics of the gated delta rule: one chunk of 64 tokens in the form with the inverse of a unit lower
   triangular matrix makes the same outputs and the same state as the recurrence that goes token by token. -/
module

public import Mathlib.Analysis.SpecialFunctions.Exp
public import Mathlib.Data.Matrix.Mul
public import Mathlib.Algebra.BigOperators.Intervals
public import Mathlib.Algebra.BigOperators.Fin
public import Mathlib.Tactic.Ring
public import Mathlib.Tactic.NoncommRing

@[expose] public section

noncomputable section

namespace GatedDelta

open Matrix Finset

/-- A square matrix of reals on 64 tokens. -/
abbrev Tok := Matrix (Fin 64) (Fin 64) ℝ
/-- One row of 128 lanes for each of 64 tokens. -/
abbrev Rows := Matrix (Fin 64) (Fin 128) ℝ
/-- A head's state. -/
abbrev St := Matrix (Fin 128) (Fin 128) ℝ

/-! ### The inverse of `1 + L` for a strictly lower triangular `L` -/

/-- The product the kernel makes for the inverse of `1 + L`: powers of `L` by repeated squaring. -/
def inv (L : Tok) : Tok :=
  let r0 := 1 - L
  let p1 := L * L
  let r1 := r0 + r0 * p1
  let p2 := p1 * p1
  let r2 := r1 + r1 * p2
  let p3 := p2 * p2
  let r3 := r2 + r2 * p3
  let p4 := p3 * p3
  let r4 := r3 + r3 * p4
  let p5 := p4 * p4
  r4 + r4 * p5

/-- The `n`-th power of a strictly lower triangular matrix is zero within `n` of the diagonal. -/
theorem pow_band (L : Tok) (hL : ∀ i j : Fin 64, i ≤ j → L i j = 0) (n : ℕ) (i j : Fin 64) (h : i.val < j.val + n) :
    (L ^ n) i j = 0 := by
  induction n generalizing i with
  | zero => exact Matrix.one_apply_ne (fun e => by subst e; omega)
  | succ n ih =>
    rw [pow_succ', Matrix.mul_apply]
    refine Finset.sum_eq_zero fun k _ => ?_
    by_cases hk : i ≤ k
    · rw [hL i k hk, zero_mul]
    · rw [ih k (by have : k.val < i.val := not_le.mp hk; omega), mul_zero]

/-- The 64th power of a strictly lower triangular matrix is zero. -/
theorem pow_top (L : Tok) (hL : ∀ i j : Fin 64, i ≤ j → L i j = 0) : L ^ 64 = 0 := by
  ext i j
  exact pow_band L hL 64 i j (by omega)

/-- The product times `1 + L` is one. -/
theorem inv_mul (L : Tok) (hL : ∀ i j : Fin 64, i ≤ j → L i j = 0) : inv L * (1 + L) = 1 := by
  have key : inv L * (1 + L) = 1 - L ^ 64 := by
    have h1 : (1 - L) * (1 + L) = 1 - L ^ 2 := by noncomm_ring
    have e : inv L = (1 - L) * (1 + L ^ 2) * (1 + L ^ 4) * (1 + L ^ 8) * (1 + L ^ 16) * (1 + L ^ 32) := by
      simp only [inv, ← pow_two, ← pow_mul, mul_add, mul_one]
      norm_num
    have c : ∀ n, Commute (1 + L ^ n) (1 + L) := fun n =>
      (Commute.one_left _).add_left (((Commute.one_right _).add_right ((Commute.refl L).pow_left n)))
    have sq : ∀ n, (1 - L ^ n) * (1 + L ^ n) = 1 - L ^ (2 * n) := fun n => by
      rw [two_mul, pow_add]; noncomm_ring
    rw [e, mul_assoc, (c 32).eq, ← mul_assoc, mul_assoc _ _ (1 + L), (c 16).eq, ← mul_assoc, mul_assoc _ _ (1 + L),
      (c 8).eq, ← mul_assoc, mul_assoc _ _ (1 + L), (c 4).eq, ← mul_assoc, mul_assoc _ _ (1 + L), (c 2).eq, ← mul_assoc,
      h1, sq 2, sq 4, sq 8, sq 16, sq 32]
  rw [key, pow_top L hL, sub_zero]

/-! ### The recurrence -/

/-- One token: the state after it, of the state before it, the token's key, value, step size and log decay. -/
def next (k v : Fin 128 → ℝ) (β g : ℝ) (S : St) : St :=
  fun a b => Real.exp g * (S a b - β * k a * (∑ c, k c * S c b)) + β * k a * v b

/-- The state before token `n`, from the state before token 0. -/
def state (k v : ℕ → Fin 128 → ℝ) (β g : ℕ → ℝ) (S0 : St) : ℕ → St
  | 0 => S0
  | n + 1 => next (k n) (v n) (β n) (g n) (state k v β g S0 n)

/-- Reading on from token `m`. -/
theorem state_add (k v : ℕ → Fin 128 → ℝ) (β g : ℕ → ℝ) (S0 : St) (m n : ℕ) :
    state k v β g S0 (m + n) = state (fun t => k (m + t)) (fun t => v (m + t)) (fun t => β (m + t)) (fun t => g (m + t))
      (state k v β g S0 m) n := by
  induction n with
  | zero => rfl
  | succ n ih => rw [← add_assoc]; show next _ _ _ _ _ = next _ _ _ _ _; rw [ih]

/-! ### One chunk -/

section chunk

variable (k v : ℕ → Fin 128 → ℝ) (β g : ℕ → ℝ) (S : St)

/-- The sum of the log decays before token `n`. -/
def gsum (n : ℕ) : ℝ := ∑ j ∈ range n, g j

/-- What token `n` adds to the state along its key. -/
def delta (n : ℕ) (b : Fin 128) : ℝ :=
  β n * (v n b - Real.exp (g n) * ∑ c, k n c * state k v β g S n c b)

theorem state_closed (n : ℕ) (a b : Fin 128) :
    state k v β g S n a b = Real.exp (gsum g n) * S a b
      + ∑ j ∈ range n, Real.exp (gsum g n - gsum g (j + 1)) * k j a * delta k v β g S j b := by
  induction n generalizing a with
  | zero => simp [state, gsum]
  | succ n ih =>
    have e : state k v β g S (n + 1) a b
        = Real.exp (g n) * state k v β g S n a b + k n a * delta k v β g S n b := by
      show next _ _ _ _ _ _ _ = _
      unfold next delta
      ring
    have hs : gsum g (n + 1) = g n + gsum g n := by rw [gsum, sum_range_succ, add_comm]; rfl
    rw [e, ih, sum_range_succ, sub_self, Real.exp_zero, one_mul, mul_add, mul_sum, add_assoc, hs, Real.exp_add]
    congr 1
    · ring
    congr 1
    refine sum_congr rfl fun j _ => ?_
    rw [add_sub_assoc, Real.exp_add]
    ring

/-- The decay matrix: from a token to an earlier one or itself. -/
def decay : Tok := fun i j => if j ≤ i then Real.exp (gsum g (i + 1) - gsum g (j + 1)) else 0

/-- The strictly lower triangular matrix of the chunk. -/
def low : Tok := fun i j => if j < i then (∑ c, (k i c * β i) * k j c) * decay g i j else 0

/-- The chunk's keys, scaled by step size and decay. -/
def keyRows : Rows := fun i a => k i a * β i * Real.exp (gsum g (i + 1))
/-- The chunk's values, scaled by step size. -/
def valRows : Rows := fun i b => v i b * β i
/-- The chunk's corrected values. -/
def deltaRows : Rows := fun i b => delta k v β g S i b

theorem low_strict (i j : Fin 64) (h : i ≤ j) : low k β g i j = 0 := if_neg (not_lt.mpr h)

/-- A sum over the tokens before one of a chunk, over all of the chunk. -/
theorem sum_before (i : Fin 64) (f : ℕ → ℝ) : ∑ j ∈ range i, f j = ∑ j : Fin 64, if j < i then f j else 0 := by
  rw [← sum_filter]
  refine sum_bij (fun j hj => ⟨j, by have := mem_range.mp hj; omega⟩) ?_ ?_ ?_ ?_
  · intro j hj; exact mem_filter.mpr ⟨mem_univ _, Fin.lt_def.mpr (mem_range.mp hj)⟩
  · intro a _ b _ h; exact congrArg Fin.val h
  · intro b hb; exact ⟨b, mem_range.mpr (Fin.lt_def.mp (mem_filter.mp hb).2), rfl⟩
  · intro a _; rfl

/-- The same with the token itself. -/
theorem sum_upto (i : Fin 64) (f : ℕ → ℝ) : ∑ j ∈ range (i + 1), f j = ∑ j : Fin 64, if j ≤ i then f j else 0 := by
  rw [← sum_filter]
  refine sum_bij (fun j hj => ⟨j, by have := mem_range.mp hj; omega⟩) ?_ ?_ ?_ ?_
  · intro j hj; exact mem_filter.mpr ⟨mem_univ _, Fin.le_def.mpr (Nat.lt_succ_iff.mp (mem_range.mp hj))⟩
  · intro a _ b _ h; exact congrArg Fin.val h
  · intro b hb; exact ⟨b, mem_range.mpr (Nat.lt_succ_iff.mpr (Fin.le_def.mp (mem_filter.mp hb).2)), rfl⟩
  · intro a _; rfl

/-- The triangular system the corrected values solve. -/
theorem system : (1 + low k β g) * deltaRows k v β g S = valRows v β - keyRows k β g * S := by
  ext i b
  rw [Matrix.add_mul, Matrix.one_mul, Matrix.add_apply, Matrix.sub_apply, Matrix.mul_apply, Matrix.mul_apply]
  have hd : deltaRows k v β g S i b = β i * (v i b - Real.exp (g i) * ∑ c, k i c * state k v β g S i c b) := rfl
  have hs : ∀ c, state k v β g S i c b = Real.exp (gsum g i) * S c b
      + ∑ j : Fin 64, if j < i then Real.exp (gsum g i - gsum g (j + 1)) * k j c * delta k v β g S j b else 0 := fun c => by
    rw [state_closed, sum_before i]
  have hg : gsum g (i + 1) = g i + gsum g i := by rw [gsum, sum_range_succ, add_comm]; rfl
  rw [hd]
  simp only [hs, mul_add, sum_add_distrib, mul_sum]
  rw [sum_comm]
  have hl : ∀ j : Fin 64, low k β g i j * deltaRows k v β g S j b
      = ∑ c, β i * (Real.exp (g i) * (k i c * if j < i then Real.exp (gsum g i - gsum g (j + 1)) * k j c * delta k v β g S j b
          else 0)) := by
    intro j
    unfold low deltaRows decay
    by_cases h : j < i
    · rw [if_pos h, if_pos h.le, hg, add_sub_assoc, Real.exp_add, sum_mul, sum_mul]
      refine sum_congr rfl fun c _ => ?_
      rw [if_pos h]; ring
    · simp [h]
  simp only [hl, valRows, keyRows, hg, Real.exp_add, mul_sub, mul_add, mul_sum]
  have e1 : ∀ x, β i * (Real.exp (g i) * (k i x * (Real.exp (gsum g i) * S x b)))
      = k i x * β i * (Real.exp (g i) * Real.exp (gsum g i)) * S x b := fun x => by ring
  simp only [e1]
  ring

/-- The corrected values, from the inverse: `[w, u]` are the inverse's products with the scaled keys and values. -/
theorem solve : deltaRows k v β g S = inv (low k β g) * valRows v β - inv (low k β g) * keyRows k β g * S := by
  have h := congrArg (fun X : Rows => inv (low k β g) * X) (system k v β g S)
  simp only [← Matrix.mul_assoc, Matrix.mul_sub] at h
  rw [inv_mul _ (low_strict k β g), Matrix.one_mul] at h
  exact h

/-- The chunk's masked products of queries and keys. -/
def attn (q : ℕ → Fin 128 → ℝ) : Tok := fun i j => (∑ c, q i c * k j c) * decay g i j
/-- The chunk's queries, scaled by decay. -/
def qRows (q : ℕ → Fin 128 → ℝ) : Rows := fun i a => q i a * Real.exp (gsum g (i + 1))
/-- The chunk's keys, scaled by the decay to the chunk's end. -/
def endRows : Rows := fun i a => k i a * Real.exp (gsum g 64 - gsum g (i + 1))

/-- THE OUTPUT of token `i` of the chunk: the query against the state after the token. -/
theorem out_eq (q : ℕ → Fin 128 → ℝ) (i : Fin 64) (b : Fin 128) :
    ((qRows g q - attn k g q * (inv (low k β g) * keyRows k β g)) * S + attn k g q * (inv (low k β g) * valRows v β)) i b
      = ∑ a, q i a * state k v β g S (i + 1) a b := by
  have h : (qRows g q - attn k g q * (inv (low k β g) * keyRows k β g)) * S + attn k g q * (inv (low k β g) * valRows v β)
      = qRows g q * S + attn k g q * deltaRows k v β g S := by
    rw [solve k v β g S]
    simp only [Matrix.sub_mul, Matrix.mul_sub, Matrix.mul_assoc]
    abel
  rw [h, Matrix.add_apply, Matrix.mul_apply, Matrix.mul_apply]
  simp only [state_closed k v β g S, sum_upto i, mul_add, sum_add_distrib, mul_sum]
  congr 1
  · exact sum_congr rfl fun a _ => by simp only [qRows]; ring
  · rw [sum_comm]
    refine sum_congr rfl fun j _ => ?_
    unfold attn decay deltaRows
    by_cases hj : j ≤ i
    · rw [if_pos hj, sum_mul, sum_mul]
      refine sum_congr rfl fun c _ => ?_
      rw [if_pos hj]; ring
    · simp [hj]

/-- THE STATE after the chunk. -/
theorem state_eq (a b : Fin 128) :
    S a b * Real.exp (gsum g 64) + ((endRows k g)ᵀ * (inv (low k β g) * valRows v β)) a b
        - (((endRows k g)ᵀ * (inv (low k β g) * keyRows k β g)) * S) a b
      = state k v β g S 64 a b := by
  have h : (endRows k g)ᵀ * (inv (low k β g) * valRows v β) - ((endRows k g)ᵀ * (inv (low k β g) * keyRows k β g)) * S
      = (endRows k g)ᵀ * deltaRows k v β g S := by
    rw [solve k v β g S]
    simp only [Matrix.mul_sub, Matrix.mul_assoc]
  have h' := congrFun (congrFun h a) b
  rw [Matrix.sub_apply] at h'
  rw [add_sub_assoc, h', state_closed, Matrix.mul_apply, mul_comm]
  congr 1
  have := sum_upto ⟨63, by omega⟩ (fun j => Real.exp (gsum g 64 - gsum g (j + 1)) * k j a * delta k v β g S j b)
  rw [show range 64 = range (63 + 1) from rfl]
  refine Eq.trans ?_ this.symm
  refine sum_congr rfl fun j _ => ?_
  rw [if_pos (Fin.le_def.mpr (by have := j.2; show j.val ≤ 63; omega))]
  simp only [Matrix.transpose_apply, endRows, deltaRows]
  ring

end chunk

end GatedDelta

end
-- ==== Proof.GdnReal.lean ====
/- The unit of a head in a chunk at real inputs: its output and its next state are the recurrence's. -/
module

public import proofs.«01_k».proof.Proof.GdnUnit
public import proofs.«01_k».proof.Proof.ChunkMath
public import Idealize.ShloMosaic.Lib.Pointwise
public import Idealize.ShloMosaic.PureOps.Ideal.Laws
public import Idealize.ShloMosaic.Lib.IdealHost

@[expose] public section

noncomputable section

namespace GatedDelta.Unit

open Idealize.ShloMosaic Cert.KernelIdeal Cert.KernelIdeal.Gen

/-- A block of extended reals that are the reals of a matrix. -/
def Mat {m n : ℕ} {φ : FTy} (x : FVec Ideal ⟨2, ![m, n]⟩ φ) (A : Matrix (Fin m) (Fin n) ℝ) : Prop :=
  ∀ i j, x (ix2 i j) = ((A i j : ℝ) : EReal)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_dot {n : ℕ} (f g : Fin n → ℝ) : ∑ i, ((f i : ℝ) : EReal) * ((g i : ℝ) : EReal) = ((∑ i, f i * g i : ℝ) : EReal) := by
  rw [← coe_sum]; exact Finset.sum_congr rfl fun i _ => (EReal.coe_mul _ _).symm

theorem select_ge {α : Type} (i j : Fin 64) (a b : α) :
    Scalar.select (IntOp.cmpi .sge (BitVec.ofNat 32 i.val) (BitVec.ofNat 32 j.val)) a b = if j ≤ i then a else b := by
  have h : IntOp.cmpi .sge (BitVec.ofNat 32 i.val) (BitVec.ofNat 32 j.val) = if j ≤ i then 1#1 else 0#1 := by
    revert i j; decide
  rw [h]; split <;> rfl

theorem select_gt {α : Type} (i j : Fin 64) (a b : α) :
    Scalar.select (IntOp.cmpi .sgt (BitVec.ofNat 32 i.val) (BitVec.ofNat 32 j.val)) a b = if j < i then a else b := by
  have h : IntOp.cmpi .sgt (BitVec.ofNat 32 i.val) (BitVec.ofNat 32 j.val) = if j < i then 1#1 else 0#1 := by
    revert i j; decide
  rw [h]; split <;> rfl

theorem select_le {α : Type} (i j : Fin 64) (a b : α) :
    Scalar.select (IntOp.cmpi .sle (BitVec.ofNat 32 i.val) (BitVec.ofNat 32 j.val)) a b = if i ≤ j then a else b := by
  have h : IntOp.cmpi .sle (BitVec.ofNat 32 i.val) (BitVec.ofNat 32 j.val) = if i ≤ j then 1#1 else 0#1 := by
    revert i j; decide
  rw [h]; split <;> rfl

theorem select_eq {α : Type} (i j : Fin 64) (a b : α) :
    Scalar.select (IntOp.cmpi .eq (BitVec.ofNat 32 i.val) (BitVec.ofNat 32 j.val)) a b = if i = j then a else b := by
  have h : IntOp.cmpi .eq (BitVec.ofNat 32 i.val) (BitVec.ofNat 32 j.val) = if i = j then 1#1 else 0#1 := by
    revert i j; decide
  rw [h]; split <;> rfl

theorem masked_eq : Named.named (F := Ideal) κ "masked" (φ := .f32) 0xF1800000#32 = (⊥ : EReal) :=
  IdealRules.named_const.ideal_named_scalar _ _ _ _ rfl

section Pieces

variable {A B : Tok} {a b : FVec Ideal S64x64 .f32}

theorem mm_real {φ : FTy} {a b : FVec Ideal S64x64 .bf16} (ha : Mat a A) (hb : Mat b B) : Mat (mm a b) (A * B) := fun i j => by
  pointwise []
  simp only [ha _ _, hb _ _, coe_dot]
  rfl

theorem sq_real (ha : Mat a A) : Mat (sq a) (A * A) := mm_real (φ := .f32) (a := nar a) (b := nar a) ha ha

theorem grow_real (ha : Mat a A) (hb : Mat b B) : Mat (grow a b) (A + A * B) := fun i j => by
  have h := mm_real (φ := .f32) (a := nar a) (b := nar b) ha hb i j
  have e : grow a b (ix2 i j) = a (ix2 i j) + mm (nar a) (nar b) (ix2 i j) := rfl
  rw [e, h, ha i j, ← EReal.coe_add]; rfl

theorem eye_real : Mat (eye (F := Ideal)) (1 : Tok) := fun i j => by
  pointwise [eye]
  rw [select_eq, Matrix.one_apply]
  split <;> simp

theorem tinv_real (ha : Mat a A) : Mat (tinv a) (inv A) := by
  have h0 : Mat (subf eye a) (1 - A) := fun i j => by
    have e : subf eye a (ix2 i j) = eye (F := Ideal) (ix2 i j) - a (ix2 i j) := rfl
    rw [e, eye_real i j, ha i j, ← EReal.coe_sub]; rfl
  have h2 := sq_real ha
  have h4 := sq_real h2
  have h8 := sq_real h4
  have h16 := sq_real h8
  exact grow_real (grow_real (grow_real (grow_real (grow_real h0 h2) h4) h8) h16) (sq_real h16)

variable {g : ℕ → ℝ}

theorem dec_real {gcc : FVec Ideal S64x1 .f32} {gcr : FVec Ideal S1x64 .f32}
    (hc : ∀ i : Fin 64, gcc (ix2 i 0) = ((gsum g (i + 1) : ℝ) : EReal)) (hr : ∀ i : Fin 64, gcr (ix2 0 i) = ((gsum g (i + 1) : ℝ) : EReal)) :
    Mat (dec gcc gcr) (decay g) := fun i j => by
  pointwise [dec, causal]
  rw [select_ge, masked_eq, hc, hr]
  unfold decay
  split
  · rw [← EReal.coe_sub, Ideal.exp_coe]
  · rfl

variable {k : FVec Ideal S64x128 .f32} {K : ℕ → Fin 128 → ℝ} {β : FVec Ideal S64x1 .f32} {b' : ℕ → ℝ}

theorem lmat_real {d : FVec Ideal S64x64 .f32} (hk : Mat k (fun i c => K i c)) (hβ : ∀ i : Fin 64, β (ix2 i 0) = ((b' i : ℝ) : EReal))
    (hd : Mat d (decay g)) : Mat (lmat k β d) (low K b' g) := fun i j => by
  pointwise [lmat, strict]
  rw [select_gt]
  simp only [hk _ _, hβ _, hd _ _, ← EReal.coe_mul, coe_sum]
  unfold low
  split <;> rfl

theorem wu_lo {v : FVec Ideal S64x128 .f32} {gcc : FVec Ideal S64x1 .f32} {t : FVec Ideal S64x64 .f32} {T : Tok}
    (ht : Mat t T) (hk : Mat k (fun i c => K i c)) (hβ : ∀ i : Fin 64, β (ix2 i 0) = ((b' i : ℝ) : EReal))
    (hc : ∀ i : Fin 64, gcc (ix2 i 0) = ((gsum g (i + 1) : ℝ) : EReal)) (i : Fin 64) (j : Fin 256) (hj : j.val < 128) :
    wu t (rhs k v β gcc) (ix2 i j) = (((T * keyRows K b' g) i ⟨j, hj⟩ : ℝ) : EReal) := by
  pointwise [wu, rhs]
  simp only [hj, dif_pos, ht _ _, hk _ _, hβ _, hc _, Ideal.exp_coe, ← EReal.coe_mul, coe_sum]
  rfl

theorem wu_hi {v : FVec Ideal S64x128 .f32} {V : ℕ → Fin 128 → ℝ} {gcc : FVec Ideal S64x1 .f32} {t : FVec Ideal S64x64 .f32} {T : Tok}
    (ht : Mat t T) (hv : Mat v (fun i c => V i c)) (hβ : ∀ i : Fin 64, β (ix2 i 0) = ((b' i : ℝ) : EReal))
    (i : Fin 64) (j : Fin 256) (hj : ¬ j.val < 128) :
    wu t (rhs k v β gcc) (ix2 i j) = (((T * valRows V b') i ⟨j - 128, by omega⟩ : ℝ) : EReal) := by
  pointwise [wu, rhs]
  simp only [hj, dif_neg, not_false_iff, ht _ _, hv _ _, hβ _, ← EReal.coe_mul, coe_sum]
  rfl

end Pieces

/-- A head's inputs in a chunk are real: normalized queries and keys, values, step sizes, and the running sums of log decays. -/
structure Real (x : In Ideal) (q k v : ℕ → Fin 128 → ℝ) (β g : ℕ → ℝ) : Prop where
  q : Mat (qn x.q) (fun i c => q i c)
  k : Mat (l2 x.k) (fun i c => k i c)
  v : ∀ (i : Fin 64) (c : Fin 128), x.v (ix3 0 i c) = ((v i c : ℝ) : EReal)
  β : ∀ i : Fin 64, x.β (ix2 i 0) = ((β i : ℝ) : EReal)
  gcc : ∀ i : Fin 64, x.gcc (ix2 i 0) = ((gsum g (i + 1) : ℝ) : EReal)
  gcr : ∀ i : Fin 64, x.gcr (ix2 0 i) = ((gsum g (i + 1) : ℝ) : EReal)
  gl : x.gl (ix2 0 0) = ((gsum g 64 : ℝ) : EReal)

section Whole

variable {x : In Ideal} {q k v : ℕ → Fin 128 → ℝ} {β g : ℕ → ℝ} (h : Real x q k v β g) {s : FVec Ideal S128x128 .f32} {S : St} (hs : Mat s S)
include h

theorem uWu_lo (i : Fin 64) (j : Fin 256) (hj : j.val < 128) :
    uWu x (ix2 i j) = (((inv (low k β g) * keyRows k β g) i ⟨j, hj⟩ : ℝ) : EReal) :=
  wu_lo (tinv_real (lmat_real h.k h.β (dec_real h.gcc h.gcr))) h.k h.β h.gcc i j hj

theorem uWu_hi (i : Fin 64) (j : Fin 256) (hj : ¬ j.val < 128) :
    uWu x (ix2 i j) = (((inv (low k β g) * valRows v β) i ⟨j - 128, by omega⟩ : ℝ) : EReal) :=
  wu_hi (V := v) (tinv_real (lmat_real h.k h.β (dec_real h.gcc h.gcr))) (fun i j => by pointwise []; exact h.v i j) h.β i j hj

theorem attn_real (i : Fin 64) (j : Fin 64) :
    mulf (nt (nar (qn x.q)) (nar (l2 x.k))) (dec x.gcc x.gcr) (ix2 i j) = ((attn k g q i j : ℝ) : EReal) := by
  have hd := dec_real h.gcc h.gcr i j
  pointwise []
  simp only [hd, h.q _ _, h.k _ _, coe_dot, ← EReal.coe_mul]
  rfl

theorem uAb_lo (i : Fin 64) (j : Fin 128) :
    lo (uAb x) (ix2 i j) = (((attn k g q * (inv (low k β g) * keyRows k β g)) i j : ℝ) : EReal) := by
  have e : lo (uAb x) (ix2 i j) = ∑ c, mulf (nt (nar (qn x.q)) (nar (l2 x.k))) (dec x.gcc x.gcr) (ix2 i c)
      * uWu x (ix2 c ⟨j.val, by omega⟩) := by
    pointwise [uAb, ab]
  rw [e]
  simp only [attn_real h, uWu_lo h _ ⟨j.val, _⟩ j.isLt, coe_dot]
  rfl

theorem uAb_hi (i : Fin 64) (j : Fin 128) :
    hi (uAb x) (ix2 i j) = (((attn k g q * (inv (low k β g) * valRows v β)) i j : ℝ) : EReal) := by
  have e : hi (uAb x) (ix2 i j) = ∑ c, mulf (nt (nar (qn x.q)) (nar (l2 x.k))) (dec x.gcc x.gcr) (ix2 i c)
      * uWu x (ix2 c ⟨128 + j.val, by omega⟩) := by
    pointwise [uAb, ab]
  rw [e]
  have ej : (⟨128 + j.val - 128, by omega⟩ : Fin 128) = j := Fin.ext (by simp)
  simp only [attn_real h, uWu_hi h _ ⟨128 + j.val, _⟩ (show ¬ 128 + j.val < 128 by omega), ej, coe_dot]
  rfl

theorem kend_real (i : Fin 64) (a : Fin 128) :
    kend (l2 x.k) x.gcc x.gl (ix2 i a) = ((endRows k g i a : ℝ) : EReal) := by
  have e : kend (l2 x.k) x.gcc x.gl (ix2 i a) = l2 x.k (ix2 i a) * Ideal.exp (x.gl (ix2 0 0) - x.gcc (ix2 i 0)) := by
    pointwise [kend]
  rw [e, h.k, h.gl, h.gcc, ← EReal.coe_sub, Ideal.exp_coe, ← EReal.coe_mul]
  rfl

open Matrix in
theorem uPn_lo (a b : Fin 128) :
    lo' (uPn x) (ix2 a b) = ((((endRows k g)ᵀ * (inv (low k β g) * keyRows k β g)) a b : ℝ) : EReal) := by
  have e : lo' (uPn x) (ix2 a b) = ∑ c, kend (l2 x.k) x.gcc x.gl (ix2 c a) * uWu x (ix2 c ⟨b.val, by omega⟩) := by
    pointwise [uPn, pn]
  rw [e]
  simp only [kend_real h, uWu_lo h _ ⟨b.val, _⟩ b.isLt, coe_dot]
  rfl

open Matrix in
theorem uPn_hi (a b : Fin 128) :
    hi' (uPn x) (ix2 a b) = ((((endRows k g)ᵀ * (inv (low k β g) * valRows v β)) a b : ℝ) : EReal) := by
  have e : hi' (uPn x) (ix2 a b) = ∑ c, kend (l2 x.k) x.gcc x.gl (ix2 c a) * uWu x (ix2 c ⟨128 + b.val, by omega⟩) := by
    pointwise [uPn, pn]
  rw [e]
  have ej : (⟨128 + b.val - 128, by omega⟩ : Fin 128) = b := Fin.ext (by simp)
  simp only [kend_real h, uWu_hi h _ ⟨128 + b.val, _⟩ (show ¬ 128 + b.val < 128 by omega), ej, coe_dot]
  rfl

include hs

/-- THE OUTPUT of a head in a chunk, token by token. -/
theorem uOut_real (i : Fin 64) (b : Fin 128) :
    uOut x s (ix2 i b) = ((∑ a, q i a * state k v β g S (i + 1) a b : ℝ) : EReal) := by
  have e : uOut x s (ix2 i b) = (∑ c, (qn x.q (ix2 i c) * Ideal.exp (x.gcc (ix2 i 0)) - lo (uAb x) (ix2 i c)) * s (ix2 c b))
      + hi (uAb x) (ix2 i b) := by
    pointwise [uOut]
  rw [e]
  simp only [h.q _ _, h.gcc, uAb_lo h, uAb_hi h, hs _ _, Ideal.exp_coe, ← EReal.coe_mul, ← EReal.coe_sub, coe_sum, ← EReal.coe_add]
  rw [← out_eq]
  rfl

/-- THE STATE of a head after a chunk. -/
theorem uNext_real : Mat (uNext x s) (state k v β g S 64) := fun a b => by
  have e : uNext x s (ix2 a b) = s (ix2 a b) * Ideal.exp (x.gl (ix2 0 0)) + hi' (uPn x) (ix2 a b)
      - ∑ c, lo' (uPn x) (ix2 a c) * s (ix2 c b) := by
    pointwise [uNext]
  rw [e]
  simp only [h.gl, uPn_lo h, uPn_hi h, hs _ _, Ideal.exp_coe, ← EReal.coe_mul, ← EReal.coe_sub, coe_sum, ← EReal.coe_add]
  rw [← state_eq]
  rfl

end Whole

end GatedDelta.Unit

end
-- ==== Proof.GdnGates.lean ====
/- The gates of a chunk at real inputs: step sizes, log decays and their running sums; the normalized queries and keys; and
   the gated output. -/
module

public import proofs.«01_k».proof.Proof.GdnReal
public import Mathlib.Analysis.SpecialFunctions.Trigonometric.DerivHyp

@[expose] public section

noncomputable section

namespace GatedDelta.Unit

open Idealize.ShloMosaic Cert.KernelIdeal Cert.KernelIdeal.Gen

/-! ### Constants -/

theorem half_eq : Ideal.ofBits .f32 0x3F000000#32 = ((1 / 2 : ℝ) : EReal) := by
  simp [Ideal.ofBits, Ideal.ieee, -EReal.coe_mul]; norm_num

theorem n128_eq : Ideal.ofBits .f32 0x43000000#32 = ((128 : ℝ) : EReal) := by
  simp [Ideal.ofBits, Ideal.ieee, -EReal.coe_mul]; norm_num

/-- The small number added under a root. -/
def eps : ℝ := (Ideal.ofBits .f32 0x358637BD#32 : EReal).toReal
/-- The scale of the queries. -/
def scale : ℝ := (Ideal.ofBits .f32 0x3DB504F3#32 : EReal).toReal

theorem eps_eq : Ideal.ofBits .f32 0x358637BD#32 = ((eps : ℝ) : EReal) := by
  unfold eps
  simp [Ideal.ofBits, Ideal.ieee, -EReal.coe_mul]

theorem scale_eq : Ideal.ofBits .f32 0x3DB504F3#32 = ((scale : ℝ) : EReal) := by
  unfold scale
  simp [Ideal.ofBits, Ideal.ieee, -EReal.coe_mul]

theorem eps_pos : 0 < eps := by
  unfold eps
  simp [Ideal.ofBits, Ideal.ieee, -EReal.coe_mul]

/-! ### Scalars -/

/-- The sigmoid, at its limits too. -/
def sgm (x : EReal) : ℝ := (Ideal.logistic x).toReal

theorem tanh_half (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e]
  generalize Real.exp (1 / 2 * r) = u at *
  generalize Real.exp (-(1 / 2 * r)) = w at *
  have hw : w = u⁻¹ := by field_simp; linarith
  subst hw
  field_simp
  ring

theorem sgm_coe (r : ℝ) : sgm r = (1 + Real.exp (-r))⁻¹ := by unfold sgm; rw [Ideal.logistic_coe]; rfl

/-- The kernel's spelling of the sigmoid. -/
theorem sgm_tanh (x : EReal) : ((1 / 2 : ℝ) : EReal) * Ideal.tanh (((1 / 2 : ℝ) : EReal) * x) + ((1 / 2 : ℝ) : EReal) = ((sgm x : ℝ) : EReal) := by
  induction x using EReal.rec with
  | bot =>
    rw [EReal.coe_mul_bot_of_pos (by norm_num)]
    have : sgm ⊥ = 0 := by unfold sgm; simp
    rw [this]
    show ((1 / 2 : ℝ) : EReal) * ((-1 : ℝ) : EReal) + ((1 / 2 : ℝ) : EReal) = _
    rw [← EReal.coe_mul, ← EReal.coe_add]; norm_num
  | top =>
    rw [EReal.coe_mul_top_of_pos (by norm_num)]
    have : sgm ⊤ = 1 := by unfold sgm; simp
    rw [this]
    show ((1 / 2 : ℝ) : EReal) * ((1 : ℝ) : EReal) + ((1 / 2 : ℝ) : EReal) = _
    rw [← EReal.coe_mul, ← EReal.coe_add]; norm_num
  | coe r =>
    rw [sgm_coe, ← tanh_half, ← EReal.coe_mul, Ideal.tanh_coe, ← EReal.coe_mul, ← EReal.coe_add]

/-- The softplus. -/
def sp (x : ℝ) : ℝ := max x 0 + Real.log (1 + Real.exp (-|x|))

theorem sp_ideal (x : ℝ) : max ((x : ℝ) : EReal) 0 + Ideal.log (1 + Ideal.exp (0 - (FloatOps.absf (F := Ideal) (φ := .f32) ((x : ℝ) : EReal) : EReal))) = ((sp x : ℝ) : EReal) := by
  have h1 : (FloatOps.absf (F := Ideal) (φ := .f32) ((x : ℝ) : EReal) : EReal) = ((|x| : ℝ) : EReal) := by
    show max ((x : ℝ) : EReal) (-((x : ℝ) : EReal)) = _
    rw [← EReal.coe_neg, abs_eq_max_neg]; exact (EReal.coe_strictMono.monotone.map_max).symm
  have h2 : max ((x : ℝ) : EReal) 0 = ((max x 0 : ℝ) : EReal) := by
    rw [← EReal.coe_zero]; exact (EReal.coe_strictMono.monotone.map_max).symm
  have p := Real.exp_pos (-|x|)
  rw [h1, h2, zero_sub, ← EReal.coe_neg, Ideal.exp_coe, ← EReal.coe_one, ← EReal.coe_add, Ideal.log_coe, if_neg (by linarith), ← EReal.coe_add]
  rfl

/-- A token's log decay. -/
def gate (a al dt : ℝ) : ℝ := -Real.exp al * sp (a + dt)

/-- A row over the root of its square sum. -/
def unit (x : Fin 128 → ℝ) (j : Fin 128) : ℝ := x j * (Real.sqrt (∑ c, x c * x c + eps))⁻¹

theorem rsqrt_pos {r : ℝ} (h : 0 < r) : Ideal.rsqrt ((r : ℝ) : EReal) = (((Real.sqrt r)⁻¹ : ℝ) : EReal) := by
  rw [Ideal.rsqrt_coe, if_neg (not_lt.mpr h.le), if_neg h.ne']

theorem unit_ideal (x : Fin 128 → ℝ) (j : Fin 128) :
    ((x j : ℝ) : EReal) * Ideal.rsqrt (∑ c, ((x c : ℝ) : EReal) * ((x c : ℝ) : EReal) + ((eps : ℝ) : EReal)) = ((unit x j : ℝ) : EReal) := by
  have p : 0 < ∑ c, x c * x c + eps := by
    have := Finset.sum_nonneg (s := Finset.univ) (f := fun c => x c * x c) fun c _ => mul_self_nonneg (x c)
    have := eps_pos; linarith
  rw [coe_dot, ← EReal.coe_add, rsqrt_pos p, ← EReal.coe_mul]; rfl

/-- A normalized output, before the weight and the gate. -/
def rms (o : Fin 128 → ℝ) (j : Fin 128) : ℝ := o j * (Real.sqrt ((∑ c, o c * o c) * (1 / 128) + eps))⁻¹

theorem rms_ideal (o : Fin 128 → ℝ) (j : Fin 128) :
    ((o j : ℝ) : EReal) * Ideal.rsqrt (Ideal.div (∑ c, ((o c : ℝ) : EReal) * ((o c : ℝ) : EReal)) ((128 : ℝ) : EReal) + ((eps : ℝ) : EReal))
      = ((rms o j : ℝ) : EReal) := by
  have p : 0 < (∑ c, o c * o c) * (1 / 128) + eps := by
    have := Finset.sum_nonneg (s := Finset.univ) (f := fun c => o c * o c) fun c _ => mul_self_nonneg (o c)
    have := eps_pos; linarith
  rw [coe_dot, Ideal.div_coe (by norm_num), ← EReal.coe_mul, ← EReal.coe_add, rsqrt_pos p, ← EReal.coe_mul]; rfl

/-- The gated, weighted output of a lane. -/
def fin (o : Fin 128 → ℝ) (nw : EReal) (z : ℝ) (j : Fin 128) : EReal := ((rms o j : ℝ) : EReal) * nw * ((z * sgm z : ℝ) : EReal)

theorem silu_tanh (z : ℝ) : ((1 / 2 : ℝ) : EReal) * ((z : ℝ) : EReal) * Ideal.tanh (((1 / 2 : ℝ) : EReal) * ((z : ℝ) : EReal)) + ((1 / 2 : ℝ) : EReal) * ((z : ℝ) : EReal)
    = ((z * sgm z : ℝ) : EReal) := by
  rw [← EReal.coe_mul, Ideal.tanh_coe, ← EReal.coe_mul, ← EReal.coe_add, sgm_coe, ← tanh_half]
  congr 1; ring

/-! ### The gates -/

theorem beta_real (x : Vec Ideal S1x64x128 .f32) (i : Fin 64) (j : Fin 128) : betaAll x (ix2 i j) = ((sgm (x (ix3 0 i j)) : ℝ) : EReal) := by
  rw [← sgm_tanh]
  pointwise [betaAll]
  simp only [half_eq]

theorem gAll_real (x : Vec Ideal S1x64x128 .f32) (al dt : Vec Ideal S1x128 .f32) (i : Fin 64) (j : Fin 128) (a l d : ℝ)
    (hx : x (ix3 0 i j) = ((a : ℝ) : EReal)) (hl : al (ix2 0 j) = ((l : ℝ) : EReal)) (hd : dt (ix2 0 j) = ((d : ℝ) : EReal)) :
    gAll x al dt (ix2 i j) = ((gate a l d : ℝ) : EReal) := by
  pointwise [gAll, softp]
  rw [hx, hl, hd]
  simp only [← EReal.coe_add]
  rw [sp_ideal, Ideal.exp_coe, zero_sub, ← EReal.coe_neg, ← EReal.coe_mul]; rfl

theorem gRow_real (x : Vec Ideal S1x1x8x64 .f32) (al dt : Vec Ideal S8x1 .f32) (i : Fin 8) (j : Fin 64) (a l d : ℝ)
    (hx : x (ix4 0 0 i j) = ((a : ℝ) : EReal)) (hl : al (ix2 i 0) = ((l : ℝ) : EReal)) (hd : dt (ix2 i 0) = ((d : ℝ) : EReal)) :
    gRow x al dt (ix2 i j) = ((gate a l d : ℝ) : EReal) := by
  pointwise [gRow, softp]
  rw [hx, hl, hd]
  simp only [← EReal.coe_add]
  rw [sp_ideal, Ideal.exp_coe, zero_sub, ← EReal.coe_neg, ← EReal.coe_mul]; rfl

theorem mask_sum (i : Fin 64) (γ : ℕ → ℝ) : ∑ c : Fin 64, (if c ≤ i then (1 : EReal) else 0) * ((γ c : ℝ) : EReal) = ((gsum γ (i + 1) : ℝ) : EReal) := by
  unfold gsum
  rw [sum_upto, ← coe_sum]
  refine Finset.sum_congr rfl fun c _ => ?_
  split <;> simp

theorem sumDown_real (g : FVec Ideal S64x128 .f32) (j : Fin 128) (γ : ℕ → ℝ) (hg : ∀ c : Fin 64, g (ix2 c j) = ((γ c : ℝ) : EReal)) (i : Fin 64) :
    sumDown g (ix2 i j) = ((gsum γ (i + 1) : ℝ) : EReal) := by
  pointwise [sumDown, tril, causal]
  simp only [select_ge, hg, ← EReal.coe_sub, sub_self, EReal.coe_zero, sub_zero, ite_self, Finset.sum_const_zero, add_zero]
  rw [← mask_sum]
  exact Finset.sum_congr rfl fun c _ => by split <;> simp

theorem sumAlong_real (g : FVec Ideal S8x64 .f32) (j : Fin 8) (γ : ℕ → ℝ) (hg : ∀ c : Fin 64, g (ix2 j c) = ((γ c : ℝ) : EReal)) (i : Fin 64) :
    sumAlong g (ix2 j i) = ((gsum γ (i + 1) : ℝ) : EReal) := by
  rw [← mask_sum]
  pointwise [sumAlong, triu]
  simp only [select_le, hg, ← EReal.coe_sub, sub_self, EReal.coe_zero, sub_zero, ite_self, Finset.sum_const_zero, add_zero]
  exact Finset.sum_congr rfl fun c _ => by split <;> simp

theorem l2_real (x : Vec Ideal S1x64x128 .f32) (X : Matrix (Fin 64) (Fin 128) ℝ) (hx : ∀ i j, x (ix3 0 i j) = ((X i j : ℝ) : EReal)) :
    Mat (l2 x) (fun i j => unit (X i) j) := fun i j => by
  pointwise [l2]
  simp only [hx, eps_eq]
  exact unit_ideal (X i) j

theorem qn_real (x : Vec Ideal S1x64x128 .f32) (X : Matrix (Fin 64) (Fin 128) ℝ) (hx : ∀ i j, x (ix3 0 i j) = ((X i j : ℝ) : EReal)) :
    Mat (qn x) (fun i j => unit (X i) j * scale) := fun i j => by
  have h := l2_real x X hx i j
  have e : qn x (ix2 i j) = l2 x (ix2 i j) * Ideal.ofBits .f32 0x3DB504F3#32 := rfl
  rw [e, h, scale_eq, ← EReal.coe_mul]

theorem uFin_real (o : FVec Ideal S64x128 .f32) (nw : Vec Ideal S1x128 .f32) (z : Vec Ideal S1x64x128 .f32) (i : Fin 64) (j : Fin 128)
    (O : Fin 128 → ℝ) (ho : ∀ c, o (ix2 i c) = ((O c : ℝ) : EReal)) (Z : ℝ) (hz : z (ix3 0 i j) = ((Z : ℝ) : EReal)) :
    uFin o nw z (ix2 i j) = fin O (nw (ix2 0 j)) Z j := by
  pointwise [uFin]
  simp only [ho, hz, eps_eq, n128_eq, half_eq]
  rw [rms_ideal, silu_tanh]; rfl

end GatedDelta.Unit

end
-- ==== Proof.GdnSpec.lean ====
/- The mathematics both programs compute: for each sequence and head, the recurrence over the tokens, at real arguments. -/
module

public import proofs.«01_k».proof.Proof.GdnGates

@[expose] public section

noncomputable section

namespace GatedDelta

open Idealize.ShloMosaic GatedDelta.Unit

/-- The seven arguments. -/
structure Args where
  qkv : (⟨3, ![16, 4096, 1536]⟩ : Shape).Idx → EReal
  z : (⟨3, ![16, 4096, 512]⟩ : Shape).Idx → EReal
  b : (⟨3, ![16, 4096, 4]⟩ : Shape).Idx → EReal
  a : (⟨3, ![16, 4096, 4]⟩ : Shape).Idx → EReal
  al : (⟨1, ![4]⟩ : Shape).Idx → EReal
  dt : (⟨1, ![4]⟩ : Shape).Idx → EReal
  nw : (⟨1, ![128]⟩ : Shape).Idx → EReal

/-- The arguments that must be finite are. -/
structure Args.Finite (A : Args) : Prop where
  qkv : ∀ i, A.qkv i = (((A.qkv i).toReal : ℝ) : EReal)
  z : ∀ i, A.z i = (((A.z i).toReal : ℝ) : EReal)
  a : ∀ i, A.a i = (((A.a i).toReal : ℝ) : EReal)
  al : ∀ i, A.al i = (((A.al i).toReal : ℝ) : EReal)
  dt : ∀ i, A.dt i = (((A.dt i).toReal : ℝ) : EReal)

namespace Args

variable (A : Args) (s : Fin 16) (h : Fin 4)

/-- A token's number. -/
def tok (n : ℕ) : Fin 4096 := Fin.ofNat 4096 n

theorem tok_val (n : Fin 4096) : tok n.val = n := Fin.ext (Nat.mod_eq_of_lt n.isLt)

/-- A token's queries, keys and values. -/
def q (n : ℕ) (j : Fin 128) : ℝ := unit (fun l => (A.qkv (ix3 s (tok n) ⟨128 * h.val + l.val, by omega⟩)).toReal) j * scale
def k (n : ℕ) (j : Fin 128) : ℝ := unit (fun l => (A.qkv (ix3 s (tok n) ⟨128 * (4 + h.val) + l.val, by omega⟩)).toReal) j
def v (n : ℕ) (j : Fin 128) : ℝ := (A.qkv (ix3 s (tok n) ⟨128 * (8 + h.val) + j.val, by omega⟩)).toReal
/-- A token's step size and log decay. -/
def β (n : ℕ) : ℝ := sgm (A.b (ix3 s (tok n) h))
def g (n : ℕ) : ℝ := gate (A.a (ix3 s (tok n) h)).toReal (A.al (ix1 h)).toReal (A.dt (ix1 h)).toReal
/-- The state before a token. -/
def st (n : ℕ) : St := state (A.k s h) (A.v s h) (A.β s h) (A.g s h) 0 n
/-- A token's output before the norm. -/
def o (n : ℕ) (j : Fin 128) : ℝ := ∑ a, A.q s h n a * A.st s h (n + 1) a j
/-- A token's output. -/
def out (n : ℕ) (j : Fin 128) : EReal := fin (A.o s h n) (A.nw (ix1 j)) (A.z (ix3 s (tok n) ⟨128 * h.val + j.val, by omega⟩)).toReal j

theorem st_add (n i : ℕ) : A.st s h (n + i) = state (fun t => A.k s h (n + t)) (fun t => A.v s h (n + t)) (fun t => A.β s h (n + t))
    (fun t => A.g s h (n + t)) (A.st s h n) i := state_add _ _ _ _ _ n i

end Args

end GatedDelta

end
-- ==== Proof.GdnArgs.lean ====
/- The blocks a point of the grid is given, read off the kernel's arguments. -/
module

public import proofs.«01_k».proof.Proof.GdnPoint
public import proofs.«01_k».proof.Proof.GdnSpec
public import Idealize.ShloMosaic.Lib.StableHlo.ReadAt
public import Idealize.ShloMosaic.Lib.Routing.OpsSet
public import Idealize.ShloMosaic.Lib.Routing.OpsPair

@[expose] public section

noncomputable section

namespace GatedDelta.Kern

open Idealize.ShloMosaic Idealize.ShloMosaic.TcCoe Idealize.SL.Sem Cert.KernelIdeal Cert.KernelIdeal.Gen GatedDelta.Unit

variable (m : (ℓ : Loc nD τ sig) → Buf (Elt Ideal) ℓ) (c : Dev nD)

/-- The arguments as launched. -/
def args : Args where
  qkv := m (c, Proc.tc.devRef main_arg0)
  z := m (c, Proc.tc.devRef main_arg1)
  b := m (c, Proc.tc.devRef main_arg2)
  a := m (c, Proc.tc.devRef main_arg3)
  al := m (c, Proc.tc.devRef main_arg4)
  dt := m (c, Proc.tc.devRef main_arg5)
  nw := m (c, Proc.tc.devRef main_arg6)

/-! ### What the host prepares -/

/-- Two words side by side. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

abbrev dR := scatter_S8x128_S2_S4_0_0_01_0
abbrev dC := scatter_S8x128_S2_S4_0_1_01_0

theorem land_row0 : ∀ (k : Fin 4) a, dR.start (ix1 k : S4.Idx) (pair 0#32 4#32) a + (dR.window (ix1 k : S4.Idx) a : Int)
    = (![0, 4 + (k.val : Int)] : Fin 2 → Int) a := by decide +kernel
theorem land_row1 : ∀ (k : Fin 4) a, dR.start (ix1 k : S4.Idx) (pair 1#32 4#32) a + (dR.window (ix1 k : S4.Idx) a : Int)
    = (![1, 4 + (k.val : Int)] : Fin 2 → Int) a := by decide +kernel
theorem land_col0 : ∀ (k : Fin 4) a, dC.start (ix1 k : S4.Idx) (pair 4#32 0#32) a + (dC.window (ix1 k : S4.Idx) a : Int)
    = (![4 + (k.val : Int), 0] : Fin 2 → Int) a := by decide +kernel
theorem land_col1 : ∀ (k : Fin 4) a, dC.start (ix1 k : S4.Idx) (pair 4#32 1#32) a + (dC.window (ix1 k : S4.Idx) a : Int)
    = (![4 + (k.val : Int), 1] : Fin 2 → Int) a := by decide +kernel

theorem eq1 (k : S4.Idx) : k = ix1 (k 0) := by
  funext a
  match a with
  | ⟨0, _⟩ => rfl

/-- A scatter whose updates land one place each, read where one lands. -/
theorem scatter_hit (d : ScatterDims S8x128 S2 S4) (w : IVec S2 32) (p : Fin 4 → Fin 2 → Int)
    (hp : ∀ (k : Fin 4) a, d.start (ix1 k : S4.Idx) w a + (d.window (ix1 k : S4.Idx) a : Int) = p k a)
    (hinj : ∀ k k', p k = p k' → k = k') (x : S8x128.Idx → EReal) (u : S4.Idx → EReal) (k : Fin 4) (i : Fin 8) (j : Fin 128)
    (h0 : p k 0 = i.val) (h1 : p k 1 = j.val) :
    Host.scatter d (fun _ b => b) x w u (ix2 i j) = u (ix1 k) := by
  have key : ∀ k' : Fin 4, d.resultIdx? (ix1 k' : S4.Idx) w = some (ix2 i j) ↔ k' = k := by
    intro k'
    rw [Routing.resultIdx?_eq_some]
    constructor
    · intro q
      refine hinj _ _ (funext fun a => ?_)
      match a with
      | ⟨0, _⟩ => exact (hp k' 0).symm.trans ((q 0).trans h0.symm)
      | ⟨1, _⟩ => exact (hp k' 1).symm.trans ((q 1).trans h1.symm)
    · rintro rfl a
      match a with
      | ⟨0, _⟩ => exact (hp k' 0).trans h0
      | ⟨1, _⟩ => exact (hp k' 1).trans h1
  refine Routing.scatter_set_hit d x w u _ _ (fun k' hk' => ?_) (ix1 k) ((key k).2 rfl)
  obtain ⟨k0, rfl⟩ : ∃ k0 : Fin 4, k' = ix1 k0 := ⟨k' 0, eq1 k'⟩
  rw [(key k0).1 hk']

/-- The same, read where none lands. -/
theorem scatter_miss (d : ScatterDims S8x128 S2 S4) (w : IVec S2 32) (p : Fin 4 → Fin 2 → Int)
    (hp : ∀ (k : Fin 4) a, d.start (ix1 k : S4.Idx) w a + (d.window (ix1 k : S4.Idx) a : Int) = p k a)
    (x : S8x128.Idx → EReal) (u : S4.Idx → EReal) (i : Fin 8) (j : Fin 128)
    (h : ∀ k, ¬ (p k 0 = i.val ∧ p k 1 = j.val)) :
    Host.scatter d (fun _ b => b) x w u (ix2 i j) = x (ix2 i j) := by
  refine Routing.scatter_set_miss d x w u _ fun k' hk' => ?_
  obtain ⟨k0, rfl⟩ : ∃ k0 : Fin 4, k' = ix1 k0 := ⟨k' 0, eq1 k'⟩
  rw [Routing.resultIdx?_eq_some] at hk'
  exact h k0 ⟨(hp _ 0).symm.trans (hk' 0), (hp _ 1).symm.trans (hk' 1)⟩

theorem v13_eq : @Eq (FVec Ideal S8x128 .f32) (V m c main_v13) (Host.scatter dR (fun _ b => b)
    (Host.scatter dR (fun _ b => b) (broadcastInDim S8x128 ![] bcast_S_S8x128 (constant S_ .f32 0x00000000#32)) (pair 0#32 4#32) (args m c).al)
      (pair 1#32 4#32) (args m c).dt) := by
  unfold V pair args
  after_reads_simp
  rfl

theorem v22_eq : @Eq (FVec Ideal S8x128 .f32) (V m c main_v22) (Host.scatter dC (fun _ b => b)
    (Host.scatter dC (fun _ b => b) (broadcastInDim S8x128 ![] bcast_S_S8x128 (constant S_ .f32 0x00000000#32)) (pair 4#32 0#32) (args m c).al)
      (pair 4#32 1#32) (args m c).dt) := by
  unfold V pair args
  after_reads_simp
  rfl

theorem row_al (h : Fin 4) : (V m c main_v13 : FVec Ideal S8x128 .f32) (ix2 0 ⟨4 + h.val, by omega⟩) = (args m c).al (ix1 h) := by
  rw [v13_eq, scatter_miss dR _ _ land_row1 _ _ _ _ (by intro k hk; simp at hk)]
  exact scatter_hit dR _ _ land_row0 (by decide) _ _ h _ _ rfl (by simp)

theorem row_dt (h : Fin 4) : (V m c main_v13 : FVec Ideal S8x128 .f32) (ix2 1 ⟨4 + h.val, by omega⟩) = (args m c).dt (ix1 h) := by
  rw [v13_eq]
  exact scatter_hit dR _ _ land_row1 (by decide) _ _ h _ _ rfl (by simp)

theorem col_al (h : Fin 4) : (V m c main_v22 : FVec Ideal S8x128 .f32) (ix2 ⟨4 + h.val, by omega⟩ 0) = (args m c).al (ix1 h) := by
  rw [v22_eq, scatter_miss dC _ _ land_col1 _ _ _ _ (by intro k hk; simp at hk)]
  exact scatter_hit dC _ _ land_col0 (by decide) _ _ h _ _ (by simp) rfl

theorem col_dt (h : Fin 4) : (V m c main_v22 : FVec Ideal S8x128 .f32) (ix2 ⟨4 + h.val, by omega⟩ 1) = (args m c).dt (ix1 h) := by
  rw [v22_eq]
  exact scatter_hit dC _ _ land_col1 (by decide) _ _ h _ _ (by simp) rfl

theorem small_b (s : Fin 16) (r : Fin 4096) (h : Fin 4) :
    (V m c main_v1 : FVec Ideal S16x4096x128 .f32) (ix3 s r ⟨h.val, by omega⟩) = (args m c).b (ix3 s r h) := by
  unfold V
  after_reads_at
  rfl

theorem small_a (s : Fin 16) (r : Fin 4096) (h : Fin 4) :
    (V m c main_v1 : FVec Ideal S16x4096x128 .f32) (ix3 s r ⟨4 + h.val, by omega⟩) = (args m c).a (ix3 s r h) := by
  unfold V
  after_reads_at
  rfl

theorem rows_a (s : Fin 16) (n i : Fin 64) (h : Fin 4) :
    (V m c main_v4 : FVec Ideal S16x64x8x64 .f32) (ix4 s n ⟨4 + h.val, by omega⟩ i)
      = (args m c).a (ix3 s ⟨64 * n.val + i.val, by omega⟩ h) := by
  unfold V
  after_reads_at
  refine (congrFun (show StableHlo.upto hostOps0 (fun b => m (c, b)) 2 (Proc.tc.devRef main_arg3) = m (c, Proc.tc.devRef main_arg3) from rfl) _).trans ?_
  exact congrArg (fun r : Fin 4096 => (args m c).a (ix3 s r h)) (Fin.ext (by show n.val * 64 + i.val = 64 * n.val + i.val; omega))

theorem nw_row (j : Fin 128) : (V m c main_v23 : FVec Ideal S1x128 .f32) (ix2 0 j) = (args m c).nw (ix1 j) := by
  unfold V
  after_reads_at
  rfl

/-! ### The blocks -/

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)
theorem idx3 : ∀ t : Fin cfg0.N, win0_3.index t (0 : Fin 4) = t.val / 16 ∧ win0_3.index t (1 : Fin 4) = t.val % 16 ∧ win0_3.index t (2 : Fin 4) = 0
    ∧ win0_3.index t (3 : Fin 4) = 0 :=
  (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)

theorem t_lt (t : Fin cfg0.N) : t.val < 128 := lt_of_lt_of_eq t.isLt N_0

/-- The sequence, and the token, of a point's block. -/
def seq (t : Fin cfg0.N) (b : Fin 2) : Fin 16 := ⟨2 * (t.val / 16) + b.val, by have := t_lt t; omega⟩
def row (t : Fin cfg0.N) (r : Fin 256) : Fin 4096 := ⟨256 * (t.val % 16) + r.val, by omega⟩

theorem blk0 (t : Fin cfg0.N) (b : Fin 2) (r : Fin 256) (l : Fin 1536) :
    (iblk m c 0 t : FVec Ideal S2x256x1536 .f32) (ix3 b r l) = (args m c).qkv (ix3 (seq t b) (row t r) l) := by
  obtain ⟨e0, e1, e2⟩ := idx0 t
  show V m c main_arg0 (((cfg0.win 0).blk t).view.emb (ix3 b r l)) = _
  rw [V_main_arg0]
  refine congrArg (args m c).qkv (funext fun a => Fin.ext ?_)
  match a with
  | ⟨0, _⟩ => show win0_0.index t (0 : Fin 3) * 2 + 1 * b.val = 2 * (t.val / 16) + b.val; omega
  | ⟨1, _⟩ => show win0_0.index t (1 : Fin 3) * 256 + 1 * r.val = 256 * (t.val % 16) + r.val; omega
  | ⟨2, _⟩ => show win0_0.index t (2 : Fin 3) * 1536 + 1 * l.val = l.val; omega

theorem blk1 (t : Fin cfg0.N) (b : Fin 2) (r : Fin 256) (l : Fin 512) :
    (iblk m c 1 t : FVec Ideal S2x256x512 .f32) (ix3 b r l) = (args m c).z (ix3 (seq t b) (row t r) l) := by
  obtain ⟨e0, e1, e2⟩ := idx1 t
  show V m c main_arg1 (((cfg0.win 1).blk t).view.emb (ix3 b r l)) = _
  rw [V_main_arg1]
  refine congrArg (args m c).z (funext fun a => Fin.ext ?_)
  match a with
  | ⟨0, _⟩ => show win0_1.index t (0 : Fin 3) * 2 + 1 * b.val = 2 * (t.val / 16) + b.val; omega
  | ⟨1, _⟩ => show win0_1.index t (1 : Fin 3) * 256 + 1 * r.val = 256 * (t.val % 16) + r.val; omega
  | ⟨2, _⟩ => show win0_1.index t (2 : Fin 3) * 512 + 1 * l.val = l.val; omega

theorem blk2 (t : Fin cfg0.N) (b : Fin 2) (r : Fin 256) (l : Fin 128) :
    (iblk m c 2 t : FVec Ideal S2x256x128 .f32) (ix3 b r l) = (V m c main_v1 : FVec Ideal S16x4096x128 .f32) (ix3 (seq t b) (row t r) l) := by
  obtain ⟨e0, e1, e2⟩ := idx2 t
  show V m c main_v1 (((cfg0.win 2).blk t).view.emb (ix3 b r l)) = _
  refine congrArg (V m c main_v1 : FVec Ideal S16x4096x128 .f32) (funext fun a => Fin.ext ?_)
  match a with
  | ⟨0, _⟩ => show win0_2.index t (0 : Fin 3) * 2 + 1 * b.val = 2 * (t.val / 16) + b.val; omega
  | ⟨1, _⟩ => show win0_2.index t (1 : Fin 3) * 256 + 1 * r.val = 256 * (t.val % 16) + r.val; omega
  | ⟨2, _⟩ => show win0_2.index t (2 : Fin 3) * 128 + 1 * l.val = l.val; omega

theorem blk3 (t : Fin cfg0.N) (b : Fin 2) (ci : Fin 4) (l : Fin 8) (i : Fin 64) :
    (iblk m c 3 t : FVec Ideal S2x4x8x64 .f32) (ix4 b ci l i)
      = (V m c main_v4 : FVec Ideal S16x64x8x64 .f32) (ix4 (seq t b) ⟨4 * (t.val % 16) + ci.val, by omega⟩ l i) := by
  obtain ⟨e0, e1, e2, e3⟩ := idx3 t
  show V m c main_v4 (((cfg0.win 3).blk t).view.emb (ix4 b ci l i)) = _
  refine congrArg (V m c main_v4 : FVec Ideal S16x64x8x64 .f32) (funext fun a => Fin.ext ?_)
  match a with
  | ⟨0, _⟩ => show win0_3.index t (0 : Fin 4) * 2 + 1 * b.val = 2 * (t.val / 16) + b.val; omega
  | ⟨1, _⟩ => show win0_3.index t (1 : Fin 4) * 4 + 1 * ci.val = 4 * (t.val % 16) + ci.val; omega
  | ⟨2, _⟩ => show win0_3.index t (2 : Fin 4) * 8 + 1 * l.val = l.val; omega
  | ⟨3, _⟩ => show win0_3.index t (3 : Fin 4) * 64 + 1 * i.val = i.val; omega

theorem blk4 (t : Fin cfg0.N) (i : Fin 8) (j : Fin 128) :
    (iblk m c 4 t : FVec Ideal S8x128 .f32) (ix2 i j) = (V m c main_v13 : FVec Ideal S8x128 .f32) (ix2 i j) := by
  obtain ⟨e0, e1⟩ := idx4 t
  show V m c main_v13 (((cfg0.win 4).blk t).view.emb (ix2 i j)) = _
  refine congrArg (V m c main_v13 : FVec Ideal S8x128 .f32) (funext fun a => Fin.ext ?_)
  match a with
  | ⟨0, _⟩ => show win0_4.index t (0 : Fin 2) * 8 + 1 * i.val = i.val; omega
  | ⟨1, _⟩ => show win0_4.index t (1 : Fin 2) * 128 + 1 * j.val = j.val; omega

theorem blk5 (t : Fin cfg0.N) (i : Fin 8) (j : Fin 128) :
    (iblk m c 5 t : FVec Ideal S8x128 .f32) (ix2 i j) = (V m c main_v22 : FVec Ideal S8x128 .f32) (ix2 i j) := by
  obtain ⟨e0, e1⟩ := idx5 t
  show V m c main_v22 (((cfg0.win 5).blk t).view.emb (ix2 i j)) = _
  refine congrArg (V m c main_v22 : FVec Ideal S8x128 .f32) (funext fun a => Fin.ext ?_)
  match a with
  | ⟨0, _⟩ => show win0_5.index t (0 : Fin 2) * 8 + 1 * i.val = i.val; omega
  | ⟨1, _⟩ => show win0_5.index t (1 : Fin 2) * 128 + 1 * j.val = j.val; omega

theorem blk6 (t : Fin cfg0.N) (j : Fin 128) : (iblk m c 6 t : FVec Ideal S1x128 .f32) (ix2 0 j) = (args m c).nw (ix1 j) := by
  obtain ⟨e0, e1⟩ := idx6 t
  rw [← nw_row]
  show V m c main_v23 (((cfg0.win 6).blk t).view.emb (ix2 0 j)) = _
  refine congrArg (V m c main_v23 : FVec Ideal S1x128 .f32) (funext fun a => Fin.ext ?_)
  match a with
  | ⟨0, _⟩ => show win0_6.index t (0 : Fin 2) * 1 + 1 * 0 = 0; omega
  | ⟨1, _⟩ => show win0_6.index t (1 : Fin 2) * 128 + 1 * j.val = j.val; omega

end GatedDelta.Kern

end
-- ==== Proof.GdnKernel.lean ====
/- WHAT THE KERNEL COMPUTES, at finite arguments: at every sequence, token, head and lane, the recurrence's output. -/
module

public import proofs.«01_k».proof.Proof.GdnArgs

@[expose] public section

noncomputable section

namespace GatedDelta.Kern

open Idealize.ShloMosaic Idealize.ShloMosaic.TcCoe Idealize.SL.Sem Cert.KernelIdeal Cert.KernelIdeal.Gen GatedDelta.Unit GatedDelta.Point

variable (m : (ℓ : Loc nD τ sig) → Buf (Elt Ideal) ℓ) (c : Dev nD)

section Loads

variable (P : Pt Ideal) (b : Fin 2) (ci h : Fin 4) (i : Fin 64) (j : Fin 128)

theorem ld_qkv (l : ℕ) (hl : l < 12) (lane : Fin 1536) (e : lane.val = 128 * l + j.val) :
    View.ld P.qkv (Rect.unit _ S1x64x128.size (fit_qkv b ci.val l ci.isLt hl)) (ix3 0 i j : S1x64x128.Idx)
      = P.qkv (ix3 b ⟨64 * ci.val + i.val, by omega⟩ lane) := by
  refine View.ld_unit_apply_of _ _ _ _ _ _ fun a => ?_
  match a with
  | ⟨0, _⟩ => rfl
  | ⟨1, _⟩ => rfl
  | ⟨2, _⟩ => exact e

theorem ld_z : View.ld P.z (Rect.unit _ S1x64x128.size (fit_z b ci h)) (ix3 0 i j : S1x64x128.Idx)
    = P.z (ix3 b ⟨64 * ci.val + i.val, by omega⟩ ⟨128 * h.val + j.val, by omega⟩) := by
  refine View.ld_unit_apply_of _ _ _ _ _ _ fun a => ?_
  match a with
  | ⟨0, _⟩ => rfl
  | ⟨1, _⟩ => rfl
  | ⟨2, _⟩ => rfl

theorem ld_ba : View.ld P.ba (Rect.unit _ S1x64x128.size (fit_ba b ci)) (ix3 0 i j : S1x64x128.Idx)
    = P.ba (ix3 b ⟨64 * ci.val + i.val, by omega⟩ j) := by
  refine View.ld_unit_apply_of _ _ _ _ _ _ fun a => ?_
  match a with
  | ⟨0, _⟩ => rfl
  | ⟨1, _⟩ => rfl
  | ⟨2, _⟩ => exact (Nat.zero_add _).symm

theorem ld_bat (l : Fin 8) : View.ld P.bat (Rect.unit _ S1x1x8x64.size (fit_bat b ci)) (ix4 0 0 l i : S1x1x8x64.Idx)
    = P.bat (ix4 b ci l i) := by
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

theorem ld_hp (r : Fin 2) : View.ld P.hp (Rect.unit _ S1x128.size (fit_hp r)) (ix2 0 j : S1x128.Idx) = P.hp (ix2 ⟨r.val, by omega⟩ j) := by
  refine View.ld_unit_apply_of _ _ _ _ _ _ fun a => ?_
  match a with
  | ⟨0, _⟩ => rfl
  | ⟨1, _⟩ => exact (Nat.zero_add _).symm

theorem ld_hpt (r : Fin 2) (l : Fin 8) : View.ld P.hpt (Rect.unit _ S8x1.size (fit_hpt r)) (ix2 l 0 : S8x1.Idx) = P.hpt (ix2 l ⟨r.val, by omega⟩) := by
  refine View.ld_unit_apply_of _ _ _ _ _ _ fun a => ?_
  match a with
  | ⟨0, _⟩ => exact (Nat.zero_add _).symm
  | ⟨1, _⟩ => rfl

theorem ld_nw : View.ld P.nw (Rect.unit _ S1x128.size inb_S1x128_S1x128_0_0) (ix2 0 j : S1x128.Idx) = P.nw (ix2 0 j) := by
  refine View.ld_unit_apply_of _ _ _ _ _ _ fun a => ?_
  match a with
  | ⟨0, _⟩ => rfl
  | ⟨1, _⟩ => exact (Nat.zero_add _).symm

theorem ld_st (a b' : Fin 128) : View.ld P.st (Rect.unit _ S1x128x128.size (fit_st ⟨4 * b.val + h.val, by omega⟩)) (ix3 0 a b' : S1x128x128.Idx)
    = P.st (ix3 ⟨4 * b.val + h.val, by omega⟩ a b') := by
  refine View.ld_unit_apply_of _ _ _ _ _ _ fun x => ?_
  match x with
  | ⟨0, _⟩ => rfl
  | ⟨1, _⟩ => exact (Nat.zero_add _).symm
  | ⟨2, _⟩ => exact (Nat.zero_add _).symm

theorem cast_st (x : FVec Ideal S1x128x128 .f32) (a b' : Fin 128) :
    shapeCast S128x128 x shapeCasts_S1x128x128_S128x128 (ix2 a b') = x (ix3 0 a b') := by
  pointwise []

theorem stN_zero (a b' : Fin 128) : stN P b h 0 (ix2 a b') = P.st (ix3 ⟨4 * b.val + h.val, by omega⟩ a b') := by
  rw [stN, cast_st]
  exact ld_st P b h a b'

end Loads

theorem pt_hp (t : Fin cfg0.N) (s : Vec Ideal S8x128x128 .f32) : (ptOf m c t s).hp = (iblk m c 4 t : FVec Ideal S8x128 .f32) := rfl

/-- The head rows a point reads: the log decay rate and the gate's offset of a head. -/
theorem pt_al (t : Fin cfg0.N) (s : Vec Ideal S8x128x128 .f32) (h : Fin 4) :
    (ptOf m c t s).hp (ix2 0 ⟨4 + h.val, by omega⟩) = (args m c).al (ix1 h) := by
  rw [pt_hp, blk4]
  exact row_al m c h

theorem pt_dt (t : Fin cfg0.N) (s : Vec Ideal S8x128x128 .f32) (h : Fin 4) :
    (ptOf m c t s).hp (ix2 1 ⟨4 + h.val, by omega⟩) = (args m c).dt (ix1 h) := by
  rw [pt_hp, blk4]
  exact row_dt m c h

variable (hA : (args m c).Finite) (t : Fin cfg0.N) (s : Vec Ideal S8x128x128 .f32) (b : Fin 2) (ci h : Fin 4)

/-- A chunk's first token. -/
def base (t : Fin cfg0.N) (n : ℕ) : ℕ := 256 * (t.val % 16) + 64 * n

theorem tok_base (i : Fin 64) : Args.tok (base t ci.val + i.val) = row t ⟨64 * ci.val + i.val, by omega⟩ :=
  Fin.ext (by show (256 * (t.val % 16) + 64 * ci.val + i.val) % 4096 = 256 * (t.val % 16) + (64 * ci.val + i.val); omega)

include hA

theorem qkv_real (l : ℕ) (hl : l < 12) (i : Fin 64) (j : Fin 128) :
    View.ld (ptOf m c t s).qkv (Rect.unit _ S1x64x128.size (fit_qkv b ci.val l ci.isLt hl)) (ix3 0 i j : S1x64x128.Idx)
      = ((((args m c).qkv (ix3 (seq t b) (Args.tok (base t ci.val + i.val)) ⟨128 * l + j.val, by omega⟩)).toReal : ℝ) : EReal) := by
  rw [ld_qkv (ptOf m c t s) b ci i j l hl ⟨128 * l + j.val, by omega⟩ rfl, ← hA.qkv, tok_base]
  exact blk0 m c t b _ _

theorem gAt (i : Fin 64) :
    gAll (View.ld (ptOf m c t s).ba (Rect.unit _ S1x64x128.size (fit_ba b ci))) (View.ld (ptOf m c t s).hp (Rect.unit _ S1x128.size (fit_hp 0)))
      (View.ld (ptOf m c t s).hp (Rect.unit _ S1x128.size (fit_hp 1))) (ix2 i ⟨4 + h.val, by omega⟩)
      = (((args m c).g (seq t b) h (base t ci.val + i.val) : ℝ) : EReal) := by
  refine gAll_real _ _ _ _ _ _ _ _ ?_ ?_ ?_
  · rw [ld_ba, tok_base, ← hA.a]
    exact (blk2 m c t b _ _).trans (small_a m c _ _ h)
  · rw [← hA.al]
    exact (ld_hp (ptOf m c t s) ⟨4 + h.val, by omega⟩ 0).trans (pt_al m c t s h)
  · rw [← hA.dt]
    exact (ld_hp (ptOf m c t s) ⟨4 + h.val, by omega⟩ 1).trans (pt_dt m c t s h)

theorem gRowAt (i : Fin 64) :
    gRow (View.ld (ptOf m c t s).bat (Rect.unit _ S1x1x8x64.size (fit_bat b ci))) (View.ld (ptOf m c t s).hpt (Rect.unit _ S8x1.size (fit_hpt 0)))
      (View.ld (ptOf m c t s).hpt (Rect.unit _ S8x1.size (fit_hpt 1))) (ix2 ⟨4 + h.val, by omega⟩ i)
      = (((args m c).g (seq t b) h (base t ci.val + i.val) : ℝ) : EReal) := by
  refine gRow_real _ _ _ _ _ _ _ _ ?_ ?_ ?_
  · rw [ld_bat, tok_base, ← hA.a]
    refine (blk3 m c t b ci _ i).trans ((rows_a m c _ _ i h).trans ?_)
    exact congrArg (fun r : Fin 4096 => (args m c).a (ix3 (seq t b) r h))
      (Fin.ext (by show 64 * (4 * (t.val % 16) + ci.val) + i.val = 256 * (t.val % 16) + (64 * ci.val + i.val); omega))
  · rw [ld_hpt, ← hA.al]
    exact (blk5 m c t _ _).trans (col_al m c h)
  · rw [ld_hpt, ← hA.dt]
    exact (blk5 m c t _ _).trans (col_dt m c h)

/-- A head's inputs in a chunk are the recurrence's. -/
theorem inp_real : Real (inp (ptOf m c t s) b ci h) (fun n => (args m c).q (seq t b) h (base t ci.val + n))
    (fun n => (args m c).k (seq t b) h (base t ci.val + n)) (fun n => (args m c).v (seq t b) h (base t ci.val + n))
    (fun n => (args m c).β (seq t b) h (base t ci.val + n)) (fun n => (args m c).g (seq t b) h (base t ci.val + n)) := by
  have hg := sumDown_real _ ⟨4 + h.val, by omega⟩ (fun n => (args m c).g (seq t b) h (base t ci.val + n)) (gAt m c hA t s b ci h)
  have hr := sumAlong_real _ ⟨4 + h.val, by omega⟩ (fun n => (args m c).g (seq t b) h (base t ci.val + n)) (gRowAt m c hA t s b ci h)
  refine ⟨?_, ?_, ?_, ?_, ?_, ?_, ?_⟩
  · exact qn_real _ _ (qkv_real m c hA t s b ci h.val (by omega))
  · exact l2_real _ _ (qkv_real m c hA t s b ci (4 + h.val) (by omega))
  · exact qkv_real m c hA t s b ci (8 + h.val) (by omega)
  · intro i
    have e : (inp (ptOf m c t s) b ci h).β (ix2 i 0) = betaAll (View.ld (ptOf m c t s).ba (Rect.unit _ S1x64x128.size (fit_ba b ci)))
        (ix2 i ⟨h.val, by omega⟩) := by
      unfold inp
      pointwise []
    rw [e, beta_real, ld_ba]
    unfold Args.β
    rw [tok_base]
    exact congrArg (fun x => ((sgm x : ℝ) : EReal)) ((blk2 m c t b _ _).trans (small_b m c _ _ h))
  · intro i
    refine Eq.trans ?_ (hg i)
    unfold inp gcCol
    pointwise []
  · intro i
    refine Eq.trans ?_ (hr i)
    unfold inp gcRow
    pointwise []
  · refine Eq.trans ?_ (hg 63)
    unfold inp gcCol
    pointwise []

/-- THE STATES over a point's chunks. -/
theorem stN_real (hs : ∀ a b', s (ix3 ⟨4 * b.val + h.val, by omega⟩ a b') = (((args m c).st (seq t b) h (base t 0) a b' : ℝ) : EReal)) :
    ∀ n, n ≤ 4 → Mat (stN (ptOf m c t s) b h n) ((args m c).st (seq t b) h (base t n))
  | 0, _ => fun a b' => by
    rw [stN_zero]
    exact hs a b'
  | n + 1, hn => fun a b' => by
    have hi := inp_real m c hA t s b (Fin.ofNat 4 n) h
    have e4 : (Fin.ofNat 4 n).val = n := Nat.mod_eq_of_lt (by omega)
    have hx := uNext_real hi (stN_real hs n (by omega)) a b'
    rw [e4, ← Args.st_add, show base t n + 64 = base t (n + 1) from by unfold base; omega] at hx
    exact hx

/-- THE OUTPUT of a point. -/
theorem outAt_real (hs : ∀ a b', s (ix3 ⟨4 * b.val + h.val, by omega⟩ a b') = (((args m c).st (seq t b) h (base t 0) a b' : ℝ) : EReal))
    (i : Fin 64) (j : Fin 128) :
    outAt (ptOf m c t s) b ci h (ix3 0 i j) = (args m c).out (seq t b) h (base t ci.val + i.val) j := by
  have ho := uOut_real (inp_real m c hA t s b ci h) (stN_real m c hA t s b h hs ci.val (by omega)) i
  have e : outAt (ptOf m c t s) b ci h (ix3 0 i j) = uFin (uOut (inp (ptOf m c t s) b ci h) (stN (ptOf m c t s) b h ci.val))
      (View.ld (ptOf m c t s).nw (Rect.unit _ S1x128.size inb_S1x128_S1x128_0_0))
      (View.ld (ptOf m c t s).z (Rect.unit _ S1x64x128.size (fit_z b ci h))) (ix2 i j) := by
    unfold outAt
    pointwise []
  have hz : View.ld (ptOf m c t s).z (Rect.unit _ S1x64x128.size (fit_z b ci h)) (ix3 0 i j : S1x64x128.Idx)
      = ((((args m c).z (ix3 (seq t b) (Args.tok (base t ci.val + i.val)) ⟨128 * h.val + j.val, by omega⟩)).toReal : ℝ) : EReal) := by
    rw [ld_z, ← hA.z, tok_base]
    exact blk1 m c t b _ _
  rw [e, uFin_real _ _ _ i j _ ho _ hz, ld_nw]
  unfold Args.out
  have eo : (fun b' => ∑ a, (args m c).q (seq t b) h (base t ci.val + i.val) a * state (fun n => (args m c).k (seq t b) h (base t ci.val + n))
      (fun n => (args m c).v (seq t b) h (base t ci.val + n)) (fun n => (args m c).β (seq t b) h (base t ci.val + n))
      (fun n => (args m c).g (seq t b) h (base t ci.val + n)) ((args m c).st (seq t b) h (base t ci.val)) (i.val + 1) a b')
      = (args m c).o (seq t b) h (base t ci.val + i.val) := by
    funext b'
    unfold Args.o
    rw [← Args.st_add, Nat.add_assoc]
  rw [eo]
  exact congrArg (fun w => fin _ w _ j) (blk6 m c t j)

/-- The state a point starts from, when the point before left the recurrence's. -/
theorem start_real (hs : t.val % 16 ≠ 0 → ∀ a b', s (ix3 ⟨4 * b.val + h.val, by omega⟩ a b')
      = (((args m c).st (seq t b) h (base t 0) a b' : ℝ) : EReal)) (a b' : Fin 128) :
    start t s (ix3 ⟨4 * b.val + h.val, by omega⟩ a b') = (((args m c).st (seq t b) h (base t 0) a b' : ℝ) : EReal) := by
  unfold start
  by_cases h0 : t.val % 16 = 0
  · rw [if_pos h0, show base t 0 = 0 from by unfold base; omega]
    unfold k0_pay4
    pointwise []
    show (_ : EReal) = ((0 : ℝ) : EReal)
    rw [EReal.coe_zero]
  · rw [if_neg h0]
    exact hs h0 a b'

theorem stAt_real (hs : ∀ a b', s (ix3 ⟨4 * b.val + h.val, by omega⟩ a b') = (((args m c).st (seq t b) h (base t 0) a b' : ℝ) : EReal))
    (a b' : Fin 128) :
    stAt (ptOf m c t s) b h (ix3 0 a b') = (((args m c).st (seq t b) h (base t 4) a b' : ℝ) : EReal) := by
  refine Eq.trans ?_ (stN_real m c hA t s b h hs 4 (by omega) a b')
  unfold stAt
  generalize stN (ptOf m c t s) b h 4 = x
  pointwise []

/-- THE STATES over the points. -/
theorem acc_real : ∀ (n : ℕ) (hn : 0 + n < cfg0.N) (b : Fin 2) (h : Fin 4) (a b' : Fin 128),
    (Pipeline.accAt (fun n h => Value.stAt0 m c n h Value.junk0) (Value.stAt0 m c) 0 n hn).2 (ix3 ⟨4 * b.val + h.val, by omega⟩ a b')
      = (((args m c).st (seq ⟨n, by omega⟩ b) h (base ⟨n, by omega⟩ 4) a b' : ℝ) : EReal)
  | 0, hn, b, h, a, b' => by
    rw [Pipeline.accAt_zero]
    refine (step_st m c ⟨0, by omega⟩ Value.junk0 b h a b').trans (stAt_real m c hA _ _ b h ?_ a b')
    exact start_real m c hA _ _ b h (fun h0 => absurd (Nat.zero_mod 16) h0)
  | n + 1, hn, b, h, a, b' => by
    have key : ∀ (k : ℕ) (hk : k < cfg0.N), k = n + 1 → ∀ acc : Vec Ideal S2x256x512 .f32 × Vec Ideal S8x128x128 .f32,
        acc = Pipeline.accAt (fun n h => Value.stAt0 m c n h Value.junk0) (Value.stAt0 m c) 0 n (by omega) →
        (Value.stAt0 m c k hk acc).2 (ix3 (⟨4 * b.val + h.val, by omega⟩ : Fin 8) a b' : S8x128x128.Idx)
          = (((args m c).st (seq ⟨n + 1, by omega⟩ b) h (base ⟨n + 1, by omega⟩ 4) a b' : ℝ) : EReal) := by
      intro k hk e acc ea
      subst e
      refine (step_st m c ⟨n + 1, hk⟩ acc b h a b').trans (stAt_real m c hA _ _ b h ?_ a b')
      refine start_real m c hA _ _ b h (fun h0 x y => ?_)
      rw [ea, acc_real n (by omega) b h x y]
      have e1 : seq ⟨n, by omega⟩ b = seq ⟨n + 1, hk⟩ b := Fin.ext (by
        show 2 * (n / 16) + b.val = 2 * ((n + 1) / 16) + b.val
        have : (n + 1) % 16 ≠ 0 := h0
        omega)
      have e2 : base ⟨n, by omega⟩ 4 = base ⟨n + 1, hk⟩ 0 := by
        show 256 * (n % 16) + 64 * 4 = 256 * ((n + 1) % 16) + 64 * 0
        have : (n + 1) % 16 ≠ 0 := h0
        omega
      rw [e1, e2]
    rw [Pipeline.accAt_succ]
    exact key _ _ (by omega) _ rfl

/-- What a point of the fold writes. -/
theorem acc_out (n : ℕ) (hn : 0 + n < cfg0.N) (b : Fin 2) (ci h : Fin 4) (i : Fin 64) (j : Fin 128) :
    (Pipeline.accAt (fun n h => Value.stAt0 m c n h Value.junk0) (Value.stAt0 m c) 0 n hn).1
        (ix3 b ⟨64 * ci.val + i.val, by omega⟩ ⟨128 * h.val + j.val, by omega⟩ : S2x256x512.Idx)
      = (args m c).out (seq ⟨n, by omega⟩ b) h (base ⟨n, by omega⟩ ci.val + i.val) j := by
  match n, hn with
  | 0, hn =>
    rw [Pipeline.accAt_zero]
    refine (step_out m c ⟨0, by omega⟩ Value.junk0 b ci h i j).trans (outAt_real m c hA _ _ b ci h ?_ i j)
    exact start_real m c hA _ _ b h (fun h0 => absurd (Nat.zero_mod 16) h0)
  | n + 1, hn =>
    have key : ∀ (k : ℕ) (hk : k < cfg0.N), k = n + 1 → ∀ acc : Vec Ideal S2x256x512 .f32 × Vec Ideal S8x128x128 .f32,
        acc = Pipeline.accAt (fun n h => Value.stAt0 m c n h Value.junk0) (Value.stAt0 m c) 0 n (by omega) →
        (Value.stAt0 m c k hk acc).1 (ix3 b ⟨64 * ci.val + i.val, by omega⟩ ⟨128 * h.val + j.val, by omega⟩ : S2x256x512.Idx)
          = (args m c).out (seq ⟨n + 1, by omega⟩ b) h (base ⟨n + 1, by omega⟩ ci.val + i.val) j := by
      intro k hk e acc ea
      subst e
      refine (step_out m c ⟨n + 1, hk⟩ acc b ci h i j).trans (outAt_real m c hA _ _ b ci h ?_ i j)
      refine start_real m c hA _ _ b h (fun h0 x y => ?_)
      rw [ea, acc_real m c hA n (by omega) b h x y]
      have e1 : seq ⟨n, by omega⟩ b = seq ⟨n + 1, hk⟩ b := Fin.ext (by
        show 2 * (n / 16) + b.val = 2 * ((n + 1) / 16) + b.val
        have : (n + 1) % 16 ≠ 0 := h0
        omega)
      have e2 : base ⟨n, by omega⟩ 4 = base ⟨n + 1, hk⟩ 0 := by
        show 256 * (n % 16) + 64 * 4 = 256 * ((n + 1) % 16) + 64 * 0
        have : (n + 1) % 16 ≠ 0 := h0
        omega
      rw [e1, e2]
    rw [Pipeline.accAt_succ]
    exact key _ _ (by omega) _ rfl

/-- THE KERNEL'S RESULT: at a sequence, a token, a head and a lane, the recurrence's output. -/
theorem result (s : Fin 16) (n : Fin 4096) (h : Fin 4) (j : Fin 128) :
    (Value.G7 m c : FVec Ideal S16x4096x512 .f32) (ix3 s n ⟨128 * h.val + j.val, by omega⟩) = (args m c).out s h n.val j := by
  have hp : Value.pt7Of (ix3 s n (⟨128 * h.val + j.val, by omega⟩ : Fin 512) : S16x4096x512.Idx) = 16 * (s.val / 2) + n.val / 256 := by
    show 16 * (s.val / 2 - 0) + 1 * (n.val / 256 - 0) + 1 * ((128 * h.val + j.val) / 512 - 0) = _
    omega
  have hN : cfg0.N = 128 := N_0
  have hl : Value.loc7Of (ix3 s n (⟨128 * h.val + j.val, by omega⟩ : Fin 512) : S16x4096x512.Idx)
      = (ix3 (⟨s.val % 2, by omega⟩ : Fin 2) (⟨64 * (n.val % 256 / 64) + n.val % 64, by omega⟩ : Fin 256)
          (⟨128 * h.val + j.val, by omega⟩ : Fin 512) : S2x256x512.Idx) := by
    refine funext fun a => Fin.ext ?_
    match a with
    | ⟨0, _⟩ => rfl
    | ⟨1, _⟩ => show n.val % 256 = 64 * (n.val % 256 / 64) + n.val % 64; omega
    | ⟨2, _⟩ => show (128 * h.val + j.val) % 512 = 128 * h.val + j.val; omega
  unfold Value.G7
  rw [dif_pos (by rw [hp]; omega), hl]
  rw [Value.fold0_congr m c _ _ (16 * (s.val / 2) + n.val / 256) (by omega) hp]
  rw [acc_out m c hA (16 * (s.val / 2) + n.val / 256) (by omega) ⟨s.val % 2, by omega⟩ ⟨n.val % 256 / 64, by omega⟩ h ⟨n.val % 64, by omega⟩ j]
  have e1 : seq ⟨16 * (s.val / 2) + n.val / 256, by omega⟩ ⟨s.val % 2, by omega⟩ = s := Fin.ext (by
    show 2 * ((16 * (s.val / 2) + n.val / 256) / 16) + s.val % 2 = s.val
    omega)
  have e2 : base ⟨16 * (s.val / 2) + n.val / 256, by omega⟩ (n.val % 256 / 64) + n.val % 64 = n.val := by
    show 256 * ((16 * (s.val / 2) + n.val / 256) % 16) + 64 * (n.val % 256 / 64) + n.val % 64 = n.val
    omega
  exact congrArg₂ (fun x y => (args m c).out x h y j) e1 e2

end GatedDelta.Kern

end
-- ==== Proof.RefRun.lean ====
/- THE REFERENCE'S RUN as the recurrence over the tokens: the trips step the carried state, and the result is the last
   state's outputs read back. -/
module

public import proofs.«01_k».proof.Proof.Gen.ReferenceIdeal.Run
public import proofs.«01_k».proof.Proof.Gen.ReferenceIdeal.Step

@[expose] public section

noncomputable section

namespace GatedDelta.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v64)

variable {F : FTy → Type} [FloatOps F]

/-- The state a valuation holds. -/
def stateOf (V0 : Valuation τ sig (Elt F)) : State F where
  main_v46_6 := V0 (Proc.devRef .tc main_v46_6)
  main_v46_7 := V0 (Proc.devRef .tc main_v46_7)
  main_v46_0 := V0 (Proc.devRef .tc main_v46_0)
  main_v46_1 := V0 (Proc.devRef .tc main_v46_1)
  main_v46_2 := V0 (Proc.devRef .tc main_v46_2)
  main_v46_3 := V0 (Proc.devRef .tc main_v46_3)
  main_v46_4 := V0 (Proc.devRef .tc main_v46_4)

/-- The valuation counts `j` trips done. -/
def Counts (V0 : Valuation τ sig (Elt F)) (j : ℕ) : Prop :=
  V0 (Proc.devRef .tc main_v46_5) = constantI S_ 32 (BitVec.ofNat 32 j)

theorem counts_step {V0 : Valuation τ sig (Elt F)} {j : ℕ} (h : Counts V0 j) : Counts (STEP V0) (j + 1) := by
  unfold Counts at h ⊢
  rw [STEP_main_v46_5]
  unfold step_main_v46_5
  rw [h]
  funext i
  show BitVec.ofNat 32 j + 1#32 = BitVec.ofNat 32 (j + 1)
  simp only [BitVec.ofNat_add]

set_option maxRecDepth 8192 in
theorem memory_step {V0 : Valuation τ sig (Elt F)} {j : ℕ} (h : Counts V0 j) : step_main_v46_6 V0 = (step j (stateOf V0)).main_v46_6 := by
  unfold Counts at h
  unfold step_main_v46_6 res_main_while0b_v92 res_main_while0b_v66 res_main_while0b_v68
  rw [h, Step.step_main_v46_6]
  simp only [Step.b45, Step.b44, Step.b43, Step.b42, Step.b41, Step.b40, Step.b39, Step.b38, Step.b37, Step.b36, Step.b35, Step.b34, Step.b33, Step.b32, Step.b31, Step.b30, Step.b29, Step.b28, Step.b27, Step.b26, Step.b25, Step.b24, Step.b23, Step.b22, Step.b21, Step.b20, Step.b19, Step.b18, Step.b17, Step.b16, Step.b15, Step.b14, Step.b13, Step.b12, Step.b11, Step.b10, Step.b9, Step.b8, Step.b7, Step.b6, Step.b5, Step.b4, Step.b3, Step.b2, Step.b1, Step.b0, stateOf, id_eq]
  rfl

set_option maxRecDepth 8192 in
theorem outputs_step {V0 : Valuation τ sig (Elt F)} {j : ℕ} (h : Counts V0 j) : step_main_v46_7 V0 = (step j (stateOf V0)).main_v46_7 := by
  unfold Counts at h
  rw [Step.step_main_v46_7]
  unfold step_main_v46_7 Step.b51 Step.b47 Step.b46
  rw [show Step.b45 j (stateOf V0) = step_main_v46_6 V0 from (memory_step h).symm, h]
  simp only [Step.b4, Step.b3, Step.b2, Step.b1, Step.b0, Step.b48, Step.b49, Step.b50, step_main_v46_6, stateOf, id_eq]
  rfl

/-- ONE TRIP steps the state. -/
theorem stateOf_step {V0 : Valuation τ sig (Elt F)} {j : ℕ} (h : Counts V0 j) : stateOf (STEP V0) = step j (stateOf V0) := by
  unfold stateOf
  rw [STEP_main_v46_0, STEP_main_v46_1, STEP_main_v46_2, STEP_main_v46_3, STEP_main_v46_4, STEP_main_v46_6, STEP_main_v46_7, memory_step h,
    outputs_step h]
  rfl

variable (m : (ℓ : Loc nD τ sig) → Buf (Elt F) ℓ) (c : Dev nD)

/-- The state before the first token. -/
def first : State F :=
  init (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))

/-- The state after `n` tokens. -/
def after_ : ℕ → State F
  | 0 => first m c
  | n + 1 => step n (after_ n)

set_option maxRecDepth 65536 in
set_option maxHeartbeats 400000 in
theorem entry_counts : Counts (entryContents preI m c) 0 := by
  unfold Counts
  simp only [entryContents, afterL_cons, afterL_nil]
  after_reads_simp
  rfl

set_option maxRecDepth 65536 in
set_option maxHeartbeats 400000 in
theorem entry_state : stateOf (entryContents preI m c) = first m c := by
  unfold stateOf first init
  congr 1 <;> (simp only [entryContents, afterL_cons, afterL_nil]; after_reads_simp) <;> rfl

theorem iterate_holds : ∀ n, Counts (STEP^[n] (entryContents preI m c)) n ∧ stateOf (STEP^[n] (entryContents preI m c)) = after_ m c n
  | 0 => ⟨entry_counts m c, entry_state m c⟩
  | n + 1 => by
    rw [Function.iterate_succ_apply']
    obtain ⟨h1, h2⟩ := iterate_holds n
    exact ⟨counts_step h1, (stateOf_step h1).trans (congrArg (step n) h2)⟩

set_option maxRecDepth 8192 in
theorem result_of {V0 : Valuation τ sig (Elt F)} :
    out_main_v64 V0 = R_main_v64 (stateOf V0) (V0 (Proc.devRef .tc main_arg1)) (V0 (Proc.devRef .tc main_arg6)) := rfl

/-- THE REFERENCE'S RESULT: the last state's outputs, normed and gated; every argument is unchanged. -/
theorem run (ρ : Dev nD → PrngReg) : θ_run (defs (F := F)) (onTc (τ := τ) (main (F := F))) ⟨m, fun _ => 0, ρ⟩ fun r => ∀ c : Dev nD,
    r.2.mem ((c.tc : Thread nD τ).loc main_v64)
        = R_main_v64 (after_ m c 4096) (m ((c.tc : Thread nD τ).loc main_arg1)) (m ((c.tc : Thread nD τ).loc main_arg6)) :=
  (θ_run defs _ _).mono (fun _ h c => (h c).1.trans (by
    rw [result_of, (iterate_holds m c 4096).2, iter_main_arg1, iter_main_arg6])) (Value.run m ρ)

end GatedDelta.Ref

end
-- ==== Proof.RefStep.lean ====
/- THE REFERENCE'S TOKEN STEP, read at an entry. -/
module

public import proofs.«01_k».proof.Proof.RefRun
public import proofs.«01_k».proof.Proof.GdnSpec
public import Idealize.ShloMosaic.Lib.Pointwise

@[expose] public section

noncomputable section

namespace GatedDelta.Ref

open Idealize.ShloMosaic Idealize.ShloMosaic.TcCoe Idealize.SL.Sem
open Cert.ReferenceIdeal Cert.ReferenceIdeal.Gen
open Cert.ReferenceIdeal.Step
open GatedDelta.Unit

variable (n : Fin 4096) (s : State Ideal) (b : Fin 16) (h : Fin 4)

/-! The windows' starts: the token, and zero along the other axes. -/

theorem word_token (k : Fin 4096) : ((BitVec.ofNat 32 k.val).toInt : ℤ) = ((k.val : ℕ) : ℤ) := by
  rw [BitVec.toInt_ofNat']
  have := k.isLt
  simp only [Int.bmod, Nat.reducePow]
  omega

theorem start_token4 (hf) (x y z : (⟨S_, .i32⟩ : BufTy).Contents (Elt Ideal)) :
    Host.clampedStart S4096x16x4x128 S1x16x4x128 hf
      (fun k => BitVec.toInt ((![constantI S_ 32 (BitVec.ofNat 32 n.val), x, y, z] : Fin 4 → (⟨S_, .i32⟩ : BufTy).Contents (Elt Ideal)) k (Shape.Idx.first h_S_))) 0 = n.val :=
  Host.clampedStart_of_le _ _ _ _ (word_token n) (by show n.val + 1 ≤ 4096; omega)

theorem start_token3 (hf) (x y : (⟨S_, .i32⟩ : BufTy).Contents (Elt Ideal)) :
    Host.clampedStart S4096x16x4 S1x16x4 hf
      (fun k => BitVec.toInt ((![constantI S_ 32 (BitVec.ofNat 32 n.val), x, y] : Fin 3 → (⟨S_, .i32⟩ : BufTy).Contents (Elt Ideal)) k (Shape.Idx.first h_S_))) 0 = n.val :=
  Host.clampedStart_of_le _ _ _ _ (word_token n) (by show n.val + 1 ≤ 4096; omega)

theorem start_zero (x : ℤ) : (min (max x 0) ((0 : ℕ) : ℤ)).toNat = 0 := by omega

theorem start4_1 (hf) (st : Fin 4 → ℤ) : Host.clampedStart S4096x16x4x128 S1x16x4x128 hf st 1 = 0 := start_zero _
theorem start4_2 (hf) (st : Fin 4 → ℤ) : Host.clampedStart S4096x16x4x128 S1x16x4x128 hf st 2 = 0 := start_zero _
theorem start4_3 (hf) (st : Fin 4 → ℤ) : Host.clampedStart S4096x16x4x128 S1x16x4x128 hf st 3 = 0 := start_zero _
theorem start3_1 (hf) (st : Fin 3 → ℤ) : Host.clampedStart S4096x16x4 S1x16x4 hf st 1 = 0 := start_zero _
theorem start3_2 (hf) (st : Fin 3 → ℤ) : Host.clampedStart S4096x16x4 S1x16x4 hf st 2 = 0 := start_zero _

/-! What the token's windows hold. -/

theorem q_at (i : Fin 128) : b4 n.val s (ix3 b h i) = s.main_v46_0 (ix4 n b h i) := by
  pointwise [b4, b3]
  simp only [start_token4, start4_1, start4_2, start4_3, Nat.zero_add, Fin.eta]

theorem k_at (i : Fin 128) : b9 n.val s (ix3 b h i) = s.main_v46_1 (ix4 n b h i) := by
  pointwise [b9, b8]
  simp only [start_token4, start4_1, start4_2, start4_3, Nat.zero_add, Fin.eta]

theorem v_at (i : Fin 128) : b14 n.val s (ix3 b h i) = s.main_v46_2 (ix4 n b h i) := by
  pointwise [b14, b13]
  simp only [start_token4, start4_1, start4_2, start4_3, Nat.zero_add, Fin.eta]

theorem β_at : b18 n.val s (ix2 b h) = s.main_v46_3 (ix3 n b h) := by
  pointwise [b18, b17]
  simp only [start_token3, start3_1, start3_2, Nat.zero_add, Fin.eta]

theorem g_at : b22 n.val s (ix2 b h) = s.main_v46_4 (ix3 n b h) := by
  pointwise [b22, b21]
  simp only [start_token3, start3_1, start3_2, Nat.zero_add, Fin.eta]

/-- The memory after a token. -/
theorem mem_at (i j : Fin 128) : b45 n.val s (ix4 b h i j)
    = Ideal.exp (s.main_v46_4 (ix3 n b h)) * (s.main_v46_6 (ix4 b h i j) - s.main_v46_3 (ix3 n b h) * s.main_v46_1 (ix4 n b h i)
          * ∑ x, s.main_v46_1 (ix4 n b h x) * s.main_v46_6 (ix4 b h x j))
      + s.main_v46_3 (ix3 n b h) * s.main_v46_1 (ix4 n b h i) * s.main_v46_2 (ix4 n b h j) := by
  pointwise [b45, b44, b43, b42, b41, b40, b39, b38, b37, b36, b35, b34, b33, b32, b31, b30, b29, b28, b27, b26, b25, b24, b23]
  simp only [k_at, v_at, β_at, g_at]

/-- The outputs after a token: the token's row is written, the others stay. -/
theorem outs_at (t : Fin 4096) (j : Fin 128) : b51 n.val s (ix4 t b h j)
    = if t = n then ∑ x, s.main_v46_0 (ix4 n b h x) * b45 n.val s (ix4 b h x j) else s.main_v46_7 (ix4 t b h j) := by
  pointwise [b51, b47, b46]
  simp only [start_token4, start4_1, start4_2, start4_3, Nat.sub_zero, Fin.eta, q_at]
  by_cases e : t = n
  · subst e
    rw [dif_pos (by omega), if_pos rfl]
  · rw [dif_neg (fun hc => e (Fin.ext (by omega))), if_neg e]

/-! What the arrays hold before the first token. -/

variable (x0 : (⟨S16x4096x1536, .f32⟩ : BufTy).Contents (Elt Ideal)) (x2 x3 : (⟨S16x4096x4, .f32⟩ : BufTy).Contents (Elt Ideal))
  (x4 x5 : (⟨S4, .f32⟩ : BufTy).Contents (Elt Ideal))

/-- A lane of a head, counted from the head. -/
theorem lane (N k : ℕ) (j : Fin 128) (hp : k * 128 + j.val < N) : (⟨k * 128 + j.val, hp⟩ : Fin N) = ⟨128 * k + j.val, by omega⟩ :=
  Fin.ext (by show k * 128 + j.val = 128 * k + j.val; omega)

theorem lane4 (k : ℕ) (j : Fin 128) (hp : 512 + (k * 128 + j.val) < 1536) :
    (⟨512 + (k * 128 + j.val), hp⟩ : Fin 1536) = ⟨128 * (4 + k) + j.val, by omega⟩ :=
  Fin.ext (by show 512 + (k * 128 + j.val) = 128 * (4 + k) + j.val; omega)

theorem lane8 (k : ℕ) (j : Fin 128) (hp : 1024 + (k * 128 + j.val) < 1536) :
    (⟨1024 + (k * 128 + j.val), hp⟩ : Fin 1536) = ⟨128 * (8 + k) + j.val, by omega⟩ :=
  Fin.ext (by show 1024 + (k * 128 + j.val) = 128 * (8 + k) + j.val; omega)

theorem logistic_real (x : EReal) : Ideal.div 1 (1 + Ideal.exp (-x)) = ((sgm x : ℝ) : EReal) := by
  show Ideal.logistic x = _
  unfold sgm
  induction x using EReal.rec with
  | bot => simp
  | top => simp
  | coe r => rw [Ideal.logistic_coe]; rfl

theorem softplus_real (x : ℝ) :
    max ((x : ℝ) : EReal) 0 + Ideal.log1p (Ideal.exp (-(FloatOps.absf (F := Ideal) (φ := .f32) ((x : ℝ) : EReal) : EReal)))
      = ((sp x : ℝ) : EReal) := by
  rw [← sp_ideal, zero_sub]; rfl

variable (X : Fin 128 → ℝ)

theorem q_first (hx : ∀ i : Fin 128, x0 (ix3 b n ⟨128 * h.val + i.val, by omega⟩) = ((X i : ℝ) : EReal)) (i : Fin 128) :
    A_main_v39 x0 x2 x3 x4 x5 (ix4 n b h i) = ((unit X i * scale : ℝ) : EReal) := by
  pointwise [K_main_cst, K_main_cst_0, K_main_v7, K_main_cst_1, K_main_v12, K_main_cst_2, K_main_cst_3, K_main_v18, K_main_cst_4, K_main_v26, K_main_cst_5, K_main_v28, K_main_call0_cst, K_main_call0_v0, K_main_call0_v2, K_main_call0_v5, K_main_cst_6, K_main_v44, K_main_cst_7, K_main_v45, K_main_c, A_main_v0, A_main_v1, A_main_v2, A_main_v3, A_main_v4, A_main_v5, A_main_v6, A_main_v8, A_main_v9, A_main_v10, A_main_v11, A_main_v13, A_main_v14, A_main_v15, A_main_v16, A_main_v17, A_main_v19, A_main_v20, A_main_v21, A_main_v22, A_main_v23, A_main_v24, A_main_v25, A_main_v27, A_main_v29, A_main_v30, A_main_v31, A_main_v32, A_main_v33, A_main_v34, A_main_call0_v1, A_main_call0_v3, A_main_call0_v4, A_main_call0_v6, A_main_call0_v7, A_main_call0_v8, A_main_call0_v9, A_main_call0_v10, A_main_call0_v11, A_main_v35, A_main_v36, A_main_v37, A_main_v38, A_main_v39, A_main_v40, A_main_v41, A_main_v42, A_main_v43]
  simp only [lane, hx]
  rw [eps_eq, scale_eq, unit_ideal, ← EReal.coe_mul]

theorem k_first (hx : ∀ i : Fin 128, x0 (ix3 b n ⟨128 * (4 + h.val) + i.val, by omega⟩) = ((X i : ℝ) : EReal)) (i : Fin 128) :
    A_main_v40 x0 x2 x3 x4 x5 (ix4 n b h i) = ((unit X i : ℝ) : EReal) := by
  pointwise [K_main_cst, K_main_cst_0, K_main_v7, K_main_cst_1, K_main_v12, K_main_cst_2, K_main_cst_3, K_main_v18, K_main_cst_4, K_main_v26, K_main_cst_5, K_main_v28, K_main_call0_cst, K_main_call0_v0, K_main_call0_v2, K_main_call0_v5, K_main_cst_6, K_main_v44, K_main_cst_7, K_main_v45, K_main_c, A_main_v0, A_main_v1, A_main_v2, A_main_v3, A_main_v4, A_main_v5, A_main_v6, A_main_v8, A_main_v9, A_main_v10, A_main_v11, A_main_v13, A_main_v14, A_main_v15, A_main_v16, A_main_v17, A_main_v19, A_main_v20, A_main_v21, A_main_v22, A_main_v23, A_main_v24, A_main_v25, A_main_v27, A_main_v29, A_main_v30, A_main_v31, A_main_v32, A_main_v33, A_main_v34, A_main_call0_v1, A_main_call0_v3, A_main_call0_v4, A_main_call0_v6, A_main_call0_v7, A_main_call0_v8, A_main_call0_v9, A_main_call0_v10, A_main_call0_v11, A_main_v35, A_main_v36, A_main_v37, A_main_v38, A_main_v39, A_main_v40, A_main_v41, A_main_v42, A_main_v43]
  simp only [lane4, hx]
  rw [eps_eq, unit_ideal]

theorem v_first (i : Fin 128) : A_main_v41 x0 x2 x3 x4 x5 (ix4 n b h i) = x0 (ix3 b n ⟨128 * (8 + h.val) + i.val, by omega⟩) := by
  pointwise [K_main_cst, K_main_cst_0, K_main_v7, K_main_cst_1, K_main_v12, K_main_cst_2, K_main_cst_3, K_main_v18, K_main_cst_4, K_main_v26, K_main_cst_5, K_main_v28, K_main_call0_cst, K_main_call0_v0, K_main_call0_v2, K_main_call0_v5, K_main_cst_6, K_main_v44, K_main_cst_7, K_main_v45, K_main_c, A_main_v0, A_main_v1, A_main_v2, A_main_v3, A_main_v4, A_main_v5, A_main_v6, A_main_v8, A_main_v9, A_main_v10, A_main_v11, A_main_v13, A_main_v14, A_main_v15, A_main_v16, A_main_v17, A_main_v19, A_main_v20, A_main_v21, A_main_v22, A_main_v23, A_main_v24, A_main_v25, A_main_v27, A_main_v29, A_main_v30, A_main_v31, A_main_v32, A_main_v33, A_main_v34, A_main_call0_v1, A_main_call0_v3, A_main_call0_v4, A_main_call0_v6, A_main_call0_v7, A_main_call0_v8, A_main_call0_v9, A_main_call0_v10, A_main_call0_v11, A_main_v35, A_main_v36, A_main_v37, A_main_v38, A_main_v39, A_main_v40, A_main_v41, A_main_v42, A_main_v43]
  simp only [lane8]

theorem β_first : A_main_v42 x0 x2 x3 x4 x5 (ix3 n b h) = ((sgm (x2 (ix3 b n h)) : ℝ) : EReal) := by
  pointwise [K_main_cst, K_main_cst_0, K_main_v7, K_main_cst_1, K_main_v12, K_main_cst_2, K_main_cst_3, K_main_v18, K_main_cst_4, K_main_v26, K_main_cst_5, K_main_v28, K_main_call0_cst, K_main_call0_v0, K_main_call0_v2, K_main_call0_v5, K_main_cst_6, K_main_v44, K_main_cst_7, K_main_v45, K_main_c, A_main_v0, A_main_v1, A_main_v2, A_main_v3, A_main_v4, A_main_v5, A_main_v6, A_main_v8, A_main_v9, A_main_v10, A_main_v11, A_main_v13, A_main_v14, A_main_v15, A_main_v16, A_main_v17, A_main_v19, A_main_v20, A_main_v21, A_main_v22, A_main_v23, A_main_v24, A_main_v25, A_main_v27, A_main_v29, A_main_v30, A_main_v31, A_main_v32, A_main_v33, A_main_v34, A_main_call0_v1, A_main_call0_v3, A_main_call0_v4, A_main_call0_v6, A_main_call0_v7, A_main_call0_v8, A_main_call0_v9, A_main_call0_v10, A_main_call0_v11, A_main_v35, A_main_v36, A_main_v37, A_main_v38, A_main_v39, A_main_v40, A_main_v41, A_main_v42, A_main_v43]
  exact logistic_real _

theorem g_first (a l d : ℝ) (ha : x3 (ix3 b n h) = ((a : ℝ) : EReal)) (hl : x4 (ix1 h) = ((l : ℝ) : EReal)) (hd : x5 (ix1 h) = ((d : ℝ) : EReal)) :
    A_main_v43 x0 x2 x3 x4 x5 (ix3 n b h) = ((gate a l d : ℝ) : EReal) := by
  pointwise [K_main_cst, K_main_cst_0, K_main_v7, K_main_cst_1, K_main_v12, K_main_cst_2, K_main_cst_3, K_main_v18, K_main_cst_4, K_main_v26, K_main_cst_5, K_main_v28, K_main_call0_cst, K_main_call0_v0, K_main_call0_v2, K_main_call0_v5, K_main_cst_6, K_main_v44, K_main_cst_7, K_main_v45, K_main_c, A_main_v0, A_main_v1, A_main_v2, A_main_v3, A_main_v4, A_main_v5, A_main_v6, A_main_v8, A_main_v9, A_main_v10, A_main_v11, A_main_v13, A_main_v14, A_main_v15, A_main_v16, A_main_v17, A_main_v19, A_main_v20, A_main_v21, A_main_v22, A_main_v23, A_main_v24, A_main_v25, A_main_v27, A_main_v29, A_main_v30, A_main_v31, A_main_v32, A_main_v33, A_main_v34, A_main_call0_v1, A_main_call0_v3, A_main_call0_v4, A_main_call0_v6, A_main_call0_v7, A_main_call0_v8, A_main_call0_v9, A_main_call0_v10, A_main_call0_v11, A_main_v35, A_main_v36, A_main_v37, A_main_v38, A_main_v39, A_main_v40, A_main_v41, A_main_v42, A_main_v43]
  rw [if_neg (not_not.mpr rfl), ha, hl, hd]
  simp only [← EReal.coe_add]
  rw [softplus_real, Ideal.exp_coe, ← EReal.coe_neg, ← EReal.coe_mul]; rfl

/-- The result of real outputs. -/
theorem result_at (z : (⟨S16x4096x512, .f32⟩ : BufTy).Contents (Elt Ideal)) (w : (⟨S128, .f32⟩ : BufTy).Contents (Elt Ideal)) (j : Fin 128)
    (ho : ∀ i, s.main_v46_7 (ix4 n b h i) = ((X i : ℝ) : EReal)) (Z : ℝ) (hz : z (ix3 b n ⟨128 * h.val + j.val, by omega⟩) = ((Z : ℝ) : EReal)) :
    R_main_v64 s z w (ix3 b n ⟨128 * h.val + j.val, by omega⟩) = fin X (w (ix1 j)) Z j := by
  pointwise [R_main_v64]
  simp only [lane, hz, ho]
  rw [eps_eq, n128_eq, rms_ideal, logistic_real, ← EReal.coe_mul]
  rfl

/-! The recurrence over the tokens. -/

variable (m : (ℓ : Loc nD τ sig) → Buf (Elt Ideal) ℓ) (c : Dev nD)

/-- The arguments as arrays. -/
def args : Args where
  qkv := m ((c.tc : Thread nD τ).loc main_arg0)
  z := m ((c.tc : Thread nD τ).loc main_arg1)
  b := m ((c.tc : Thread nD τ).loc main_arg2)
  a := m ((c.tc : Thread nD τ).loc main_arg3)
  al := m ((c.tc : Thread nD τ).loc main_arg4)
  dt := m ((c.tc : Thread nD τ).loc main_arg5)
  nw := m ((c.tc : Thread nD τ).loc main_arg6)

/-- The state is the recurrence's after `N` tokens. -/
structure Is (A : Args) (N : ℕ) (s : State Ideal) : Prop where
  q : ∀ (n : Fin 4096) b h i, s.main_v46_0 (ix4 n b h i) = ((A.q b h n.val i : ℝ) : EReal)
  k : ∀ (n : Fin 4096) b h i, s.main_v46_1 (ix4 n b h i) = ((A.k b h n.val i : ℝ) : EReal)
  v : ∀ (n : Fin 4096) b h i, s.main_v46_2 (ix4 n b h i) = ((A.v b h n.val i : ℝ) : EReal)
  β : ∀ (n : Fin 4096) b h, s.main_v46_3 (ix3 n b h) = ((A.β b h n.val : ℝ) : EReal)
  g : ∀ (n : Fin 4096) b h, s.main_v46_4 (ix3 n b h) = ((A.g b h n.val : ℝ) : EReal)
  st : ∀ b h i j, s.main_v46_6 (ix4 b h i j) = ((A.st b h N i j : ℝ) : EReal)
  o : ∀ (n : Fin 4096) b h j, n.val < N → s.main_v46_7 (ix4 n b h j) = ((A.o b h n.val j : ℝ) : EReal)

theorem is_first (hA : (args m c).Finite) : Is (args m c) 0 (first m c) where
  q n b h i := by
    unfold first init Args.q
    rw [Args.tok_val]
    exact q_first n b h _ _ _ _ _ _ (fun i => hA.qkv _) i
  k n b h i := by
    unfold first init Args.k
    rw [Args.tok_val]
    exact k_first n b h _ _ _ _ _ _ (fun i => hA.qkv _) i
  v n b h i := by
    unfold first init Args.v
    rw [Args.tok_val]
    exact (v_first n b h _ (m ((c.tc : Thread nD τ).loc main_arg2)) (m ((c.tc : Thread nD τ).loc main_arg3))
      (m ((c.tc : Thread nD τ).loc main_arg4)) (m ((c.tc : Thread nD τ).loc main_arg5)) i).trans (hA.qkv _)
  β n b h := by
    unfold first init Args.β
    rw [Args.tok_val]
    exact β_first n b h _ _ _ _ _
  g n b h := by
    unfold first init Args.g
    rw [Args.tok_val]
    exact g_first n b h _ _ _ _ _ _ _ _ (hA.a _) (hA.al _) (hA.dt _)
  st b h i j := by
    unfold first init
    pointwise [K_main_v44, K_main_cst_6]
    rfl
  o n b h j hn := absurd hn (Nat.not_lt_zero _)

theorem mem_real {A : Args} {k : ℕ} {s : State Ideal} (hk : k < 4096) (hs : Is A k s) (b : Fin 16) (h : Fin 4) (i j : Fin 128) :
    b45 k s (ix4 b h i j) = ((A.st b h (k + 1) i j : ℝ) : EReal) := by
  refine (mem_at ⟨k, hk⟩ s b h i j).trans ?_
  simp only [hs.q, hs.k, hs.v, hs.β, hs.g, hs.st, Ideal.exp_coe, ← EReal.coe_mul, coe_sum, ← EReal.coe_sub, ← EReal.coe_add]
  rfl

theorem is_step {A : Args} {k : ℕ} {s : State Ideal} (hk : k < 4096) (hs : Is A k s) : Is A (k + 1) (step k s) where
  q := hs.q
  k := hs.k
  v := hs.v
  β := hs.β
  g := hs.g
  st b h i j := mem_real hk hs b h i j
  o n b h j hn := by
    refine (outs_at ⟨k, hk⟩ s b h n j).trans ?_
    by_cases e : n = ⟨k, hk⟩
    · subst e
      rw [if_pos rfl]
      simp only [hs.q, mem_real hk hs, ← EReal.coe_mul, coe_sum]
      rfl
    · rw [if_neg e]
      exact hs.o n b h j (Nat.lt_of_le_of_ne (Nat.le_of_lt_succ hn) (fun x => e (Fin.ext x)))

theorem is_after (hA : (args m c).Finite) : ∀ k, k ≤ 4096 → Is (args m c) k (after_ m c k)
  | 0, _ => is_first m c hA
  | k + 1, hk => is_step (by omega) (is_after hA k (by omega))

/-- THE REFERENCE'S RESULT: at a sequence, a token, a head and a lane, the recurrence's output. -/
theorem result (hA : (args m c).Finite) (b : Fin 16) (n : Fin 4096) (h : Fin 4) (j : Fin 128) :
    R_main_v64 (after_ m c 4096) (m ((c.tc : Thread nD τ).loc main_arg1)) (m ((c.tc : Thread nD τ).loc main_arg6))
        (ix3 b n ⟨128 * h.val + j.val, by omega⟩) = (args m c).out b h n.val j := by
  have hs := is_after m c hA 4096 (le_refl _)
  unfold Args.out
  rw [Args.tok_val]
  exact result_at n _ b h _ _ _ j (fun i => hs.o n b h i n.isLt) _ (hA.z _)

end GatedDelta.Ref

end
-- ==== Proof.FfnMath.lean ====
/- The mathematics of a feed-forward part and its norm, one token at a time: the silu that the kernel spells by tanh is
   the reference's where the gate is real, and a row with an infinite entry is normed to the shift alone. -/
module

public import proofs.«01_k».proof.Proof.GdnGates

@[expose] public section

noncomputable section

namespace Ffn

open Idealize.ShloMosaic

/-! ### The constants -/

/-- The residual's scale. -/
abbrev scale : EReal := Ideal.ofBits .f32 0x3F9837F0#32
/-- One half. -/
abbrev half : EReal := Ideal.ofBits .f32 0x3F000000#32
/-- The width of a row. -/
abbrev width : EReal := Ideal.ofBits .f32 0x44800000#32
/-- The norm's offset. -/
abbrev eps : EReal := Ideal.ofBits .f32 0x3727C5AC#32
/-- One. -/
abbrev one : EReal := Ideal.ofBits .f32 0x3F800000#32

theorem half_eq : half = ((1 / 2 : ℝ) : EReal) := GatedDelta.Unit.half_eq

theorem one_eq : one = ((1 : ℝ) : EReal) := by
  simp [one, Ideal.ofBits, Ideal.ieee, -EReal.coe_mul]; norm_num

theorem width_eq : width = ((1024 : ℝ) : EReal) := by
  simp [width, Ideal.ofBits, Ideal.ieee, -EReal.coe_mul]; norm_num

theorem scale_pos : ∃ r : ℝ, 0 < r ∧ scale = (r : EReal) := by
  refine ⟨9975792 * 2 ^ (-23 : ℤ), by norm_num, ?_⟩
  simp [scale, Ideal.ofBits, Ideal.ieee, -EReal.coe_mul]

theorem eps_real : ∃ r : ℝ, eps = (r : EReal) := by
  refine ⟨_, by simp only [eps, Ideal.ofBits, Ideal.ieee]; rfl⟩

/-! ### The norm of a row -/

/-- The mean of a row. -/
def mean (v : Fin 1024 → EReal) : EReal := Ideal.div (∑ k, v k) width

/-- The norm of a row, scaled and shifted. -/
def norm (v g b : Fin 1024 → EReal) (j : Fin 1024) : EReal :=
  (v j - mean v) * Ideal.rsqrt (mean (fun k => (v k - mean v) * (v k - mean v)) + eps) * g j + b j

/-- Infinite. -/
def Inf (x : EReal) : Prop := x = ⊤ ∨ x = ⊥

theorem Inf.add {x : EReal} (h : Inf x) (y : EReal) : Inf (x + y) := by
  rcases h with rfl | rfl
  · induction y with
    | bot => exact Or.inr (EReal.add_bot _)
    | coe r => exact Or.inl (EReal.top_add_coe r)
    | top => exact Or.inl rfl
  · exact Or.inr (EReal.bot_add _)

theorem Inf.neg {x : EReal} (h : Inf x) : Inf (-x) := by
  rcases h with rfl | rfl
  · exact Or.inr rfl
  · exact Or.inl rfl

theorem Inf.sq {x : EReal} (h : Inf x) : x * x = ⊤ := by
  rcases h with rfl | rfl
  · exact EReal.top_mul_top
  · exact EReal.bot_mul_bot

theorem Inf.pos_mul {x : EReal} (h : Inf x) {r : ℝ} (hr : 0 < r) : Inf ((r : EReal) * x) := by
  rcases h with rfl | rfl
  · exact Or.inl (EReal.coe_mul_top_of_pos hr)
  · exact Or.inr (EReal.coe_mul_bot_of_pos hr)

theorem Inf.of_not_real {x : EReal} (h : ¬∃ r : ℝ, x = r) : Inf x := by
  induction x with
  | bot => exact Or.inr rfl
  | coe r => exact absurd ⟨r, rfl⟩ h
  | top => exact Or.inl rfl

theorem Inf.sum {v : Fin 1024 → EReal} {k : Fin 1024} (h : Inf (v k)) : Inf (∑ k, v k) := by
  rw [← Finset.add_sum_erase _ _ (Finset.mem_univ k)]
  exact h.add _

theorem mean_eq (v : Fin 1024 → EReal) : mean v = ((1 / 1024 : ℝ) : EReal) * ∑ k, v k := by
  rw [mean, width_eq, Ideal.div_coe (by norm_num), mul_comm]

theorem Inf.mean {v : Fin 1024 → EReal} {k : Fin 1024} (h : Inf (v k)) : Inf (Ffn.mean v) := by
  rw [mean_eq]
  exact h.sum.pos_mul (by norm_num)

/-- A row with an infinite entry is normed to the shift alone. -/
theorem norm_of_inf (v g b : Fin 1024 → EReal) {k : Fin 1024} (h : Inf (v k)) (j : Fin 1024) : norm v g b j = b j := by
  have hs : (fun k => (v k - mean v) * (v k - mean v)) = fun _ => ⊤ := by
    funext i
    refine Inf.sq ?_
    rw [sub_eq_add_neg, add_comm]
    exact h.mean.neg.add _
  have hm : mean (fun _ => (⊤ : EReal)) = ⊤ := by
    have hi : Inf (∑ _k : Fin 1024, (⊤ : EReal)) := Inf.sum (v := fun _ => ⊤) (k := 0) (Or.inl rfl)
    have h0 : (0 : EReal) ≤ ∑ _k : Fin 1024, (⊤ : EReal) := Finset.sum_nonneg fun _ _ => le_top
    rw [mean_eq]
    rcases hi with e | e
    · rw [e]; exact EReal.coe_mul_top_of_pos (by norm_num)
    · rw [e] at h0; exact absurd h0 (by simp)
  obtain ⟨e, he⟩ := eps_real
  rw [norm, hs, hm, he, EReal.top_add_coe, Ideal.rsqrt_top, mul_zero, zero_mul, zero_add]

/-! ### The silu -/

/-- The silu by tanh. -/
def siluT (z : EReal) : EReal := half * z * Ideal.tanh (half * z) + half * z

/-- The silu by the exponential. -/
def siluE (z : EReal) : EReal := z * Ideal.div one (one + Ideal.exp (-z))

/-- The two agree at a real gate. -/
theorem silu_eq (z : ℝ) : siluT z = siluE z := by
  have hp : (1 + Real.exp (-z)) ≠ 0 := by positivity
  rw [siluT, siluE, half_eq, one_eq, ← EReal.coe_mul, Ideal.tanh_coe, ← EReal.coe_mul, ← EReal.coe_add, ← EReal.coe_neg, Ideal.exp_coe,
    ← EReal.coe_add, Ideal.div_coe hp, ← EReal.coe_mul, ← EReal.coe_mul]
  congr 1
  rw [one_mul, one_div (1 + Real.exp (-z)), ← GatedDelta.Unit.tanh_half]
  ring

/-! ### The feed-forward part -/

/-- The gated hidden value of a token at a hidden unit, for a silu. -/
def hidden (silu : EReal → EReal) (u : Fin 1024 → EReal) (wg wu : Fin 1024 → Fin 2816 → EReal) (f : Fin 2816) : EReal :=
  silu (∑ k, u k * wg k f) * ∑ k, u k * wu k f

/-- A token's residual with half of its feed-forward part. -/
def resid (silu : EReal → EReal) (u : Fin 1024 → EReal) (wg wu : Fin 1024 → Fin 2816 → EReal) (wd : Fin 2816 → Fin 1024 → EReal) (j : Fin 1024) : EReal :=
  scale * u j + half * ∑ f, hidden silu u wg wu f * wd f j

theorem gate_real (u : Fin 1024 → EReal) (wg : Fin 1024 → Fin 2816 → EReal) (hg : ∀ k f, ∃ r : ℝ, wg k f = r) (hu : ∀ k, ∃ r : ℝ, u k = r)
    (f : Fin 2816) : ∃ r : ℝ, ∑ k, u k * wg k f = (r : EReal) := by
  choose a ha using hu
  choose w hw using hg
  exact ⟨∑ k, a k * w k f, by simp only [ha, hw]; exact GatedDelta.Unit.coe_dot _ _⟩

/-- THE NORM OF THE TWO RESIDUALS is the same, whatever the token, if the gate's weights are real. -/
theorem norm_resid (u g b : Fin 1024 → EReal) (wg wu : Fin 1024 → Fin 2816 → EReal) (wd : Fin 2816 → Fin 1024 → EReal)
    (hg : ∀ k f, ∃ r : ℝ, wg k f = r) (j : Fin 1024) :
    norm (resid siluT u wg wu wd) g b j = norm (resid siluE u wg wu wd) g b j := by
  by_cases hu : ∀ k, ∃ r : ℝ, u k = r
  · have e : hidden siluT u wg wu = hidden siluE u wg wu := by
      funext f
      obtain ⟨r, hr⟩ := gate_real u wg hg hu f
      rw [hidden, hidden, hr, silu_eq]
    unfold resid
    rw [e]
  · obtain ⟨k, hk⟩ := not_forall.mp hu
    obtain ⟨a, ha, hs⟩ := scale_pos
    have key : ∀ s : EReal → EReal, Inf (resid s u wg wu wd k) := fun s => by
      unfold resid
      rw [hs]
      exact ((Inf.of_not_real hk).pos_mul ha).add _
    rw [norm_of_inf _ _ _ (key _), norm_of_inf _ _ _ (key _)]

end Ffn

end
-- ==== Proof.FfnUnit.lean ====
/- What a point of the grid of a feed-forward part computes, written once: the norm of 64 rows of what the point before
   left, the gated hidden values of a chunk of 256 units, and the residual of the point's own rows. -/
module

public import proofs.«01_k».proof.Proof.Gen.Kernel3Ideal
public import proofs.«01_k».proof.Proof.FfnMath
public import Idealize.ShloMosaic.Lib.Pipeline.FrameBody
public import Idealize.ShloMosaic.Lib.Pipeline.ValueKit.Tiles
public import Idealize.ShloMosaic.Lib.ValueIdx

@[expose] public section

noncomputable section

namespace Ffn.Unit

open Idealize.ShloMosaic Idealize.ShloMosaic.ValueIdx Cert.Kernel3Ideal Cert.Kernel3Ideal.Gen

variable {F : FTy → Type} [FloatOps F]

/-- A scalar over a block. -/
abbrev spl (s : Shape) (b : BitVec 32) : FVec F s .f32 := broadcast s (Scalar.ofBits (F := F) .f32 b)

/-- The means of 64 rows, one to a row. -/
def rowMeans (x : FVec F S64x1024 .f32) : FVec F S64x1 .f32 :=
  divf (shapeCast S64x1 (multiReduction .add [1] S64 x 0x00000000#32 reduces_S64x1024_S64 (.inl rfl) rfl) shapeCasts_S64_S64x1)
    (spl S64x1 0x44800000#32)

/-- 64 rows less their means. -/
def centred (x : FVec F S64x1024 .f32) : FVec F S64x1024 .f32 := subf x (broadcastTo S64x1024 (rowMeans x) broadcasts_S64x1_S64x1024)

/-- The norm of 64 rows. -/
def ln (x : Vec F S64x1024 .f32) (g b : Vec F S1x1024 .f32) : FVec F S64x1024 .f32 :=
  addf (mulf (mulf (centred x) (broadcastTo S64x1024 (rsqrt (addf (rowMeans (mulf (centred x) (centred x))) (spl S64x1 0x3727C5AC#32)))
      broadcasts_S64x1_S64x1024))
    (broadcastTo S64x1024 (shapeCast S1x1024 g shapeCasts_S1x1024_S1x1024) broadcasts_S1x1024_S64x1024))
    (broadcastTo S64x1024 (shapeCast S1x1024 b shapeCasts_S1x1024_S1x1024) broadcasts_S1x1024_S64x1024)

/-- A product of the rows with a chunk of weights. -/
def dotChunk (u : FVec F S512x1024 .f32) (w : Vec F S1024x256 .bf16) : FVec F S512x256 .f32 :=
  matmul dot_S512x1024_S1024x256_S512x256_1_0_0_1_n_n none (truncf .bf16 u bitsLt_bf16_f32) (shapeCast S1024x256 w shapeCasts_S1024x256_S1024x256)
    (constant S512x256 .f32 0x00000000#32)

/-- The sums of columns of normed rows. -/
def colSums (v : FVec F S64x1024 .f32) : FVec F S1x1024 .f32 :=
  shapeCast S1x1024 (multiReduction .add [0] S1024 v 0x00000000#32 reduces_S64x1024_S1024 (.inl rfl) rfl) shapeCasts_S1024_S1x1024

/-- Zero times the sums of normed rows: it orders the body's work. -/
def zeroAfter (v : FVec F S64x1024 .f32) : FVec F S1x256 .f32 :=
  mulf (addf (addf (addf (extractStridedSlice S1x256 ![0, 0] (colSums v) slices_S1x1024_o0_0_S1x256)
    (extractStridedSlice S1x256 ![0, 256] (colSums v) slices_S1x1024_o0_256_S1x256))
    (extractStridedSlice S1x256 ![0, 512] (colSums v) slices_S1x1024_o0_512_S1x256))
    (extractStridedSlice S1x256 ![0, 768] (colSums v) slices_S1x1024_o0_768_S1x256)) (spl S1x256 0x00000000#32)

/-- The gated hidden values of a chunk, of its gate's products and its upper ones. -/
def gated (z up : FVec F S512x256 .f32) : FVec F S512x256 .bf16 :=
  shapeCast S512x256 (truncf .bf16 (mulf (addf (mulf (mulf (spl S512x256 0x3F000000#32) z) (tanh (mulf (spl S512x256 0x3F000000#32) z)))
    (mulf (spl S512x256 0x3F000000#32) z)) up) bitsLt_bf16_f32) shapeCasts_S512x256_S512x256

/-- What a point of the grid starts from: its rows, the weights, the norm's scale and shift, and what the point before left. -/
structure Pt (F : FTy → Type) where
  u : FVec F S512x1024 .f32
  wg : Vec F S1024x2816 .bf16
  wu : Vec F S1024x2816 .bf16
  wd : Vec F S2816x1024 .bf16
  g : Vec F S1x1024 .f32
  b : Vec F S1x1024 .f32
  y : Vec F S512x1024 .f32

theorem fit_rows (p : Fin 8) : ∀ a : Fin 2, (![64 * p.val, 0] : Fin 2 → ℕ) a + S64x1024.size a ≤ S512x1024.size a := fun a => by
  match a with
  | ⟨0, _⟩ => show 64 * p.val + 64 ≤ 512; omega
  | ⟨1, _⟩ => show 0 + 1024 ≤ 1024; omega

theorem fit_chunk (k : Fin 11) : ∀ a : Fin 2, (![0, 256 * k.val] : Fin 2 → ℕ) a + S1024x256.size a ≤ S1024x2816.size a := fun a => by
  match a with
  | ⟨0, _⟩ => show 0 + 1024 ≤ 1024; omega
  | ⟨1, _⟩ => show 256 * k.val + 256 ≤ 2816; omega

theorem fit_hid (k : Fin 11) : ∀ a : Fin 2, (![0, 256 * k.val] : Fin 2 → ℕ) a + S512x256.size a ≤ S512x2816.size a := fun a => by
  match a with
  | ⟨0, _⟩ => show 0 + 512 ≤ 512; omega
  | ⟨1, _⟩ => show 256 * k.val + 256 ≤ 2816; omega

/-- The normed rows of a piece. -/
def lnAt (P : Pt F) (p : Fin 8) : FVec F S64x1024 .f32 :=
  ln (View.ld P.y (Rect.unit _ S64x1024.size (fit_rows p))) (View.ld P.g (Rect.unit _ S1x1024.size inb_S1x1024_S1x1024_0_0))
    (View.ld P.b (Rect.unit _ S1x1024.size inb_S1x1024_S1x1024_0_0))

/-- The upper products of a chunk, after a piece of normed rows where there is one. -/
def upAt (P : Pt F) (k : Fin 11) : FVec F S512x256 .f32 :=
  if h : 1 ≤ k.val ∧ k.val ≤ 8 then
    addf (dotChunk P.u (View.ld P.wu (Rect.unit _ S1024x256.size (fit_chunk k))))
      (broadcastTo S512x256 (zeroAfter (lnAt P ⟨k.val - 1, by omega⟩)) broadcasts_S1x256_S512x256)
  else dotChunk P.u (View.ld P.wu (Rect.unit _ S1024x256.size (fit_chunk k)))

/-- The gated hidden values of a chunk. -/
def hidAt (P : Pt F) (k : Fin 11) : FVec F S512x256 .bf16 :=
  gated (dotChunk P.u (View.ld P.wg (Rect.unit _ S1024x256.size (fit_chunk k)))) (upAt P k)

/-- What the body writes to its output, last first. -/
def outPieces (P : Pt F) : List (View.Piece (Elt F) S512x1024 .f32) :=
  List.ofFn fun k : Fin 8 => ⟨Rect.unit ![64 * (7 - k.val), 0] S64x1024.size (fit_rows ⟨7 - k.val, by omega⟩), lnAt P ⟨7 - k.val, by omega⟩⟩

/-- What it writes to the hidden values, last first. -/
def hidPieces (P : Pt F) : List (View.Piece (Elt F) S512x2816 .bf16) :=
  List.ofFn fun k : Fin 11 => ⟨Rect.unit ![0, 256 * (10 - k.val)] S512x256.size (fit_hid ⟨10 - k.val, by omega⟩), hidAt P ⟨10 - k.val, by omega⟩⟩

/-- The residual of the point's rows, from its hidden values. -/
def residOf (P : Pt F) (h : Vec F S512x2816 .bf16) : FVec F S512x1024 .f32 :=
  shapeCast S512x1024 (addf (mulf (spl S512x1024 0x3F9837F0#32) P.u)
    (mulf (spl S512x1024 0x3F000000#32) (matmul dot_S512x2816_S2816x1024_S512x1024_1_0_0_1_n_n none h
      (shapeCast S2816x1024 (View.ld P.wd (Rect.unit _ S2816x1024.size inb_S2816x1024_S2816x1024_0_0)) shapeCasts_S2816x1024_S2816x1024)
      (constant S512x1024 .f32 0x00000000#32)))) shapeCasts_S512x1024_S512x1024

/-- What the body leaves for the next point. -/
def resPiece (P : Pt F) (h : Vec F S512x2816 .bf16) : View.Piece (Elt F) S512x1024 .f32 :=
  ⟨Rect.unit ![0, 0] S512x1024.size inb_S512x1024_S512x1024_0_0, residOf P h⟩

/-- The write of zeros that the first point makes. -/
def zeroPiece : View.Piece (Elt F) S512x1024 .f32 :=
  ⟨Rect.unit ![0, 0] S512x1024.size inb_S512x1024_S512x1024_0_0, shapeCast S512x1024 (spl S512x1024 0x00000000#32) shapeCasts_S512x1024_S512x1024⟩

/-- The hidden values, read back whole. -/
def hidden {places : RefSig} (P : Pt F) (v : Memref places .tc .vmem S512x2816 .bf16) : Vec F S512x2816 .bf16 :=
  v.view.readCov (hidPieces P) (Rect.unit ![0, 0] S512x2816.size inb_S512x2816_S512x2816_0_0).toLoadRect

end Ffn.Unit

end
-- ==== Proof.FfnReal.lean ====
/- The units of a feed-forward part read at an entry: the norm of a row, the gated hidden values, the residual. -/
module

public import proofs.«01_k».proof.Proof.FfnUnit
public import proofs.«01_k».proof.Proof.GdnPoint
public import Idealize.ShloMosaic.Lib.Pointwise

@[expose] public section

noncomputable section

namespace Ffn.Unit

open Idealize.ShloMosaic Cert.Kernel3Ideal Cert.Kernel3Ideal.Gen

theorem rowMeans_at (x : FVec Ideal S64x1024 .f32) (r : Fin 64) : rowMeans x (ix2 r 0) = mean fun k => x (ix2 r k) := by
  pointwise [rowMeans]
  rfl

theorem centred_at (x : FVec Ideal S64x1024 .f32) (r : Fin 64) (j : Fin 1024) :
    centred x (ix2 r j) = x (ix2 r j) - mean fun k => x (ix2 r k) := by
  rw [← rowMeans_at]
  unfold centred
  generalize rowMeans x = y
  pointwise []

theorem ln_at (x : FVec Ideal S64x1024 .f32) (g b : FVec Ideal S1x1024 .f32) (r : Fin 64) (j : Fin 1024) :
    ln (F := Ideal) x g b (ix2 r j) = norm (fun k => x (ix2 r k)) (fun k => g (ix2 0 k)) (fun k => b (ix2 0 k)) j := by
  have e : (fun k => mulf (centred x) (centred x) (ix2 r k)) = fun k => (x (ix2 r k) - mean fun k => x (ix2 r k)) * (x (ix2 r k) - mean fun k => x (ix2 r k)) := by
    funext k
    rw [← centred_at]
    rfl
  have h := rowMeans_at (mulf (centred x) (centred x)) r
  rw [e] at h
  unfold norm
  rw [← h, ← centred_at]
  unfold ln
  generalize rowMeans (mulf (centred x) (centred x)) = y
  generalize centred x = z
  pointwise []

theorem dotChunk_at (u : FVec Ideal S512x1024 .f32) (w : FVec Ideal S1024x256 .bf16) (r : Fin 512) (f : Fin 256) :
    dotChunk u w (ix2 r f) = ∑ k : Fin 1024, u (ix2 r k) * w (ix2 k f) := by
  pointwise [dotChunk]

theorem zeroAfter_at (v : FVec Ideal S64x1024 .f32) (f : Fin 256) : zeroAfter v (ix2 0 f) = 0 := by
  unfold zeroAfter
  generalize colSums v = y
  pointwise []
  simp

theorem gated_at (z up : FVec Ideal S512x256 .f32) (r : Fin 512) (f : Fin 256) :
    gated z up (ix2 r f) = siluT (z (ix2 r f)) * up (ix2 r f) := by
  pointwise [gated]
  rfl

theorem addZero_at (x : FVec Ideal S512x256 .f32) (v : FVec Ideal S64x1024 .f32) (r : Fin 512) (f : Fin 256) :
    addf x (broadcastTo S512x256 (zeroAfter v) broadcasts_S1x256_S512x256) (ix2 r f) = x (ix2 r f) := by
  have h := zeroAfter_at v f
  generalize zeroAfter v = y at h
  pointwise []
  rw [h, add_zero]

theorem residDot_at (u : FVec Ideal S512x1024 .f32) (h : FVec Ideal S512x2816 .bf16) (w : FVec Ideal S2816x1024 .bf16) (r : Fin 512) (j : Fin 1024) :
    shapeCast S512x1024 (addf (mulf (spl S512x1024 0x3F9837F0#32) u)
    (mulf (spl S512x1024 0x3F000000#32) (matmul dot_S512x2816_S2816x1024_S512x1024_1_0_0_1_n_n none h
      (shapeCast S2816x1024 w shapeCasts_S2816x1024_S2816x1024)
      (constant S512x1024 .f32 0x00000000#32)))) shapeCasts_S512x1024_S512x1024 (ix2 r j)
     = scale * u (ix2 r j) + half * ∑ f : Fin 2816, h (ix2 r f) * w (ix2 f j) := by
  pointwise []

/-! ### The pieces read back -/

theorem congrArg₃ {α β γ δ : Sort _} (f : α → β → γ → δ) {a a' : α} {b b' : β} {c c' : γ} (ha : a = a') (hb : b = b') (hc : c = c') :
    f a b c = f a' b' c' := by
  subst ha hb hc; rfl

variable (P : Pt Ideal)

theorem ld_row (w : Vec Ideal S1x1024 .f32) (j : Fin 1024) :
    View.ld w (Rect.unit _ S1x1024.size inb_S1x1024_S1x1024_0_0) (ix2 0 j : S1x1024.Idx) = w (ix2 0 j) := by
  refine View.ld_unit_apply_of _ _ _ _ _ _ fun a => ?_
  match a with
  | ⟨0, _⟩ => rfl
  | ⟨1, _⟩ => exact (Nat.zero_add _).symm

theorem ld_rows (w : Vec Ideal S512x1024 .f32) (p : Fin 8) (r : Fin 64) (j : Fin 1024) :
    View.ld w (Rect.unit _ S64x1024.size (fit_rows p)) (ix2 r j : S64x1024.Idx) = w (ix2 ⟨64 * p.val + r.val, by omega⟩ j) := by
  refine View.ld_unit_apply_of _ _ _ _ _ _ fun a => ?_
  match a with
  | ⟨0, _⟩ => rfl
  | ⟨1, _⟩ => exact (Nat.zero_add _).symm

theorem ld_chunk (w : Vec Ideal S1024x2816 .bf16) (k : Fin 11) (r : Fin 1024) (f : Fin 256) :
    View.ld w (Rect.unit _ S1024x256.size (fit_chunk k)) (ix2 r f : S1024x256.Idx) = w (ix2 r ⟨256 * k.val + f.val, by omega⟩) := by
  refine View.ld_unit_apply_of _ _ _ _ _ _ fun a => ?_
  match a with
  | ⟨0, _⟩ => exact (Nat.zero_add _).symm
  | ⟨1, _⟩ => rfl

theorem ld_down (w : Vec Ideal S2816x1024 .bf16) (f : Fin 2816) (j : Fin 1024) :
    View.ld w (Rect.unit _ S2816x1024.size inb_S2816x1024_S2816x1024_0_0) (ix2 f j : S2816x1024.Idx) = w (ix2 f j) := by
  refine View.ld_unit_apply_of _ _ _ _ _ _ fun a => ?_
  match a with
  | ⟨0, _⟩ => exact (Nat.zero_add _).symm
  | ⟨1, _⟩ => exact (Nat.zero_add _).symm

/-- A row of what the point before left, normed. -/
theorem lnAt_at (p : Fin 8) (r : Fin 64) (j : Fin 1024) :
    lnAt P p (ix2 r j) = norm (fun k => (P.y : FVec Ideal S512x1024 .f32) (ix2 ⟨64 * p.val + r.val, by omega⟩ k))
      (fun k => (P.g : FVec Ideal S1x1024 .f32) (ix2 0 k)) (fun k => (P.b : FVec Ideal S1x1024 .f32) (ix2 0 k)) j := by
  unfold lnAt
  rw [ln_at]
  exact congrFun (congrArg₃ norm (funext fun k => ld_rows P.y p r k) (funext fun k => ld_row P.g k) (funext fun k => ld_row P.b k)) j

/-- A point's output, read at a row and a column. -/
theorem out_at (r : Fin 512) (j : Fin 1024) :
    View.canon (outPieces P) (ix2 r j : S512x1024.Idx) = norm (fun k => (P.y : FVec Ideal S512x1024 .f32) (ix2 r k))
      (fun k => (P.g : FVec Ideal S1x1024 .f32) (ix2 0 k)) (fun k => (P.b : FVec Ideal S1x1024 .f32) (ix2 0 k)) j := by
  have hx : View.canon (outPieces P) (ix2 r j : S512x1024.Idx) = lnAt P ⟨r.val / 64, by omega⟩ (ix2 ⟨r.val % 64, by omega⟩ j) := by
    refine View.canon_ofFn_unit_eq_of_forall _ _ _ _ _ _ ?_ ?_
    · refine ⟨⟨7 - r.val / 64, by omega⟩, fun a => ?_⟩
      match a with
      | ⟨0, _⟩ => show 64 * (7 - (7 - r.val / 64)) ≤ r.val ∧ r.val < 64 * (7 - (7 - r.val / 64)) + 64; omega
      | ⟨1, _⟩ => show 0 ≤ j.val ∧ j.val < 0 + 1024; omega
    · intro k x hx
      have h0 : r.val = 64 * (7 - k.val) + (x 0).val := hx 0
      have h1 : j.val = 0 + (x 1).val := hx 1
      have l0 : (x 0).val < 64 := (x 0).isLt
      have ek : (⟨7 - k.val, by omega⟩ : Fin 8) = ⟨r.val / 64, by omega⟩ := Fin.ext (by show 7 - k.val = r.val / 64; omega)
      show lnAt P ⟨7 - k.val, _⟩ x = _
      rw [ek]
      congr 1
      funext a
      match a with
      | ⟨0, _⟩ => exact Fin.ext (by show (x 0).val = r.val % 64; omega)
      | ⟨1, _⟩ => exact Fin.ext (by show (x 1).val = j.val; omega)
  rw [hx, lnAt_at]
  have e : (⟨64 * (r.val / 64) + r.val % 64, by omega⟩ : Fin 512) = r := Fin.ext (by show 64 * (r.val / 64) + r.val % 64 = r.val; omega)
  simp only [e]

/-- The gated hidden values of a chunk. -/
theorem hidAt_at (k : Fin 11) (r : Fin 512) (f : Fin 256) :
    hidAt P k (ix2 r f) = Ffn.hidden siluT (fun k => P.u (ix2 r k)) (fun k f => (P.wg : FVec Ideal S1024x2816 .bf16) (ix2 k f))
      (fun k f => (P.wu : FVec Ideal S1024x2816 .bf16) (ix2 k f)) ⟨256 * k.val + f.val, by omega⟩ := by
  have hu : upAt P k (ix2 r f) = dotChunk P.u (View.ld P.wu (Rect.unit _ S1024x256.size (fit_chunk k))) (ix2 r f) := by
    unfold upAt
    split
    · exact addZero_at _ _ r f
    · rfl
  unfold hidAt
  rw [gated_at, hu, dotChunk_at, dotChunk_at]
  refine congrArg₂ (fun x y => siluT x * y) ?_ ?_
  · exact Finset.sum_congr rfl fun x _ => congrArg (P.u (ix2 r x) * ·) (ld_chunk P.wg k x f)
  · exact Finset.sum_congr rfl fun x _ => congrArg (P.u (ix2 r x) * ·) (ld_chunk P.wu k x f)

/-- The hidden values, read back. -/
theorem hidden_at {places : RefSig} (v : Memref places .tc .vmem S512x2816 .bf16) (r : Fin 512) (f : Fin 2816) :
    Ffn.Unit.hidden P v (ix2 r f) = Ffn.hidden siluT (fun k => P.u (ix2 r k)) (fun k f => (P.wg : FVec Ideal S1024x2816 .bf16) (ix2 k f))
      (fun k f => (P.wu : FVec Ideal S1024x2816 .bf16) (ix2 k f)) f := by
  have hx : View.canon (hidPieces P) (ix2 r f : S512x2816.Idx) = hidAt P ⟨f.val / 256, by omega⟩ (ix2 r ⟨f.val % 256, by omega⟩) := by
    refine View.canon_ofFn_unit_eq_of_forall _ _ _ _ _ _ ?_ ?_
    · refine ⟨⟨10 - f.val / 256, by omega⟩, fun a => ?_⟩
      match a with
      | ⟨0, _⟩ => show 0 ≤ r.val ∧ r.val < 0 + 512; omega
      | ⟨1, _⟩ => show 256 * (10 - (10 - f.val / 256)) ≤ f.val ∧ f.val < 256 * (10 - (10 - f.val / 256)) + 256; omega
    · intro k x hx
      have h0 : r.val = 0 + (x 0).val := hx 0
      have h1 : f.val = 256 * (10 - k.val) + (x 1).val := hx 1
      have l1 : (x 1).val < 256 := (x 1).isLt
      have ek : (⟨10 - k.val, by omega⟩ : Fin 11) = ⟨f.val / 256, by omega⟩ := Fin.ext (by show 10 - k.val = f.val / 256; omega)
      show hidAt P ⟨10 - k.val, _⟩ x = _
      rw [ek]
      congr 1
      funext a
      match a with
      | ⟨0, _⟩ => exact Fin.ext (by show (x 0).val = r.val; omega)
      | ⟨1, _⟩ => exact Fin.ext (by show (x 1).val = f.val % 256; omega)
  unfold Ffn.Unit.hidden
  rw [View.readCov_eq_canon']
  have ei : (Rect.unit ![0, 0] S512x2816.size inb_S512x2816_S512x2816_0_0).toLoadRect.idx (ix2 r f : S512x2816.Idx) = (ix2 r f : S512x2816.Idx) := by
    funext a
    match a with
    | ⟨0, _⟩ => exact Fin.ext (by show 0 + 1 * r.val = r.val; omega)
    | ⟨1, _⟩ => exact Fin.ext (by show 0 + 1 * f.val = f.val; omega)
  refine (congrArg (View.canon (hidPieces P)) ei).trans ?_
  rw [hx, hidAt_at]
  have e : (⟨256 * (f.val / 256) + f.val % 256, by omega⟩ : Fin 2816) = f := Fin.ext (by show 256 * (f.val / 256) + f.val % 256 = f.val; omega)
  simp only [e]

/-- The residual a point computes. -/
theorem residOf_at {places : RefSig} (v : Memref places .tc .vmem S512x2816 .bf16) (r : Fin 512) (j : Fin 1024) :
    residOf P (Ffn.Unit.hidden P v) (ix2 r j) = resid siluT (fun k => P.u (ix2 r k)) (fun k f => (P.wg : FVec Ideal S1024x2816 .bf16) (ix2 k f))
      (fun k f => (P.wu : FVec Ideal S1024x2816 .bf16) (ix2 k f)) (fun f j => (P.wd : FVec Ideal S2816x1024 .bf16) (ix2 f j)) j := by
  unfold residOf
  rw [residDot_at]
  exact congrArg (fun x => scale * P.u (ix2 r j) + half * x) (Finset.sum_congr rfl fun f _ => congrArg₂ (· * ·) (hidden_at P v r f) (ld_down P.wd f j))

/-- What a point leaves, the last write being of the residual whole. -/
theorem res_at (h : FVec Ideal S512x2816 .bf16) (L : List (View.Piece (Elt Ideal) S512x1024 .f32)) :
    View.canon (resPiece P h :: L) = residOf P h := by
  have hz : (![0, 0] : Fin 2 → ℕ) = fun _ => 0 := by funext a; fin_cases a <;> rfl
  have h1 : View.canon [resPiece P h] = residOf P h := View.canon_unit_zero hz _ _
  rw [← h1]
  funext y
  refine GatedDelta.Point.canon_append [resPiece P h] L y ⟨_, List.mem_singleton.mpr rfl, ?_⟩
  refine (Rect.mem_set_unit (inb := inb_S512x1024_S512x1024_0_0)).mpr fun a => ?_
  match a with
  | ⟨0, _⟩ => exact ⟨Nat.zero_le _, by have : (y 0).val < 512 := (y 0).isLt; show (y 0).val < 0 + 512; omega⟩
  | ⟨1, _⟩ => exact ⟨Nat.zero_le _, by have : (y 1).val < 1024 := (y 1).isLt; show (y 1).val < 0 + 1024; omega⟩

end Ffn.Unit

end
-- ==== Proof.FfnFirst.lean ====
/- What the body of the first feed-forward part leaves at a point of the grid, as the units of `FfnUnit` say it. -/
module

public import proofs.«01_k».proof.Proof.Gen.Kernel3Ideal.Value
public import proofs.«01_k».proof.Proof.FfnReal
public import Idealize.ShloMosaic.Lib.Pipeline.ValueKit.Geometry
public import Idealize.ShloMosaic.Lib.StableHlo.ReadAt

@[expose] public section

set_option maxRecDepth 100000

noncomputable section

namespace Ffn.First

open Idealize.ShloMosaic Idealize.ShloMosaic.TcCoe Idealize.SL.Sem
open Cert.Kernel3Ideal Cert.Kernel3Ideal.Gen Ffn.Unit

variable {F : FTy → Type} [FloatOps F]

/-- A point's rows, of its block. -/
def rowsOf (x : Vec F S512x1024 .f32) : FVec F S512x1024 .f32 :=
  shapeCast S512x1024 (View.ld x (Rect.unit _ S512x1024.size inb_S512x1024_S512x1024_0_0)) shapeCasts_S512x1024_S512x1024

section Words

variable (c : Dev nD) (i : grid0.Coords) (arg1 : Memref sig .tc .vmem S512x1024 .f32) (harg1 : arg1.IsWhole)
  (arg2 : Memref sig .tc .vmem S1024x2816 .bf16) (harg2 : arg2.IsWhole) (arg3 : Memref sig .tc .vmem S1024x2816 .bf16) (harg3 : arg3.IsWhole)
  (arg4 : Memref sig .tc .vmem S2816x1024 .bf16) (harg4 : arg4.IsWhole) (arg5 : Memref sig .tc .vmem S1x1024 .f32) (harg5 : arg5.IsWhole)
  (arg6 : Memref sig .tc .vmem S1x1024 .f32) (harg6 : arg6.IsWhole) (arg7 : Memref sig .tc .vmem S512x1024 .f32) (harg7 : arg7.IsWhole)
  (arg8 : Memref sig .tc .vmem S512x2816 .bf16) (harg8 : arg8.IsWhole) (arg9 : Memref sig .tc .vmem S512x1024 .f32) (harg9 : arg9.IsWhole)
  (x0 : Vec F S512x1024 .f32) (x1 : Vec F S1024x2816 .bf16) (x2 : Vec F S1024x2816 .bf16) (x3 : Vec F S2816x1024 .bf16)
  (x4 : Vec F S1x1024 .f32) (x5 : Vec F S1x1024 .f32) (xs1 : Vec F S512x1024 .f32)

/-- A point's start, from its blocks. -/
def ofBlocks (x0 : Vec F S512x1024 .f32) (x1 x2 : Vec F S1024x2816 .bf16) (x3 : Vec F S2816x1024 .bf16) (x4 x5 : Vec F S1x1024 .f32)
    (y : Vec F S512x1024 .f32) : Pt F :=
  ⟨rowsOf x0, x1, x2, x3, x4, x5, y⟩

/-- The point's blocks as the body reads them. -/
def raw (y : Vec F S512x1024 .f32) : Pt F :=
  ofBlocks (arg1.view.read (Elt F) (harg1.unread x0)) (arg2.view.read (Elt F) (harg2.unread x1)) (arg3.view.read (Elt F) (harg3.unread x2))
    (arg4.view.read (Elt F) (harg4.unread x3)) (arg5.view.read (Elt F) (harg5.unread x4)) (arg6.view.read (Elt F) (harg6.unread x5)) y

/-- … are the blocks. -/
theorem raw_eq (y : Vec F S512x1024 .f32) :
    raw arg1 harg1 arg2 harg2 arg3 harg3 arg4 harg4 arg5 harg5 arg6 harg6 x0 x1 x2 x3 x4 x5 y = ofBlocks x0 x1 x2 x3 x4 x5 y := by
  unfold raw
  rw [harg1.read_unread, harg2.read_unread, harg3.read_unread, harg4.read_unread, harg5.read_unread, harg6.read_unread]

/-- What the body writes to its output at a later point. -/
theorem out_B (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs1).1
    = outPieces (raw arg1 harg1 arg2 harg2 arg3 harg3 arg4 harg4 arg5 harg5 arg6 harg6 x0 x1 x2 x3 x4 x5 (arg9.view.read (Elt F) (harg9.unread xs1))) := by
  sl_kernel_rfl

/-- What it leaves for the next point there. -/
theorem res_B (hc0 : ¬cond0_0 i) : (kernelRun0_B c i arg1 harg1 arg2 harg2 arg3 harg3 arg4 harg4 arg5 harg5 arg6 harg6 arg7 harg7 arg8 harg8 arg9 harg9 hc0 x0 x1 x2 x3 x4 x5 xs1).2.1
    = [resPiece (raw arg1 harg1 arg2 harg2 arg3 harg3 arg4 harg4 arg5 harg5 arg6 harg6 x0 x1 x2 x3 x4 x5 (arg9.view.read (Elt F) (harg9.unread xs1)))
        (Ffn.Unit.hidden (raw arg1 harg1 arg2 harg2 arg3 harg3 arg4 harg4 arg5 harg5 arg6 harg6 x0 x1 x2 x3 x4 x5 (arg9.view.read (Elt F) (harg9.unread xs1))) arg8)] := by
  sl_kernel_rfl

/-- What it leaves for the next point at the first. -/
theorem res_A (hc0 : cond0_0 i) : (kernelRun0_A c i arg1 harg1 arg2 harg2 arg3 harg3 arg4 harg4 arg5 harg5 arg6 harg6 arg7 harg7 arg8 harg8 arg9 harg9 hc0 x0 x1 x2 x3 x4 x5).2.1
    = [resPiece (raw arg1 harg1 arg2 harg2 arg3 harg3 arg4 harg4 arg5 harg5 arg6 harg6 x0 x1 x2 x3 x4 x5 (arg9.view.read (Elt F) (arg9.view.writes (Elt F) arg9.view.junk [zeroPiece])))
        (Ffn.Unit.hidden (raw arg1 harg1 arg2 harg2 arg3 harg3 arg4 harg4 arg5 harg5 arg6 harg6 x0 x1 x2 x3 x4 x5 (arg9.view.read (Elt F) (arg9.view.writes (Elt F) arg9.view.junk [zeroPiece]))) arg8), zeroPiece] := by
  sl_kernel_rfl

end Words

/-! ### A step of the grid -/

section Step

variable (m : (ℓ : Loc nD τ sig) → Buf (Elt F) ℓ) (c : Dev nD)

/-- A point's start, from its blocks and what the point before left. -/
def ptOf (t : Fin cfg0.N) (y : Vec F S512x1024 .f32) : Pt F :=
  ofBlocks (iblk m c 0 t) (iblk m c 1 t) (iblk m c 2 t) (iblk m c 3 t) (iblk m c 4 t) (iblk m c 5 t) y

/-- What a point leaves for the next. -/
theorem step_res (t : Fin cfg0.N) : ∃ y, (outsAt0 m c t.val t.isLt).2
    = View.canon (resPiece (ptOf m c t y) (Ffn.Unit.hidden (ptOf m c t y) scM0_0) :: if t.val % 129 = 0 then [zeroPiece] else []) := by
  by_cases h0 : t.val % 129 = 0
  · rw [outsAt0_A m c t h0, if_pos h0]
    dsimp only
    unfold sout0_A_1
    rw [View.read_writes_junk_eq_canon, res_A, raw_eq]
    exact ⟨_, rfl⟩
  · rw [outsAt0_B m c t h0, if_neg h0]
    dsimp only
    unfold sout0_B_1
    rw [View.read_writes_junk_eq_canon, res_B, raw_eq]
    exact ⟨_, rfl⟩

/-- What a later point writes. -/
theorem step_out (t : Fin cfg0.N) (h0 : ¬t.val % 129 = 0) : (outsAt0 m c t.val t.isLt).1
    = View.canon (outPieces (ptOf m c t (outsAt0 m c (t.val - 1) (Nat.lt_of_le_of_lt (Nat.sub_le _ _) t.isLt)).2)) := by
  rw [outsAt0_B m c t h0]
  dsimp only
  unfold out0_B_6
  rw [View.read_writes_junk_eq_canon, out_B, raw_eq, (Memref.isWhole_whole _).read_unread]
  rfl

end Step

/-! ### The blocks at the arguments -/

section Blocks

variable (m : (ℓ : Loc nD τ sig) → Buf (Elt Ideal) ℓ) (c : Dev nD)

abbrev aX : FVec Ideal S16x4096x1024 .f32 := m (c, Proc.tc.devRef main_arg0)
abbrev aWg : FVec Ideal S1024x2816 .f32 := m (c, Proc.tc.devRef main_arg1)
abbrev aWu : FVec Ideal S1024x2816 .f32 := m (c, Proc.tc.devRef main_arg2)
abbrev aWd : FVec Ideal S2816x1024 .f32 := m (c, Proc.tc.devRef main_arg3)
abbrev aG : FVec Ideal S1024 .f32 := m (c, Proc.tc.devRef main_arg4)
abbrev aB : FVec Ideal S1024 .f32 := m (c, Proc.tc.devRef main_arg5)

theorem idx0 : ∀ t : Fin cfg0.N, win0_0.index t (0 : Fin 2) = min t.val 127 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val - 1 ∧ win0_6.index t (1 : Fin 2) = 0 := (by decide +kernel : ∀ t : Fin grid0.N, _)
theorem flush6 : ∀ t : Fin cfg0.N, win0_6.flush t = true → t.val ≠ 0 := (by decide +kernel : ∀ t : Fin grid0.N, _)

theorem host0 (R : Fin 65536) (k : Fin 1024) :
    (V m c main_v0 : FVec Ideal S65536x1024 .f32) (ix2 R k) = aX m c (ix3 ⟨R.val / 4096, by omega⟩ ⟨R.val % 4096, by omega⟩ k) := by
  unfold V
  after_reads_at

theorem host1 (k : Fin 1024) (f : Fin 2816) : (V m c main_v3 : FVec Ideal S1024x2816 .bf16) (ix2 k f) = aWg m c (ix2 k f) := by
  unfold V
  after_reads_at

theorem host2 (k : Fin 1024) (f : Fin 2816) : (V m c main_v4 : FVec Ideal S1024x2816 .bf16) (ix2 k f) = aWu m c (ix2 k f) := by
  unfold V
  after_reads_at

theorem host3 (f : Fin 2816) (j : Fin 1024) : (V m c main_v5 : FVec Ideal S2816x1024 .bf16) (ix2 f j) = aWd m c (ix2 f j) := by
  unfold V
  after_reads_at

theorem host4 (j : Fin 1024) : (V m c main_v1 : FVec Ideal S1x1024 .f32) (ix2 0 j) = aG m c (ix1 j) := by
  unfold V
  after_reads_at

theorem host5 (j : Fin 1024) : (V m c main_v2 : FVec Ideal S1x1024 .f32) (ix2 0 j) = aB m c (ix1 j) := by
  unfold V
  after_reads_at

theorem blk0 (t : Fin cfg0.N) (r : Fin 512) (k : Fin 1024) :
    (iblk m c 0 t : FVec Ideal S512x1024 .f32) (ix2 r k) = (V m c main_v0 : FVec Ideal S65536x1024 .f32) (ix2 ⟨512 * min t.val 127 + r.val, by omega⟩ k) := by
  obtain ⟨e0, e1⟩ := idx0 t
  show V m c main_v0 (((cfg0.win 0).blk t).view.emb (ix2 r k)) = _
  refine congrArg (V m c main_v0 : FVec Ideal S65536x1024 .f32) (funext fun a => Fin.ext ?_)
  match a with
  | ⟨0, _⟩ => show win0_0.index t (0 : Fin 2) * 512 + 1 * r.val = 512 * min t.val 127 + r.val; omega
  | ⟨1, _⟩ => show win0_0.index t (1 : Fin 2) * 1024 + 1 * k.val = k.val; omega

theorem blk1 (t : Fin cfg0.N) (k : Fin 1024) (f : Fin 2816) : (iblk m c 1 t : FVec Ideal S1024x2816 .bf16) (ix2 k f) = aWg m c (ix2 k f) := by
  obtain ⟨e0, e1⟩ := idx1 t
  rw [← host1]
  show V m c main_v3 (((cfg0.win 1).blk t).view.emb (ix2 k f)) = _
  refine congrArg (V m c main_v3 : FVec Ideal S1024x2816 .bf16) (funext fun a => Fin.ext ?_)
  match a with
  | ⟨0, _⟩ => show win0_1.index t (0 : Fin 2) * 1024 + 1 * k.val = k.val; omega
  | ⟨1, _⟩ => show win0_1.index t (1 : Fin 2) * 2816 + 1 * f.val = f.val; omega

theorem blk2 (t : Fin cfg0.N) (k : Fin 1024) (f : Fin 2816) : (iblk m c 2 t : FVec Ideal S1024x2816 .bf16) (ix2 k f) = aWu m c (ix2 k f) := by
  obtain ⟨e0, e1⟩ := idx2 t
  rw [← host2]
  show V m c main_v4 (((cfg0.win 2).blk t).view.emb (ix2 k f)) = _
  refine congrArg (V m c main_v4 : FVec Ideal S1024x2816 .bf16) (funext fun a => Fin.ext ?_)
  match a with
  | ⟨0, _⟩ => show win0_2.index t (0 : Fin 2) * 1024 + 1 * k.val = k.val; omega
  | ⟨1, _⟩ => show win0_2.index t (1 : Fin 2) * 2816 + 1 * f.val = f.val; omega

theorem blk3 (t : Fin cfg0.N) (f : Fin 2816) (j : Fin 1024) : (iblk m c 3 t : FVec Ideal S2816x1024 .bf16) (ix2 f j) = aWd m c (ix2 f j) := by
  obtain ⟨e0, e1⟩ := idx3 t
  rw [← host3]
  show V m c main_v5 (((cfg0.win 3).blk t).view.emb (ix2 f j)) = _
  refine congrArg (V m c main_v5 : FVec Ideal S2816x1024 .bf16) (funext fun a => Fin.ext ?_)
  match a with
  | ⟨0, _⟩ => show win0_3.index t (0 : Fin 2) * 2816 + 1 * f.val = f.val; omega
  | ⟨1, _⟩ => show win0_3.index t (1 : Fin 2) * 1024 + 1 * j.val = j.val; omega

theorem blk4 (t : Fin cfg0.N) (j : Fin 1024) : (iblk m c 4 t : FVec Ideal S1x1024 .f32) (ix2 0 j) = aG m c (ix1 j) := by
  obtain ⟨e0, e1⟩ := idx4 t
  rw [← host4]
  show V m c main_v1 (((cfg0.win 4).blk t).view.emb (ix2 0 j)) = _
  refine congrArg (V m c main_v1 : FVec Ideal S1x1024 .f32) (funext fun a => Fin.ext ?_)
  match a with
  | ⟨0, _⟩ => show win0_4.index t (0 : Fin 2) * 1 + 1 * 0 = 0; omega
  | ⟨1, _⟩ => show win0_4.index t (1 : Fin 2) * 1024 + 1 * j.val = j.val; omega

theorem blk5 (t : Fin cfg0.N) (j : Fin 1024) : (iblk m c 5 t : FVec Ideal S1x1024 .f32) (ix2 0 j) = aB m c (ix1 j) := by
  obtain ⟨e0, e1⟩ := idx5 t
  rw [← host5]
  show V m c main_v2 (((cfg0.win 5).blk t).view.emb (ix2 0 j)) = _
  refine congrArg (V m c main_v2 : FVec Ideal S1x1024 .f32) (funext fun a => Fin.ext ?_)
  match a with
  | ⟨0, _⟩ => show win0_5.index t (0 : Fin 2) * 1 + 1 * 0 = 0; omega
  | ⟨1, _⟩ => show win0_5.index t (1 : Fin 2) * 1024 + 1 * j.val = j.val; omega

/-- A token's residual, by a silu. -/
def residRow (silu : EReal → EReal) (R : Fin 65536) : Fin 1024 → EReal :=
  resid silu (fun k => aX m c (ix3 ⟨R.val / 4096, by omega⟩ ⟨R.val % 4096, by omega⟩ k)) (fun k f => aWg m c (ix2 k f)) (fun k f => aWu m c (ix2 k f))
    (fun f j => aWd m c (ix2 f j))

/-- The call's result, by a silu. -/
def whole (silu : EReal → EReal) : FVec Ideal S65536x1024 .f32 := fun i =>
  norm (residRow m c silu (i 0)) (fun j => aG m c (ix1 j)) (fun j => aB m c (ix1 j)) (i 1)

theorem rows_at (x : Vec Ideal S512x1024 .f32) (r : Fin 512) (k : Fin 1024) : rowsOf x (ix2 r k) = x (ix2 r k) := by
  have h : View.ld x (Rect.unit _ S512x1024.size inb_S512x1024_S512x1024_0_0) (ix2 r k : S512x1024.Idx) = x (ix2 r k) := by
    refine View.ld_unit_apply_of _ _ _ _ _ _ fun a => ?_
    match a with
    | ⟨0, _⟩ => exact (Nat.zero_add _).symm
    | ⟨1, _⟩ => exact (Nat.zero_add _).symm
  rw [← h]
  unfold rowsOf
  generalize View.ld x (Rect.unit _ S512x1024.size inb_S512x1024_S512x1024_0_0) = z
  pointwise []

/-- WHAT A POINT LEAVES: its tokens' residuals. -/
theorem left (t : Fin cfg0.N) (r : Fin 512) (j : Fin 1024) :
    ((outsAt0 m c t.val t.isLt).2 : FVec Ideal S512x1024 .f32) (ix2 r j) = residRow m c siluT ⟨512 * min t.val 127 + r.val, by omega⟩ j := by
  obtain ⟨y, e⟩ := step_res m c t
  rw [e, res_at, residOf_at]
  unfold residRow
  refine congrFun (congr (congrArg₃ (resid siluT) (funext fun k => ?_) (funext fun k => funext fun f => ?_) (funext fun k => funext fun f => ?_))
    (funext fun f => funext fun j => ?_)) j
  · exact (rows_at _ r k).trans ((blk0 m c t r k).trans (host0 m c _ k))
  · exact blk1 m c t k f
  · exact blk2 m c t k f
  · exact blk3 m c t f j

/-- WHAT A LATER POINT WRITES: the norms of what the point before left. -/
theorem written (t : Fin cfg0.N) (h0 : t.val ≠ 0) (r : Fin 512) (j : Fin 1024) :
    ((outsAt0 m c t.val t.isLt).1 : FVec Ideal S512x1024 .f32) (ix2 r j)
      = norm (residRow m c siluT ⟨512 * (t.val - 1) + r.val, by have : cfg0.N = 129 := N_0; omega⟩) (fun j => aG m c (ix1 j)) (fun j => aB m c (ix1 j)) j := by
  have hN : cfg0.N = 129 := N_0
  rw [step_out m c t (by omega), out_at]
  refine congrFun (congrArg₃ norm (funext fun k => ?_) (funext fun k => ?_) (funext fun k => ?_)) j
  · refine (left m c ⟨t.val - 1, by omega⟩ r k).trans ?_
    exact congrArg (fun R => residRow m c siluT R k) (Fin.ext (by show 512 * min (t.val - 1) 127 + r.val = 512 * (t.val - 1) + r.val; omega))
  · exact blk4 m c t k
  · exact blk5 m c t k

/-- THE CALL'S RESULT. -/
theorem result : (dats m 0 c).arrAt 6 cfg0.N = whole m c siluT := by
  refine (dats m 0 c).arrAt_eq_of_covers 6 _ (by decide +kernel) fun t hf y => ?_
  blk_simp
  rw [after0_6]
  obtain ⟨e0, e1⟩ := idx6 t
  obtain ⟨r, j, rfl⟩ : ∃ (r : Fin 512) (j : Fin 1024), y = (ix2 r j : S512x1024.Idx) := ⟨y 0, y 1, by funext a; match a with | ⟨0, _⟩ => rfl | ⟨1, _⟩ => rfl⟩
  refine (written m c t (flush6 t hf) r j).trans ?_
  unfold whole
  refine congrArg₂ (fun R j => norm (residRow m c siluT R) (fun j => aG m c (ix1 j)) (fun j => aB m c (ix1 j)) j) (Fin.ext ?_) (Fin.ext ?_)
  · show 512 * (t.val - 1) + r.val = win0_6.index t (0 : Fin 2) * 512 + 1 * r.val; omega
  · show j.val = win0_6.index t (1 : Fin 2) * 1024 + 1 * j.val; omega

end Blocks

end Ffn.First

end
-- ==== Proof.FfnSecond.lean ====
/- What the body of the output projection and the second feed-forward part leaves at a point of the grid, as the units
   of `FfnUnit` say it, and the call's result. -/
module

public import proofs.«01_k».proof.Proof.Gen.Kernel2Ideal.Value
public import proofs.«01_k».proof.Proof.FfnReal
public import Idealize.ShloMosaic.Lib.Pipeline.ValueKit.Geometry
public import Idealize.ShloMosaic.Lib.StableHlo.ReadAt

@[expose] public section

set_option maxRecDepth 100000

noncomputable section

namespace Ffn.Second

open Idealize.ShloMosaic Idealize.ShloMosaic.TcCoe Idealize.SL.Sem
open Cert.Kernel2Ideal Cert.Kernel2Ideal.Gen Ffn.Unit

variable {F : FTy → Type} [FloatOps F]

/-! ### The rows a point starts from -/

/-- A block of rows, read whole. -/
def rowsOf (x : Vec F S512x1024 .f32) : FVec F S512x1024 .f32 :=
  shapeCast S512x1024 (View.ld x (Rect.unit _ S512x1024.size inb_S512x1024_S512x1024_0_0)) shapeCasts_S512x1024_S512x1024

/-- A mixer's rows through their half of the output projection. -/
def half (x : Vec F S512x512 .f32) (w : Vec F S512x1024 .bf16) : FVec F S512x1024 .f32 :=
  matmul dot_S512x512_S512x1024_S512x1024_1_0_0_1_n_n none
    (truncf .bf16 (shapeCast S512x512 (View.ld x (Rect.unit _ S512x512.size inb_S512x512_S512x512_0_0)) shapeCasts_S512x512_S512x512 : FVec F S512x512 .f32) bitsLt_bf16_f32)
    (shapeCast S512x1024 (View.ld w (Rect.unit _ S512x1024.size inb_S512x1024_S512x1024_0_0)) shapeCasts_S512x1024_S512x1024)
    (constant S512x1024 .f32 0x00000000#32)

/-- The residual with the mixers' projection. -/
def mixed (x : Vec F S512x1024 .f32) (a b : Vec F S512x512 .f32) (wa wb : Vec F S512x1024 .bf16) : FVec F S512x1024 .f32 :=
  addf (mulf (spl S512x1024 0x3F9837F0#32) (rowsOf x)) (addf (half a wa) (half b wb))

/-- The means of the rows. -/
def means (x : FVec F S512x1024 .f32) : FVec F S512x1 .f32 :=
  divf (shapeCast S512x1 (multiReduction .add [1] S512 x 0x00000000#32 reduces_S512x1024_S512 (.inl rfl) rfl) shapeCasts_S512_S512x1)
    (spl S512x1 0x44800000#32)

/-- The rows less their means. -/
def cent (x : FVec F S512x1024 .f32) : FVec F S512x1024 .f32 := subf x (broadcastTo S512x1024 (means x) broadcasts_S512x1_S512x1024)

/-- The norm of the rows. -/
def norms (x : FVec F S512x1024 .f32) (g b : Vec F S1x1024 .f32) : FVec F S512x1024 .f32 :=
  addf (mulf (mulf (cent x) (broadcastTo S512x1024 (rsqrt (addf (means (mulf (cent x) (cent x))) (spl S512x1 0x3727C5AC#32)))
      broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The rows a point starts from. -/
def start (x : Vec F S512x1024 .f32) (a b : Vec F S512x512 .f32) (wa wb : Vec F S512x1024 .bf16) (g2 b2 : Vec F S1x1024 .f32) : FVec F S512x1024 .f32 :=
  norms (mixed x a b wa wb) (View.ld g2 (Rect.unit _ S1x1024.size inb_S1x1024_S1x1024_0_0)) (View.ld b2 (Rect.unit _ S1x1024.size inb_S1x1024_S1x1024_0_0))

/-- A point's start, from its blocks and what the point before left. -/
def ofBlocks (x0 : Vec F S512x1024 .f32) (x1 : Vec F S512x512 .f32) (x2 : Vec F S512x512 .f32) (x3 : Vec F S512x1024 .bf16) (x4 : Vec F S512x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32)
    (y : Vec F S512x1024 .f32) : Pt F :=
  ⟨start x0 x1 x2 x3 x4 x5 x6, x7, x8, x9, x10, x11, y⟩

section Words

variable (c : Dev nD) (i : grid0.Coords)
  (arg1 : Memref sig .tc .vmem S512x1024 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x2816 .bf16) (harg8 : arg8.IsWhole)
  (arg9 : Memref sig .tc .vmem S1024x2816 .bf16) (harg9 : arg9.IsWhole)
  (arg10 : Memref sig .tc .vmem S2816x1024 .bf16) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S512x1024 .f32) (harg13 : arg13.IsWhole)
  (arg14 : Memref sig .tc .vmem S512x2816 .bf16) (harg14 : arg14.IsWhole)
  (arg15 : Memref sig .tc .vmem S512x1024 .f32) (harg15 : arg15.IsWhole)
  (x0 : Vec F S512x1024 .f32) (x1 : Vec F S512x512 .f32) (x2 : Vec F S512x512 .f32) (x3 : Vec F S512x1024 .bf16) (x4 : Vec F S512x1024 .bf16) (x5 : Vec F S1x1024 .f32) (x6 : Vec F S1x1024 .f32) (x7 : Vec F S1024x2816 .bf16) (x8 : Vec F S1024x2816 .bf16) (x9 : Vec F S2816x1024 .bf16) (x10 : Vec F S1x1024 .f32) (x11 : Vec F S1x1024 .f32) (xs1 : Vec F S512x1024 .f32)

/-- The point's blocks as the body reads them. -/
def raw (y : Vec F S512x1024 .f32) : Pt F :=
  ofBlocks
    (arg1.view.read (Elt F) (harg1.unread x0))
    (arg2.view.read (Elt F) (harg2.unread x1))
    (arg3.view.read (Elt F) (harg3.unread x2))
    (arg4.view.read (Elt F) (harg4.unread x3))
    (arg5.view.read (Elt F) (harg5.unread x4))
    (arg6.view.read (Elt F) (harg6.unread x5))
    (arg7.view.read (Elt F) (harg7.unread x6))
    (arg8.view.read (Elt F) (harg8.unread x7))
    (arg9.view.read (Elt F) (harg9.unread x8))
    (arg10.view.read (Elt F) (harg10.unread x9))
    (arg11.view.read (Elt F) (harg11.unread x10))
    (arg12.view.read (Elt F) (harg12.unread x11)) y

/-- … are the blocks. -/
theorem raw_eq (y : Vec F S512x1024 .f32) : raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 y = ofBlocks x0 x1 x2 x3 x4 x5 x6 x7 x8 x9 x10 x11 y := by
  unfold raw
  rw [harg1.read_unread, harg2.read_unread, harg3.read_unread, harg4.read_unread, harg5.read_unread, harg6.read_unread, harg7.read_unread, harg8.read_unread, harg9.read_unread, harg10.read_unread, harg11.read_unread, harg12.read_unread]

/-- What the body writes to its output at a later point. -/
theorem out_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1).1
    = outPieces (raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (arg15.view.read (Elt F) (harg15.unread xs1))) := by
  sl_kernel_rfl

/-- What it leaves for the next point there. -/
theorem res_B (hc0 : ¬cond0_0 i) : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 xs1).2.1
    = [resPiece (raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (arg15.view.read (Elt F) (harg15.unread xs1)))
        (Ffn.Unit.hidden (raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (arg15.view.read (Elt F) (harg15.unread xs1))) arg14)] := by
  sl_kernel_rfl

/-- What it leaves for the next point at the first. -/
theorem res_A (hc0 : cond0_0 i) : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11).2.1
    = [resPiece (raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (arg15.view.read (Elt F) (arg15.view.writes (Elt F) arg15.view.junk [zeroPiece])))
        (Ffn.Unit.hidden (raw arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 (arg15.view.read (Elt F) (arg15.view.writes (Elt F) arg15.view.junk [zeroPiece]))) arg14), zeroPiece] := by
  sl_kernel_rfl

end Words

/-! ### A step of the grid -/

section Step

variable (m : (ℓ : Loc nD τ sig) → Buf (Elt F) ℓ) (c : Dev nD)

/-- A point's start, from its blocks and what the point before left. -/
def ptOf (t : Fin cfg0.N) (y : Vec F S512x1024 .f32) : Pt F :=
  ofBlocks (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y

/-- What a point leaves for the next. -/
theorem step_res (t : Fin cfg0.N) : ∃ y, (outsAt0 m c t.val t.isLt).2
    = View.canon (resPiece (ptOf m c t y) (Ffn.Unit.hidden (ptOf m c t y) scM0_0) :: if t.val % 129 = 0 then [zeroPiece] else []) := by
  by_cases h0 : t.val % 129 = 0
  · rw [outsAt0_A m c t h0, if_pos h0]
    dsimp only
    unfold sout0_A_1
    rw [View.read_writes_junk_eq_canon, res_A, raw_eq]
    exact ⟨_, rfl⟩
  · rw [outsAt0_B m c t h0, if_neg h0]
    dsimp only
    unfold sout0_B_1
    rw [View.read_writes_junk_eq_canon, res_B, raw_eq]
    exact ⟨_, rfl⟩

/-- What a later point writes. -/
theorem step_out (t : Fin cfg0.N) (h0 : ¬t.val % 129 = 0) : (outsAt0 m c t.val t.isLt).1
    = View.canon (outPieces (ptOf m c t (outsAt0 m c (t.val - 1) (Nat.lt_of_le_of_lt (Nat.sub_le _ _) t.isLt)).2)) := by
  rw [outsAt0_B m c t h0]
  dsimp only
  unfold out0_B_12
  rw [View.read_writes_junk_eq_canon, out_B, raw_eq, (Memref.isWhole_whole _).read_unread]
  rfl

end Step

/-! ### The rows read at an entry -/

section Read

variable (r : Fin 512) (j : Fin 1024)

theorem rows_at (x : Vec Ideal S512x1024 .f32) : rowsOf x (ix2 r j) = x (ix2 r j) := by
  have h : View.ld x (Rect.unit _ S512x1024.size inb_S512x1024_S512x1024_0_0) (ix2 r j : S512x1024.Idx) = x (ix2 r j) := by
    refine View.ld_unit_apply_of _ _ _ _ _ _ fun a => ?_
    match a with
    | ⟨0, _⟩ => exact (Nat.zero_add _).symm
    | ⟨1, _⟩ => exact (Nat.zero_add _).symm
  rw [← h]
  unfold rowsOf
  generalize View.ld x (Rect.unit _ S512x1024.size inb_S512x1024_S512x1024_0_0) = z
  pointwise []

theorem ld_mix (x : Vec Ideal S512x512 .f32) (k : Fin 512) :
    View.ld x (Rect.unit _ S512x512.size inb_S512x512_S512x512_0_0) (ix2 r k : S512x512.Idx) = x (ix2 r k) := by
  refine View.ld_unit_apply_of _ _ _ _ _ _ fun a => ?_
  match a with
  | ⟨0, _⟩ => exact (Nat.zero_add _).symm
  | ⟨1, _⟩ => exact (Nat.zero_add _).symm

theorem ld_proj (w : Vec Ideal S512x1024 .bf16) (k : Fin 512) :
    View.ld w (Rect.unit _ S512x1024.size inb_S512x1024_S512x1024_0_0) (ix2 k j : S512x1024.Idx) = w (ix2 k j) := by
  refine View.ld_unit_apply_of _ _ _ _ _ _ fun a => ?_
  match a with
  | ⟨0, _⟩ => exact (Nat.zero_add _).symm
  | ⟨1, _⟩ => exact (Nat.zero_add _).symm

theorem half_at (x : Vec Ideal S512x512 .f32) (w : Vec Ideal S512x1024 .bf16) :
    half x w (ix2 r j) = ∑ k : Fin 512, (x : FVec Ideal S512x512 .f32) (ix2 r k) * (w : FVec Ideal S512x1024 .bf16) (ix2 k j) := by
  have e : half x w (ix2 r j) = ∑ k : Fin 512,
      (View.ld x (Rect.unit _ S512x512.size inb_S512x512_S512x512_0_0) : FVec Ideal S512x512 .f32) (ix2 r k)
        * (View.ld w (Rect.unit _ S512x1024.size inb_S512x1024_S512x1024_0_0) : FVec Ideal S512x1024 .bf16) (ix2 k j) := by
    unfold half
    generalize (View.ld x (Rect.unit _ S512x512.size inb_S512x512_S512x512_0_0) : FVec Ideal S512x512 .f32) = p
    generalize (View.ld w (Rect.unit _ S512x1024.size inb_S512x1024_S512x1024_0_0) : FVec Ideal S512x1024 .bf16) = q
    pointwise []
  rw [e]
  exact Finset.sum_congr rfl fun k _ => congrArg₂ (· * ·) (ld_mix r x k) (ld_proj j w k)

theorem mixed_at (x : Vec Ideal S512x1024 .f32) (a b : Vec Ideal S512x512 .f32) (wa wb : Vec Ideal S512x1024 .bf16) :
    mixed x a b wa wb (ix2 r j) = scale * (x : FVec Ideal S512x1024 .f32) (ix2 r j)
      + (∑ k : Fin 512, (a : FVec Ideal S512x512 .f32) (ix2 r k) * (wa : FVec Ideal S512x1024 .bf16) (ix2 k j)
        + ∑ k : Fin 512, (b : FVec Ideal S512x512 .f32) (ix2 r k) * (wb : FVec Ideal S512x1024 .bf16) (ix2 k j)) := by
  rw [← half_at, ← half_at, ← rows_at r j x]
  unfold mixed
  generalize rowsOf x = p
  generalize half a wa = q
  generalize half b wb = s
  pointwise []

theorem means_at (x : FVec Ideal S512x1024 .f32) : means x (ix2 r 0) = mean fun k => x (ix2 r k) := by
  pointwise [means]
  rfl

theorem cent_at (x : FVec Ideal S512x1024 .f32) : cent x (ix2 r j) = x (ix2 r j) - mean fun k => x (ix2 r k) := by
  rw [← means_at]
  unfold cent
  generalize means x = y
  pointwise []

theorem norms_at (x : FVec Ideal S512x1024 .f32) (g b : FVec Ideal S1x1024 .f32) :
    norms (F := Ideal) x g b (ix2 r j) = norm (fun k => x (ix2 r k)) (fun k => g (ix2 0 k)) (fun k => b (ix2 0 k)) j := by
  have e : (fun k => mulf (cent x) (cent x) (ix2 r k)) = fun k => (x (ix2 r k) - mean fun k => x (ix2 r k)) * (x (ix2 r k) - mean fun k => x (ix2 r k)) := by
    funext k
    rw [← cent_at]
    rfl
  have h := means_at r (mulf (cent x) (cent x))
  rw [e] at h
  unfold norm
  rw [← h, ← cent_at]
  unfold norms
  generalize means (mulf (cent x) (cent x)) = y
  generalize cent x = z
  pointwise []

end Read

/-! ### The blocks at the arguments -/

section Blocks

variable (m : (ℓ : Loc nD τ sig) → Buf (Elt Ideal) ℓ) (c : Dev nD)

abbrev aX : FVec Ideal S16x4096x1024 .f32 := m (c, Proc.tc.devRef main_arg0)
abbrev aOg : FVec Ideal S16x4096x512 .f32 := m (c, Proc.tc.devRef main_arg1)
abbrev aOn : FVec Ideal S16x4096x512 .f32 := m (c, Proc.tc.devRef main_arg2)
abbrev aWo : FVec Ideal S1024x1024 .f32 := m (c, Proc.tc.devRef main_arg3)
abbrev aG2 : FVec Ideal S1024 .f32 := m (c, Proc.tc.devRef main_arg4)
abbrev aB2 : FVec Ideal S1024 .f32 := m (c, Proc.tc.devRef main_arg5)
abbrev aWg : FVec Ideal S1024x2816 .f32 := m (c, Proc.tc.devRef main_arg6)
abbrev aWu : FVec Ideal S1024x2816 .f32 := m (c, Proc.tc.devRef main_arg7)
abbrev aWd : FVec Ideal S2816x1024 .f32 := m (c, Proc.tc.devRef main_arg8)
abbrev aG3 : FVec Ideal S1024 .f32 := m (c, Proc.tc.devRef main_arg9)
abbrev aB3 : FVec Ideal S1024 .f32 := m (c, Proc.tc.devRef main_arg10)

theorem idx0 : ∀ t : Fin cfg0.N, win0_0.index t (0 : Fin 2) = min t.val 127 ∧ win0_0.index t (1 : Fin 2) = 0 := (by decide +kernel : ∀ t : Fin grid0.N, _)
theorem idx1 : ∀ t : Fin cfg0.N, win0_1.index t (0 : Fin 2) = min t.val 127 ∧ win0_1.index t (1 : Fin 2) = 0 := (by decide +kernel : ∀ t : Fin grid0.N, _)
theorem idx2 : ∀ t : Fin cfg0.N, win0_2.index t (0 : Fin 2) = min t.val 127 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)
theorem idx12 : ∀ t : Fin cfg0.N, win0_12.index t (0 : Fin 2) = t.val - 1 ∧ win0_12.index t (1 : Fin 2) = 0 := (by decide +kernel : ∀ t : Fin grid0.N, _)
theorem flush12 : ∀ t : Fin cfg0.N, win0_12.flush t = true → t.val ≠ 0 := (by decide +kernel : ∀ t : Fin grid0.N, _)

theorem host0 (R : Fin 65536) (q : Fin 1024) :
    (V m c main_v1 : FVec Ideal S65536x1024 .f32) (ix2 R q) = aX m c (ix3 ⟨R.val / 4096, by omega⟩ ⟨R.val % 4096, by omega⟩ q) := by
  unfold V
  after_reads_at

theorem blk0 (t : Fin cfg0.N) (r : Fin 512) (q : Fin 1024) :
    (iblk m c 0 t : FVec Ideal S512x1024 .f32) (ix2 r q) = aX m c (ix3 ⟨(512 * min t.val 127 + r.val) / 4096, by omega⟩ ⟨(512 * min t.val 127 + r.val) % 4096, by omega⟩ q) := by
  obtain ⟨e0, e1⟩ := idx0 t
  refine Eq.trans ?_ (host0 m c ⟨512 * min t.val 127 + r.val, by omega⟩ q)
  show V m c main_v1 (((cfg0.win 0).blk t).view.emb (ix2 r q)) = _
  refine congrArg (V m c main_v1 : FVec Ideal S65536x1024 .f32) (funext fun a => Fin.ext ?_)
  match a with
  | ⟨0, _⟩ => show win0_0.index t (0 : Fin 2) * 512 + 1 * r.val = 512 * min t.val 127 + r.val; omega
  | ⟨1, _⟩ => show win0_0.index t (1 : Fin 2) * 1024 + 1 * q.val = q.val; omega

theorem host1 (R : Fin 65536) (q : Fin 512) :
    (V m c main_v2 : FVec Ideal S65536x512 .f32) (ix2 R q) = aOg m c (ix3 ⟨R.val / 4096, by omega⟩ ⟨R.val % 4096, by omega⟩ q) := by
  unfold V
  after_reads_at

theorem blk1 (t : Fin cfg0.N) (r : Fin 512) (q : Fin 512) :
    (iblk m c 1 t : FVec Ideal S512x512 .f32) (ix2 r q) = aOg m c (ix3 ⟨(512 * min t.val 127 + r.val) / 4096, by omega⟩ ⟨(512 * min t.val 127 + r.val) % 4096, by omega⟩ q) := by
  obtain ⟨e0, e1⟩ := idx1 t
  refine Eq.trans ?_ (host1 m c ⟨512 * min t.val 127 + r.val, by omega⟩ q)
  show V m c main_v2 (((cfg0.win 1).blk t).view.emb (ix2 r q)) = _
  refine congrArg (V m c main_v2 : FVec Ideal S65536x512 .f32) (funext fun a => Fin.ext ?_)
  match a with
  | ⟨0, _⟩ => show win0_1.index t (0 : Fin 2) * 512 + 1 * r.val = 512 * min t.val 127 + r.val; omega
  | ⟨1, _⟩ => show win0_1.index t (1 : Fin 2) * 512 + 1 * q.val = q.val; omega

theorem host2 (R : Fin 65536) (q : Fin 512) :
    (V m c main_v3 : FVec Ideal S65536x512 .f32) (ix2 R q) = aOn m c (ix3 ⟨R.val / 4096, by omega⟩ ⟨R.val % 4096, by omega⟩ q) := by
  unfold V
  after_reads_at

theorem blk2 (t : Fin cfg0.N) (r : Fin 512) (q : Fin 512) :
    (iblk m c 2 t : FVec Ideal S512x512 .f32) (ix2 r q) = aOn m c (ix3 ⟨(512 * min t.val 127 + r.val) / 4096, by omega⟩ ⟨(512 * min t.val 127 + r.val) % 4096, by omega⟩ q) := by
  obtain ⟨e0, e1⟩ := idx2 t
  refine Eq.trans ?_ (host2 m c ⟨512 * min t.val 127 + r.val, by omega⟩ q)
  show V m c main_v3 (((cfg0.win 2).blk t).view.emb (ix2 r q)) = _
  refine congrArg (V m c main_v3 : FVec Ideal S65536x512 .f32) (funext fun a => Fin.ext ?_)
  match a with
  | ⟨0, _⟩ => show win0_2.index t (0 : Fin 2) * 512 + 1 * r.val = 512 * min t.val 127 + r.val; omega
  | ⟨1, _⟩ => show win0_2.index t (1 : Fin 2) * 512 + 1 * q.val = q.val; omega

theorem host3 (p : Fin 512) (q : Fin 1024) : (V m c main_v4 : FVec Ideal S512x1024 .bf16) (ix2 p q) = aWo m c (ix2 ⟨p.val, by omega⟩ q) := by
  unfold V
  after_reads_at

theorem blk3 (t : Fin cfg0.N) (p : Fin 512) (q : Fin 1024) : (iblk m c 3 t : FVec Ideal S512x1024 .bf16) (ix2 p q) = aWo m c (ix2 ⟨p.val, by omega⟩ q) := by
  obtain ⟨e0, e1⟩ := idx3 t
  refine Eq.trans ?_ (host3 m c p q)
  show V m c main_v4 (((cfg0.win 3).blk t).view.emb (ix2 p q)) = _
  refine congrArg (V m c main_v4 : FVec Ideal S512x1024 .bf16) (funext fun a => Fin.ext ?_)
  match a with
  | ⟨0, _⟩ => show win0_3.index t (0 : Fin 2) * 512 + 1 * p.val = p.val; omega
  | ⟨1, _⟩ => show win0_3.index t (1 : Fin 2) * 1024 + 1 * q.val = q.val; omega

theorem host4 (p : Fin 512) (q : Fin 1024) : (V m c main_v5 : FVec Ideal S512x1024 .bf16) (ix2 p q) = aWo m c (ix2 ⟨512 + p.val, by omega⟩ q) := by
  unfold V
  after_reads_at

theorem blk4 (t : Fin cfg0.N) (p : Fin 512) (q : Fin 1024) : (iblk m c 4 t : FVec Ideal S512x1024 .bf16) (ix2 p q) = aWo m c (ix2 ⟨512 + p.val, by omega⟩ q) := by
  obtain ⟨e0, e1⟩ := idx4 t
  refine Eq.trans ?_ (host4 m c p q)
  show V m c main_v5 (((cfg0.win 4).blk t).view.emb (ix2 p q)) = _
  refine congrArg (V m c main_v5 : FVec Ideal S512x1024 .bf16) (funext fun a => Fin.ext ?_)
  match a with
  | ⟨0, _⟩ => show win0_4.index t (0 : Fin 2) * 512 + 1 * p.val = p.val; omega
  | ⟨1, _⟩ => show win0_4.index t (1 : Fin 2) * 1024 + 1 * q.val = q.val; omega

theorem host5 (q : Fin 1024) : (V m c main_v6 : FVec Ideal S1x1024 .f32) (ix2 0 q) = aG2 m c (ix1 q) := by
  unfold V
  after_reads_at

theorem blk5 (t : Fin cfg0.N) (q : Fin 1024) : (iblk m c 5 t : FVec Ideal S1x1024 .f32) (ix2 0 q) = aG2 m c (ix1 q) := by
  obtain ⟨e0, e1⟩ := idx5 t
  refine Eq.trans ?_ (host5 m c q)
  show V m c main_v6 (((cfg0.win 5).blk t).view.emb (ix2 0 q)) = _
  refine congrArg (V m c main_v6 : FVec Ideal S1x1024 .f32) (funext fun a => Fin.ext ?_)
  match a with
  | ⟨0, _⟩ => show win0_5.index t (0 : Fin 2) * 1 + 1 * 0 = 0; omega
  | ⟨1, _⟩ => show win0_5.index t (1 : Fin 2) * 1024 + 1 * q.val = q.val; omega

theorem host6 (q : Fin 1024) : (V m c main_v7 : FVec Ideal S1x1024 .f32) (ix2 0 q) = aB2 m c (ix1 q) := by
  unfold V
  after_reads_at

theorem blk6 (t : Fin cfg0.N) (q : Fin 1024) : (iblk m c 6 t : FVec Ideal S1x1024 .f32) (ix2 0 q) = aB2 m c (ix1 q) := by
  obtain ⟨e0, e1⟩ := idx6 t
  refine Eq.trans ?_ (host6 m c q)
  show V m c main_v7 (((cfg0.win 6).blk t).view.emb (ix2 0 q)) = _
  refine congrArg (V m c main_v7 : FVec Ideal S1x1024 .f32) (funext fun a => Fin.ext ?_)
  match a with
  | ⟨0, _⟩ => show win0_6.index t (0 : Fin 2) * 1 + 1 * 0 = 0; omega
  | ⟨1, _⟩ => show win0_6.index t (1 : Fin 2) * 1024 + 1 * q.val = q.val; omega

theorem host7 (p : Fin 1024) (q : Fin 2816) : (V m c main_v10 : FVec Ideal S1024x2816 .bf16) (ix2 p q) = aWg m c (ix2 p q) := by
  unfold V
  after_reads_at

theorem blk7 (t : Fin cfg0.N) (p : Fin 1024) (q : Fin 2816) : (iblk m c 7 t : FVec Ideal S1024x2816 .bf16) (ix2 p q) = aWg m c (ix2 p q) := by
  obtain ⟨e0, e1⟩ := idx7 t
  refine Eq.trans ?_ (host7 m c p q)
  show V m c main_v10 (((cfg0.win 7).blk t).view.emb (ix2 p q)) = _
  refine congrArg (V m c main_v10 : FVec Ideal S1024x2816 .bf16) (funext fun a => Fin.ext ?_)
  match a with
  | ⟨0, _⟩ => show win0_7.index t (0 : Fin 2) * 1024 + 1 * p.val = p.val; omega
  | ⟨1, _⟩ => show win0_7.index t (1 : Fin 2) * 2816 + 1 * q.val = q.val; omega

theorem host8 (p : Fin 1024) (q : Fin 2816) : (V m c main_v11 : FVec Ideal S1024x2816 .bf16) (ix2 p q) = aWu m c (ix2 p q) := by
  unfold V
  after_reads_at

theorem blk8 (t : Fin cfg0.N) (p : Fin 1024) (q : Fin 2816) : (iblk m c 8 t : FVec Ideal S1024x2816 .bf16) (ix2 p q) = aWu m c (ix2 p q) := by
  obtain ⟨e0, e1⟩ := idx8 t
  refine Eq.trans ?_ (host8 m c p q)
  show V m c main_v11 (((cfg0.win 8).blk t).view.emb (ix2 p q)) = _
  refine congrArg (V m c main_v11 : FVec Ideal S1024x2816 .bf16) (funext fun a => Fin.ext ?_)
  match a with
  | ⟨0, _⟩ => show win0_8.index t (0 : Fin 2) * 1024 + 1 * p.val = p.val; omega
  | ⟨1, _⟩ => show win0_8.index t (1 : Fin 2) * 2816 + 1 * q.val = q.val; omega

theorem host9 (p : Fin 2816) (q : Fin 1024) : (V m c main_v12 : FVec Ideal S2816x1024 .bf16) (ix2 p q) = aWd m c (ix2 p q) := by
  unfold V
  after_reads_at

theorem blk9 (t : Fin cfg0.N) (p : Fin 2816) (q : Fin 1024) : (iblk m c 9 t : FVec Ideal S2816x1024 .bf16) (ix2 p q) = aWd m c (ix2 p q) := by
  obtain ⟨e0, e1⟩ := idx9 t
  refine Eq.trans ?_ (host9 m c p q)
  show V m c main_v12 (((cfg0.win 9).blk t).view.emb (ix2 p q)) = _
  refine congrArg (V m c main_v12 : FVec Ideal S2816x1024 .bf16) (funext fun a => Fin.ext ?_)
  match a with
  | ⟨0, _⟩ => show win0_9.index t (0 : Fin 2) * 2816 + 1 * p.val = p.val; omega
  | ⟨1, _⟩ => show win0_9.index t (1 : Fin 2) * 1024 + 1 * q.val = q.val; omega

theorem host10 (q : Fin 1024) : (V m c main_v8 : FVec Ideal S1x1024 .f32) (ix2 0 q) = aG3 m c (ix1 q) := by
  unfold V
  after_reads_at

theorem blk10 (t : Fin cfg0.N) (q : Fin 1024) : (iblk m c 10 t : FVec Ideal S1x1024 .f32) (ix2 0 q) = aG3 m c (ix1 q) := by
  obtain ⟨e0, e1⟩ := idx10 t
  refine Eq.trans ?_ (host10 m c q)
  show V m c main_v8 (((cfg0.win 10).blk t).view.emb (ix2 0 q)) = _
  refine congrArg (V m c main_v8 : FVec Ideal S1x1024 .f32) (funext fun a => Fin.ext ?_)
  match a with
  | ⟨0, _⟩ => show win0_10.index t (0 : Fin 2) * 1 + 1 * 0 = 0; omega
  | ⟨1, _⟩ => show win0_10.index t (1 : Fin 2) * 1024 + 1 * q.val = q.val; omega

theorem host11 (q : Fin 1024) : (V m c main_v9 : FVec Ideal S1x1024 .f32) (ix2 0 q) = aB3 m c (ix1 q) := by
  unfold V
  after_reads_at

theorem blk11 (t : Fin cfg0.N) (q : Fin 1024) : (iblk m c 11 t : FVec Ideal S1x1024 .f32) (ix2 0 q) = aB3 m c (ix1 q) := by
  obtain ⟨e0, e1⟩ := idx11 t
  refine Eq.trans ?_ (host11 m c q)
  show V m c main_v9 (((cfg0.win 11).blk t).view.emb (ix2 0 q)) = _
  refine congrArg (V m c main_v9 : FVec Ideal S1x1024 .f32) (funext fun a => Fin.ext ?_)
  match a with
  | ⟨0, _⟩ => show win0_11.index t (0 : Fin 2) * 1 + 1 * 0 = 0; omega
  | ⟨1, _⟩ => show win0_11.index t (1 : Fin 2) * 1024 + 1 * q.val = q.val; omega

/-- A token's row after the mixers: the second norm. -/
def midRow (R : Fin 65536) : Fin 1024 → EReal :=
  norm (fun j => scale * aX m c (ix3 ⟨R.val / 4096, by omega⟩ ⟨R.val % 4096, by omega⟩ j)
      + (∑ k : Fin 512, aOg m c (ix3 ⟨R.val / 4096, by omega⟩ ⟨R.val % 4096, by omega⟩ k) * aWo m c (ix2 ⟨k.val, by omega⟩ j)
        + ∑ k : Fin 512, aOn m c (ix3 ⟨R.val / 4096, by omega⟩ ⟨R.val % 4096, by omega⟩ k) * aWo m c (ix2 ⟨512 + k.val, by omega⟩ j)))
    (fun j => aG2 m c (ix1 j)) (fun j => aB2 m c (ix1 j))

/-- A token's residual, by a silu. -/
def residRow (silu : EReal → EReal) (R : Fin 65536) : Fin 1024 → EReal :=
  resid silu (midRow m c R) (fun k f => aWg m c (ix2 k f)) (fun k f => aWu m c (ix2 k f)) (fun f j => aWd m c (ix2 f j))

/-- The call's result, by a silu. -/
def whole (silu : EReal → EReal) : FVec Ideal S65536x1024 .f32 := fun i =>
  norm (residRow m c silu (i 0)) (fun j => aG3 m c (ix1 j)) (fun j => aB3 m c (ix1 j)) (i 1)

/-- The rows a point starts from are its tokens'. -/
theorem start_at (t : Fin cfg0.N) (y : Vec Ideal S512x1024 .f32) (r : Fin 512) (j : Fin 1024) :
    (ptOf m c t y).u (ix2 r j) = midRow m c ⟨512 * min t.val 127 + r.val, by omega⟩ j := by
  show start (F := Ideal) (iblk m c 0 t) (iblk m c 1 t) (iblk m c 2 t) (iblk m c 3 t) (iblk m c 4 t) (iblk m c 5 t) (iblk m c 6 t) (ix2 r j) = _
  unfold start
  refine (norms_at r j _ _ _).trans ?_
  unfold midRow
  refine congrFun (congrArg₃ norm (funext fun k => ?_) (funext fun k => ?_) (funext fun k => ?_)) j
  · refine (mixed_at r k _ _ _ _ _).trans ?_
    refine congrArg₂ (· + ·) (congrArg (scale * ·) (blk0 m c t r k)) (congrArg₂ (· + ·) ?_ ?_)
    · exact Finset.sum_congr rfl fun q _ => congrArg₂ (· * ·) (blk1 m c t r q) (blk3 m c t q k)
    · exact Finset.sum_congr rfl fun q _ => congrArg₂ (· * ·) (blk2 m c t r q) (blk4 m c t q k)
  · exact (ld_row _ k).trans (blk5 m c t k)
  · exact (ld_row _ k).trans (blk6 m c t k)

/-- WHAT A POINT LEAVES: its tokens' residuals. -/
theorem left (t : Fin cfg0.N) (r : Fin 512) (j : Fin 1024) :
    ((outsAt0 m c t.val t.isLt).2 : FVec Ideal S512x1024 .f32) (ix2 r j) = residRow m c siluT ⟨512 * min t.val 127 + r.val, by omega⟩ j := by
  obtain ⟨y, e⟩ := step_res m c t
  rw [e, res_at, residOf_at]
  unfold residRow
  refine congrFun (congr (congrArg₃ (resid siluT) (funext fun k => ?_) (funext fun k => funext fun f => ?_) (funext fun k => funext fun f => ?_))
    (funext fun f => funext fun j => ?_)) j
  · exact start_at m c t y r k
  · exact blk7 m c t k f
  · exact blk8 m c t k f
  · exact blk9 m c t f j

/-- WHAT A LATER POINT WRITES: the norms of what the point before left. -/
theorem written (t : Fin cfg0.N) (h0 : t.val ≠ 0) (r : Fin 512) (j : Fin 1024) :
    ((outsAt0 m c t.val t.isLt).1 : FVec Ideal S512x1024 .f32) (ix2 r j)
      = norm (residRow m c siluT ⟨512 * (t.val - 1) + r.val, by have : cfg0.N = 129 := N_0; omega⟩) (fun j => aG3 m c (ix1 j)) (fun j => aB3 m c (ix1 j)) j := by
  have hN : cfg0.N = 129 := N_0
  rw [step_out m c t (by omega), out_at]
  refine congrFun (congrArg₃ norm (funext fun k => ?_) (funext fun k => ?_) (funext fun k => ?_)) j
  · refine (left m c ⟨t.val - 1, by omega⟩ r k).trans ?_
    exact congrArg (fun R => residRow m c siluT R k) (Fin.ext (by show 512 * min (t.val - 1) 127 + r.val = 512 * (t.val - 1) + r.val; omega))
  · exact blk10 m c t k
  · exact blk11 m c t k

/-- THE CALL'S RESULT. -/
theorem result : (dats m 0 c).arrAt 12 cfg0.N = whole m c siluT := by
  refine (dats m 0 c).arrAt_eq_of_covers 12 _ (by decide +kernel) fun t hf y => ?_
  blk_simp
  rw [after0_12]
  obtain ⟨e0, e1⟩ := idx12 t
  obtain ⟨r, j, rfl⟩ : ∃ (r : Fin 512) (j : Fin 1024), y = (ix2 r j : S512x1024.Idx) := ⟨y 0, y 1, by funext a; match a with | ⟨0, _⟩ => rfl | ⟨1, _⟩ => rfl⟩
  refine (written m c t (flush12 t hf) r j).trans ?_
  unfold whole
  refine congrArg₂ (fun R j => norm (residRow m c siluT R) (fun j => aG3 m c (ix1 j)) (fun j => aB3 m c (ix1 j)) j) (Fin.ext ?_) (Fin.ext ?_)
  · show 512 * (t.val - 1) + r.val = win0_12.index t (0 : Fin 2) * 512 + 1 * r.val; omega
  · show j.val = win0_12.index t (1 : Fin 2) * 1024 + 1 * j.val; omega

end Blocks

end Ffn.Second

end
-- ==== Proof.FfnRef.lean ====
/- The reference's feed-forward part and norm, read at a token: `Ffn.norm` of `Ffn.resid`. -/
module

public import proofs.«01_k».proof.Proof.Gen.Reference3Ideal.Run
public import proofs.«01_k».proof.Proof.FfnMath
public import Idealize.ShloMosaic.Lib.Pointwise
public import Idealize.ShloMosaic.Lib.IdealHost

@[expose] public section

noncomputable section

namespace Ffn.Ref

open Idealize.ShloMosaic Idealize.ShloMosaic.TcCoe Cert.Reference3Ideal Cert.Reference3Ideal.Gen

variable {F : FTy → Type} [FloatOps F]

/-- A scalar over the tokens' rows. -/
abbrev spl (b : BitVec 32) : FVec F S16x4096x1024 .f32 := broadcastInDim S16x4096x1024 ![] bcast_S_S16x4096x1024 (constant S_ .f32 b)

/-- One of each token over its row. -/
abbrev rows (x : FVec F S16x4096x1 .f32) : FVec F S16x4096x1024 .f32 := broadcastInDim S16x4096x1024 ![0, 1, 2] bcast_S16x4096x1_S16x4096x1024_0_1_2 x

/-- A row over the tokens. -/
abbrev cols (g : FVec F S1024 .f32) : FVec F S16x4096x1024 .f32 :=
  broadcastInDim S16x4096x1024 ![0, 1, 2] bcast_S1x1x1024_S16x4096x1024_0_1_2 (broadcastInDim S1x1x1024 ![2] bcast_S1024_S1x1x1024_2 g)

/-- The means of the tokens' rows. -/
def hmean (x : FVec F S16x4096x1024 .f32) : FVec F S16x4096x1 .f32 :=
  Host.divf (broadcastInDim S16x4096x1 ![0, 1] bcast_S16x4096_S16x4096x1_0_1
    (Host.reduceAdd x (constant S_ .f32 0x00000000#32) reducesTo_S16x4096x1024_S16x4096_d2 h_S_))
    (broadcastInDim S16x4096x1 ![] bcast_S_S16x4096x1 (constant S_ .f32 0x44800000#32))

/-- The tokens' rows less their means. -/
def hcent (x : FVec F S16x4096x1024 .f32) : FVec F S16x4096x1024 .f32 := subf x (rows (hmean x))

/-- The norm of the tokens' rows. -/
def hnorm (x : FVec F S16x4096x1024 .f32) (g b : FVec F S1024 .f32) : FVec F S16x4096x1024 .f32 :=
  addf (mulf (mulf (hcent x) (rows (Host.rsqrt (addf (hmean (mulf (hcent x) (hcent x)))
    (broadcastInDim S16x4096x1 ![] bcast_S_S16x4096x1 (constant S_ .f32 0x3727C5AC#32)))))) (cols g)) (cols b)

/-- The silu. -/
def hsilu (z : FVec F S16x4096x2816 .f32) : FVec F S16x4096x2816 .f32 :=
  mulf z (Host.divf (broadcastInDim S16x4096x2816 ![] bcast_S_S16x4096x2816 (constant S_ .f32 0x3F800000#32))
    (addf (broadcastInDim S16x4096x2816 ![] bcast_S_S16x4096x2816 (constant S_ .f32 0x3F800000#32)) (Host.exp (Host.negf z))))

/-- A product with weights into the hidden units. -/
def hdot (x : FVec F S16x4096x1024 .f32) (w : FVec F S1024x2816 .f32) : FVec F S16x4096x2816 .f32 :=
  Host.dotGeneral dot_S16x4096x1024_S1024x2816_S16x4096x2816_2_0_01_1_n_n none x w

/-- The residual with half of the feed-forward part. -/
def hresid (x : FVec F S16x4096x1024 .f32) (wg wu : FVec F S1024x2816 .f32) (wd : FVec F S2816x1024 .f32) : FVec F S16x4096x1024 .f32 :=
  addf (mulf (spl 0x3F9837F0#32) x) (mulf (spl 0x3F000000#32)
    (Host.dotGeneral dot_S16x4096x2816_S2816x1024_S16x4096x1024_2_0_01_1_n_n none (mulf (hsilu (hdot x wg)) (hdot x wu)) wd))

section Read

variable (x : FVec Ideal S16x4096x1024 .f32) (s : Fin 16) (n : Fin 4096)

theorem hmean_at : hmean x (ix3 s n 0) = mean fun k => x (ix3 s n k) := by
  pointwise [hmean]
  rfl

theorem hcent_at (j : Fin 1024) : hcent x (ix3 s n j) = x (ix3 s n j) - mean fun k => x (ix3 s n k) := by
  rw [← hmean_at]
  unfold hcent
  generalize hmean x = y
  pointwise []

theorem hnorm_at (g b : FVec Ideal S1024 .f32) (j : Fin 1024) :
    hnorm x g b (ix3 s n j) = norm (fun k => x (ix3 s n k)) (fun k => g (ix1 k)) (fun k => b (ix1 k)) j := by
  have e : (fun k => mulf (hcent x) (hcent x) (ix3 s n k)) = fun k => (x (ix3 s n k) - mean fun k => x (ix3 s n k)) * (x (ix3 s n k) - mean fun k => x (ix3 s n k)) := by
    funext k
    rw [← hcent_at]
    rfl
  have h := hmean_at (mulf (hcent x) (hcent x)) s n
  rw [e] at h
  unfold norm
  rw [← h, ← hcent_at]
  unfold hnorm
  generalize hmean (mulf (hcent x) (hcent x)) = y
  generalize hcent x = z
  pointwise []

theorem hsilu_at (z : FVec Ideal S16x4096x2816 .f32) (f : Fin 2816) : hsilu z (ix3 s n f) = siluE (z (ix3 s n f)) := by
  pointwise [hsilu]
  unfold siluE
  rw [one_eq, EReal.coe_one]

theorem hdot_at (w : FVec Ideal S1024x2816 .f32) (f : Fin 2816) : hdot x w (ix3 s n f) = ∑ k : Fin 1024, x (ix3 s n k) * w (ix2 k f) := by
  pointwise [hdot]

theorem hresid_at (wg wu : FVec Ideal S1024x2816 .f32) (wd : FVec Ideal S2816x1024 .f32) (j : Fin 1024) :
    hresid x wg wu wd (ix3 s n j) = resid siluE (fun k => x (ix3 s n k)) (fun k f => wg (ix2 k f)) (fun k f => wu (ix2 k f)) (fun f j => wd (ix2 f j)) j := by
  have hh : ∀ f : Fin 2816, Ffn.hidden siluE (fun k => x (ix3 s n k)) (fun k f => wg (ix2 k f)) (fun k f => wu (ix2 k f)) f
      = hsilu (hdot x wg) (ix3 s n f) * hdot x wu (ix3 s n f) := by
    intro f
    rw [hsilu_at, hdot_at, hdot_at]
    rfl
  unfold resid
  simp only [hh]
  unfold hresid
  generalize hsilu (hdot x wg) = p
  generalize hdot x wu = q
  pointwise []

/-- THE REFERENCE'S PART: the norm of the residual. -/
theorem part_at (wg wu : FVec Ideal S1024x2816 .f32) (wd : FVec Ideal S2816x1024 .f32) (g b : FVec Ideal S1024 .f32) (j : Fin 1024) :
    hnorm (hresid x wg wu wd) g b (ix3 s n j)
      = norm (resid siluE (fun k => x (ix3 s n k)) (fun k f => wg (ix2 k f)) (fun k f => wu (ix2 k f)) (fun f j => wd (ix2 f j)))
        (fun k => g (ix1 k)) (fun k => b (ix1 k)) j := by
  rw [hnorm_at]
  simp only [hresid_at]

theorem flat_at (y : FVec Ideal S16x4096x1024 .f32) (R : Fin 65536) (j : Fin 1024) :
    shapeCast S65536x1024 y shapeCasts_S16x4096x1024_S65536x1024 (ix2 R j) = y (ix3 ⟨R.val / 4096, by omega⟩ ⟨R.val % 4096, by omega⟩ j) := by
  pointwise []

end Read

/-- The run's result is that part's. -/
theorem res_eq (m : (ℓ : Loc nD τ sig) → Buf (Elt F) ℓ) (c : Dev nD) :
    (Value.res_main_v34 m c : FVec F S65536x1024 .f32) = shapeCast S65536x1024
      (hnorm (hresid (m (c, Proc.tc.devRef main_arg0)) (m (c, Proc.tc.devRef main_arg1)) (m (c, Proc.tc.devRef main_arg2)) (m (c, Proc.tc.devRef main_arg3)))
        (m (c, Proc.tc.devRef main_arg4)) (m (c, Proc.tc.devRef main_arg5))) shapeCasts_S16x4096x1024_S65536x1024 := rfl

end Ffn.Ref

end
-- ==== Proof.FfnRefSecond.lean ====
/- The reference's output projection with the second feed-forward part, read at a token: the second norm of the residual
   with the mixers' projection, then `FfnRef`'s part. -/
module

public import proofs.«01_k».proof.Proof.Gen.Reference2Ideal.Run
public import proofs.«01_k».proof.Proof.FfnRef
public import Idealize.ShloMosaic.Lib.Pipeline.Value

@[expose] public section

noncomputable section

namespace Ffn.Ref

open Idealize.ShloMosaic Idealize.ShloMosaic.TcCoe Cert.Reference2Ideal Cert.Reference2Ideal.Gen

variable {F : FTy → Type} [FloatOps F]

/-- The two mixers' outputs side by side. -/
def hpair (a b : FVec F S16x4096x512 .f32) : FVec F S16x4096x1024 .f32 :=
  concatenate S16x4096x1024 2 [⟨S16x4096x512, a⟩, ⟨S16x4096x512, b⟩] concatenates_S16x4096x512_S16x4096x512_S16x4096x1024_d2

/-- The residual with the mixers' projection. -/
def hmixed (x : FVec F S16x4096x1024 .f32) (a b : FVec F S16x4096x512 .f32) (w : FVec F S1024x1024 .f32) : FVec F S16x4096x1024 .f32 :=
  addf (mulf (spl 0x3F9837F0#32) x) (Host.dotGeneral dot_S16x4096x1024_S1024x1024_S16x4096x1024_2_0_01_1_n_n none (hpair a b) w)

section Read

variable (s : Fin 16) (n : Fin 4096) (a b : FVec Ideal S16x4096x512 .f32)

theorem hpair_left (k : Fin 512) : hpair a b (ix3 s n ⟨k.val, by omega⟩) = a (ix3 s n k) := by
  unfold hpair
  refine concatenate_pair_apply_left (t := S16x4096x1024) (s₁ := S16x4096x512) (s₂ := S16x4096x512) 2 a b _ _ rfl _ fun d => ?_
  match d with
  | ⟨0, _⟩ => rfl
  | ⟨1, _⟩ => rfl
  | ⟨2, _⟩ => rfl

theorem hpair_right (k : Fin 512) : hpair a b (ix3 s n ⟨512 + k.val, by omega⟩) = b (ix3 s n k) := by
  unfold hpair
  refine concatenate_pair_apply_right (t := S16x4096x1024) (s₁ := S16x4096x512) (s₂ := S16x4096x512) 2 a b _ _ rfl rfl _ (fun d hd => ?_) ?_
  · match d with
    | ⟨0, _⟩ => rfl
    | ⟨1, _⟩ => rfl
    | ⟨2, _⟩ => exact absurd rfl hd
  · exact Nat.add_comm _ _

theorem hmixed_at (x : FVec Ideal S16x4096x1024 .f32) (w : FVec Ideal S1024x1024 .f32) (j : Fin 1024) :
    hmixed x a b w (ix3 s n j) = scale * x (ix3 s n j)
      + (∑ k : Fin 512, a (ix3 s n k) * w (ix2 ⟨k.val, by omega⟩ j) + ∑ k : Fin 512, b (ix3 s n k) * w (ix2 ⟨512 + k.val, by omega⟩ j)) := by
  have e : hmixed x a b w (ix3 s n j) = scale * x (ix3 s n j) + ∑ k : Fin 1024, hpair a b (ix3 s n k) * w (ix2 k j) := by
    unfold hmixed
    generalize hpair a b = p
    pointwise []
  rw [e]
  refine congrArg (scale * x (ix3 s n j) + ·) ((Fin.sum_univ_add (a := 512) (b := 512) fun k : Fin (512 + 512) => hpair a b (ix3 s n k) * w (ix2 k j)).trans ?_)
  refine congrArg₂ (· + ·) (Finset.sum_congr rfl fun k _ => ?_) (Finset.sum_congr rfl fun k _ => ?_)
  · exact congrArg (· * w (ix2 ⟨k.val, by omega⟩ j)) (hpair_left s n a b k)
  · exact congrArg (· * w (ix2 ⟨512 + k.val, by omega⟩ j)) (hpair_right s n a b k)

end Read

/-- The run's result, part by part. -/
def wholeSecond (x : FVec F S16x4096x1024 .f32) (a b : FVec F S16x4096x512 .f32) (w : FVec F S1024x1024 .f32) (g2 b2 : FVec F S1024 .f32)
    (wg wu : FVec F S1024x2816 .f32) (wd : FVec F S2816x1024 .f32) (g3 b3 : FVec F S1024 .f32) : FVec F S65536x1024 .f32 :=
  shapeCast S65536x1024 (hnorm (hresid (hnorm (hmixed x a b w) g2 b2) wg wu wd) g3 b3) shapeCasts_S16x4096x1024_S65536x1024

/-- The second call's reference, at an argument list. -/
theorem run_second (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = wholeSecond (m (c, Proc.tc.devRef main_arg0)) (m (c, Proc.tc.devRef main_arg1))
        (m (c, Proc.tc.devRef main_arg2)) (m (c, Proc.tc.devRef main_arg3)) (m (c, Proc.tc.devRef main_arg4)) (m (c, Proc.tc.devRef main_arg5))
        (m (c, Proc.tc.devRef main_arg6)) (m (c, Proc.tc.devRef main_arg7)) (m (c, Proc.tc.devRef main_arg8)) (m (c, Proc.tc.devRef main_arg9))
        (m (c, Proc.tc.devRef main_arg10)) :=
  (θ_run _ _ _).mono (fun _ h c => (h c).1) (Cert.Reference2Ideal.Value.run m ρ)

end Ffn.Ref

end
-- ==== Proof.FfnValue.lean ====
/- The kernels' results of the two calls with a feed-forward part are their references'. -/
module

public import proofs.«01_k».proof.Proof.FfnFirst
public import proofs.«01_k».proof.Proof.FfnSecond
public import proofs.«01_k».proof.Proof.FfnRefSecond

@[expose] public section

noncomputable section

namespace Ffn

open Idealize.ShloMosaic Idealize.ShloMosaic.TcCoe

theorem flat_cases (i : Cert.Kernel3Ideal.S65536x1024.Idx) : ∃ (R : Fin 65536) (j : Fin 1024), i = ix2 R j :=
  ⟨i 0, i 1, by funext a; match a with | ⟨0, _⟩ => rfl | ⟨1, _⟩ => rfl⟩

section First

open Cert.Kernel3Ideal Ffn.First

variable (m : (ℓ : Loc nD τ sig) → Buf (Elt Ideal) ℓ) (c : Dev nD)

/-- With real gate weights the two ways to write the silu agree on the result. -/
theorem first_silu (hg : ∀ i, ∃ r : ℝ, aWg m c i = r) : First.whole m c siluT = First.whole m c siluE := by
  funext i
  unfold First.whole First.residRow
  exact norm_resid _ _ _ _ _ _ (fun k f => hg (ix2 k f)) _

/-- The first call's reference gives that result. -/
theorem first_ref : First.whole m c siluE = shapeCast S65536x1024
    (Ref.hnorm (Ref.hresid (aX m c) (aWg m c) (aWu m c) (aWd m c)) (aG m c) (aB m c)) Cert.Reference3Ideal.Gen.shapeCasts_S16x4096x1024_S65536x1024 := by
  funext i
  obtain ⟨R, j, rfl⟩ := flat_cases i
  refine Eq.trans ?_ (Ref.flat_at _ R j).symm
  rw [Ref.part_at]
  rfl

end First

section Second

open Cert.Kernel2Ideal Ffn.Second

variable (m : (ℓ : Loc nD τ sig) → Buf (Elt Ideal) ℓ) (c : Dev nD)

theorem second_silu (hg : ∀ i, ∃ r : ℝ, aWg m c i = r) : Second.whole m c siluT = Second.whole m c siluE := by
  funext i
  unfold Second.whole Second.residRow
  exact norm_resid _ _ _ _ _ _ (fun k f => hg (ix2 k f)) _

theorem second_ref : Second.whole m c siluE = Ref.wholeSecond (aX m c) (aOg m c) (aOn m c) (aWo m c) (aG2 m c) (aB2 m c)
    (aWg m c) (aWu m c) (aWd m c) (aG3 m c) (aB3 m c) := by
  funext i
  obtain ⟨R, j, rfl⟩ := flat_cases i
  unfold Ref.wholeSecond
  refine Eq.trans ?_ (Ref.flat_at _ R j).symm
  rw [Ref.part_at]
  simp only [Ref.hnorm_at, Ref.hmixed_at]
  rfl

end Second

end Ffn

end
-- ==== Proof.InProjUnit.lean ====
/- What a point of the grid of the input projection computes, written once: the products of its 512 tokens with the columns
   of the projection, the causal convolution of queries, keys and values and its silu; and the pieces in which each result
   is stored. -/
module

public import proofs.«01_k».proof.Proof.Gen.Kernel4Ideal.Frame
public import Idealize.ShloMosaic.Lib.Pipeline.FrameBody
public import Idealize.ShloMosaic.Lib.Pipeline.ValueKit.Tiles
public import Idealize.ShloMosaic.Lib.ValueIdx

@[expose] public section

set_option maxRecDepth 100000

noncomputable section

namespace InProj

open Idealize.ShloMosaic Idealize.ShloMosaic.TcCoe Idealize.SL.Sem
open Cert.Kernel4Ideal Cert.Kernel4Ideal.Gen

variable {F : FTy → Type} [FloatOps F]

/-- A scalar over a block. -/
abbrev spl (s : Shape) (b : BitVec 32) : FVec F s .f32 := broadcast s (Scalar.ofBits (F := F) .f32 b)

/-- The point's tokens as the products take them. -/
def toks (x : Vec F S512x1024 .f32) : FVec F S512x1024 .bf16 :=
  truncf .bf16 (shapeCast S512x1024 (View.ld x (Rect.unit _ S512x1024.size inb_S512x1024_S512x1024_0_0)) shapeCasts_S512x1024_S512x1024 : FVec F S512x1024 .f32) bitsLt_bf16_f32

/-- Whether a point is the first of its sequence, from the point's number. -/
def fresh (a : BitVec 32) : BitVec 1 :=
  let d : BitVec 32 := Scalar.select (Scalar.cmpi .eq 8#32 0#32) 1#32 8#32
  let r : BitVec 32 := Scalar.remsi a d
  Scalar.cmpi .eq (Scalar.select (Scalar.andi (Scalar.xori (Scalar.cmpi .slt r 0#32) (Scalar.cmpi .slt d 0#32)) (Scalar.cmpi .ne r 0#32)) (Scalar.addi r d) r) 0#32

/-- The sixteen tokens before the point's, nothing where the sequence begins. -/
def before (i : grid0.Coords) (h : Vec F S16x1024 .f32) : FVec F S16x1024 .f32 :=
  Scalar.select (fresh (BitVec.ofNat 32 (i 0).val)) (spl S16x1024 0x00000000#32) (shapeCast S16x1024 (View.ld h (Rect.unit _ S16x1024.size inb_S16x1024_S16x1024_0_0)) shapeCasts_S16x1024_S16x1024 : FVec F S16x1024 .f32)

/-- The point's tokens after the sixteen before them. -/
def both (i : grid0.Coords) (x : Vec F S512x1024 .f32) (h : Vec F S16x1024 .f32) : FVec F S528x1024 .bf16 :=
  concatenate S528x1024 0 [⟨S16x1024, truncf .bf16 (before i h) bitsLt_bf16_f32⟩, ⟨S512x1024, toks x⟩] concatenates_S16x1024_S512x1024_S528x1024_d0

theorem fit_w (k : Fin 8) : ∀ a : Fin 2, (![0, 256 * k.val] : Fin 2 → ℕ) a + S1024x256.size a ≤ S1024x2688.size a := fun a => by
  match a with
  | ⟨0, _⟩ => show 0 + 1024 ≤ 1024; omega
  | ⟨1, _⟩ => show 256 * k.val + 256 ≤ 2688; omega

theorem fit_c (d : Fin 4) (k : Fin 6) : ∀ a : Fin 2, (![d.val, 256 * k.val] : Fin 2 → ℕ) a + S1x256.size a ≤ S4x1536.size a := fun a => by
  match a with
  | ⟨0, _⟩ => show d.val + 1 ≤ 4; omega
  | ⟨1, _⟩ => show 256 * k.val + 256 ≤ 1536; omega

theorem fit_qkv (k : Fin 6) : ∀ a : Fin 2, (![0, 256 * k.val] : Fin 2 → ℕ) a + S512x256.size a ≤ S512x1536.size a := fun a => by
  match a with
  | ⟨0, _⟩ => show 0 + 512 ≤ 512; omega
  | ⟨1, _⟩ => show 256 * k.val + 256 ≤ 1536; omega

theorem fit_z (k : Fin 2) : ∀ a : Fin 2, (![0, 256 * k.val] : Fin 2 → ℕ) a + S512x256.size a ≤ S512x512.size a := fun a => by
  match a with
  | ⟨0, _⟩ => show 0 + 512 ≤ 512; omega
  | ⟨1, _⟩ => show 256 * k.val + 256 ≤ 512; omega

/-- A chunk of 256 columns before the convolution. -/
def pre (k : Fin 6) (b : FVec F S528x1024 .bf16) (w : Vec F S1024x2688 .bf16) : FVec F S528x256 .f32 :=
  matmul dot_S528x1024_S1024x256_S528x256_1_0_0_1_n_n none b
    (shapeCast S1024x256 (View.ld w (Rect.unit _ S1024x256.size (fit_w ⟨k.val, by omega⟩))) shapeCasts_S1024x256_S1024x256)
    (constant S528x256 .f32 0x00000000#32)

/-- A row of the convolution's weights, over the tokens. -/
def tap (d : Fin 4) (k : Fin 6) (cw : Vec F S4x1536 .f32) : FVec F S512x256 .f32 :=
  broadcastTo S512x256 (View.ld cw (Rect.unit _ S1x256.size (fit_c d k))) broadcasts_S1x256_S512x256

/-- The point's own rows. -/
abbrev own (v : FVec F S528x256 .f32) : FVec F S512x256 .f32 := extractStridedSlice S512x256 ![16, 0] v slices_S528x256_o16_0_S512x256

/-- A chunk of 256 columns, convolved. -/
def conv (k : Fin 6) (p : FVec F S528x256 .f32) (cw : Vec F S4x1536 .f32) : FVec F S512x256 .f32 :=
  addf (addf (addf (mulf (tap 3 k cw) (own p)) (mulf (tap 2 k cw) (own (dynamicRotate 0 1#32 none p rotates_S528x256_d0))))
    (mulf (tap 1 k cw) (own (dynamicRotate 0 2#32 none p rotates_S528x256_d0))))
    (mulf (tap 0 k cw) (own (dynamicRotate 0 3#32 none p rotates_S528x256_d0)))

/-- The silu of a block. -/
def act (v : FVec F S512x256 .f32) : FVec F S512x256 .f32 :=
  addf (mulf (mulf (spl S512x256 0x3F000000#32) v) (tanh (mulf (spl S512x256 0x3F000000#32) v))) (mulf (spl S512x256 0x3F000000#32) v)

/-- What is stored to queries, keys and values, last first. -/
def qkvPieces (i : grid0.Coords) (x : Vec F S512x1024 .f32) (h : Vec F S16x1024 .f32) (w : Vec F S1024x2688 .bf16) (cw : Vec F S4x1536 .f32) :
    List (View.Piece (Elt F) S512x1536 .f32) :=
  List.ofFn fun n : Fin 6 => ⟨Rect.unit ![0, 256 * (5 - n.val)] S512x256.size (fit_qkv ⟨5 - n.val, by omega⟩),
    act (conv ⟨5 - n.val, by omega⟩ (pre ⟨5 - n.val, by omega⟩ (both i x h) w) cw)⟩

/-- A chunk of 256 columns that is stored as it is. -/
def plain (k : Fin 2) (x : Vec F S512x1024 .f32) (w : Vec F S1024x2688 .bf16) : FVec F S512x256 .f32 :=
  matmul dot_S512x1024_S1024x256_S512x256_1_0_0_1_n_n none (toks x)
    (shapeCast S1024x256 (View.ld w (Rect.unit _ S1024x256.size (fit_w ⟨6 + k.val, by omega⟩))) shapeCasts_S1024x256_S1024x256)
    (constant S512x256 .f32 0x00000000#32)

/-- What is stored to the output gates, last first. -/
def zPieces (x : Vec F S512x1024 .f32) (w : Vec F S1024x2688 .bf16) : List (View.Piece (Elt F) S512x512 .f32) :=
  List.ofFn fun n : Fin 2 => ⟨Rect.unit ![0, 256 * (1 - n.val)] S512x256.size (fit_z ⟨1 - n.val, by omega⟩), plain ⟨1 - n.val, by omega⟩ x w⟩

/-- The columns of the decays and the writing strengths. -/
def smalls (x : Vec F S512x1024 .f32) (w : Vec F S1024x2688 .bf16) : FVec F S512x128 .f32 :=
  matmul dot_S512x1024_S1024x128_S512x128_1_0_0_1_n_n none (toks x)
    (shapeCast S1024x128 (View.ld w (Rect.unit _ S1024x128.size inb_S1024x2688_S1024x128_0_2048)) shapeCasts_S1024x128_S1024x128)
    (constant S512x128 .f32 0x00000000#32)

/-- What is stored to the decays and the writing strengths. -/
def smallPieces (x : Vec F S512x1024 .f32) (w : Vec F S1024x2688 .bf16) : List (View.Piece (Elt F) S512x128 .f32) :=
  [⟨Rect.unit ![0, 0] S512x128.size inb_S512x128_S512x128_0_0, smalls x w⟩]

/-- The columns of the sparse attention's keys and the values to compress. -/
def kv (x : Vec F S512x1024 .f32) (w : Vec F S1024x2688 .bf16) : FVec F S512x512 .f32 :=
  matmul dot_S512x1024_S1024x512_S512x512_1_0_0_1_n_n none (toks x)
    (shapeCast S1024x512 (View.ld w (Rect.unit _ S1024x512.size inb_S1024x2688_S1024x512_0_2176)) shapeCasts_S1024x512_S1024x512)
    (constant S512x512 .f32 0x00000000#32)

/-- The columns to compress, as they wait to be gathered: the keys', … -/
def slab0 (x : Vec F S512x1024 .f32) (w : Vec F S1024x2688 .bf16) : View.Piece (Elt F) S2x512x128 .f32 :=
  ⟨Rect.unit ![0, 0, 0] S1x512x128.size inb_S2x512x128_S1x512x128_0_0_0,
    shapeCast S1x512x128 (extractStridedSlice S512x128 ![0, 0] (kv x w) slices_S512x512_o0_0_S512x128) shapeCasts_S512x128_S1x512x128⟩

/-- … and the values'. -/
def slab1 (x : Vec F S512x1024 .f32) (w : Vec F S1024x2688 .bf16) : View.Piece (Elt F) S2x512x128 .f32 :=
  ⟨Rect.unit ![1, 0, 0] S1x512x128.size inb_S2x512x128_S1x512x128_1_0_0,
    shapeCast S1x512x128 (extractStridedSlice S512x128 ![0, 128] (kv x w) slices_S512x512_o0_128_S512x128) shapeCasts_S512x128_S1x512x128⟩

theorem fit_g (s : Fin 2) (r : Fin 16) : ∀ a : Fin 3, S1x32x128.size a = 0 ∨ (![s.val, r.val, 0] : Fin 3 → ℕ) a + (![1, 16, 1] : Fin 3 → ℕ) a * (S1x32x128.size a - 1) < S2x512x128.size a := fun a => by
  refine Or.inr ?_
  match a with
  | ⟨0, _⟩ => show s.val + 1 * (1 - 1) < 2; omega
  | ⟨1, _⟩ => show r.val + 16 * (32 - 1) < 512; omega
  | ⟨2, _⟩ => show 0 + 1 * (128 - 1) < 128; omega

theorem fit_hd (k : Fin 2) : S32x128.Slices ![0, 64 * k.val] S32x64 := ⟨rfl, fun a => by
  match a with
  | ⟨0, _⟩ => show 0 + 32 ≤ 32; omega
  | ⟨1, _⟩ => show 64 * k.val + 64 ≤ 128; omega⟩

theorem fit_kc (k : Fin 2) (r : Fin 16) : ∀ a : Fin 4, (![0, k.val, 0, 64 * r.val] : Fin 4 → ℕ) a + S1x1x32x64.size a ≤ S1x2x32x1024.size a := fun a => by
  match a with
  | ⟨0, _⟩ => show 0 + 1 ≤ 1; omega
  | ⟨1, _⟩ => show k.val + 1 ≤ 2; omega
  | ⟨2, _⟩ => show 0 + 32 ≤ 32; omega
  | ⟨3, _⟩ => show 64 * r.val + 64 ≤ 1024; omega

/-- Every sixteenth row from a given one. -/
def every (s : Fin 2) (r : Fin 16) : LoadRect S2x512x128 := ⟨![s.val, r.val, 0], S1x32x128.size, ![1, 16, 1], fit_g s r⟩

/-- A head's columns of every sixteenth row. -/
def gath (k : Fin 2) (g : Vec F S1x32x128 .f32) : FVec F S1x1x32x64 .f32 :=
  shapeCast S1x1x32x64 (extractStridedSlice S32x64 ![0, 64 * k.val] (shapeCast S32x128 g shapeCasts_S1x32x128_S32x128 : FVec F S32x128 .f32) (fit_hd k)) shapeCasts_S32x64_S1x1x32x64

/-- What is stored to the keys to compress, last first. -/
def kcPieces (v : Memref sig .tc .vmem S2x512x128 .f32) (x : Vec F S512x1024 .f32) (w : Vec F S1024x2688 .bf16) :
    List (View.Piece (Elt F) S1x2x32x1024 .f32) :=
  List.ofFn fun n : Fin 32 => ⟨Rect.unit ![0, (31 - n.val) % 2, 0, 64 * ((31 - n.val) / 2)] S1x1x32x64.size (fit_kc ⟨(31 - n.val) % 2, by omega⟩ ⟨(31 - n.val) / 2, by omega⟩),
    gath ⟨(31 - n.val) % 2, by omega⟩ (v.view.readCov [slab0 x w] (every 0 ⟨(31 - n.val) / 2, by omega⟩))⟩

/-- What is stored to the values to compress, last first. -/
def vcPieces (v : Memref sig .tc .vmem S2x512x128 .f32) (x : Vec F S512x1024 .f32) (w : Vec F S1024x2688 .bf16) :
    List (View.Piece (Elt F) S1x2x32x1024 .f32) :=
  List.ofFn fun n : Fin 32 => ⟨Rect.unit ![0, (31 - n.val) % 2, 0, 64 * ((31 - n.val) / 2)] S1x1x32x64.size (fit_kc ⟨(31 - n.val) % 2, by omega⟩ ⟨(31 - n.val) / 2, by omega⟩),
    gath ⟨(31 - n.val) % 2, by omega⟩ (v.view.readCov [slab1 x w, slab0 x w] (every 1 ⟨(31 - n.val) / 2, by omega⟩))⟩

theorem fit_ks (k : Fin 2) : ∀ a : Fin 4, (![0, k.val, 0, 0] : Fin 4 → ℕ) a + S1x1x512x64.size a ≤ S1x2x512x64.size a := fun a => by
  match a with
  | ⟨0, _⟩ => show 0 + 1 ≤ 1; omega
  | ⟨1, _⟩ => show k.val + 1 ≤ 2; omega
  | ⟨2, _⟩ => show 0 + 512 ≤ 512; omega
  | ⟨3, _⟩ => show 0 + 64 ≤ 64; omega

theorem fit_kv (k : Fin 8) : S512x512.Slices ![0, 64 * k.val] S512x64 := ⟨rfl, fun a => by
  match a with
  | ⟨0, _⟩ => show 0 + 512 ≤ 512; omega
  | ⟨1, _⟩ => show 64 * k.val + 64 ≤ 512; omega⟩

/-- A head's keys. -/
def keys (k : Fin 8) (x : Vec F S512x1024 .f32) (w : Vec F S1024x2688 .bf16) : FVec F S1x1x512x64 .bf16 :=
  shapeCast S1x1x512x64 (truncf .bf16 (extractStridedSlice S512x64 ![0, 64 * k.val] (kv x w) (fit_kv k) : FVec F S512x64 .f32) bitsLt_bf16_f32 : FVec F S512x64 .bf16) shapeCasts_S512x64_S1x1x512x64

/-- What is stored to the selected keys, last first. -/
def ksPieces (x : Vec F S512x1024 .f32) (w : Vec F S1024x2688 .bf16) : List (View.Piece (Elt F) S1x2x512x64 .bf16) :=
  List.ofFn fun n : Fin 2 => ⟨Rect.unit ![0, 1 - n.val, 0, 0] S1x1x512x64.size (fit_ks ⟨1 - n.val, by omega⟩), keys ⟨4 + (1 - n.val), by omega⟩ x w⟩

/-- What is stored to the window's keys, last first. -/
def kwPieces (x : Vec F S512x1024 .f32) (w : Vec F S1024x2688 .bf16) : List (View.Piece (Elt F) S1x2x512x64 .bf16) :=
  List.ofFn fun n : Fin 2 => ⟨Rect.unit ![0, 1 - n.val, 0, 0] S1x1x512x64.size (fit_ks ⟨1 - n.val, by omega⟩), keys ⟨6 + (1 - n.val), by omega⟩ x w⟩

theorem fit_u (k : Fin 2) : ∀ a : Fin 2, (![256 * k.val, 0] : Fin 2 → ℕ) a + S256x1024.size a ≤ S800x1024.size a := fun a => by
  match a with
  | ⟨0, _⟩ => show 256 * k.val + 256 ≤ 800; omega
  | ⟨1, _⟩ => show 0 + 1024 ≤ 1024; omega

/-- Four heads' queries, a token to a column. -/
def quer (k : Fin 2) (x : Vec F S512x1024 .f32) (u : Vec F S800x1024 .bf16) : FVec F S256x512 .f32 :=
  matmul dot_S256x1024_S512x1024_S256x512_1_1_0_0_n_n none
    (shapeCast S256x1024 (View.ld u (Rect.unit _ S256x1024.size (fit_u k))) shapeCasts_S256x1024_S256x1024) (toks x)
    (constant S256x512 .f32 0x00000000#32)

theorem fit_qs (g : Fin 4) (j : Fin 2) : S256x512.Slices ![64 * g.val, 256 * j.val] S64x256 := ⟨rfl, fun a => by
  match a with
  | ⟨0, _⟩ => show 64 * g.val + 64 ≤ 256; omega
  | ⟨1, _⟩ => show 256 * j.val + 256 ≤ 512; omega⟩

theorem fit_qt (k j : Fin 2) (g : Fin 4) : ∀ a : Fin 5, (![0, k.val, j.val, 0, 256 * g.val] : Fin 5 → ℕ) a + S1x1x1x64x256.size a ≤ S1x2x2x64x1024.size a := fun a => by
  match a with
  | ⟨0, _⟩ => show 0 + 1 ≤ 1; omega
  | ⟨1, _⟩ => show k.val + 1 ≤ 2; omega
  | ⟨2, _⟩ => show j.val + 1 ≤ 2; omega
  | ⟨3, _⟩ => show 0 + 64 ≤ 64; omega
  | ⟨4, _⟩ => show 256 * g.val + 256 ≤ 1024; omega

/-- A head's queries of 256 tokens, scaled. -/
def qpiece (k j : Fin 2) (g : Fin 4) (x : Vec F S512x1024 .f32) (u : Vec F S800x1024 .bf16) : FVec F S1x1x1x64x256 .bf16 :=
  shapeCast S1x1x1x64x256 (truncf .bf16 (mulf (extractStridedSlice S64x256 ![64 * g.val, 256 * j.val] (quer k x u) (fit_qs g j)) (spl S64x256 0x3E38AA3B#32) : FVec F S64x256 .f32) bitsLt_bf16_f32 : FVec F S64x256 .bf16) shapeCasts_S64x256_S1x1x1x64x256

/-- What is stored to the queries, last first. -/
def qtPieces (x : Vec F S512x1024 .f32) (u : Vec F S800x1024 .bf16) : List (View.Piece (Elt F) S1x2x2x64x1024 .bf16) :=
  List.ofFn fun n : Fin 16 => ⟨Rect.unit ![0, (15 - n.val) / 8, (15 - n.val) / 4 % 2, 0, 256 * ((15 - n.val) % 4)] S1x1x1x64x256.size
      (fit_qt ⟨(15 - n.val) / 8, by omega⟩ ⟨(15 - n.val) / 4 % 2, by omega⟩ ⟨(15 - n.val) % 4, by omega⟩),
    qpiece ⟨(15 - n.val) / 8, by omega⟩ ⟨(15 - n.val) / 4 % 2, by omega⟩ ⟨(15 - n.val) % 4, by omega⟩ x u⟩

/-- The values and the gates, a token to a column. -/
def vg (x : Vec F S512x1024 .f32) (u : Vec F S800x1024 .bf16) : FVec F S288x512 .f32 :=
  matmul dot_S288x1024_S512x1024_S288x512_1_1_0_0_n_n none
    (shapeCast S288x1024 (View.ld u (Rect.unit _ S288x1024.size inb_S800x1024_S288x1024_512_0)) shapeCasts_S288x1024_S288x1024) (toks x)
    (constant S288x512 .f32 0x00000000#32)

theorem fit_vs (k : Fin 4) (j : Fin 2) : S288x512.Slices ![64 * k.val, 256 * j.val] S64x256 := ⟨rfl, fun a => by
  match a with
  | ⟨0, _⟩ => show 64 * k.val + 64 ≤ 288; omega
  | ⟨1, _⟩ => show 256 * j.val + 256 ≤ 512; omega⟩

theorem fit_vt (k j : Fin 2) : ∀ a : Fin 5, (![0, k.val, j.val, 0, 0] : Fin 5 → ℕ) a + S1x1x1x64x256.size a ≤ S1x2x2x64x256.size a := fun a => by
  match a with
  | ⟨0, _⟩ => show 0 + 1 ≤ 1; omega
  | ⟨1, _⟩ => show k.val + 1 ≤ 2; omega
  | ⟨2, _⟩ => show j.val + 1 ≤ 2; omega
  | ⟨3, _⟩ => show 0 + 64 ≤ 64; omega
  | ⟨4, _⟩ => show 0 + 256 ≤ 256; omega

/-- A head's values of 256 tokens. -/
def vpiece (k : Fin 4) (j : Fin 2) (x : Vec F S512x1024 .f32) (u : Vec F S800x1024 .bf16) : FVec F S1x1x1x64x256 .bf16 :=
  shapeCast S1x1x1x64x256 (truncf .bf16 (extractStridedSlice S64x256 ![64 * k.val, 256 * j.val] (vg x u) (fit_vs k j) : FVec F S64x256 .f32) bitsLt_bf16_f32 : FVec F S64x256 .bf16) shapeCasts_S64x256_S1x1x1x64x256

/-- What is stored to the selected values, last first. -/
def vstPieces (x : Vec F S512x1024 .f32) (u : Vec F S800x1024 .bf16) : List (View.Piece (Elt F) S1x2x2x64x256 .bf16) :=
  List.ofFn fun n : Fin 4 => ⟨Rect.unit ![0, (3 - n.val) / 2, (3 - n.val) % 2, 0, 0] S1x1x1x64x256.size (fit_vt ⟨(3 - n.val) / 2, by omega⟩ ⟨(3 - n.val) % 2, by omega⟩),
    vpiece ⟨(3 - n.val) / 2, by omega⟩ ⟨(3 - n.val) % 2, by omega⟩ x u⟩

/-- What is stored to the window's values, last first. -/
def vwtPieces (x : Vec F S512x1024 .f32) (u : Vec F S800x1024 .bf16) : List (View.Piece (Elt F) S1x2x2x64x256 .bf16) :=
  List.ofFn fun n : Fin 4 => ⟨Rect.unit ![0, (3 - n.val) / 2, (3 - n.val) % 2, 0, 0] S1x1x1x64x256.size (fit_vt ⟨(3 - n.val) / 2, by omega⟩ ⟨(3 - n.val) % 2, by omega⟩),
    vpiece ⟨2 + (3 - n.val) / 2, by omega⟩ ⟨(3 - n.val) % 2, by omega⟩ x u⟩

theorem fit_gs (r : Fin 24) (j : Fin 2) : S288x512.Slices ![256 + r.val, 256 * j.val] S1x256 := ⟨rfl, fun a => by
  match a with
  | ⟨0, _⟩ => show 256 + r.val + 1 ≤ 288; omega
  | ⟨1, _⟩ => show 256 * j.val + 256 ≤ 512; omega⟩

theorem fit_gt (k j : Fin 2) (g : Fin 4) (e : Fin 3) : ∀ a : Fin 5, (![0, k.val, j.val, e.val, 256 * g.val] : Fin 5 → ℕ) a + S1x1x1x1x256.size a ≤ S1x2x2x3x1024.size a := fun a => by
  match a with
  | ⟨0, _⟩ => show 0 + 1 ≤ 1; omega
  | ⟨1, _⟩ => show k.val + 1 ≤ 2; omega
  | ⟨2, _⟩ => show j.val + 1 ≤ 2; omega
  | ⟨3, _⟩ => show e.val + 1 ≤ 3; omega
  | ⟨4, _⟩ => show 256 * g.val + 256 ≤ 1024; omega

/-- One of a head's gates over 256 tokens. -/
def gpiece (r : Fin 24) (j : Fin 2) (x : Vec F S512x1024 .f32) (u : Vec F S800x1024 .bf16) : FVec F S1x1x1x1x256 .f32 :=
  shapeCast S1x1x1x1x256 (extractStridedSlice S1x256 ![256 + r.val, 256 * j.val] (vg x u) (fit_gs r j)) shapeCasts_S1x256_S1x1x1x1x256

/-- What is stored to the gates, last first. -/
def gatePieces (x : Vec F S512x1024 .f32) (u : Vec F S800x1024 .bf16) : List (View.Piece (Elt F) S1x2x2x3x1024 .f32) :=
  List.ofFn fun n : Fin 48 => ⟨Rect.unit ![0, (47 - n.val) / 24, (47 - n.val) / 12 % 2, (47 - n.val) % 3, 256 * ((47 - n.val) / 3 % 4)] S1x1x1x1x256.size
      (fit_gt ⟨(47 - n.val) / 24, by omega⟩ ⟨(47 - n.val) / 12 % 2, by omega⟩ ⟨(47 - n.val) / 3 % 4, by omega⟩ ⟨(47 - n.val) % 3, by omega⟩),
    gpiece ⟨12 * ((47 - n.val) / 24) + (47 - n.val) % 12, by omega⟩ ⟨(47 - n.val) / 12 % 2, by omega⟩ x u⟩

section Words

variable (c : Dev nD) (i : grid0.Coords)
  (arg1 : Memref sig .tc .vmem S512x1024 .f32) (harg1 : arg1.IsWhole)
  (arg2 : Memref sig .tc .vmem S16x1024 .f32) (harg2 : arg2.IsWhole)
  (arg3 : Memref sig .tc .vmem S1024x2688 .bf16) (harg3 : arg3.IsWhole)
  (arg4 : Memref sig .tc .vmem S800x1024 .bf16) (harg4 : arg4.IsWhole)
  (arg5 : Memref sig .tc .vmem S4x1536 .f32) (harg5 : arg5.IsWhole)
  (arg6 : Memref sig .tc .vmem S512x1536 .f32) (harg6 : arg6.IsWhole)
  (arg7 : Memref sig .tc .vmem S512x512 .f32) (harg7 : arg7.IsWhole)
  (arg8 : Memref sig .tc .vmem S512x128 .f32) (harg8 : arg8.IsWhole)
  (arg9 : Memref sig .tc .vmem S1x2x32x1024 .f32) (harg9 : arg9.IsWhole)
  (arg10 : Memref sig .tc .vmem S1x2x32x1024 .f32) (harg10 : arg10.IsWhole)
  (arg11 : Memref sig .tc .vmem S1x2x512x64 .bf16) (harg11 : arg11.IsWhole)
  (arg12 : Memref sig .tc .vmem S1x2x512x64 .bf16) (harg12 : arg12.IsWhole)
  (arg13 : Memref sig .tc .vmem S1x2x2x64x1024 .bf16) (harg13 : arg13.IsWhole)
  (arg14 : Memref sig .tc .vmem S1x2x2x64x256 .bf16) (harg14 : arg14.IsWhole)
  (arg15 : Memref sig .tc .vmem S1x2x2x64x256 .bf16) (harg15 : arg15.IsWhole)
  (arg16 : Memref sig .tc .vmem S1x2x2x3x1024 .f32) (harg16 : arg16.IsWhole)
  (arg17 : Memref sig .tc .vmem S2x512x128 .f32) (harg17 : arg17.IsWhole)
  (x0 : Vec F S512x1024 .f32) (x1 : Vec F S16x1024 .f32) (x2 : Vec F S1024x2688 .bf16) (x3 : Vec F S800x1024 .bf16) (x4 : Vec F S4x1536 .f32)

theorem list_qkv : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).1
    = qkvPieces i (arg1.view.read (Elt F) (harg1.unread x0)) (arg2.view.read (Elt F) (harg2.unread x1)) (arg3.view.read (Elt F) (harg3.unread x2)) (arg5.view.read (Elt F) (harg5.unread x4)) := by
  sl_kernel_rfl

theorem list_z : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.1
    = zPieces (arg1.view.read (Elt F) (harg1.unread x0)) (arg3.view.read (Elt F) (harg3.unread x2)) := by
  sl_kernel_rfl

theorem list_small : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.1
    = smallPieces (arg1.view.read (Elt F) (harg1.unread x0)) (arg3.view.read (Elt F) (harg3.unread x2)) := by
  sl_kernel_rfl

theorem list_kc : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.1
    = kcPieces arg17 (arg1.view.read (Elt F) (harg1.unread x0)) (arg3.view.read (Elt F) (harg3.unread x2)) := by
  sl_kernel_rfl

theorem list_vc : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.1
    = vcPieces arg17 (arg1.view.read (Elt F) (harg1.unread x0)) (arg3.view.read (Elt F) (harg3.unread x2)) := by
  sl_kernel_rfl

theorem list_ks : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.1
    = ksPieces (arg1.view.read (Elt F) (harg1.unread x0)) (arg3.view.read (Elt F) (harg3.unread x2)) := by
  sl_kernel_rfl

theorem list_kw : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.2.1
    = kwPieces (arg1.view.read (Elt F) (harg1.unread x0)) (arg3.view.read (Elt F) (harg3.unread x2)) := by
  sl_kernel_rfl

theorem list_qt : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.2.2.1
    = qtPieces (arg1.view.read (Elt F) (harg1.unread x0)) (arg4.view.read (Elt F) (harg4.unread x3)) := by
  sl_kernel_rfl

theorem list_vst : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.2.2.2.1
    = vstPieces (arg1.view.read (Elt F) (harg1.unread x0)) (arg4.view.read (Elt F) (harg4.unread x3)) := by
  sl_kernel_rfl

theorem list_vwt : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.2.2.2.2.1
    = vwtPieces (arg1.view.read (Elt F) (harg1.unread x0)) (arg4.view.read (Elt F) (harg4.unread x3)) := by
  sl_kernel_rfl

theorem list_gate : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4).2.2.2.2.2.2.2.2.2.2.1
    = gatePieces (arg1.view.read (Elt F) (harg1.unread x0)) (arg4.view.read (Elt F) (harg4.unread x3)) := by
  sl_kernel_rfl

end Words

end InProj

end
-- ==== Proof.InProjRead.lean ====
/- The units of the input projection read at an entry, and each result's pieces as one function of the entry. -/
module

public import proofs.«01_k».proof.Proof.InProjUnit
public import proofs.«01_k».proof.Proof.FfnMath
public import Idealize.ShloMosaic.Lib.Pointwise

@[expose] public section

set_option maxRecDepth 100000

noncomputable section

namespace InProj

open Idealize.ShloMosaic Cert.Kernel4Ideal Cert.Kernel4Ideal.Gen Ffn

/-- A token's product with a column. -/
def nat (x : Vec Ideal S512x1024 .f32) (w : Vec Ideal S1024x2688 .bf16) (r : Fin 512) (j : Fin 2688) : EReal :=
  ∑ k : Fin 1024, (x : FVec Ideal S512x1024 .f32) (ix2 r k) * (w : FVec Ideal S1024x2688 .bf16) (ix2 k j)

/-- A row of the transposed columns, with a token. -/
def tr (x : Vec Ideal S512x1024 .f32) (u : Vec Ideal S800x1024 .bf16) (j : Fin 800) (r : Fin 512) : EReal :=
  ∑ k : Fin 1024, (u : FVec Ideal S800x1024 .bf16) (ix2 j k) * (x : FVec Ideal S512x1024 .f32) (ix2 r k)

section Units

variable (x : Vec Ideal S512x1024 .f32) (h : Vec Ideal S16x1024 .f32) (w : Vec Ideal S1024x2688 .bf16) (u : Vec Ideal S800x1024 .bf16)
  (cw : Vec Ideal S4x1536 .f32) (i : grid0.Coords)

theorem toks_at (r : Fin 512) (k : Fin 1024) : toks x (ix2 r k) = (x : FVec Ideal S512x1024 .f32) (ix2 r k) := by
  have e : View.ld x (Rect.unit _ S512x1024.size inb_S512x1024_S512x1024_0_0) (ix2 r k : S512x1024.Idx) = x (ix2 r k) := by
    refine View.ld_unit_apply_of _ _ _ _ _ _ fun a => ?_
    match a with
    | ⟨0, _⟩ => exact (Nat.zero_add _).symm
    | ⟨1, _⟩ => exact (Nat.zero_add _).symm
  refine Eq.trans ?_ e
  unfold toks
  generalize View.ld x (Rect.unit _ S512x1024.size inb_S512x1024_S512x1024_0_0) = z
  pointwise []

theorem ldw (k : Fin 8) (q : Fin 1024) (b : Fin 256) :
    (View.ld w (Rect.unit _ S1024x256.size (fit_w k)) : FVec Ideal S1024x256 .bf16) (ix2 q b) = (w : FVec Ideal S1024x2688 .bf16) (ix2 q ⟨256 * k.val + b.val, by omega⟩) := by
  refine View.ld_unit_apply_of _ _ _ _ _ _ fun a => ?_
  match a with
  | ⟨0, _⟩ => exact (Nat.zero_add _).symm
  | ⟨1, _⟩ => rfl

theorem plain_at (k : Fin 2) (r : Fin 512) (b : Fin 256) : plain k x w (ix2 r b) = nat x w r ⟨1536 + 256 * k.val + b.val, by omega⟩ := by
  have e : plain k x w (ix2 r b) = ∑ q : Fin 1024, toks x (ix2 r q) * (View.ld w (Rect.unit _ S1024x256.size (fit_w ⟨6 + k.val, by omega⟩)) : FVec Ideal S1024x256 .bf16) (ix2 q b) := by
    unfold plain
    generalize toks x = p
    generalize (View.ld w (Rect.unit _ S1024x256.size (fit_w ⟨6 + k.val, by omega⟩)) : FVec Ideal S1024x256 .bf16) = z
    pointwise []
  rw [e]
  refine Finset.sum_congr rfl fun q _ => congrArg₂ (· * ·) (toks_at x r q) ((ldw w _ q b).trans ?_)
  exact congrArg (fun j => (w : FVec Ideal S1024x2688 .bf16) (ix2 q j)) (Fin.ext (by show 256 * (6 + k.val) + b.val = 1536 + 256 * k.val + b.val; omega))

theorem smalls_at (r : Fin 512) (b : Fin 128) : smalls x w (ix2 r b) = nat x w r ⟨2048 + b.val, by omega⟩ := by
  have e : smalls x w (ix2 r b) = ∑ q : Fin 1024, toks x (ix2 r q) * (View.ld w (Rect.unit _ S1024x128.size inb_S1024x2688_S1024x128_0_2048) : FVec Ideal S1024x128 .bf16) (ix2 q b) := by
    unfold smalls
    generalize toks x = p
    generalize (View.ld w (Rect.unit _ S1024x128.size inb_S1024x2688_S1024x128_0_2048) : FVec Ideal S1024x128 .bf16) = z
    pointwise []
  rw [e]
  refine Finset.sum_congr rfl fun q _ => congrArg₂ (· * ·) (toks_at x r q) ?_
  refine View.ld_unit_apply_of _ _ _ _ _ _ fun a => ?_
  match a with
  | ⟨0, _⟩ => exact (Nat.zero_add _).symm
  | ⟨1, _⟩ => rfl

theorem kv_at (r : Fin 512) (b : Fin 512) : kv x w (ix2 r b) = nat x w r ⟨2176 + b.val, by omega⟩ := by
  have e : kv x w (ix2 r b) = ∑ q : Fin 1024, toks x (ix2 r q) * (View.ld w (Rect.unit _ S1024x512.size inb_S1024x2688_S1024x512_0_2176) : FVec Ideal S1024x512 .bf16) (ix2 q b) := by
    unfold kv
    generalize toks x = p
    generalize (View.ld w (Rect.unit _ S1024x512.size inb_S1024x2688_S1024x512_0_2176) : FVec Ideal S1024x512 .bf16) = z
    pointwise []
  rw [e]
  refine Finset.sum_congr rfl fun q _ => congrArg₂ (· * ·) (toks_at x r q) ?_
  refine View.ld_unit_apply_of _ _ _ _ _ _ fun a => ?_
  match a with
  | ⟨0, _⟩ => exact (Nat.zero_add _).symm
  | ⟨1, _⟩ => rfl

theorem quer_at (k : Fin 2) (a : Fin 256) (r : Fin 512) : quer k x u (ix2 a r) = tr x u ⟨256 * k.val + a.val, by omega⟩ r := by
  have e : quer k x u (ix2 a r) = ∑ q : Fin 1024, (View.ld u (Rect.unit _ S256x1024.size (fit_u k)) : FVec Ideal S256x1024 .bf16) (ix2 a q) * toks x (ix2 r q) := by
    unfold quer
    generalize toks x = p
    generalize (View.ld u (Rect.unit _ S256x1024.size (fit_u k)) : FVec Ideal S256x1024 .bf16) = z
    pointwise []
  rw [e]
  refine Finset.sum_congr rfl fun q _ => congrArg₂ (· * ·) ?_ (toks_at x r q)
  refine View.ld_unit_apply_of _ _ _ _ _ _ fun a => ?_
  match a with
  | ⟨0, _⟩ => rfl
  | ⟨1, _⟩ => exact (Nat.zero_add _).symm

theorem vg_at (a : Fin 288) (r : Fin 512) : vg x u (ix2 a r) = tr x u ⟨512 + a.val, by omega⟩ r := by
  have e : vg x u (ix2 a r) = ∑ q : Fin 1024, (View.ld u (Rect.unit _ S288x1024.size inb_S800x1024_S288x1024_512_0) : FVec Ideal S288x1024 .bf16) (ix2 a q) * toks x (ix2 r q) := by
    unfold vg
    generalize toks x = p
    generalize (View.ld u (Rect.unit _ S288x1024.size inb_S800x1024_S288x1024_512_0) : FVec Ideal S288x1024 .bf16) = z
    pointwise []
  rw [e]
  refine Finset.sum_congr rfl fun q _ => congrArg₂ (· * ·) ?_ (toks_at x r q)
  refine View.ld_unit_apply_of _ _ _ _ _ _ fun a => ?_
  match a with
  | ⟨0, _⟩ => rfl
  | ⟨1, _⟩ => exact (Nat.zero_add _).symm

/-! ### The convolution -/

/-- A row of the point's tokens after the sixteen before them. -/
def lead (R : Fin 528) (q : Fin 1024) : EReal :=
  if hR : R.val < 16 then (if fresh (BitVec.ofNat 32 (i 0).val) = 1#1 then 0 else (h : FVec Ideal S16x1024 .f32) (ix2 ⟨R.val, hR⟩ q))
  else (x : FVec Ideal S512x1024 .f32) (ix2 ⟨R.val - 16, by omega⟩ q)

theorem before_at (R : Fin 16) (q : Fin 1024) :
    before i h (ix2 R q) = if fresh (BitVec.ofNat 32 (i 0).val) = 1#1 then 0 else (h : FVec Ideal S16x1024 .f32) (ix2 R q) := by
  have e : View.ld h (Rect.unit _ S16x1024.size inb_S16x1024_S16x1024_0_0) (ix2 R q : S16x1024.Idx) = h (ix2 R q) := by
    refine View.ld_unit_apply_of _ _ _ _ _ _ fun a => ?_
    match a with
    | ⟨0, _⟩ => exact (Nat.zero_add _).symm
    | ⟨1, _⟩ => exact (Nat.zero_add _).symm
  unfold before
  rw [← e]
  generalize View.ld h (Rect.unit _ S16x1024.size inb_S16x1024_S16x1024_0_0) = z
  generalize fresh (BitVec.ofNat 32 (i 0).val) = f
  unfold Scalar.select
  by_cases hf : f = 1#1
  · rw [if_pos hf, if_pos (show f = 1 from hf)]
    pointwise []
  · rw [if_neg hf, if_neg (show ¬f = 1 from hf)]
    pointwise []

theorem both_at (R : Fin 528) (q : Fin 1024) : both i x h (ix2 R q) = lead x h i R q := by
  unfold both lead
  by_cases hR : R.val < 16
  · rw [dif_pos hR, ← before_at]
    refine (concatenate_pair_apply_left (t := S528x1024) (s₁ := S16x1024) (s₂ := S512x1024) 0 _ _ _ _ rfl (ix2 ⟨R.val, hR⟩ q) fun d => ?_).trans ?_
    · match d with
      | ⟨0, _⟩ => rfl
      | ⟨1, _⟩ => rfl
    · generalize before i h = z
      pointwise []
  · rw [dif_neg hR, ← toks_at x]
    refine concatenate_pair_apply_right (t := S528x1024) (s₁ := S16x1024) (s₂ := S512x1024) 0 _ _ _ _ rfl rfl (ix2 ⟨R.val - 16, by omega⟩ q) (fun d hd => ?_) ?_
    · match d with
      | ⟨0, _⟩ => exact absurd rfl hd
      | ⟨1, _⟩ => rfl
    · show R.val - 16 + 16 = R.val
      omega

/-- A column before the convolution. -/
def preAt (R : Fin 528) (j : Fin 1536) : EReal := ∑ q : Fin 1024, lead x h i R q * (w : FVec Ideal S1024x2688 .bf16) (ix2 q ⟨j.val, by omega⟩)

theorem pre_at (k : Fin 6) (R : Fin 528) (b : Fin 256) : pre k (both i x h) w (ix2 R b) = preAt x h w i R ⟨256 * k.val + b.val, by omega⟩ := by
  have e : pre k (both i x h) w (ix2 R b) = ∑ q : Fin 1024, both i x h (ix2 R q) * (View.ld w (Rect.unit _ S1024x256.size (fit_w ⟨k.val, by omega⟩)) : FVec Ideal S1024x256 .bf16) (ix2 q b) := by
    unfold pre
    generalize both i x h = p
    generalize (View.ld w (Rect.unit _ S1024x256.size (fit_w ⟨k.val, by omega⟩)) : FVec Ideal S1024x256 .bf16) = z
    pointwise []
  rw [e]
  exact Finset.sum_congr rfl fun q _ => congrArg₂ (· * ·) (both_at x h i R q) (ldw w _ q b)

theorem tap_at (d : Fin 4) (k : Fin 6) (r : Fin 512) (b : Fin 256) : tap d k cw (ix2 r b) = (cw : FVec Ideal S4x1536 .f32) (ix2 d ⟨256 * k.val + b.val, by omega⟩) := by
  have e : (View.ld cw (Rect.unit _ S1x256.size (fit_c d k)) : FVec Ideal S1x256 .f32) (ix2 0 b) = (cw : FVec Ideal S4x1536 .f32) (ix2 d ⟨256 * k.val + b.val, by omega⟩) := by
    refine View.ld_unit_apply_of _ _ _ _ _ _ fun a => ?_
    match a with
    | ⟨0, _⟩ => rfl
    | ⟨1, _⟩ => rfl
  rw [← e]
  unfold tap
  generalize (View.ld cw (Rect.unit _ S1x256.size (fit_c d k)) : FVec Ideal S1x256 .f32) = z
  pointwise []

theorem own_at (p : FVec Ideal S528x256 .f32) (r : Fin 512) (b : Fin 256) : own p (ix2 r b) = p (ix2 ⟨16 + r.val, by omega⟩ b) := by
  unfold own
  pointwise []

theorem rot_at (p : FVec Ideal S528x256 .f32) (n : Fin 4) (r : Fin 512) (b : Fin 256) :
    own (dynamicRotate 0 (BitVec.ofNat 32 n.val) none p rotates_S528x256_d0) (ix2 r b) = p (ix2 ⟨16 + r.val - n.val, by omega⟩ b) := by
  rw [own_at]
  unfold dynamicRotate
  refine congrArg p (funext fun d => Fin.ext ?_)
  have hn : (BitVec.ofNat 32 n.val).toNat = n.val := by rw [BitVec.toNat_ofNat]; omega
  match d with
  | ⟨0, _⟩ =>
    show (16 + r.val + 528 - ((BitVec.ofNat 32 n.val).toNat + 0) % 528) % 528 = 16 + r.val - n.val
    rw [hn]
    omega
  | ⟨1, _⟩ => rfl

/-- The convolution at an entry. -/
def convAt (r : Fin 512) (j : Fin 1536) : EReal :=
  (((cw : FVec Ideal S4x1536 .f32) (ix2 3 j) * preAt x h w i ⟨16 + r.val, by omega⟩ j
    + (cw : FVec Ideal S4x1536 .f32) (ix2 2 j) * preAt x h w i ⟨16 + r.val - 1, by omega⟩ j)
    + (cw : FVec Ideal S4x1536 .f32) (ix2 1 j) * preAt x h w i ⟨16 + r.val - 2, by omega⟩ j)
    + (cw : FVec Ideal S4x1536 .f32) (ix2 0 j) * preAt x h w i ⟨16 + r.val - 3, by omega⟩ j

theorem conv_at (k : Fin 6) (r : Fin 512) (b : Fin 256) :
    conv k (pre k (both i x h) w) cw (ix2 r b) = convAt x h w cw i r ⟨256 * k.val + b.val, by omega⟩ := by
  have e : ∀ p : FVec Ideal S528x256 .f32, conv k p cw (ix2 r b)
      = ((tap 3 k cw (ix2 r b) * own p (ix2 r b) + tap 2 k cw (ix2 r b) * own (dynamicRotate 0 (BitVec.ofNat 32 (1 : Fin 4).val) none p rotates_S528x256_d0) (ix2 r b))
        + tap 1 k cw (ix2 r b) * own (dynamicRotate 0 (BitVec.ofNat 32 (2 : Fin 4).val) none p rotates_S528x256_d0) (ix2 r b))
        + tap 0 k cw (ix2 r b) * own (dynamicRotate 0 (BitVec.ofNat 32 (3 : Fin 4).val) none p rotates_S528x256_d0) (ix2 r b) := fun p => rfl
  rw [e, rot_at, rot_at, rot_at, own_at, tap_at, tap_at, tap_at, tap_at, pre_at, pre_at, pre_at, pre_at]
  rfl

theorem act_at (v : FVec Ideal S512x256 .f32) (r : Fin 512) (b : Fin 256) : act v (ix2 r b) = siluT (v (ix2 r b)) := by
  pointwise [act]
  rfl

end Units

/-! ### The pieces of each result -/

theorem congr4 {α β γ δ ε : Type} (f : α → β → γ → δ → ε) {a a' : α} {b b' : β} {c c' : γ} {d d' : δ} (ha : a = a') (hb : b = b') (hc : c = c') (hd : d = d') :
    f a b c d = f a' b' c' d' := by
  subst ha hb hc hd
  rfl

theorem congr3 {α β γ ε : Type} (f : α → β → γ → ε) {a a' : α} {b b' : β} {c c' : γ} (ha : a = a') (hb : b = b') (hc : c = c') :
    f a b c = f a' b' c' := by
  subst ha hb hc
  rfl

theorem two {n p : Nat} (j : (⟨2, ![n, p]⟩ : Shape).Idx) : ∃ (a : Fin n) (b : Fin p), j = ix2 a b :=
  ⟨j 0, j 1, by funext d; match d with | ⟨0, _⟩ => rfl | ⟨1, _⟩ => rfl⟩

theorem three {n p q : Nat} (j : (⟨3, ![n, p, q]⟩ : Shape).Idx) : ∃ (a : Fin n) (b : Fin p) (c : Fin q), j = ix3 a b c :=
  ⟨j 0, j 1, j 2, by funext d; match d with | ⟨0, _⟩ => rfl | ⟨1, _⟩ => rfl | ⟨2, _⟩ => rfl⟩

theorem four {n p q r : Nat} (j : (⟨4, ![n, p, q, r]⟩ : Shape).Idx) : ∃ (a : Fin n) (b : Fin p) (c : Fin q) (d : Fin r), j = ix4 a b c d :=
  ⟨j 0, j 1, j 2, j 3, by funext d; match d with | ⟨0, _⟩ => rfl | ⟨1, _⟩ => rfl | ⟨2, _⟩ => rfl | ⟨3, _⟩ => rfl⟩

theorem five {n p q r s : Nat} (j : (⟨5, ![n, p, q, r, s]⟩ : Shape).Idx) : ∃ (a : Fin n) (b : Fin p) (c : Fin q) (d : Fin r) (e : Fin s), j = ix5 a b c d e :=
  ⟨j 0, j 1, j 2, j 3, j 4, by funext d; match d with | ⟨0, _⟩ => rfl | ⟨1, _⟩ => rfl | ⟨2, _⟩ => rfl | ⟨3, _⟩ => rfl | ⟨4, _⟩ => rfl⟩

section Pieces

variable (x : Vec Ideal S512x1024 .f32) (h : Vec Ideal S16x1024 .f32) (w : Vec Ideal S1024x2688 .bf16) (u : Vec Ideal S800x1024 .bf16)
  (cw : Vec Ideal S4x1536 .f32) (i : grid0.Coords)

def qkvG (r : Fin 512) (j : Fin 1536) : EReal := siluT (convAt x h w cw i r j)
def zG (r : Fin 512) (j : Fin 512) : EReal := nat x w r ⟨1536 + j.val, by omega⟩
def smallG (r : Fin 512) (j : Fin 128) : EReal := nat x w r ⟨2048 + j.val, by omega⟩
def kcG (s : Fin 2) (k : Fin 2) (b : Fin 32) (e : Fin 1024) : EReal := nat x w ⟨16 * b.val + e.val / 64, by omega⟩ ⟨2176 + 128 * s.val + 64 * k.val + e.val % 64, by omega⟩
def ksG (s : Fin 2) (k : Fin 2) (r : Fin 512) (e : Fin 64) : EReal := nat x w r ⟨2432 + 128 * s.val + 64 * k.val + e.val, by omega⟩
def qtG (k j : Fin 2) (d : Fin 64) (e : Fin 1024) : EReal :=
  tr x u ⟨256 * k.val + 64 * (e.val / 256) + d.val, by omega⟩ ⟨256 * j.val + e.val % 256, by omega⟩ * Ideal.ofBits .f32 0x3E38AA3B#32
def vtG (s : Fin 2) (k j : Fin 2) (d : Fin 64) (e : Fin 256) : EReal := tr x u ⟨512 + 128 * s.val + 64 * k.val + d.val, by omega⟩ ⟨256 * j.val + e.val, by omega⟩
def gateG (k j : Fin 2) (d : Fin 3) (e : Fin 1024) : EReal :=
  tr x u ⟨768 + 12 * k.val + 3 * (e.val / 256) + d.val, by omega⟩ ⟨256 * j.val + e.val % 256, by omega⟩

theorem qkv_spec : ∀ p ∈ qkvPieces i x h w cw, ∀ y, p.2 y = (fun y : S512x1536.Idx => qkvG x h w cw i (y 0) (y 1)) (p.1.emb y) := by
  intro p hp
  simp only [qkvPieces, List.mem_ofFn] at hp
  obtain ⟨n, rfl⟩ := hp
  intro y
  obtain ⟨a, b, rfl⟩ := two y
  refine (act_at _ a b).trans (congrArg siluT ((conv_at x h w cw i _ a b).trans (congrArg₂ (convAt x h w cw i) (Fin.ext ?_) (Fin.ext ?_))))
  · show a.val = 0 + 1 * a.val; omega
  · show 256 * (5 - n.val) + b.val = 256 * (5 - n.val) + 1 * b.val; omega

theorem z_spec : ∀ p ∈ zPieces x w, ∀ y, p.2 y = (fun y : S512x512.Idx => zG x w (y 0) (y 1)) (p.1.emb y) := by
  intro p hp
  simp only [zPieces, List.mem_ofFn] at hp
  obtain ⟨n, rfl⟩ := hp
  intro y
  obtain ⟨a, b, rfl⟩ := two y
  refine (plain_at x w _ a b).trans (congrArg₂ (nat x w) (Fin.ext ?_) (Fin.ext ?_))
  · show a.val = 0 + 1 * a.val; omega
  · show 1536 + 256 * (1 - n.val) + b.val = 1536 + (256 * (1 - n.val) + 1 * b.val); omega

theorem small_spec : ∀ p ∈ smallPieces x w, ∀ y, p.2 y = (fun y : S512x128.Idx => smallG x w (y 0) (y 1)) (p.1.emb y) := by
  intro p hp
  simp only [smallPieces, List.mem_singleton] at hp
  subst hp
  intro y
  obtain ⟨a, b, rfl⟩ := two y
  refine (smalls_at x w a b).trans (congrArg₂ (nat x w) (Fin.ext ?_) (Fin.ext ?_))
  · show a.val = 0 + 1 * a.val; omega
  · show 2048 + b.val = 2048 + (0 + 1 * b.val); omega

/-- The columns to compress as they wait. -/
def slabG (s : Fin 2) (r : Fin 512) (j : Fin 128) : EReal := nat x w r ⟨2176 + 128 * s.val + j.val, by omega⟩

theorem slab0_spec (y : (slab0 x w).1.shape.Idx) : (slab0 x w).2 y = (fun y : S2x512x128.Idx => slabG x w (y 0) (y 1) (y 2)) ((slab0 x w).1.emb y) := by
  obtain ⟨s, a, b, rfl⟩ := three (n := 1) (p := 512) (q := 128) y
  have e : (slab0 x w).2 (ix3 s a b : S1x512x128.Idx) = kv x w (ix2 a ⟨b.val, by omega⟩) := by
    unfold slab0
    generalize kv x w = z
    obtain rfl : s = 0 := Subsingleton.elim _ _
    pointwise []
  refine e.trans ((kv_at x w _ _).trans (congrArg₂ (nat x w) (Fin.ext ?_) (Fin.ext ?_)))
  · show a.val = 0 + 1 * a.val; omega
  · show 2176 + b.val = 2176 + 128 * (0 + 1 * s.val) + (0 + 1 * b.val); omega

theorem slab1_spec (y : (slab1 x w).1.shape.Idx) : (slab1 x w).2 y = (fun y : S2x512x128.Idx => slabG x w (y 0) (y 1) (y 2)) ((slab1 x w).1.emb y) := by
  obtain ⟨s, a, b, rfl⟩ := three (n := 1) (p := 512) (q := 128) y
  have e : (slab1 x w).2 (ix3 s a b : S1x512x128.Idx) = kv x w (ix2 a ⟨128 + b.val, by omega⟩) := by
    unfold slab1
    generalize kv x w = z
    obtain rfl : s = 0 := Subsingleton.elim _ _
    pointwise []
  refine e.trans ((kv_at x w _ _).trans (congrArg₂ (nat x w) (Fin.ext ?_) (Fin.ext ?_)))
  · show a.val = 0 + 1 * a.val; omega
  · show 2176 + (128 + b.val) = 2176 + 128 * (1 + 1 * s.val) + (0 + 1 * b.val); omega

theorem every0 (v : Memref sig .tc .vmem S2x512x128 .f32) (r : Fin 16) (b : Fin 32) (j : Fin 128) :
    (v.view.readCov [slab0 x w] (every 0 r) : FVec Ideal S1x32x128 .f32) (ix3 0 b j) = slabG x w 0 ⟨16 * b.val + r.val, by omega⟩ j := by
  rw [View.readCov_eq_canon']
  refine (View.canon_apply_of_pieces (fun y : S2x512x128.Idx => slabG x w (y 0) (y 1) (y 2)) _ (fun p hp => ?_) _ ⟨slab0 x w, List.mem_singleton_self _, ?_⟩).trans
    (congr3 (slabG x w) (Fin.ext ?_) (Fin.ext ?_) (Fin.ext ?_))
  · rw [List.mem_singleton] at hp
    subst hp
    exact slab0_spec x w
  · refine (Rect.mem_set_unit (inb := inb_S2x512x128_S1x512x128_0_0_0)).mpr fun a => ?_
    match a with
    | ⟨0, _⟩ => exact ⟨Nat.zero_le _, show 0 + 1 * 0 < 0 + 1 by omega⟩
    | ⟨1, _⟩ => exact ⟨Nat.zero_le _, show r.val + 16 * b.val < 0 + 512 by omega⟩
    | ⟨2, _⟩ => exact ⟨Nat.zero_le _, show 0 + 1 * j.val < 0 + 128 by omega⟩
  · show 0 + 1 * 0 = 0; omega
  · show r.val + 16 * b.val = 16 * b.val + r.val; omega
  · show 0 + 1 * j.val = j.val; omega

theorem every1 (v : Memref sig .tc .vmem S2x512x128 .f32) (r : Fin 16) (b : Fin 32) (j : Fin 128) :
    (v.view.readCov [slab1 x w, slab0 x w] (every 1 r) : FVec Ideal S1x32x128 .f32) (ix3 0 b j) = slabG x w 1 ⟨16 * b.val + r.val, by omega⟩ j := by
  rw [View.readCov_eq_canon']
  refine (View.canon_apply_of_pieces (fun y : S2x512x128.Idx => slabG x w (y 0) (y 1) (y 2)) _ (fun p hp => ?_) _ ⟨slab1 x w, List.mem_cons_self, ?_⟩).trans
    (congr3 (slabG x w) (Fin.ext ?_) (Fin.ext ?_) (Fin.ext ?_))
  · rw [List.mem_cons, List.mem_singleton] at hp
    rcases hp with hp | hp
    · subst hp
      exact slab1_spec x w
    · subst hp
      exact slab0_spec x w
  · refine (Rect.mem_set_unit (inb := inb_S2x512x128_S1x512x128_1_0_0)).mpr fun a => ?_
    match a with
    | ⟨0, _⟩ => exact ⟨show 1 ≤ 1 + 1 * 0 by omega, show 1 + 1 * 0 < 1 + 1 by omega⟩
    | ⟨1, _⟩ => exact ⟨Nat.zero_le _, show r.val + 16 * b.val < 0 + 512 by omega⟩
    | ⟨2, _⟩ => exact ⟨Nat.zero_le _, show 0 + 1 * j.val < 0 + 128 by omega⟩
  · show 1 + 1 * 0 = 1; omega
  · show r.val + 16 * b.val = 16 * b.val + r.val; omega
  · show 0 + 1 * j.val = j.val; omega

theorem gath_at (k : Fin 2) (g : FVec Ideal S1x32x128 .f32) (p q : Fin 1) (b : Fin 32) (d : Fin 64) :
    gath (F := Ideal) k g (ix4 p q b d) = g (ix3 0 b ⟨64 * k.val + d.val, by omega⟩) := by
  obtain rfl : p = 0 := Subsingleton.elim _ _
  obtain rfl : q = 0 := Subsingleton.elim _ _
  pointwise [gath]

theorem kc_spec (v : Memref sig .tc .vmem S2x512x128 .f32) :
    ∀ p ∈ kcPieces v x w, ∀ y, p.2 y = (fun y : S1x2x32x1024.Idx => kcG x w 0 (y 1) (y 2) (y 3)) (p.1.emb y) := by
  intro p hp
  simp only [kcPieces, List.mem_ofFn] at hp
  obtain ⟨n, rfl⟩ := hp
  intro y
  obtain ⟨a, q, b, d, rfl⟩ := four (n := 1) (p := 1) (q := 32) (r := 64) y
  refine (gath_at _ _ a q b d).trans ((every0 x w v _ b _).trans (congrArg₂ (nat x w) (Fin.ext ?_) (Fin.ext ?_)))
  · show 16 * b.val + (31 - n.val) / 2 = 16 * (0 + 1 * b.val) + (64 * ((31 - n.val) / 2) + 1 * d.val) / 64; omega
  · show 2176 + 128 * 0 + (64 * ((31 - n.val) % 2) + d.val) = 2176 + 128 * 0 + 64 * ((31 - n.val) % 2 + 1 * q.val) + (64 * ((31 - n.val) / 2) + 1 * d.val) % 64; omega

theorem vc_spec (v : Memref sig .tc .vmem S2x512x128 .f32) :
    ∀ p ∈ vcPieces v x w, ∀ y, p.2 y = (fun y : S1x2x32x1024.Idx => kcG x w 1 (y 1) (y 2) (y 3)) (p.1.emb y) := by
  intro p hp
  simp only [vcPieces, List.mem_ofFn] at hp
  obtain ⟨n, rfl⟩ := hp
  intro y
  obtain ⟨a, q, b, d, rfl⟩ := four (n := 1) (p := 1) (q := 32) (r := 64) y
  refine (gath_at _ _ a q b d).trans ((every1 x w v _ b _).trans (congrArg₂ (nat x w) (Fin.ext ?_) (Fin.ext ?_)))
  · show 16 * b.val + (31 - n.val) / 2 = 16 * (0 + 1 * b.val) + (64 * ((31 - n.val) / 2) + 1 * d.val) / 64; omega
  · show 2176 + 128 * 1 + (64 * ((31 - n.val) % 2) + d.val) = 2176 + 128 * 1 + 64 * ((31 - n.val) % 2 + 1 * q.val) + (64 * ((31 - n.val) / 2) + 1 * d.val) % 64; omega

theorem keys_at (k : Fin 8) (p q : Fin 1) (r : Fin 512) (d : Fin 64) : keys k x w (ix4 p q r d) = nat x w r ⟨2176 + (64 * k.val + d.val), by omega⟩ := by
  obtain rfl : p = 0 := Subsingleton.elim _ _
  obtain rfl : q = 0 := Subsingleton.elim _ _
  refine Eq.trans ?_ (kv_at x w r ⟨64 * k.val + d.val, by omega⟩)
  unfold keys
  generalize kv x w = z
  pointwise []

theorem ks_spec : ∀ p ∈ ksPieces x w, ∀ y, p.2 y = (fun y : S1x2x512x64.Idx => ksG x w 0 (y 1) (y 2) (y 3)) (p.1.emb y) := by
  intro p hp
  simp only [ksPieces, List.mem_ofFn] at hp
  obtain ⟨n, rfl⟩ := hp
  intro y
  obtain ⟨a, q, b, d, rfl⟩ := four (n := 1) (p := 1) (q := 512) (r := 64) y
  refine (keys_at x w _ a q b d).trans (congrArg₂ (nat x w) (Fin.ext ?_) (Fin.ext ?_))
  · show b.val = 0 + 1 * b.val; omega
  · show 2176 + (64 * (4 + (1 - n.val)) + d.val) = 2432 + 128 * 0 + 64 * (1 - n.val + 1 * q.val) + (0 + 1 * d.val); omega

theorem kw_spec : ∀ p ∈ kwPieces x w, ∀ y, p.2 y = (fun y : S1x2x512x64.Idx => ksG x w 1 (y 1) (y 2) (y 3)) (p.1.emb y) := by
  intro p hp
  simp only [kwPieces, List.mem_ofFn] at hp
  obtain ⟨n, rfl⟩ := hp
  intro y
  obtain ⟨a, q, b, d, rfl⟩ := four (n := 1) (p := 1) (q := 512) (r := 64) y
  refine (keys_at x w _ a q b d).trans (congrArg₂ (nat x w) (Fin.ext ?_) (Fin.ext ?_))
  · show b.val = 0 + 1 * b.val; omega
  · show 2176 + (64 * (6 + (1 - n.val)) + d.val) = 2432 + 128 * 1 + 64 * (1 - n.val + 1 * q.val) + (0 + 1 * d.val); omega

theorem qpiece_at (k j : Fin 2) (g : Fin 4) (p q s : Fin 1) (d : Fin 64) (e : Fin 256) :
    qpiece k j g x u (ix5 p q s d e) = tr x u ⟨256 * k.val + (64 * g.val + d.val), by omega⟩ ⟨256 * j.val + e.val, by omega⟩ * Ideal.ofBits .f32 0x3E38AA3B#32 := by
  obtain rfl : p = 0 := Subsingleton.elim _ _
  obtain rfl : q = 0 := Subsingleton.elim _ _
  obtain rfl : s = 0 := Subsingleton.elim _ _
  refine Eq.trans ?_ (congrArg (· * Ideal.ofBits .f32 0x3E38AA3B#32) (quer_at x u k ⟨64 * g.val + d.val, by omega⟩ ⟨256 * j.val + e.val, by omega⟩))
  unfold qpiece
  generalize quer k x u = z
  pointwise []

theorem qt_spec : ∀ p ∈ qtPieces x u, ∀ y, p.2 y = (fun y : S1x2x2x64x1024.Idx => qtG x u (y 1) (y 2) (y 3) (y 4)) (p.1.emb y) := by
  intro p hp
  simp only [qtPieces, List.mem_ofFn] at hp
  obtain ⟨n, rfl⟩ := hp
  intro y
  obtain ⟨a, q, s, d, e, rfl⟩ := five (n := 1) (p := 1) (q := 1) (r := 64) (s := 256) y
  refine (qpiece_at x u _ _ _ a q s d e).trans (congrArg (· * Ideal.ofBits .f32 0x3E38AA3B#32) (congrArg₂ (tr x u) (Fin.ext ?_) (Fin.ext ?_)))
  · show 256 * ((15 - n.val) / 8) + (64 * ((15 - n.val) % 4) + d.val) = 256 * ((15 - n.val) / 8 + 1 * q.val) + 64 * ((256 * ((15 - n.val) % 4) + 1 * e.val) / 256) + (0 + 1 * d.val); omega
  · show 256 * ((15 - n.val) / 4 % 2) + e.val = 256 * ((15 - n.val) / 4 % 2 + 1 * s.val) + (256 * ((15 - n.val) % 4) + 1 * e.val) % 256; omega

theorem vpiece_at (k : Fin 4) (j : Fin 2) (p q s : Fin 1) (d : Fin 64) (e : Fin 256) :
    vpiece k j x u (ix5 p q s d e) = tr x u ⟨512 + (64 * k.val + d.val), by omega⟩ ⟨256 * j.val + e.val, by omega⟩ := by
  obtain rfl : p = 0 := Subsingleton.elim _ _
  obtain rfl : q = 0 := Subsingleton.elim _ _
  obtain rfl : s = 0 := Subsingleton.elim _ _
  refine Eq.trans ?_ (vg_at x u ⟨64 * k.val + d.val, by omega⟩ ⟨256 * j.val + e.val, by omega⟩)
  unfold vpiece
  generalize vg x u = z
  pointwise []

theorem vst_spec : ∀ p ∈ vstPieces x u, ∀ y, p.2 y = (fun y : S1x2x2x64x256.Idx => vtG x u 0 (y 1) (y 2) (y 3) (y 4)) (p.1.emb y) := by
  intro p hp
  simp only [vstPieces, List.mem_ofFn] at hp
  obtain ⟨n, rfl⟩ := hp
  intro y
  obtain ⟨a, q, s, d, e, rfl⟩ := five (n := 1) (p := 1) (q := 1) (r := 64) (s := 256) y
  refine (vpiece_at x u _ _ a q s d e).trans (congrArg₂ (tr x u) (Fin.ext ?_) (Fin.ext ?_))
  · show 512 + (64 * ((3 - n.val) / 2) + d.val) = 512 + 128 * 0 + 64 * ((3 - n.val) / 2 + 1 * q.val) + (0 + 1 * d.val); omega
  · show 256 * ((3 - n.val) % 2) + e.val = 256 * ((3 - n.val) % 2 + 1 * s.val) + (0 + 1 * e.val); omega

theorem vwt_spec : ∀ p ∈ vwtPieces x u, ∀ y, p.2 y = (fun y : S1x2x2x64x256.Idx => vtG x u 1 (y 1) (y 2) (y 3) (y 4)) (p.1.emb y) := by
  intro p hp
  simp only [vwtPieces, List.mem_ofFn] at hp
  obtain ⟨n, rfl⟩ := hp
  intro y
  obtain ⟨a, q, s, d, e, rfl⟩ := five (n := 1) (p := 1) (q := 1) (r := 64) (s := 256) y
  refine (vpiece_at x u _ _ a q s d e).trans (congrArg₂ (tr x u) (Fin.ext ?_) (Fin.ext ?_))
  · show 512 + (64 * (2 + (3 - n.val) / 2) + d.val) = 512 + 128 * 1 + 64 * ((3 - n.val) / 2 + 1 * q.val) + (0 + 1 * d.val); omega
  · show 256 * ((3 - n.val) % 2) + e.val = 256 * ((3 - n.val) % 2 + 1 * s.val) + (0 + 1 * e.val); omega

theorem gpiece_at (r : Fin 24) (j : Fin 2) (p q s t : Fin 1) (e : Fin 256) :
    gpiece r j x u (ix5 p q s t e) = tr x u ⟨512 + (256 + r.val), by omega⟩ ⟨256 * j.val + e.val, by omega⟩ := by
  obtain rfl : p = 0 := Subsingleton.elim _ _
  obtain rfl : q = 0 := Subsingleton.elim _ _
  obtain rfl : s = 0 := Subsingleton.elim _ _
  obtain rfl : t = 0 := Subsingleton.elim _ _
  refine Eq.trans ?_ (vg_at x u ⟨256 + r.val, by omega⟩ ⟨256 * j.val + e.val, by omega⟩)
  unfold gpiece
  generalize vg x u = z
  pointwise []

theorem gate_spec : ∀ p ∈ gatePieces x u, ∀ y, p.2 y = (fun y : S1x2x2x3x1024.Idx => gateG x u (y 1) (y 2) (y 3) (y 4)) (p.1.emb y) := by
  intro p hp
  simp only [gatePieces, List.mem_ofFn] at hp
  obtain ⟨n, rfl⟩ := hp
  intro y
  obtain ⟨a, q, s, t, e, rfl⟩ := five (n := 1) (p := 1) (q := 1) (r := 1) (s := 256) y
  refine (gpiece_at x u _ _ a q s t e).trans (congrArg₂ (tr x u) (Fin.ext ?_) (Fin.ext ?_))
  · show 512 + (256 + (12 * ((47 - n.val) / 24) + (47 - n.val) % 12)) = 768 + 12 * ((47 - n.val) / 24 + 1 * q.val) + 3 * ((256 * ((47 - n.val) / 3 % 4) + 1 * e.val) / 256) + ((47 - n.val) % 3 + 1 * t.val); omega
  · show 256 * ((47 - n.val) / 12 % 2) + e.val = 256 * ((47 - n.val) / 12 % 2 + 1 * s.val) + (256 * ((47 - n.val) / 3 % 4) + 1 * e.val) % 256; omega

end Pieces

end InProj

end
-- ==== Proof.InProjArgs.lean ====
/- What the blocks of the input projection's points are of the call's arguments. -/
module

public import proofs.«01_k».proof.Proof.Gen.Kernel4Ideal.Value
public import proofs.«01_k».proof.Proof.InProjRead
public import Idealize.ShloMosaic.Lib.Pipeline.ValueKit.Geometry
public import Idealize.ShloMosaic.Lib.StableHlo.ReadAt

@[expose] public section

set_option maxRecDepth 100000

noncomputable section

namespace InProj

open Idealize.ShloMosaic Idealize.ShloMosaic.TcCoe Idealize.SL.Sem
open Cert.Kernel4Ideal Cert.Kernel4Ideal.Gen Ffn

variable (m : (ℓ : Loc nD τ sig) → Buf (Elt Ideal) ℓ) (c : Dev nD)

abbrev aX : FVec Ideal S16x4096x1024 .f32 := m (c, Proc.tc.devRef main_arg0)
abbrev aW : FVec Ideal S1024x3360 .f32 := m (c, Proc.tc.devRef main_arg1)
abbrev aC : FVec Ideal S4x1536 .f32 := m (c, Proc.tc.devRef main_arg2)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 32 * t.val - 1 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem fresh_iff : ∀ t : Fin cfg0.N, fresh (BitVec.ofNat 32 (grid0.coords t 0).val) = 1#1 ↔ t.val % 8 = 0 := (by decide +kernel : ∀ t : Fin grid0.N, _)

theorem host0 (R : Fin 65536) (q : Fin 1024) :
    (V m c main_v22 : FVec Ideal S65536x1024 .f32) (ix2 R q) = aX m c (ix3 ⟨R.val / 4096, by omega⟩ ⟨R.val % 4096, by omega⟩ q) := by
  unfold V
  after_reads_at

theorem blk0 (t : Fin cfg0.N) (r : Fin 512) (q : Fin 1024) (R : Fin 65536) (hR : R.val = 512 * t.val + r.val) :
    (iblk m c 0 t : FVec Ideal S512x1024 .f32) (ix2 r q) = aX m c (ix3 ⟨R.val / 4096, by omega⟩ ⟨R.val % 4096, by omega⟩ q) := by
  obtain ⟨e0, e1⟩ := idx0 t
  refine Eq.trans ?_ (host0 m c R q)
  show V m c main_v22 (((cfg0.win 0).blk t).view.emb (ix2 r q)) = _
  refine congrArg (V m c main_v22 : FVec Ideal S65536x1024 .f32) (funext fun a => Fin.ext ?_)
  match a with
  | ⟨0, _⟩ => show win0_0.index t (0 : Fin 2) * 512 + 1 * r.val = R.val; omega
  | ⟨1, _⟩ => show win0_0.index t (1 : Fin 2) * 1024 + 1 * q.val = q.val; omega

theorem blk1 (t : Fin cfg0.N) (h0 : t.val ≠ 0) (r : Fin 16) (q : Fin 1024) (R : Fin 65536) (hR : R.val + 16 = 512 * t.val + r.val) :
    (iblk m c 1 t : FVec Ideal S16x1024 .f32) (ix2 r q) = aX m c (ix3 ⟨R.val / 4096, by omega⟩ ⟨R.val % 4096, by omega⟩ q) := by
  obtain ⟨e0, e1⟩ := idx1 t
  refine Eq.trans ?_ (host0 m c R q)
  show V m c main_v22 (((cfg0.win 1).blk t).view.emb (ix2 r q)) = _
  refine congrArg (V m c main_v22 : FVec Ideal S65536x1024 .f32) (funext fun a => Fin.ext ?_)
  match a with
  | ⟨0, _⟩ => show win0_1.index t (0 : Fin 2) * 16 + 1 * r.val = R.val; omega
  | ⟨1, _⟩ => show win0_1.index t (1 : Fin 2) * 1024 + 1 * q.val = q.val; omega

theorem blk2 (t : Fin cfg0.N) (p : Fin 1024) (q : Fin 2688) : (iblk m c 2 t : FVec Ideal S1024x2688 .bf16) (ix2 p q) = (V m c main_v20 : FVec Ideal S1024x2688 .bf16) (ix2 p q) := by
  obtain ⟨e0, e1⟩ := idx2 t
  show V m c main_v20 (((cfg0.win 2).blk t).view.emb (ix2 p q)) = _
  refine congrArg (V m c main_v20 : FVec Ideal S1024x2688 .bf16) (funext fun a => Fin.ext ?_)
  match a with
  | ⟨0, _⟩ => show win0_2.index t (0 : Fin 2) * 1024 + 1 * p.val = p.val; omega
  | ⟨1, _⟩ => show win0_2.index t (1 : Fin 2) * 2688 + 1 * q.val = q.val; omega

theorem blk3 (t : Fin cfg0.N) (p : Fin 800) (q : Fin 1024) : (iblk m c 3 t : FVec Ideal S800x1024 .bf16) (ix2 p q) = (V m c main_v21 : FVec Ideal S800x1024 .bf16) (ix2 p q) := by
  obtain ⟨e0, e1⟩ := idx3 t
  show V m c main_v21 (((cfg0.win 3).blk t).view.emb (ix2 p q)) = _
  refine congrArg (V m c main_v21 : FVec Ideal S800x1024 .bf16) (funext fun a => Fin.ext ?_)
  match a with
  | ⟨0, _⟩ => show win0_3.index t (0 : Fin 2) * 800 + 1 * p.val = p.val; omega
  | ⟨1, _⟩ => show win0_3.index t (1 : Fin 2) * 1024 + 1 * q.val = q.val; omega

theorem host4 (p : Fin 4) (q : Fin 1536) : (V m c main_arg2 : FVec Ideal S4x1536 .f32) (ix2 p q) = aC m c (ix2 p q) := by
  unfold V
  after_reads_at

theorem blk4 (t : Fin cfg0.N) (p : Fin 4) (q : Fin 1536) : (iblk m c 4 t : FVec Ideal S4x1536 .f32) (ix2 p q) = aC m c (ix2 p q) := by
  obtain ⟨e0, e1⟩ := idx4 t
  refine Eq.trans ?_ (host4 m c p q)
  show V m c main_arg2 (((cfg0.win 4).blk t).view.emb (ix2 p q)) = _
  refine congrArg (V m c main_arg2 : FVec Ideal S4x1536 .f32) (funext fun a => Fin.ext ?_)
  match a with
  | ⟨0, _⟩ => show win0_4.index t (0 : Fin 2) * 4 + 1 * p.val = p.val; omega
  | ⟨1, _⟩ => show win0_4.index t (1 : Fin 2) * 1536 + 1 * q.val = q.val; omega

/-! ### The columns in their places -/

theorem seg0 (p : Fin 1024) (q : Fin 512) : (V m c main_v20 : FVec Ideal S1024x2688 .bf16) (ix2 p ⟨q.val, by omega⟩) = aW m c (ix2 p ⟨q.val, by omega⟩) := by
  unfold V
  after_reads_at
  after_reads_at

theorem seg512 (p : Fin 1024) (q : Fin 512) : (V m c main_v20 : FVec Ideal S1024x2688 .bf16) (ix2 p ⟨512 + q.val, by omega⟩) = aW m c (ix2 p ⟨512 + q.val, by omega⟩) := by
  unfold V
  after_reads_at
  after_reads_at

theorem seg1024 (p : Fin 1024) (q : Fin 512) : (V m c main_v20 : FVec Ideal S1024x2688 .bf16) (ix2 p ⟨1024 + q.val, by omega⟩) = aW m c (ix2 p ⟨1024 + q.val, by omega⟩) := by
  unfold V
  after_reads_at
  repeat rw [dif_neg (by omega)]
  rw [dif_pos (by omega)]
  after_reads_at
  exact congrArg (fun j => aW m c (ix2 p j)) (Fin.ext (by dsimp only; omega))

theorem seg1536 (p : Fin 1024) (q : Fin 512) : (V m c main_v20 : FVec Ideal S1024x2688 .bf16) (ix2 p ⟨1536 + q.val, by omega⟩) = aW m c (ix2 p ⟨1536 + q.val, by omega⟩) := by
  unfold V
  after_reads_at
  repeat rw [dif_neg (by omega)]
  rw [dif_pos (by omega)]
  after_reads_at
  exact congrArg (fun j => aW m c (ix2 p j)) (Fin.ext (by dsimp only; omega))

theorem seg2176 (p : Fin 1024) (q : Fin 128) : (V m c main_v20 : FVec Ideal S1024x2688 .bf16) (ix2 p ⟨2176 + q.val, by omega⟩) = aW m c (ix2 p ⟨2568 + q.val, by omega⟩) := by
  unfold V
  after_reads_at
  repeat rw [dif_neg (by omega)]
  rw [dif_pos (by omega)]
  after_reads_at
  exact congrArg (fun j => aW m c (ix2 p j)) (Fin.ext (by dsimp only; omega))

theorem seg2304 (p : Fin 1024) (q : Fin 128) : (V m c main_v20 : FVec Ideal S1024x2688 .bf16) (ix2 p ⟨2304 + q.val, by omega⟩) = aW m c (ix2 p ⟨2696 + q.val, by omega⟩) := by
  unfold V
  after_reads_at
  repeat rw [dif_neg (by omega)]
  rw [dif_pos (by omega)]
  after_reads_at
  exact congrArg (fun j => aW m c (ix2 p j)) (Fin.ext (by dsimp only; omega))

theorem seg2432 (p : Fin 1024) (q : Fin 128) : (V m c main_v20 : FVec Ideal S1024x2688 .bf16) (ix2 p ⟨2432 + q.val, by omega⟩) = aW m c (ix2 p ⟨2824 + q.val, by omega⟩) := by
  unfold V
  after_reads_at
  repeat rw [dif_neg (by omega)]
  rw [dif_pos (by omega)]
  after_reads_at
  exact congrArg (fun j => aW m c (ix2 p j)) (Fin.ext (by dsimp only; omega))

theorem seg2560 (p : Fin 1024) (q : Fin 128) : (V m c main_v20 : FVec Ideal S1024x2688 .bf16) (ix2 p ⟨2560 + q.val, by omega⟩) = aW m c (ix2 p ⟨3080 + q.val, by omega⟩) := by
  unfold V
  after_reads_at
  repeat rw [dif_neg (by omega)]
  after_reads_at
  exact congrArg (fun j => aW m c (ix2 p j)) (Fin.ext (by dsimp only; omega))

theorem seg2048 (p : Fin 1024) (q : Fin 4) : (V m c main_v20 : FVec Ideal S1024x2688 .bf16) (ix2 p ⟨2048 + q.val, by omega⟩) = aW m c (ix2 p ⟨2048 + q.val, by omega⟩) := by
  unfold V
  after_reads_at
  repeat rw [dif_neg (by omega)]
  rw [dif_pos (by omega)]
  after_reads_at
  repeat rw [dif_neg (by omega)]
  rw [dif_pos (by omega)]
  after_reads_at
  exact congrArg (fun j => aW m c (ix2 p j)) (Fin.ext (by dsimp only; omega))

theorem seg2052 (p : Fin 1024) (q : Fin 4) : (V m c main_v20 : FVec Ideal S1024x2688 .bf16) (ix2 p ⟨2052 + q.val, by omega⟩) = aW m c (ix2 p ⟨2052 + q.val, by omega⟩) := by
  unfold V
  after_reads_at
  repeat rw [dif_neg (by omega)]
  rw [dif_pos (by omega)]
  after_reads_at
  repeat rw [dif_neg (by omega)]
  rw [dif_pos (by omega)]
  after_reads_at
  exact congrArg (fun j => aW m c (ix2 p j)) (Fin.ext (by dsimp only; omega))

theorem seg2056 (p : Fin 1024) (q : Fin 120) : (V m c main_v20 : FVec Ideal S1024x2688 .bf16) (ix2 p ⟨2056 + q.val, by omega⟩) = (0 : EReal) := by
  unfold V
  after_reads_at
  repeat rw [dif_neg (by omega)]
  rw [dif_pos (by omega)]
  after_reads_at
  repeat rw [dif_neg (by omega)]
  after_reads_at

theorem tseg0 (p : Fin 512) (q : Fin 1024) : (V m c main_v21 : FVec Ideal S800x1024 .bf16) (ix2 ⟨p.val, by omega⟩ q) = aW m c (ix2 q ⟨2056 + p.val, by omega⟩) := by
  unfold V
  after_reads_at
  after_reads_at

theorem tseg512 (p : Fin 128) (q : Fin 1024) : (V m c main_v21 : FVec Ideal S800x1024 .bf16) (ix2 ⟨512 + p.val, by omega⟩ q) = aW m c (ix2 q ⟨2952 + p.val, by omega⟩) := by
  unfold V
  after_reads_at
  after_reads_at

theorem tseg640 (p : Fin 128) (q : Fin 1024) : (V m c main_v21 : FVec Ideal S800x1024 .bf16) (ix2 ⟨640 + p.val, by omega⟩ q) = aW m c (ix2 q ⟨3208 + p.val, by omega⟩) := by
  unfold V
  after_reads_at
  repeat rw [dif_neg (by omega)]
  rw [dif_pos (by omega)]
  after_reads_at
  exact congrArg (fun j => aW m c (ix2 q j)) (Fin.ext (by dsimp only; omega))

theorem tseg768 (p : Fin 24) (q : Fin 1024) : (V m c main_v21 : FVec Ideal S800x1024 .bf16) (ix2 ⟨768 + p.val, by omega⟩ q) = aW m c (ix2 q ⟨3336 + p.val, by omega⟩) := by
  unfold V
  after_reads_at
  repeat rw [dif_neg (by omega)]
  rw [dif_pos (by omega)]
  after_reads_at
  exact congrArg (fun j => aW m c (ix2 q j)) (Fin.ext (by dsimp only; omega))

end InProj

end
-- ==== Proof.InProjMath.lean ====
/- The results of the input projection as functions of the tokens' products with the columns: the causal convolution of four
   taps with its silu, the columns passed on as they are, and the keys', queries', values' and gates' layouts. -/
module

public import proofs.«01_k».proof.Proof.FfnMath

@[expose] public section

noncomputable section

namespace InProj

open Idealize.ShloMosaic Ffn

/-- A token's product with a column. -/
def dot (X : Fin 16 → Fin 4096 → Fin 1024 → EReal) (W : Fin 1024 → Fin 3360 → EReal) (s : Fin 16) (n : Fin 4096) (j : Fin 3360) : EReal :=
  ∑ k : Fin 1024, X s n k * W k j

variable (P : Fin 16 → Fin 4096 → Fin 3360 → EReal) (C : Fin 4 → Fin 1536 → EReal)

/-- The product of the token `d` before, zero before the sequence's start. -/
def tapAt (s : Fin 16) (n : Fin 4096) (d : Fin 4) (j : Fin 1536) : EReal :=
  if d.val ≤ n.val then P s ⟨n.val - d.val, by omega⟩ ⟨j.val, by omega⟩ else 0

/-- The convolution. -/
def oConv (s : Fin 16) (n : Fin 4096) (j : Fin 1536) : EReal :=
  ((C 3 j * tapAt P s n 0 j + C 2 j * tapAt P s n 1 j) + C 1 j * tapAt P s n 2 j) + C 0 j * tapAt P s n 3 j

def oQkv (silu : EReal → EReal) (R : Fin 65536) (j : Fin 1536) : EReal := silu (oConv P C ⟨R.val / 4096, by omega⟩ ⟨R.val % 4096, by omega⟩ j)
def oZ (R : Fin 65536) (j : Fin 512) : EReal := P ⟨R.val / 4096, by omega⟩ ⟨R.val % 4096, by omega⟩ ⟨1536 + j.val, by omega⟩
def oSmall (R : Fin 65536) (j : Fin 128) : EReal := if h : j.val < 8 then P ⟨R.val / 4096, by omega⟩ ⟨R.val % 4096, by omega⟩ ⟨2048 + j.val, by omega⟩ else 0
def oC (a : Fin 2) (s : Fin 16) (k : Fin 2) (b : Fin 256) (e : Fin 1024) : EReal :=
  P s ⟨16 * b.val + e.val / 64, by omega⟩ ⟨2568 + 128 * a.val + 64 * k.val + e.val % 64, by omega⟩
def oK (a : Fin 2) (s : Fin 16) (k : Fin 2) (n : Fin 4096) (e : Fin 64) : EReal := P s n ⟨2824 + 256 * a.val + 64 * k.val + e.val, by omega⟩
def oQ (s : Fin 16) (k : Fin 2) (J : Fin 16) (d : Fin 64) (e : Fin 1024) : EReal :=
  P s ⟨256 * J.val + e.val % 256, by omega⟩ ⟨2056 + 256 * k.val + 64 * (e.val / 256) + d.val, by omega⟩ * Ideal.ofBits .f32 0x3E38AA3B#32
def oV (a : Fin 2) (s : Fin 16) (k : Fin 2) (J : Fin 16) (d : Fin 64) (e : Fin 256) : EReal :=
  P s ⟨256 * J.val + e.val, by omega⟩ ⟨2952 + 256 * a.val + 64 * k.val + d.val, by omega⟩
def oG (s : Fin 16) (k : Fin 2) (J : Fin 16) (g : Fin 3) (e : Fin 1024) : EReal :=
  P s ⟨256 * J.val + e.val % 256, by omega⟩ ⟨3336 + 12 * k.val + 3 * (e.val / 256) + g.val, by omega⟩

/-- The two silus agree where the products and the taps are real. -/
theorem qkv_silu (hP : ∀ s n (j : Fin 1536), ∃ r : ℝ, P s n ⟨j.val, by omega⟩ = r) (hC : ∀ d j, ∃ r : ℝ, C d j = r) (R : Fin 65536) (j : Fin 1536) :
    oQkv P C siluT R j = oQkv P C siluE R j := by
  have ht : ∀ s n d j, ∃ r : ℝ, tapAt P s n d j = r := by
    intro s n d j
    unfold tapAt
    split
    · exact hP _ _ _
    · exact ⟨0, rfl⟩
  have hc : ∀ s n j, ∃ r : ℝ, oConv P C s n j = r := by
    intro s n j
    obtain ⟨a0, e0⟩ := hC 0 j
    obtain ⟨a1, e1⟩ := hC 1 j
    obtain ⟨a2, e2⟩ := hC 2 j
    obtain ⟨a3, e3⟩ := hC 3 j
    obtain ⟨b0, f0⟩ := ht s n 0 j
    obtain ⟨b1, f1⟩ := ht s n 1 j
    obtain ⟨b2, f2⟩ := ht s n 2 j
    obtain ⟨b3, f3⟩ := ht s n 3 j
    exact ⟨a3 * b0 + a2 * b1 + a1 * b2 + a0 * b3, by rw [oConv, e0, e1, e2, e3, f0, f1, f2, f3]; push_cast; rfl⟩
  obtain ⟨r, hr⟩ := hc ⟨R.val / 4096, by omega⟩ ⟨R.val % 4096, by omega⟩ j
  rw [oQkv, oQkv, hr, silu_eq]

/-- Products of real tokens and columns are real. -/
theorem dot_real (X : Fin 16 → Fin 4096 → Fin 1024 → EReal) (W : Fin 1024 → Fin 3360 → EReal) (hX : ∀ s n k, ∃ r : ℝ, X s n k = r) (j : Fin 3360)
    (hW : ∀ k, ∃ r : ℝ, W k j = r) (s : Fin 16) (n : Fin 4096) : ∃ r : ℝ, dot X W s n j = r := by
  choose a ha using fun k => hX s n k
  choose b hb using hW
  exact ⟨∑ k, a k * b k, by simp only [dot, ha, hb]; exact GatedDelta.Unit.coe_dot _ _⟩

end InProj

end
-- ==== Proof.InProjCall.lean ====
/- The input projection's results: each is its function of the tokens' products with the columns. -/
module

public import proofs.«01_k».proof.Proof.InProjArgs
public import proofs.«01_k».proof.Proof.InProjMath
public import Idealize.ShloMosaic.Lib.Pipeline.Value

@[expose] public section

set_option maxRecDepth 100000

noncomputable section

namespace InProj

open Idealize.ShloMosaic Idealize.ShloMosaic.TcCoe Idealize.SL.Sem
open Cert.Kernel4Ideal Cert.Kernel4Ideal.Gen Ffn

variable (m : (ℓ : Loc nD τ sig) → Buf (Elt Ideal) ℓ) (c : Dev nD)

/-- The products with the columns, and the taps. -/
abbrev PX : Fin 16 → Fin 4096 → Fin 3360 → EReal := dot (fun s n k => aX m c (ix3 s n k)) (fun k j => aW m c (ix2 k j))
abbrev CX : Fin 4 → Fin 1536 → EReal := fun d j => aC m c (ix2 d j)

theorem moveW (j j0 : Fin 2688) (J J0 : Fin 3360) (h : ∀ p : Fin 1024, (V m c main_v20 : FVec Ideal S1024x2688 .bf16) (ix2 p j0) = aW m c (ix2 p J0))
    (e : j.val = j0.val) (E : J.val = J0.val) (p : Fin 1024) : (V m c main_v20 : FVec Ideal S1024x2688 .bf16) (ix2 p j) = aW m c (ix2 p J) := by
  obtain rfl := Fin.ext e
  obtain rfl := Fin.ext E
  exact h p

theorem moveU (j j0 : Fin 800) (J J0 : Fin 3360) (h : ∀ p : Fin 1024, (V m c main_v21 : FVec Ideal S800x1024 .bf16) (ix2 j0 p) = aW m c (ix2 p J0))
    (e : j.val = j0.val) (E : J.val = J0.val) (p : Fin 1024) : (V m c main_v21 : FVec Ideal S800x1024 .bf16) (ix2 j p) = aW m c (ix2 p J) := by
  obtain rfl := Fin.ext e
  obtain rfl := Fin.ext E
  exact h p

theorem rowX (t : Fin cfg0.N) (r : Fin 512) (q : Fin 1024) (s : Fin 16) (n : Fin 4096) (hR : 4096 * s.val + n.val = 512 * t.val + r.val) :
    (iblk m c 0 t : FVec Ideal S512x1024 .f32) (ix2 r q) = aX m c (ix3 s n q) := by
  refine (blk0 m c t r q ⟨4096 * s.val + n.val, by omega⟩ hR).trans ?_
  exact congrArg₂ (fun s n => aX m c (ix3 s n q)) (Fin.ext (by dsimp only; omega)) (Fin.ext (by dsimp only; omega))

theorem rowH (t : Fin cfg0.N) (h0 : t.val ≠ 0) (r : Fin 16) (q : Fin 1024) (s : Fin 16) (n : Fin 4096) (hR : 4096 * s.val + n.val + 16 = 512 * t.val + r.val) :
    (iblk m c 1 t : FVec Ideal S16x1024 .f32) (ix2 r q) = aX m c (ix3 s n q) := by
  refine (blk1 m c t h0 r q ⟨4096 * s.val + n.val, by omega⟩ hR).trans ?_
  exact congrArg₂ (fun s n => aX m c (ix3 s n q)) (Fin.ext (by dsimp only; omega)) (Fin.ext (by dsimp only; omega))

theorem nat_eq (t : Fin cfg0.N) (r : Fin 512) (j : Fin 2688) (J : Fin 3360) (s : Fin 16) (n : Fin 4096) (hR : 4096 * s.val + n.val = 512 * t.val + r.val)
    (hj : ∀ p : Fin 1024, (V m c main_v20 : FVec Ideal S1024x2688 .bf16) (ix2 p j) = aW m c (ix2 p J)) :
    nat (iblk m c 0 t) (iblk m c 2 t) r j = PX m c s n J :=
  Finset.sum_congr rfl fun k _ => congrArg₂ (· * ·) (rowX m c t r k s n hR) ((blk2 m c t k j).trans (hj k))

theorem tr_eq (t : Fin cfg0.N) (r : Fin 512) (j : Fin 800) (J : Fin 3360) (s : Fin 16) (n : Fin 4096) (hR : 4096 * s.val + n.val = 512 * t.val + r.val)
    (hj : ∀ p : Fin 1024, (V m c main_v21 : FVec Ideal S800x1024 .bf16) (ix2 j p) = aW m c (ix2 p J)) :
    tr (iblk m c 0 t) (iblk m c 3 t) j r = PX m c s n J :=
  Finset.sum_congr rfl fun k _ => (congrArg₂ (fun a b : EReal => a * b) ((blk3 m c t j k).trans (hj k)) (rowX m c t r k s n hR)).trans (mul_comm (G := EReal) _ _)

theorem colQ (j : Fin 1536) : ∀ p : Fin 1024, (V m c main_v20 : FVec Ideal S1024x2688 .bf16) (ix2 p ⟨j.val, by omega⟩) = aW m c (ix2 p ⟨j.val, by omega⟩) := by
  by_cases h1 : j.val < 512
  · exact moveW m c _ ⟨j.val, by omega⟩ _ ⟨j.val, by omega⟩ (fun p => seg0 m c p ⟨j.val, h1⟩) rfl rfl
  · by_cases h2 : j.val < 1024
    · exact moveW m c _ ⟨512 + (j.val - 512), by omega⟩ _ ⟨512 + (j.val - 512), by omega⟩ (fun p => seg512 m c p ⟨j.val - 512, by omega⟩) (by dsimp only; omega) (by dsimp only; omega)
    · exact moveW m c _ ⟨1024 + (j.val - 1024), by omega⟩ _ ⟨1024 + (j.val - 1024), by omega⟩ (fun p => seg1024 m c p ⟨j.val - 1024, by omega⟩) (by dsimp only; omega) (by dsimp only; omega)

/-- THE TAPS: a row before is one of the block's, or one of the block's before, or before the sequence's start. -/
theorem preAt_eq (t : Fin cfg0.N) (r : Fin 512) (d : Fin 4) (R : Fin 528) (hd : R.val + d.val = 16 + r.val) (j : Fin 1536) (s : Fin 16) (n : Fin 4096)
    (hs : s.val = t.val / 8) (hn : n.val = 512 * (t.val % 8) + r.val) :
    preAt (iblk m c 0 t) (iblk m c 1 t) (iblk m c 2 t) (grid0.coords t) R j = tapAt (PX m c) s n d j := by
  unfold preAt tapAt
  by_cases hr : d.val ≤ r.val
  · rw [if_pos (show d.val ≤ n.val by omega)]
    refine Finset.sum_congr rfl fun k _ => congrArg₂ (· * ·) ?_ ((blk2 m c t k _).trans (colQ m c j k))
    unfold lead
    rw [dif_neg (show ¬ R.val < 16 by omega)]
    exact rowX m c t _ k s ⟨n.val - d.val, by omega⟩ (by dsimp only; omega)
  · by_cases h8 : t.val % 8 = 0
    · rw [if_neg (show ¬ d.val ≤ n.val by omega)]
      refine Finset.sum_eq_zero fun k _ => ?_
      unfold lead
      rw [dif_pos (show R.val < 16 by omega), if_pos ((fresh_iff t).mpr h8), zero_mul]
    · rw [if_pos (show d.val ≤ n.val by omega)]
      refine Finset.sum_congr rfl fun k _ => congrArg₂ (· * ·) ?_ ((blk2 m c t k _).trans (colQ m c j k))
      unfold lead
      rw [dif_pos (show R.val < 16 by omega), if_neg (fun h => h8 ((fresh_iff t).mp h))]
      exact rowH m c t (by omega) _ k s ⟨n.val - d.val, by omega⟩ (by dsimp only; omega)

theorem conv_eq (t : Fin cfg0.N) (r : Fin 512) (j : Fin 1536) (s : Fin 16) (n : Fin 4096)
    (hs : s.val = t.val / 8) (hn : n.val = 512 * (t.val % 8) + r.val) :
    convAt (iblk m c 0 t) (iblk m c 1 t) (iblk m c 2 t) (iblk m c 4 t) (grid0.coords t) r j = oConv (PX m c) (CX m c) s n j := by
  unfold convAt oConv
  rw [preAt_eq m c t r 0 _ rfl j s n hs hn, preAt_eq m c t r 1 _ (by show 16 + r.val - 1 + 1 = _; omega) j s n hs hn,
    preAt_eq m c t r 2 _ (by show 16 + r.val - 2 + 2 = _; omega) j s n hs hn, preAt_eq m c t r 3 _ (by show 16 + r.val - 3 + 3 = _; omega) j s n hs hn]
  exact congrArg₂ (· + ·) (congrArg₂ (· + ·) (congrArg₂ (· + ·) (congrArg (· * _) (blk4 m c t 3 j)) (congrArg (· * _) (blk4 m c t 2 j))) (congrArg (· * _) (blk4 m c t 1 j)))
    (congrArg (· * _) (blk4 m c t 0 j))

theorem colC (a k : Fin 2) (f : Fin 64) : ∀ p : Fin 1024, (V m c main_v20 : FVec Ideal S1024x2688 .bf16) (ix2 p ⟨2176 + 128 * a.val + 64 * k.val + f.val, by omega⟩)
    = aW m c (ix2 p ⟨2568 + 128 * a.val + 64 * k.val + f.val, by omega⟩) := by
  match a with
  | ⟨0, _⟩ => exact moveW m c _ ⟨2176 + (64 * k.val + f.val), by omega⟩ _ ⟨2568 + (64 * k.val + f.val), by omega⟩ (fun p => seg2176 m c p ⟨64 * k.val + f.val, by omega⟩) (by dsimp only; omega) (by dsimp only; omega)
  | ⟨1, _⟩ => exact moveW m c _ ⟨2304 + (64 * k.val + f.val), by omega⟩ _ ⟨2696 + (64 * k.val + f.val), by omega⟩ (fun p => seg2304 m c p ⟨64 * k.val + f.val, by omega⟩) (by dsimp only; omega) (by dsimp only; omega)

theorem colK (a k : Fin 2) (f : Fin 64) : ∀ p : Fin 1024, (V m c main_v20 : FVec Ideal S1024x2688 .bf16) (ix2 p ⟨2432 + 128 * a.val + 64 * k.val + f.val, by omega⟩)
    = aW m c (ix2 p ⟨2824 + 256 * a.val + 64 * k.val + f.val, by omega⟩) := by
  match a with
  | ⟨0, _⟩ => exact moveW m c _ ⟨2432 + (64 * k.val + f.val), by omega⟩ _ ⟨2824 + (64 * k.val + f.val), by omega⟩ (fun p => seg2432 m c p ⟨64 * k.val + f.val, by omega⟩) (by dsimp only; omega) (by dsimp only; omega)
  | ⟨1, _⟩ => exact moveW m c _ ⟨2560 + (64 * k.val + f.val), by omega⟩ _ ⟨3080 + (64 * k.val + f.val), by omega⟩ (fun p => seg2560 m c p ⟨64 * k.val + f.val, by omega⟩) (by dsimp only; omega) (by dsimp only; omega)

theorem colV (a k : Fin 2) (f : Fin 64) : ∀ p : Fin 1024, (V m c main_v21 : FVec Ideal S800x1024 .bf16) (ix2 ⟨512 + 128 * a.val + 64 * k.val + f.val, by omega⟩ p)
    = aW m c (ix2 p ⟨2952 + 256 * a.val + 64 * k.val + f.val, by omega⟩) := by
  match a with
  | ⟨0, _⟩ => exact moveU m c _ ⟨512 + (64 * k.val + f.val), by omega⟩ _ ⟨2952 + (64 * k.val + f.val), by omega⟩ (fun p => tseg512 m c ⟨64 * k.val + f.val, by omega⟩ p) (by dsimp only; omega) (by dsimp only; omega)
  | ⟨1, _⟩ => exact moveU m c _ ⟨640 + (64 * k.val + f.val), by omega⟩ _ ⟨3208 + (64 * k.val + f.val), by omega⟩ (fun p => tseg640 m c ⟨64 * k.val + f.val, by omega⟩ p) (by dsimp only; omega) (by dsimp only; omega)

theorem small_eq (t : Fin cfg0.N) (r : Fin 512) (j : Fin 128) (R : Fin 65536) (hR : R.val = 512 * t.val + r.val) :
    smallG (iblk m c 0 t) (iblk m c 2 t) r j = oSmall (PX m c) R j := by
  unfold smallG oSmall
  by_cases h : j.val < 8
  · rw [dif_pos h]
    refine nat_eq m c t r _ _ _ _ (by dsimp only; omega) ?_
    by_cases h4 : j.val < 4
    · exact moveW m c _ ⟨2048 + (j.val), by omega⟩ _ ⟨2048 + (j.val), by omega⟩ (fun p => seg2048 m c p ⟨j.val, h4⟩) rfl rfl
    · exact moveW m c _ ⟨2052 + (j.val - 4), by omega⟩ _ ⟨2052 + (j.val - 4), by omega⟩ (fun p => seg2052 m c p ⟨j.val - 4, by omega⟩) (by dsimp only; omega) (by dsimp only; omega)
  · rw [dif_neg h]
    refine Finset.sum_eq_zero fun k _ => ?_
    have e : (⟨2048 + j.val, by omega⟩ : Fin 2688) = ⟨2056 + (j.val - 8), by omega⟩ := Fin.ext (by dsimp only; omega)
    refine (congrArg₂ (· * ·) rfl ((blk2 m c t k _).trans ((congrArg (fun j => (V m c main_v20 : FVec Ideal S1024x2688 .bf16) (ix2 k j)) e).trans
      (seg2056 m c k ⟨j.val - 8, by omega⟩)))).trans (mul_zero _)

/-! ### What a point leaves -/

theorem left_qkv (t : Fin cfg0.N) (y : S512x1536.Idx) : (outsAt0 m c t).1 y = (fun y : S512x1536.Idx => qkvG (iblk m c 0 t) (iblk m c 1 t) (iblk m c 2 t) (iblk m c 4 t) (grid0.coords t) (y 0) (y 1)) y := by
  unfold outsAt0
  dsimp only
  unfold out0_A_5
  rw [View.read_writes_junk_eq_canon]
  refine View.canon_apply_of_pieces (Val := Elt Ideal) (fun y : S512x1536.Idx => qkvG (iblk m c 0 t) (iblk m c 1 t) (iblk m c 2 t) (iblk m c 4 t) (grid0.coords t) (y 0) (y 1) : Vec Ideal S512x1536 .f32) _ (fun p hp => ?_) _ (cover0_A_5 c _ _ _ _ _ _ _ _ _ _ _ _ _ _ _ _ _ _ _ _ _ _ _ _ _ _ _ _ _ _ _ _ _ _ _ _ _ _ _ _ _)
  rw [list_qkv, (hs0_0 t).read_unread, (hs0_1 t).read_unread, (hs0_2 t).read_unread, (hs0_4 t).read_unread] at hp
  exact qkv_spec (iblk m c 0 t) (iblk m c 1 t) (iblk m c 2 t) (iblk m c 4 t) (grid0.coords t) p hp

theorem left_z (t : Fin cfg0.N) (y : S512x512.Idx) : (outsAt0 m c t).2.1 y = (fun y : S512x512.Idx => zG (iblk m c 0 t) (iblk m c 2 t) (y 0) (y 1)) y := by
  unfold outsAt0
  dsimp only
  unfold out0_A_6
  rw [View.read_writes_junk_eq_canon]
  refine View.canon_apply_of_pieces (Val := Elt Ideal) (fun y : S512x512.Idx => zG (iblk m c 0 t) (iblk m c 2 t) (y 0) (y 1) : Vec Ideal S512x512 .f32) _ (fun p hp => ?_) _ (cover0_A_6 c _ _ _ _ _ _ _ _ _ _ _ _ _ _ _ _ _ _ _ _ _ _ _ _ _ _ _ _ _ _ _ _ _ _ _ _ _ _ _ _ _)
  rw [list_z, (hs0_0 t).read_unread, (hs0_2 t).read_unread] at hp
  exact z_spec (iblk m c 0 t) (iblk m c 2 t) p hp

theorem left_small (t : Fin cfg0.N) (y : S512x128.Idx) : (outsAt0 m c t).2.2.1 y = (fun y : S512x128.Idx => smallG (iblk m c 0 t) (iblk m c 2 t) (y 0) (y 1)) y := by
  unfold outsAt0
  dsimp only
  unfold out0_A_7
  rw [View.read_writes_junk_eq_canon]
  refine View.canon_apply_of_pieces (Val := Elt Ideal) (fun y : S512x128.Idx => smallG (iblk m c 0 t) (iblk m c 2 t) (y 0) (y 1) : Vec Ideal S512x128 .f32) _ (fun p hp => ?_) _ (cover0_A_7 c _ _ _ _ _ _ _ _ _ _ _ _ _ _ _ _ _ _ _ _ _ _ _ _ _ _ _ _ _ _ _ _ _ _ _ _ _ _ _ _ _)
  rw [list_small, (hs0_0 t).read_unread, (hs0_2 t).read_unread] at hp
  exact small_spec (iblk m c 0 t) (iblk m c 2 t) p hp

theorem left_kc (t : Fin cfg0.N) (y : S1x2x32x1024.Idx) : (outsAt0 m c t).2.2.2.1 y = (fun y : S1x2x32x1024.Idx => kcG (iblk m c 0 t) (iblk m c 2 t) 0 (y 1) (y 2) (y 3)) y := by
  unfold outsAt0
  dsimp only
  unfold out0_A_8
  rw [View.read_writes_junk_eq_canon]
  refine View.canon_apply_of_pieces (Val := Elt Ideal) (fun y : S1x2x32x1024.Idx => kcG (iblk m c 0 t) (iblk m c 2 t) 0 (y 1) (y 2) (y 3) : Vec Ideal S1x2x32x1024 .f32) _ (fun p hp => ?_) _ (cover0_A_8 c _ _ _ _ _ _ _ _ _ _ _ _ _ _ _ _ _ _ _ _ _ _ _ _ _ _ _ _ _ _ _ _ _ _ _ _ _ _ _ _ _)
  rw [list_kc, (hs0_0 t).read_unread, (hs0_2 t).read_unread] at hp
  exact kc_spec (iblk m c 0 t) (iblk m c 2 t) scM0_0 p hp

theorem left_vc (t : Fin cfg0.N) (y : S1x2x32x1024.Idx) : (outsAt0 m c t).2.2.2.2.1 y = (fun y : S1x2x32x1024.Idx => kcG (iblk m c 0 t) (iblk m c 2 t) 1 (y 1) (y 2) (y 3)) y := by
  unfold outsAt0
  dsimp only
  unfold out0_A_9
  rw [View.read_writes_junk_eq_canon]
  refine View.canon_apply_of_pieces (Val := Elt Ideal) (fun y : S1x2x32x1024.Idx => kcG (iblk m c 0 t) (iblk m c 2 t) 1 (y 1) (y 2) (y 3) : Vec Ideal S1x2x32x1024 .f32) _ (fun p hp => ?_) _ (cover0_A_9 c _ _ _ _ _ _ _ _ _ _ _ _ _ _ _ _ _ _ _ _ _ _ _ _ _ _ _ _ _ _ _ _ _ _ _ _ _ _ _ _ _)
  rw [list_vc, (hs0_0 t).read_unread, (hs0_2 t).read_unread] at hp
  exact vc_spec (iblk m c 0 t) (iblk m c 2 t) scM0_0 p hp

theorem left_ks (t : Fin cfg0.N) (y : S1x2x512x64.Idx) : (outsAt0 m c t).2.2.2.2.2.1 y = (fun y : S1x2x512x64.Idx => ksG (iblk m c 0 t) (iblk m c 2 t) 0 (y 1) (y 2) (y 3)) y := by
  unfold outsAt0
  dsimp only
  unfold out0_A_10
  rw [View.read_writes_junk_eq_canon]
  refine View.canon_apply_of_pieces (Val := Elt Ideal) (fun y : S1x2x512x64.Idx => ksG (iblk m c 0 t) (iblk m c 2 t) 0 (y 1) (y 2) (y 3) : Vec Ideal S1x2x512x64 .bf16) _ (fun p hp => ?_) _ (cover0_A_10 c _ _ _ _ _ _ _ _ _ _ _ _ _ _ _ _ _ _ _ _ _ _ _ _ _ _ _ _ _ _ _ _ _ _ _ _ _ _ _ _ _)
  rw [list_ks, (hs0_0 t).read_unread, (hs0_2 t).read_unread] at hp
  exact ks_spec (iblk m c 0 t) (iblk m c 2 t) p hp

theorem left_kw (t : Fin cfg0.N) (y : S1x2x512x64.Idx) : (outsAt0 m c t).2.2.2.2.2.2.1 y = (fun y : S1x2x512x64.Idx => ksG (iblk m c 0 t) (iblk m c 2 t) 1 (y 1) (y 2) (y 3)) y := by
  unfold outsAt0
  dsimp only
  unfold out0_A_11
  rw [View.read_writes_junk_eq_canon]
  refine View.canon_apply_of_pieces (Val := Elt Ideal) (fun y : S1x2x512x64.Idx => ksG (iblk m c 0 t) (iblk m c 2 t) 1 (y 1) (y 2) (y 3) : Vec Ideal S1x2x512x64 .bf16) _ (fun p hp => ?_) _ (cover0_A_11 c _ _ _ _ _ _ _ _ _ _ _ _ _ _ _ _ _ _ _ _ _ _ _ _ _ _ _ _ _ _ _ _ _ _ _ _ _ _ _ _ _)
  rw [list_kw, (hs0_0 t).read_unread, (hs0_2 t).read_unread] at hp
  exact kw_spec (iblk m c 0 t) (iblk m c 2 t) p hp

theorem left_qt (t : Fin cfg0.N) (y : S1x2x2x64x1024.Idx) : (outsAt0 m c t).2.2.2.2.2.2.2.1 y = (fun y : S1x2x2x64x1024.Idx => qtG (iblk m c 0 t) (iblk m c 3 t) (y 1) (y 2) (y 3) (y 4)) y := by
  unfold outsAt0
  dsimp only
  unfold out0_A_12
  rw [View.read_writes_junk_eq_canon]
  refine View.canon_apply_of_pieces (Val := Elt Ideal) (fun y : S1x2x2x64x1024.Idx => qtG (iblk m c 0 t) (iblk m c 3 t) (y 1) (y 2) (y 3) (y 4) : Vec Ideal S1x2x2x64x1024 .bf16) _ (fun p hp => ?_) _ (cover0_A_12 c _ _ _ _ _ _ _ _ _ _ _ _ _ _ _ _ _ _ _ _ _ _ _ _ _ _ _ _ _ _ _ _ _ _ _ _ _ _ _ _ _)
  rw [list_qt, (hs0_0 t).read_unread, (hs0_3 t).read_unread] at hp
  exact qt_spec (iblk m c 0 t) (iblk m c 3 t) p hp

theorem left_vst (t : Fin cfg0.N) (y : S1x2x2x64x256.Idx) : (outsAt0 m c t).2.2.2.2.2.2.2.2.1 y = (fun y : S1x2x2x64x256.Idx => vtG (iblk m c 0 t) (iblk m c 3 t) 0 (y 1) (y 2) (y 3) (y 4)) y := by
  unfold outsAt0
  dsimp only
  unfold out0_A_13
  rw [View.read_writes_junk_eq_canon]
  refine View.canon_apply_of_pieces (Val := Elt Ideal) (fun y : S1x2x2x64x256.Idx => vtG (iblk m c 0 t) (iblk m c 3 t) 0 (y 1) (y 2) (y 3) (y 4) : Vec Ideal S1x2x2x64x256 .bf16) _ (fun p hp => ?_) _ (cover0_A_13 c _ _ _ _ _ _ _ _ _ _ _ _ _ _ _ _ _ _ _ _ _ _ _ _ _ _ _ _ _ _ _ _ _ _ _ _ _ _ _ _ _)
  rw [list_vst, (hs0_0 t).read_unread, (hs0_3 t).read_unread] at hp
  exact vst_spec (iblk m c 0 t) (iblk m c 3 t) p hp

theorem left_vwt (t : Fin cfg0.N) (y : S1x2x2x64x256.Idx) : (outsAt0 m c t).2.2.2.2.2.2.2.2.2.1 y = (fun y : S1x2x2x64x256.Idx => vtG (iblk m c 0 t) (iblk m c 3 t) 1 (y 1) (y 2) (y 3) (y 4)) y := by
  unfold outsAt0
  dsimp only
  unfold out0_A_14
  rw [View.read_writes_junk_eq_canon]
  refine View.canon_apply_of_pieces (Val := Elt Ideal) (fun y : S1x2x2x64x256.Idx => vtG (iblk m c 0 t) (iblk m c 3 t) 1 (y 1) (y 2) (y 3) (y 4) : Vec Ideal S1x2x2x64x256 .bf16) _ (fun p hp => ?_) _ (cover0_A_14 c _ _ _ _ _ _ _ _ _ _ _ _ _ _ _ _ _ _ _ _ _ _ _ _ _ _ _ _ _ _ _ _ _ _ _ _ _ _ _ _ _)
  rw [list_vwt, (hs0_0 t).read_unread, (hs0_3 t).read_unread] at hp
  exact vwt_spec (iblk m c 0 t) (iblk m c 3 t) p hp

theorem left_gate (t : Fin cfg0.N) (y : S1x2x2x3x1024.Idx) : (outsAt0 m c t).2.2.2.2.2.2.2.2.2.2 y = (fun y : S1x2x2x3x1024.Idx => gateG (iblk m c 0 t) (iblk m c 3 t) (y 1) (y 2) (y 3) (y 4)) y := by
  unfold outsAt0
  dsimp only
  unfold out0_A_15
  rw [View.read_writes_junk_eq_canon]
  refine View.canon_apply_of_pieces (Val := Elt Ideal) (fun y : S1x2x2x3x1024.Idx => gateG (iblk m c 0 t) (iblk m c 3 t) (y 1) (y 2) (y 3) (y 4) : Vec Ideal S1x2x2x3x1024 .f32) _ (fun p hp => ?_) _ (cover0_A_15 c _ _ _ _ _ _ _ _ _ _ _ _ _ _ _ _ _ _ _ _ _ _ _ _ _ _ _ _ _ _ _ _ _ _ _ _ _ _ _ _ _)
  rw [list_gate, (hs0_0 t).read_unread, (hs0_3 t).read_unread] at hp
  exact gate_spec (iblk m c 0 t) (iblk m c 3 t) p hp

/-! ### The whole results -/

theorem idx5 : ∀ t : Fin cfg0.N, win0_5.index t (0 : Fin 2) = t.val ∧ win0_5.index t (1 : Fin 2) = 0 := (by decide +kernel : ∀ t : Fin grid0.N, _)
def W5 : FVec Ideal S65536x1536 .f32 := fun y : S65536x1536.Idx => oQkv (PX m c) (CX m c) siluT (y 0) (y 1)

theorem idx6 : ∀ t : Fin cfg0.N, win0_6.index t (0 : Fin 2) = t.val ∧ win0_6.index t (1 : Fin 2) = 0 := (by decide +kernel : ∀ t : Fin grid0.N, _)
def W6 : FVec Ideal S65536x512 .f32 := fun y : S65536x512.Idx => oZ (PX m c) (y 0) (y 1)

theorem idx7 : ∀ t : Fin cfg0.N, win0_7.index t (0 : Fin 2) = t.val ∧ win0_7.index t (1 : Fin 2) = 0 := (by decide +kernel : ∀ t : Fin grid0.N, _)
def W7 : FVec Ideal S65536x128 .f32 := fun y : S65536x128.Idx => oSmall (PX m c) (y 0) (y 1)

theorem idx8 : ∀ t : Fin cfg0.N, win0_8.index t (0 : Fin 4) = t.val / 8 ∧ win0_8.index t (1 : Fin 4) = 0 ∧ win0_8.index t (2 : Fin 4) = t.val % 8 ∧ win0_8.index t (3 : Fin 4) = 0 := (by decide +kernel : ∀ t : Fin grid0.N, _)
def W8 : FVec Ideal S16x2x256x1024 .f32 := fun y : S16x2x256x1024.Idx => oC (PX m c) 0 (y 0) (y 1) (y 2) (y 3)

theorem idx9 : ∀ t : Fin cfg0.N, win0_9.index t (0 : Fin 4) = t.val / 8 ∧ win0_9.index t (1 : Fin 4) = 0 ∧ win0_9.index t (2 : Fin 4) = t.val % 8 ∧ win0_9.index t (3 : Fin 4) = 0 := (by decide +kernel : ∀ t : Fin grid0.N, _)
def W9 : FVec Ideal S16x2x256x1024 .f32 := fun y : S16x2x256x1024.Idx => oC (PX m c) 1 (y 0) (y 1) (y 2) (y 3)

theorem idx10 : ∀ t : Fin cfg0.N, win0_10.index t (0 : Fin 4) = t.val / 8 ∧ win0_10.index t (1 : Fin 4) = 0 ∧ win0_10.index t (2 : Fin 4) = t.val % 8 ∧ win0_10.index t (3 : Fin 4) = 0 := (by decide +kernel : ∀ t : Fin grid0.N, _)
def W10 : FVec Ideal S16x2x4096x64 .bf16 := fun y : S16x2x4096x64.Idx => oK (PX m c) 0 (y 0) (y 1) (y 2) (y 3)

theorem idx11 : ∀ t : Fin cfg0.N, win0_11.index t (0 : Fin 4) = t.val / 8 ∧ win0_11.index t (1 : Fin 4) = 0 ∧ win0_11.index t (2 : Fin 4) = t.val % 8 ∧ win0_11.index t (3 : Fin 4) = 0 := (by decide +kernel : ∀ t : Fin grid0.N, _)
def W11 : FVec Ideal S16x2x4096x64 .bf16 := fun y : S16x2x4096x64.Idx => oK (PX m c) 1 (y 0) (y 1) (y 2) (y 3)

theorem idx12 : ∀ t : Fin cfg0.N, win0_12.index t (0 : Fin 5) = t.val / 8 ∧ win0_12.index t (1 : Fin 5) = 0 ∧ win0_12.index t (2 : Fin 5) = t.val % 8 ∧ win0_12.index t (3 : Fin 5) = 0 ∧ win0_12.index t (4 : Fin 5) = 0 := (by decide +kernel : ∀ t : Fin grid0.N, _)
def W12 : FVec Ideal S16x2x16x64x1024 .bf16 := fun y : S16x2x16x64x1024.Idx => oQ (PX m c) (y 0) (y 1) (y 2) (y 3) (y 4)

theorem idx13 : ∀ t : Fin cfg0.N, win0_13.index t (0 : Fin 5) = t.val / 8 ∧ win0_13.index t (1 : Fin 5) = 0 ∧ win0_13.index t (2 : Fin 5) = t.val % 8 ∧ win0_13.index t (3 : Fin 5) = 0 ∧ win0_13.index t (4 : Fin 5) = 0 := (by decide +kernel : ∀ t : Fin grid0.N, _)
def W13 : FVec Ideal S16x2x16x64x256 .bf16 := fun y : S16x2x16x64x256.Idx => oV (PX m c) 0 (y 0) (y 1) (y 2) (y 3) (y 4)

theorem idx14 : ∀ t : Fin cfg0.N, win0_14.index t (0 : Fin 5) = t.val / 8 ∧ win0_14.index t (1 : Fin 5) = 0 ∧ win0_14.index t (2 : Fin 5) = t.val % 8 ∧ win0_14.index t (3 : Fin 5) = 0 ∧ win0_14.index t (4 : Fin 5) = 0 := (by decide +kernel : ∀ t : Fin grid0.N, _)
def W14 : FVec Ideal S16x2x16x64x256 .bf16 := fun y : S16x2x16x64x256.Idx => oV (PX m c) 1 (y 0) (y 1) (y 2) (y 3) (y 4)

theorem idx15 : ∀ t : Fin cfg0.N, win0_15.index t (0 : Fin 5) = t.val / 8 ∧ win0_15.index t (1 : Fin 5) = 0 ∧ win0_15.index t (2 : Fin 5) = t.val % 8 ∧ win0_15.index t (3 : Fin 5) = 0 ∧ win0_15.index t (4 : Fin 5) = 0 := (by decide +kernel : ∀ t : Fin grid0.N, _)
def W15 : FVec Ideal S16x2x16x3x1024 .f32 := fun y : S16x2x16x3x1024.Idx => oG (PX m c) (y 0) (y 1) (y 2) (y 3) (y 4)

theorem agree_qkv (t : Fin cfg0.N) (r : Fin 512) (j : Fin 1536) (Y0 : Fin 65536) (Y1 : Fin 1536)
    (h0 : Y0.val = 512 * t.val + r.val) (h1 : Y1.val = j.val) :
    qkvG (iblk m c 0 t) (iblk m c 1 t) (iblk m c 2 t) (iblk m c 4 t) (grid0.coords t) r j = oQkv (PX m c) (CX m c) siluT Y0 Y1 := by
  obtain rfl : Y1 = j := Fin.ext h1
  unfold qkvG oQkv
  exact congrArg siluT (conv_eq m c t r _ _ _ (by dsimp only; omega) (by dsimp only; omega))

theorem agree_z (t : Fin cfg0.N) (r : Fin 512) (j : Fin 512) (Y0 : Fin 65536) (Y1 : Fin 512)
    (h0 : Y0.val = 512 * t.val + r.val) (h1 : Y1.val = j.val) :
    zG (iblk m c 0 t) (iblk m c 2 t) r j = oZ (PX m c) Y0 Y1 := by
  obtain rfl : Y1 = j := Fin.ext h1
  unfold zG oZ
  exact nat_eq m c t r _ _ _ _ (by dsimp only; omega) (fun p => seg1536 m c p _)

theorem agree_small (t : Fin cfg0.N) (r : Fin 512) (j : Fin 128) (Y0 : Fin 65536) (Y1 : Fin 128)
    (h0 : Y0.val = 512 * t.val + r.val) (h1 : Y1.val = j.val) :
    smallG (iblk m c 0 t) (iblk m c 2 t) r j = oSmall (PX m c) Y0 Y1 := by
  obtain rfl : Y1 = j := Fin.ext h1
  exact small_eq m c t r _ _ h0

theorem agree_kc (t : Fin cfg0.N) (o : Fin 1) (k : Fin 2) (r : Fin 32) (e : Fin 1024) (Y0 : Fin 16) (Y1 : Fin 2) (Y2 : Fin 256) (Y3 : Fin 1024)
    (h0 : Y0.val = t.val / 8) (h1 : Y1.val = k.val) (h2 : Y2.val = 32 * (t.val % 8) + r.val) (h3 : Y3.val = e.val) :
    kcG (iblk m c 0 t) (iblk m c 2 t) 0 k r e = oC (PX m c) 0 Y0 Y1 Y2 Y3 := by
  obtain rfl : Y1 = k := Fin.ext h1
  obtain rfl : Y3 = e := Fin.ext h3
  unfold kcG oC
  exact nat_eq m c t _ _ _ _ _ (by dsimp only; omega) (colC m c 0 Y1 ⟨Y3.val % 64, by omega⟩)

theorem agree_vc (t : Fin cfg0.N) (o : Fin 1) (k : Fin 2) (r : Fin 32) (e : Fin 1024) (Y0 : Fin 16) (Y1 : Fin 2) (Y2 : Fin 256) (Y3 : Fin 1024)
    (h0 : Y0.val = t.val / 8) (h1 : Y1.val = k.val) (h2 : Y2.val = 32 * (t.val % 8) + r.val) (h3 : Y3.val = e.val) :
    kcG (iblk m c 0 t) (iblk m c 2 t) 1 k r e = oC (PX m c) 1 Y0 Y1 Y2 Y3 := by
  obtain rfl : Y1 = k := Fin.ext h1
  obtain rfl : Y3 = e := Fin.ext h3
  unfold kcG oC
  exact nat_eq m c t _ _ _ _ _ (by dsimp only; omega) (colC m c 1 Y1 ⟨Y3.val % 64, by omega⟩)

theorem agree_ks (t : Fin cfg0.N) (o : Fin 1) (k : Fin 2) (r : Fin 512) (e : Fin 64) (Y0 : Fin 16) (Y1 : Fin 2) (Y2 : Fin 4096) (Y3 : Fin 64)
    (h0 : Y0.val = t.val / 8) (h1 : Y1.val = k.val) (h2 : Y2.val = 512 * (t.val % 8) + r.val) (h3 : Y3.val = e.val) :
    ksG (iblk m c 0 t) (iblk m c 2 t) 0 k r e = oK (PX m c) 0 Y0 Y1 Y2 Y3 := by
  obtain rfl : Y1 = k := Fin.ext h1
  obtain rfl : Y3 = e := Fin.ext h3
  unfold ksG oK
  exact nat_eq m c t _ _ _ _ _ (by omega) (colK m c 0 Y1 Y3)

theorem agree_kw (t : Fin cfg0.N) (o : Fin 1) (k : Fin 2) (r : Fin 512) (e : Fin 64) (Y0 : Fin 16) (Y1 : Fin 2) (Y2 : Fin 4096) (Y3 : Fin 64)
    (h0 : Y0.val = t.val / 8) (h1 : Y1.val = k.val) (h2 : Y2.val = 512 * (t.val % 8) + r.val) (h3 : Y3.val = e.val) :
    ksG (iblk m c 0 t) (iblk m c 2 t) 1 k r e = oK (PX m c) 1 Y0 Y1 Y2 Y3 := by
  obtain rfl : Y1 = k := Fin.ext h1
  obtain rfl : Y3 = e := Fin.ext h3
  unfold ksG oK
  exact nat_eq m c t _ _ _ _ _ (by omega) (colK m c 1 Y1 Y3)

theorem agree_qt (t : Fin cfg0.N) (o : Fin 1) (k : Fin 2) (J : Fin 2) (d : Fin 64) (e : Fin 1024) (Y0 : Fin 16) (Y1 : Fin 2) (Y2 : Fin 16) (Y3 : Fin 64) (Y4 : Fin 1024)
    (h0 : Y0.val = t.val / 8) (h1 : Y1.val = k.val) (h2 : Y2.val = 2 * (t.val % 8) + J.val) (h3 : Y3.val = d.val) (h4 : Y4.val = e.val) :
    qtG (iblk m c 0 t) (iblk m c 3 t) k J d e = oQ (PX m c) Y0 Y1 Y2 Y3 Y4 := by
  obtain rfl : Y1 = k := Fin.ext h1
  obtain rfl : Y3 = d := Fin.ext h3
  obtain rfl : Y4 = e := Fin.ext h4
  unfold qtG oQ
  exact congrArg (· * Ideal.ofBits .f32 0x3E38AA3B#32) (tr_eq m c t _ _ _ _ _ (by dsimp only; omega)
    (moveU m c _ ⟨256 * Y1.val + 64 * (Y4.val / 256) + Y3.val, by omega⟩ _ ⟨2056 + (256 * Y1.val + 64 * (Y4.val / 256) + Y3.val), by omega⟩ (fun p => tseg0 m c ⟨256 * Y1.val + 64 * (Y4.val / 256) + Y3.val, by omega⟩ p) rfl (by dsimp only; omega)))

theorem agree_vst (t : Fin cfg0.N) (o : Fin 1) (k : Fin 2) (J : Fin 2) (d : Fin 64) (e : Fin 256) (Y0 : Fin 16) (Y1 : Fin 2) (Y2 : Fin 16) (Y3 : Fin 64) (Y4 : Fin 256)
    (h0 : Y0.val = t.val / 8) (h1 : Y1.val = k.val) (h2 : Y2.val = 2 * (t.val % 8) + J.val) (h3 : Y3.val = d.val) (h4 : Y4.val = e.val) :
    vtG (iblk m c 0 t) (iblk m c 3 t) 0 k J d e = oV (PX m c) 0 Y0 Y1 Y2 Y3 Y4 := by
  obtain rfl : Y1 = k := Fin.ext h1
  obtain rfl : Y3 = d := Fin.ext h3
  obtain rfl : Y4 = e := Fin.ext h4
  unfold vtG oV
  exact tr_eq m c t _ _ _ _ _ (by dsimp only; omega) (colV m c 0 Y1 Y3)

theorem agree_vwt (t : Fin cfg0.N) (o : Fin 1) (k : Fin 2) (J : Fin 2) (d : Fin 64) (e : Fin 256) (Y0 : Fin 16) (Y1 : Fin 2) (Y2 : Fin 16) (Y3 : Fin 64) (Y4 : Fin 256)
    (h0 : Y0.val = t.val / 8) (h1 : Y1.val = k.val) (h2 : Y2.val = 2 * (t.val % 8) + J.val) (h3 : Y3.val = d.val) (h4 : Y4.val = e.val) :
    vtG (iblk m c 0 t) (iblk m c 3 t) 1 k J d e = oV (PX m c) 1 Y0 Y1 Y2 Y3 Y4 := by
  obtain rfl : Y1 = k := Fin.ext h1
  obtain rfl : Y3 = d := Fin.ext h3
  obtain rfl : Y4 = e := Fin.ext h4
  unfold vtG oV
  exact tr_eq m c t _ _ _ _ _ (by dsimp only; omega) (colV m c 1 Y1 Y3)

theorem agree_gate (t : Fin cfg0.N) (o : Fin 1) (k : Fin 2) (J : Fin 2) (d : Fin 3) (e : Fin 1024) (Y0 : Fin 16) (Y1 : Fin 2) (Y2 : Fin 16) (Y3 : Fin 3) (Y4 : Fin 1024)
    (h0 : Y0.val = t.val / 8) (h1 : Y1.val = k.val) (h2 : Y2.val = 2 * (t.val % 8) + J.val) (h3 : Y3.val = d.val) (h4 : Y4.val = e.val) :
    gateG (iblk m c 0 t) (iblk m c 3 t) k J d e = oG (PX m c) Y0 Y1 Y2 Y3 Y4 := by
  obtain rfl : Y1 = k := Fin.ext h1
  obtain rfl : Y3 = d := Fin.ext h3
  obtain rfl : Y4 = e := Fin.ext h4
  unfold gateG oG
  exact tr_eq m c t _ _ _ _ _ (by dsimp only; omega)
    (moveU m c _ ⟨768 + (12 * Y1.val + 3 * (Y4.val / 256) + Y3.val), by omega⟩ _ ⟨3336 + (12 * Y1.val + 3 * (Y4.val / 256) + Y3.val), by omega⟩ (fun p => tseg768 m c ⟨12 * Y1.val + 3 * (Y4.val / 256) + Y3.val, by omega⟩ p) (by dsimp only; omega) (by dsimp only; omega))

theorem result5 : (dats m 0 c).arrAt 5 cfg0.N = W5 m c := by
  refine (dats m 0 c).arrAt_eq_of_covers 5 _ (by decide +kernel) fun t hf y => ?_
  blk_simp
  rw [after0_5]
  obtain ⟨e0, e1⟩ := idx5 t
  obtain ⟨r, j, rfl⟩ := two  y
  refine (left_qkv m c t _).trans ?_
  unfold W5
  refine agree_qkv m c t r j _ _ ?_ ?_
  · show win0_5.index t (0 : Fin 2) * 512 + 1 * r.val = 512 * t.val + r.val; omega
  · show win0_5.index t (1 : Fin 2) * 1536 + 1 * j.val = j.val; omega

theorem result6 : (dats m 0 c).arrAt 6 cfg0.N = W6 m c := by
  refine (dats m 0 c).arrAt_eq_of_covers 6 _ (by decide +kernel) fun t hf y => ?_
  blk_simp
  rw [after0_6]
  obtain ⟨e0, e1⟩ := idx6 t
  obtain ⟨r, j, rfl⟩ := two  y
  refine (left_z m c t _).trans ?_
  unfold W6
  refine agree_z m c t r j _ _ ?_ ?_
  · show win0_6.index t (0 : Fin 2) * 512 + 1 * r.val = 512 * t.val + r.val; omega
  · show win0_6.index t (1 : Fin 2) * 512 + 1 * j.val = j.val; omega

theorem result7 : (dats m 0 c).arrAt 7 cfg0.N = W7 m c := by
  refine (dats m 0 c).arrAt_eq_of_covers 7 _ (by decide +kernel) fun t hf y => ?_
  blk_simp
  rw [after0_7]
  obtain ⟨e0, e1⟩ := idx7 t
  obtain ⟨r, j, rfl⟩ := two  y
  refine (left_small m c t _).trans ?_
  unfold W7
  refine agree_small m c t r j _ _ ?_ ?_
  · show win0_7.index t (0 : Fin 2) * 512 + 1 * r.val = 512 * t.val + r.val; omega
  · show win0_7.index t (1 : Fin 2) * 128 + 1 * j.val = j.val; omega

theorem result8 : (dats m 0 c).arrAt 8 cfg0.N = W8 m c := by
  refine (dats m 0 c).arrAt_eq_of_covers 8 _ (by decide +kernel) fun t hf y => ?_
  blk_simp
  rw [after0_8]
  obtain ⟨e0, e1, e2, e3⟩ := idx8 t
  obtain ⟨o, k, r, e, rfl⟩ := four (n := 1) (p := 2) (q := 32) (r := 1024) y
  refine (left_kc m c t _).trans ?_
  unfold W8
  refine agree_kc m c t o k r e _ _ _ _ ?_ ?_ ?_ ?_
  · have := o.isLt; show win0_8.index t (0 : Fin 4) * 1 + 1 * o.val = t.val / 8; omega
  · show win0_8.index t (1 : Fin 4) * 2 + 1 * k.val = k.val; omega
  · show win0_8.index t (2 : Fin 4) * 32 + 1 * r.val = 32 * (t.val % 8) + r.val; omega
  · show win0_8.index t (3 : Fin 4) * 1024 + 1 * e.val = e.val; omega

theorem result9 : (dats m 0 c).arrAt 9 cfg0.N = W9 m c := by
  refine (dats m 0 c).arrAt_eq_of_covers 9 _ (by decide +kernel) fun t hf y => ?_
  blk_simp
  rw [after0_9]
  obtain ⟨e0, e1, e2, e3⟩ := idx9 t
  obtain ⟨o, k, r, e, rfl⟩ := four (n := 1) (p := 2) (q := 32) (r := 1024) y
  refine (left_vc m c t _).trans ?_
  unfold W9
  refine agree_vc m c t o k r e _ _ _ _ ?_ ?_ ?_ ?_
  · have := o.isLt; show win0_9.index t (0 : Fin 4) * 1 + 1 * o.val = t.val / 8; omega
  · show win0_9.index t (1 : Fin 4) * 2 + 1 * k.val = k.val; omega
  · show win0_9.index t (2 : Fin 4) * 32 + 1 * r.val = 32 * (t.val % 8) + r.val; omega
  · show win0_9.index t (3 : Fin 4) * 1024 + 1 * e.val = e.val; omega

theorem result10 : (dats m 0 c).arrAt 10 cfg0.N = W10 m c := by
  refine (dats m 0 c).arrAt_eq_of_covers 10 _ (by decide +kernel) fun t hf y => ?_
  blk_simp
  rw [after0_10]
  obtain ⟨e0, e1, e2, e3⟩ := idx10 t
  obtain ⟨o, k, r, e, rfl⟩ := four (n := 1) (p := 2) (q := 512) (r := 64) y
  refine (left_ks m c t _).trans ?_
  unfold W10
  refine agree_ks m c t o k r e _ _ _ _ ?_ ?_ ?_ ?_
  · have := o.isLt; show win0_10.index t (0 : Fin 4) * 1 + 1 * o.val = t.val / 8; omega
  · show win0_10.index t (1 : Fin 4) * 2 + 1 * k.val = k.val; omega
  · show win0_10.index t (2 : Fin 4) * 512 + 1 * r.val = 512 * (t.val % 8) + r.val; omega
  · show win0_10.index t (3 : Fin 4) * 64 + 1 * e.val = e.val; omega

theorem result11 : (dats m 0 c).arrAt 11 cfg0.N = W11 m c := by
  refine (dats m 0 c).arrAt_eq_of_covers 11 _ (by decide +kernel) fun t hf y => ?_
  blk_simp
  rw [after0_11]
  obtain ⟨e0, e1, e2, e3⟩ := idx11 t
  obtain ⟨o, k, r, e, rfl⟩ := four (n := 1) (p := 2) (q := 512) (r := 64) y
  refine (left_kw m c t _).trans ?_
  unfold W11
  refine agree_kw m c t o k r e _ _ _ _ ?_ ?_ ?_ ?_
  · have := o.isLt; show win0_11.index t (0 : Fin 4) * 1 + 1 * o.val = t.val / 8; omega
  · show win0_11.index t (1 : Fin 4) * 2 + 1 * k.val = k.val; omega
  · show win0_11.index t (2 : Fin 4) * 512 + 1 * r.val = 512 * (t.val % 8) + r.val; omega
  · show win0_11.index t (3 : Fin 4) * 64 + 1 * e.val = e.val; omega

theorem result12 : (dats m 0 c).arrAt 12 cfg0.N = W12 m c := by
  refine (dats m 0 c).arrAt_eq_of_covers 12 _ (by decide +kernel) fun t hf y => ?_
  blk_simp
  rw [after0_12]
  obtain ⟨e0, e1, e2, e3, e4⟩ := idx12 t
  obtain ⟨o, k, J, d, e, rfl⟩ := five (n := 1) (p := 2) (q := 2) (r := 64) (s := 1024) y
  refine (left_qt m c t _).trans ?_
  unfold W12
  refine agree_qt m c t o k J d e _ _ _ _ _ ?_ ?_ ?_ ?_ ?_
  · have := o.isLt; show win0_12.index t (0 : Fin 5) * 1 + 1 * o.val = t.val / 8; omega
  · show win0_12.index t (1 : Fin 5) * 2 + 1 * k.val = k.val; omega
  · show win0_12.index t (2 : Fin 5) * 2 + 1 * J.val = 2 * (t.val % 8) + J.val; omega
  · show win0_12.index t (3 : Fin 5) * 64 + 1 * d.val = d.val; omega
  · show win0_12.index t (4 : Fin 5) * 1024 + 1 * e.val = e.val; omega

theorem result13 : (dats m 0 c).arrAt 13 cfg0.N = W13 m c := by
  refine (dats m 0 c).arrAt_eq_of_covers 13 _ (by decide +kernel) fun t hf y => ?_
  blk_simp
  rw [after0_13]
  obtain ⟨e0, e1, e2, e3, e4⟩ := idx13 t
  obtain ⟨o, k, J, d, e, rfl⟩ := five (n := 1) (p := 2) (q := 2) (r := 64) (s := 256) y
  refine (left_vst m c t _).trans ?_
  unfold W13
  refine agree_vst m c t o k J d e _ _ _ _ _ ?_ ?_ ?_ ?_ ?_
  · have := o.isLt; show win0_13.index t (0 : Fin 5) * 1 + 1 * o.val = t.val / 8; omega
  · show win0_13.index t (1 : Fin 5) * 2 + 1 * k.val = k.val; omega
  · show win0_13.index t (2 : Fin 5) * 2 + 1 * J.val = 2 * (t.val % 8) + J.val; omega
  · show win0_13.index t (3 : Fin 5) * 64 + 1 * d.val = d.val; omega
  · show win0_13.index t (4 : Fin 5) * 256 + 1 * e.val = e.val; omega

theorem result14 : (dats m 0 c).arrAt 14 cfg0.N = W14 m c := by
  refine (dats m 0 c).arrAt_eq_of_covers 14 _ (by decide +kernel) fun t hf y => ?_
  blk_simp
  rw [after0_14]
  obtain ⟨e0, e1, e2, e3, e4⟩ := idx14 t
  obtain ⟨o, k, J, d, e, rfl⟩ := five (n := 1) (p := 2) (q := 2) (r := 64) (s := 256) y
  refine (left_vwt m c t _).trans ?_
  unfold W14
  refine agree_vwt m c t o k J d e _ _ _ _ _ ?_ ?_ ?_ ?_ ?_
  · have := o.isLt; show win0_14.index t (0 : Fin 5) * 1 + 1 * o.val = t.val / 8; omega
  · show win0_14.index t (1 : Fin 5) * 2 + 1 * k.val = k.val; omega
  · show win0_14.index t (2 : Fin 5) * 2 + 1 * J.val = 2 * (t.val % 8) + J.val; omega
  · show win0_14.index t (3 : Fin 5) * 64 + 1 * d.val = d.val; omega
  · show win0_14.index t (4 : Fin 5) * 256 + 1 * e.val = e.val; omega

theorem result15 : (dats m 0 c).arrAt 15 cfg0.N = W15 m c := by
  refine (dats m 0 c).arrAt_eq_of_covers 15 _ (by decide +kernel) fun t hf y => ?_
  blk_simp
  rw [after0_15]
  obtain ⟨e0, e1, e2, e3, e4⟩ := idx15 t
  obtain ⟨o, k, J, d, e, rfl⟩ := five (n := 1) (p := 2) (q := 2) (r := 3) (s := 1024) y
  refine (left_gate m c t _).trans ?_
  unfold W15
  refine agree_gate m c t o k J d e _ _ _ _ _ ?_ ?_ ?_ ?_ ?_
  · have := o.isLt; show win0_15.index t (0 : Fin 5) * 1 + 1 * o.val = t.val / 8; omega
  · show win0_15.index t (1 : Fin 5) * 2 + 1 * k.val = k.val; omega
  · show win0_15.index t (2 : Fin 5) * 2 + 1 * J.val = 2 * (t.val % 8) + J.val; omega
  · show win0_15.index t (3 : Fin 5) * 3 + 1 * d.val = d.val; omega
  · show win0_15.index t (4 : Fin 5) * 1024 + 1 * e.val = e.val; omega

end InProj

end
-- ==== Proof.InProjRef.lean ====
/- The reference's results of the input projection, read at an entry: the layouts of the products with the columns. -/
module

public import proofs.«01_k».proof.Proof.Gen.Reference4Ideal.Run
public import proofs.«01_k».proof.Proof.InProjMath
public import Idealize.ShloMosaic.Lib.Pointwise
public import Idealize.ShloMosaic.Lib.IdealHost

@[expose] public section

set_option maxRecDepth 100000

noncomputable section

namespace InProj.Ref

open Idealize.ShloMosaic Idealize.ShloMosaic.TcCoe Cert.Reference4Ideal Cert.Reference4Ideal.Gen Ffn

/-- The products with the columns. -/
def prods (x : FVec Ideal S16x4096x1024 .f32) (w : FVec Ideal S1024x3360 .f32) : FVec Ideal S16x4096x3360 .f32 :=
  Host.dotGeneral dot_S16x4096x1024_S1024x3360_S16x4096x3360_2_0_01_1_n_n none x w

theorem prods_at (x : FVec Ideal S16x4096x1024 .f32) (w : FVec Ideal S1024x3360 .f32) (s : Fin 16) (n : Fin 4096) (j : Fin 3360) :
    prods x w (ix3 s n j) = dot (fun s n k => x (ix3 s n k)) (fun k j => w (ix2 k j)) s n j := by
  unfold prods dot
  pointwise []

/-- The entries of an array of products. -/
abbrev ent (p : FVec Ideal S16x4096x3360 .f32) : Fin 16 → Fin 4096 → Fin 3360 → EReal := fun s n j => p (ix3 s n j)

/-- The convolution's tap: a row of the weights times the columns from an offset of the padded tokens. -/
def hpad (p : FVec Ideal S16x4096x3360 .f32) : FVec Ideal S16x4099x1536 .f32 :=
  pad S16x4099x1536 ![0, 3, 0] ![0, 0, 0] ![0, 0, 0] (extractStridedSlice S16x4096x1536 ![0, 0, 0] p slices_S16x4096x3360_S16x4096x1536_0_0_0)
    (sitofp .f32 (constantI S_ 32 0#32)) pads_S16x4096x1536_S16x4099x1536_000_300_000 h_S_

def hrow (y : FVec Ideal S1x1536 .f32) : FVec Ideal S16x4096x1536 .f32 :=
  broadcastInDim S16x4096x1536 ![0, 1, 2] bcast_S1x1x1536_S16x4096x1536_0_1_2 (broadcastInDim S1x1x1536 ![2] bcast_S1536_S1x1x1536_2
    (shapeCast S1536 y shapeCasts_S1x1536_S1536))

def hconv (p : FVec Ideal S16x4096x3360 .f32) (cw : FVec Ideal S4x1536 .f32) : FVec Ideal S16x4096x1536 .f32 :=
  addf (addf (addf (addf (broadcastInDim S16x4096x1536 ![] bcast_S_S16x4096x1536 (constant S_ .f32 0x00000000#32))
    (mulf (hrow (extractStridedSlice S1x1536 ![0, 0] cw slices_S4x1536_S1x1536_0_0)) (extractStridedSlice S16x4096x1536 ![0, 0, 0] (hpad p) slices_S16x4099x1536_S16x4096x1536_0_0_0)))
    (mulf (hrow (extractStridedSlice S1x1536 ![1, 0] cw slices_S4x1536_S1x1536_1_0)) (extractStridedSlice S16x4096x1536 ![0, 1, 0] (hpad p) slices_S16x4099x1536_S16x4096x1536_0_1_0)))
    (mulf (hrow (extractStridedSlice S1x1536 ![2, 0] cw slices_S4x1536_S1x1536_2_0)) (extractStridedSlice S16x4096x1536 ![0, 2, 0] (hpad p) slices_S16x4099x1536_S16x4096x1536_0_2_0)))
    (mulf (hrow (extractStridedSlice S1x1536 ![3, 0] cw slices_S4x1536_S1x1536_3_0)) (extractStridedSlice S16x4096x1536 ![0, 3, 0] (hpad p) slices_S16x4099x1536_S16x4096x1536_0_3_0))

def hsilu (z : FVec Ideal S16x4096x1536 .f32) : FVec Ideal S16x4096x1536 .f32 :=
  mulf z (Host.divf (broadcastInDim S16x4096x1536 ![] bcast_S_S16x4096x1536 (constant S_ .f32 0x3F800000#32))
    (addf (broadcastInDim S16x4096x1536 ![] bcast_S_S16x4096x1536 (constant S_ .f32 0x3F800000#32)) (Host.exp (Host.negf z))))

def rQkv (p : FVec Ideal S16x4096x3360 .f32) (cw : FVec Ideal S4x1536 .f32) : FVec Ideal S65536x1536 .f32 :=
  shapeCast S65536x1536 (hsilu (hconv p cw)) shapeCasts_S16x4096x1536_S65536x1536

def rZ (p : FVec Ideal S16x4096x3360 .f32) : FVec Ideal S65536x512 .f32 :=
  shapeCast S65536x512 (extractStridedSlice S16x4096x512 ![0, 0, 1536] p slices_S16x4096x3360_S16x4096x512_0_0_1536) shapeCasts_S16x4096x512_S65536x512

def rSmall (p : FVec Ideal S16x4096x3360 .f32) : FVec Ideal S65536x128 .f32 :=
  shapeCast S65536x128 (pad S16x4096x128 ![0, 0, 0] ![0, 0, 120] ![0, 0, 0] (extractStridedSlice S16x4096x8 ![0, 0, 2048] p slices_S16x4096x3360_S16x4096x8_0_0_2048) (sitofp .f32 (constantI S_ 32 0#32)) pads_S16x4096x8_S16x4096x128_000_000_01200 h_S_) shapeCasts_S16x4096x128_S65536x128

def rKc (p : FVec Ideal S16x4096x3360 .f32) : FVec Ideal S16x2x256x1024 .f32 :=
  shapeCast S16x2x256x1024 (transpose S16x2x4096x64 [0, 2, 1, 3] (shapeCast _ (extractStridedSlice S16x4096x128 ![0, 0, 2568] p slices_S16x4096x3360_S16x4096x128_0_0_2568) shapeCasts_S16x4096x128_S16x4096x2x64) transposes_S16x4096x2x64_S16x2x4096x64_0_2_1_3) shapeCasts_S16x2x4096x64_S16x2x256x1024

def rVc (p : FVec Ideal S16x4096x3360 .f32) : FVec Ideal S16x2x256x1024 .f32 :=
  shapeCast S16x2x256x1024 (transpose S16x2x4096x64 [0, 2, 1, 3] (shapeCast _ (extractStridedSlice S16x4096x128 ![0, 0, 2696] p slices_S16x4096x3360_S16x4096x128_0_0_2696) shapeCasts_S16x4096x128_S16x4096x2x64) transposes_S16x4096x2x64_S16x2x4096x64_0_2_1_3) shapeCasts_S16x2x4096x64_S16x2x256x1024

def rKs (p : FVec Ideal S16x4096x3360 .f32) : FVec Ideal S16x2x4096x64 .bf16 :=
  truncf .bf16 (transpose S16x2x4096x64 [0, 2, 1, 3] (shapeCast _ (extractStridedSlice S16x4096x128 ![0, 0, 2824] p slices_S16x4096x3360_S16x4096x128_0_0_2824) shapeCasts_S16x4096x128_S16x4096x2x64) transposes_S16x4096x2x64_S16x2x4096x64_0_2_1_3) bitsLt_bf16_f32

def rKw (p : FVec Ideal S16x4096x3360 .f32) : FVec Ideal S16x2x4096x64 .bf16 :=
  truncf .bf16 (transpose S16x2x4096x64 [0, 2, 1, 3] (shapeCast _ (extractStridedSlice S16x4096x128 ![0, 0, 3080] p slices_S16x4096x3360_S16x4096x128_0_0_3080) shapeCasts_S16x4096x128_S16x4096x2x64) transposes_S16x4096x2x64_S16x2x4096x64_0_2_1_3) bitsLt_bf16_f32

def rQ (p : FVec Ideal S16x4096x3360 .f32) : FVec Ideal S16x2x16x64x1024 .bf16 :=
  truncf .bf16 (shapeCast _ (transpose S16x2x16x64x4x256 [0, 3, 1, 5, 4, 2] (shapeCast _ (mulf (extractStridedSlice S16x4096x512 ![0, 0, 2056] p slices_S16x4096x3360_S16x4096x512_0_0_2056) (broadcastInDim S16x4096x512 ![] bcast_S_S16x4096x512 (constant S_ .f32 0x3E38AA3B#32))) shapeCasts_S16x4096x512_S16x16x256x2x4x64) transposes_S16x16x256x2x4x64_S16x2x16x64x4x256_0_3_1_5_4_2) shapeCasts_S16x2x16x64x4x256_S16x2x16x64x1024) bitsLt_bf16_f32

def rVs (p : FVec Ideal S16x4096x3360 .f32) : FVec Ideal S16x2x16x64x256 .bf16 :=
  truncf .bf16 (shapeCast _ (transpose S16x2x16x64x1x256 [0, 3, 1, 5, 4, 2] (shapeCast _ (extractStridedSlice S16x4096x128 ![0, 0, 2952] p slices_S16x4096x3360_S16x4096x128_0_0_2952) shapeCasts_S16x4096x128_S16x16x256x2x1x64) transposes_S16x16x256x2x1x64_S16x2x16x64x1x256_0_3_1_5_4_2) shapeCasts_S16x2x16x64x1x256_S16x2x16x64x256) bitsLt_bf16_f32

def rVw (p : FVec Ideal S16x4096x3360 .f32) : FVec Ideal S16x2x16x64x256 .bf16 :=
  truncf .bf16 (shapeCast _ (transpose S16x2x16x64x1x256 [0, 3, 1, 5, 4, 2] (shapeCast _ (extractStridedSlice S16x4096x128 ![0, 0, 3208] p slices_S16x4096x3360_S16x4096x128_0_0_3208) shapeCasts_S16x4096x128_S16x16x256x2x1x64) transposes_S16x16x256x2x1x64_S16x2x16x64x1x256_0_3_1_5_4_2) shapeCasts_S16x2x16x64x1x256_S16x2x16x64x256) bitsLt_bf16_f32

def rG (p : FVec Ideal S16x4096x3360 .f32) : FVec Ideal S16x2x16x3x1024 .f32 :=
  shapeCast S16x2x16x3x1024 (transpose S16x2x16x3x4x256 [0, 3, 1, 5, 4, 2] (shapeCast _ (extractStridedSlice S16x4096x24 ![0, 0, 3336] p slices_S16x4096x3360_S16x4096x24_0_0_3336) shapeCasts_S16x4096x24_S16x16x256x2x4x3) transposes_S16x16x256x2x4x3_S16x2x16x3x4x256_0_3_1_5_4_2) shapeCasts_S16x2x16x3x4x256_S16x2x16x3x1024

theorem res_eq (m : (ℓ : Loc nD τ sig) → Buf (Elt Ideal) ℓ) (c : Dev nD) :
    (Value.res_main_v43 m c : FVec Ideal S65536x1536 .f32) =
      rQkv (prods (m (c, Proc.tc.devRef main_arg0)) (m (c, Proc.tc.devRef main_arg1))) (m (c, Proc.tc.devRef main_arg2)) := rfl

section Read

theorem pick {α : Type} {a b : Prop} [Decidable a] [Decidable b] {f : a → α} {g : b → α} {u v : α} (hab : a ↔ b) (hfg : ∀ x y, f x = g y) (huv : u = v) :
    (if h : a then f h else u) = if h : b then g h else v := by
  by_cases h : a
  · rw [dif_pos h, dif_pos (hab.mp h), hfg h (hab.mp h)]
  · rw [dif_neg h, dif_neg fun g => h (hab.mpr g), huv]

theorem zero_word : (FloatOps.sitofp .f32 (0#32) : Ideal .f32) = (0 : EReal) := by
  show (((0#32).toInt : ℝ) : EReal) = 0
  simp

variable (p : FVec Ideal S16x4096x3360 .f32) (cw : FVec Ideal S4x1536 .f32)

theorem hsilu_at (z : FVec Ideal S16x4096x1536 .f32) (s : Fin 16) (n : Fin 4096) (j : Fin 1536) : hsilu z (ix3 s n j) = siluE (z (ix3 s n j)) := by
  unfold siluE
  rw [one_eq, EReal.coe_one]
  pointwise [hsilu]

theorem flat_at (y : FVec Ideal S16x4096x1536 .f32) (R : Fin 65536) (j : Fin 1536) :
    shapeCast S65536x1536 y shapeCasts_S16x4096x1536_S65536x1536 (ix2 R j) = y (ix3 ⟨R.val / 4096, by omega⟩ ⟨R.val % 4096, by omega⟩ j) := by
  pointwise []

theorem z_at (R : Fin 65536) (j : Fin 512) : rZ p (ix2 R j) = oZ (ent p) R j := by
  unfold oZ ent
  pointwise [rZ]

theorem kc_at (s : Fin 16) (k : Fin 2) (b : Fin 256) (e : Fin 1024) : rKc p (ix4 s k b e) = oC (ent p) 0 s k b e := by
  unfold oC ent
  pointwise [rKc]
  exact congrArg₂ (fun a b => p (ix3 s a b)) (Fin.ext (by dsimp only; omega)) (Fin.ext (by first | rfl | (show _ + _ = _; dsimp only [Fin.val_zero, Fin.val_one]; omega)))

theorem vc_at (s : Fin 16) (k : Fin 2) (b : Fin 256) (e : Fin 1024) : rVc p (ix4 s k b e) = oC (ent p) 1 s k b e := by
  unfold oC ent
  pointwise [rVc]
  exact congrArg₂ (fun a b => p (ix3 s a b)) (Fin.ext (by dsimp only; omega)) (Fin.ext (by first | rfl | (show _ + _ = _; dsimp only [Fin.val_zero, Fin.val_one]; omega)))

theorem ks_at (s : Fin 16) (k : Fin 2) (n : Fin 4096) (e : Fin 64) : rKs p (ix4 s k n e) = oK (ent p) 0 s k n e := by
  unfold oK ent
  pointwise [rKs]
  exact congrArg₂ (fun a b => p (ix3 s a b)) rfl (Fin.ext (by first | rfl | (show _ + _ = _; dsimp only [Fin.val_zero, Fin.val_one]; omega)))

theorem kw_at (s : Fin 16) (k : Fin 2) (n : Fin 4096) (e : Fin 64) : rKw p (ix4 s k n e) = oK (ent p) 1 s k n e := by
  unfold oK ent
  pointwise [rKw]
  exact congrArg₂ (fun a b => p (ix3 s a b)) rfl (Fin.ext (by first | rfl | (show _ + _ = _; dsimp only [Fin.val_zero, Fin.val_one]; omega)))

theorem q_at (s : Fin 16) (k : Fin 2) (J : Fin 16) (d : Fin 64) (e : Fin 1024) : rQ p (ix5 s k J d e) = oQ (ent p) s k J d e := by
  unfold oQ ent
  pointwise [rQ]
  exact congrArg₂ (fun a b => p (ix3 s a b) * Ideal.ofBits .f32 0x3E38AA3B#32) (Fin.ext (by dsimp only; omega)) (Fin.ext (by dsimp only; omega))

theorem vs_at (s : Fin 16) (k : Fin 2) (J : Fin 16) (d : Fin 64) (e : Fin 256) : rVs p (ix5 s k J d e) = oV (ent p) 0 s k J d e := by
  unfold oV ent
  pointwise [rVs]
  exact congrArg₂ (fun a b => p (ix3 s a b)) (Fin.ext (by dsimp only; omega)) (Fin.ext (by first | rfl | (show _ + _ = _; dsimp only [Fin.val_zero, Fin.val_one]; omega)))

theorem vw_at (s : Fin 16) (k : Fin 2) (J : Fin 16) (d : Fin 64) (e : Fin 256) : rVw p (ix5 s k J d e) = oV (ent p) 1 s k J d e := by
  unfold oV ent
  pointwise [rVw]
  exact congrArg₂ (fun a b => p (ix3 s a b)) (Fin.ext (by dsimp only; omega)) (Fin.ext (by first | rfl | (show _ + _ = _; dsimp only [Fin.val_zero, Fin.val_one]; omega)))

theorem g_at (s : Fin 16) (k : Fin 2) (J : Fin 16) (g : Fin 3) (e : Fin 1024) : rG p (ix5 s k J g e) = oG (ent p) s k J g e := by
  unfold oG ent
  pointwise [rG]
  exact congrArg₂ (fun a b => p (ix3 s a b)) (Fin.ext (by dsimp only; omega)) (Fin.ext (by first | rfl | (show _ + _ = _; dsimp only [Fin.val_zero, Fin.val_one]; omega)))

theorem small_at (R : Fin 65536) (j : Fin 128) : rSmall p (ix2 R j) = oSmall (ent p) R j := by
  unfold oSmall ent
  pointwise [rSmall]
  exact pick (by omega) (fun _ _ => rfl) zero_word

theorem hpad_at (s : Fin 16) (n : Fin 4099) (j : Fin 1536) : hpad p (ix3 s n j) = if h : 3 ≤ n.val then p (ix3 s ⟨n.val - 3, by omega⟩ ⟨j.val, by omega⟩) else (0 : EReal) := by
  pointwise [hpad]
  by_cases h : 3 ≤ n.val
  · rw [dif_pos h, dif_pos ⟨h, by omega⟩]
  · rw [dif_neg h, dif_neg fun g => h g.1]
    exact zero_word

theorem swap (a b c d : EReal) : a + b + c + d = d + c + b + a := by ac_rfl

theorem hrow_at (y : FVec Ideal S1x1536 .f32) (s : Fin 16) (n : Fin 4096) (j : Fin 1536) : hrow y (ix3 s n j) = y (ix2 0 j) := by
  pointwise [hrow]

theorem hconv_at (s : Fin 16) (n : Fin 4096) (j : Fin 1536) : hconv p cw (ix3 s n j) = oConv (ent p) (fun d j => cw (ix2 d j)) s n j := by
  have ht : ∀ (d : Fin 4) (o : Fin 4), o.val + d.val = 3 → hpad p (ix3 s ⟨n.val + o.val, by omega⟩ j) = tapAt (ent p) s n d j := by
    intro d o hd
    rw [hpad_at]
    unfold tapAt ent
    by_cases h : d.val ≤ n.val
    · rw [if_pos h, dif_pos (show 3 ≤ n.val + o.val by omega)]
      exact congrArg (fun n => p (ix3 s n _)) (Fin.ext (by show n.val + o.val - 3 = n.val - d.val; omega))
    · rw [if_neg h, dif_neg (show ¬ 3 ≤ n.val + o.val by omega)]
  have hs : ∀ (q : FVec Ideal S16x4099x1536 .f32), addf (addf (addf (addf (broadcastInDim S16x4096x1536 ![] bcast_S_S16x4096x1536 (constant S_ .f32 0x00000000#32))
    (mulf (hrow (extractStridedSlice S1x1536 ![0, 0] cw slices_S4x1536_S1x1536_0_0)) (extractStridedSlice S16x4096x1536 ![0, 0, 0] q slices_S16x4099x1536_S16x4096x1536_0_0_0)))
    (mulf (hrow (extractStridedSlice S1x1536 ![1, 0] cw slices_S4x1536_S1x1536_1_0)) (extractStridedSlice S16x4096x1536 ![0, 1, 0] q slices_S16x4099x1536_S16x4096x1536_0_1_0)))
    (mulf (hrow (extractStridedSlice S1x1536 ![2, 0] cw slices_S4x1536_S1x1536_2_0)) (extractStridedSlice S16x4096x1536 ![0, 2, 0] q slices_S16x4099x1536_S16x4096x1536_0_2_0)))
    (mulf (hrow (extractStridedSlice S1x1536 ![3, 0] cw slices_S4x1536_S1x1536_3_0)) (extractStridedSlice S16x4096x1536 ![0, 3, 0] q slices_S16x4099x1536_S16x4096x1536_0_3_0)) (ix3 s n j)
    = (((0 + cw (ix2 0 j) * q (ix3 s ⟨n.val + 0, by omega⟩ j)) + cw (ix2 1 j) * q (ix3 s ⟨n.val + 1, by omega⟩ j)) + cw (ix2 2 j) * q (ix3 s ⟨n.val + 2, by omega⟩ j))
      + cw (ix2 3 j) * q (ix3 s ⟨n.val + 3, by omega⟩ j) := by
    intro q
    pointwise [hrow_at]
    simp only [Nat.add_comm _ n.val]
  refine (hs (hpad p)).trans ?_
  rw [show hpad p (ix3 s ⟨n.val + 0, by omega⟩ j) = _ from ht 3 0 rfl, show hpad p (ix3 s ⟨n.val + 1, by omega⟩ j) = _ from ht 2 1 rfl,
    show hpad p (ix3 s ⟨n.val + 2, by omega⟩ j) = _ from ht 1 2 rfl, show hpad p (ix3 s ⟨n.val + 3, by omega⟩ j) = _ from ht 0 3 rfl]
  unfold oConv
  rw [zero_add]
  exact swap _ _ _ _

theorem qkv_at (R : Fin 65536) (j : Fin 1536) : rQkv p cw (ix2 R j) = oQkv (ent p) (fun d j => cw (ix2 d j)) siluE R j :=
  (flat_at _ R j).trans ((hsilu_at _ _ _ j).trans (congrArg siluE (hconv_at p cw _ _ j)))

end Read

end InProj.Ref

end
-- ==== Proof.InProjValue.lean ====
/- The reference's results of the input projection, from the same arguments, are the kernel's: entry by entry they are the
   same functions of the products with the columns. -/
module

public import proofs.«01_k».proof.Proof.InProjCall
public import proofs.«01_k».proof.Proof.InProjRef

@[expose] public section

noncomputable section

namespace InProj

open Idealize.ShloMosaic Idealize.ShloMosaic.TcCoe
open Cert.Kernel4Ideal Cert.Kernel4Ideal.Gen Ffn

variable (m : (ℓ : Loc nD τ sig) → Buf (Elt Ideal) ℓ) (c : Dev nD)

/-- The products with the columns. -/
theorem ent_eq : Ref.ent (Ref.prods (aX m c) (aW m c)) = PX m c := by
  funext s n j
  exact Ref.prods_at _ _ s n j

theorem whole_qkv (h : ∀ R j, oQkv (PX m c) (CX m c) siluT R j = oQkv (PX m c) (CX m c) siluE R j) :
    Ref.rQkv (Ref.prods (aX m c) (aW m c)) (aC m c) = W5 m c := by
  funext y
  obtain ⟨R, j, rfl⟩ := two y
  refine (Ref.qkv_at _ _ R j).trans ?_
  rw [ent_eq]
  exact (h R j).symm

theorem whole_z : Ref.rZ (Ref.prods (aX m c) (aW m c)) = W6 m c := by
  funext y
  obtain ⟨R, j, rfl⟩ := two y
  refine (Ref.z_at _ R j).trans ?_
  rw [ent_eq]
  rfl

theorem whole_small : Ref.rSmall (Ref.prods (aX m c) (aW m c)) = W7 m c := by
  funext y
  obtain ⟨R, j, rfl⟩ := two y
  refine (Ref.small_at _ R j).trans ?_
  rw [ent_eq]
  rfl

theorem whole_kc : Ref.rKc (Ref.prods (aX m c) (aW m c)) = W8 m c := by
  funext y
  obtain ⟨s, k, n, e, rfl⟩ := four y
  refine (Ref.kc_at _ s k n e).trans ?_
  rw [ent_eq]
  rfl

theorem whole_vc : Ref.rVc (Ref.prods (aX m c) (aW m c)) = W9 m c := by
  funext y
  obtain ⟨s, k, n, e, rfl⟩ := four y
  refine (Ref.vc_at _ s k n e).trans ?_
  rw [ent_eq]
  rfl

theorem whole_ks : Ref.rKs (Ref.prods (aX m c) (aW m c)) = W10 m c := by
  funext y
  obtain ⟨s, k, n, e, rfl⟩ := four y
  refine (Ref.ks_at _ s k n e).trans ?_
  rw [ent_eq]
  rfl

theorem whole_kw : Ref.rKw (Ref.prods (aX m c) (aW m c)) = W11 m c := by
  funext y
  obtain ⟨s, k, n, e, rfl⟩ := four y
  refine (Ref.kw_at _ s k n e).trans ?_
  rw [ent_eq]
  rfl

theorem whole_q : Ref.rQ (Ref.prods (aX m c) (aW m c)) = W12 m c := by
  funext y
  obtain ⟨s, k, J, d, e, rfl⟩ := five y
  refine (Ref.q_at _ s k J d e).trans ?_
  rw [ent_eq]
  rfl

theorem whole_vs : Ref.rVs (Ref.prods (aX m c) (aW m c)) = W13 m c := by
  funext y
  obtain ⟨s, k, J, d, e, rfl⟩ := five y
  refine (Ref.vs_at _ s k J d e).trans ?_
  rw [ent_eq]
  rfl

theorem whole_vw : Ref.rVw (Ref.prods (aX m c) (aW m c)) = W14 m c := by
  funext y
  obtain ⟨s, k, J, d, e, rfl⟩ := five y
  refine (Ref.vw_at _ s k J d e).trans ?_
  rw [ent_eq]
  rfl

theorem whole_g : Ref.rG (Ref.prods (aX m c) (aW m c)) = W15 m c := by
  funext y
  obtain ⟨s, k, J, d, e, rfl⟩ := five y
  refine (Ref.g_at _ s k J d e).trans ?_
  rw [ent_eq]
  rfl

end InProj

end
-- ==== Proof.CmpRead.lean ====
/- The compression of keys and values: the mathematics of a block, of its two halves of sixteen tokens, and the units of the
   call read at an entry. -/
module

public import proofs.«01_k».proof.Proof.Gen.Kernel5Ideal.Skeleton
public import proofs.«01_k».proof.Proof.FfnMath
public import Idealize.ShloMosaic.Lib.Pointwise

@[expose] public section

noncomputable section

namespace Cmp

open Idealize.ShloMosaic Cert.Kernel5Ideal Cert.Kernel5Ideal.Gen Ffn

/-- The gelu by tanh. -/
def gelu (z : EReal) : EReal :=
  z * (half * (one + Ideal.tanh (Ideal.ofBits .f32 0x3F4C422A#32 * (z + Ideal.ofBits .f32 0x3D372713#32 * (z * z * z)))))

/-- A half block with its positions, through its half of the first weights. -/
def part (a p : Fin 1024 → EReal) (w : Fin 1024 → Fin 256 → EReal) (f : Fin 256) : EReal := ∑ i : Fin 1024, (a i + p i) * w i f

/-- A block, of its two halves, through the perceptron. -/
def unit (a b : Fin 1024 → EReal) (p : Fin 2 → Fin 1024 → EReal) (w : Fin 2 → Fin 1024 → Fin 256 → EReal) (v : Fin 256 → Fin 64 → EReal) (j : Fin 64) : EReal :=
  ∑ f : Fin 256, gelu (part a (p 0) (w 0) f + part b (p 1) (w 1) f) * v f j

/-- The compression of the block that starts at token `16 n`. -/
def spec (a : FVec Ideal S16x2x4096x64 .f32) (p : FVec Ideal S32x64 .f32) (w : FVec Ideal S2048x256 .f32) (v : FVec Ideal S256x64 .f32)
    (b : Fin 16) (h : Fin 2) (n : Fin 255) (j : Fin 64) : EReal :=
  unit (fun i => a (ix4 b h ⟨16 * n.val + i.val / 64, by omega⟩ ⟨i.val % 64, by omega⟩)) (fun i => a (ix4 b h ⟨16 * (n.val + 1) + i.val / 64, by omega⟩ ⟨i.val % 64, by omega⟩))
    (fun s i => p (ix2 ⟨16 * s.val + i.val / 64, by omega⟩ ⟨i.val % 64, by omega⟩)) (fun s i f => w (ix2 ⟨1024 * s.val + i.val, by omega⟩ f)) (fun f j => v (ix2 f j)) j

/-- The half blocks with their positions, through their half of the first weights. -/
def halves (x : Vec Ideal S1x1x256x1024 .f32) (p : Vec Ideal S1x1024 .f32) (w : Vec Ideal S1x1024x256 .bf16) : FVec Ideal S256x256 .f32 :=
  matmul dot_S256x1024_S1024x256_S256x256_1_0_0_1_n_n none
    (truncf .bf16 (addf (shapeCast S256x1024 x shapeCasts_S1x1x256x1024_S256x1024 : FVec Ideal S256x1024 .f32)
      (broadcastTo S256x1024 (shapeCast S1x1024 p shapeCasts_S1x1024_S1x1024) broadcasts_S1x1024_S256x1024)) bitsLt_bf16_f32)
    (shapeCast S1024x256 w shapeCasts_S1x1024x256_S1024x256 : FVec Ideal S1024x256 .bf16) (constant S256x256 .f32 0x00000000#32)

theorem halves_at (x : Vec Ideal S1x1x256x1024 .f32) (p : Vec Ideal S1x1024 .f32) (w : Vec Ideal S1x1024x256 .bf16) (n f : Fin 256) :
    halves x p w (ix2 n f) = part (fun i => (x : FVec Ideal S1x1x256x1024 .f32) (ix4 0 0 n i)) (fun i => (p : FVec Ideal S1x1024 .f32) (ix2 0 i))
      (fun i f => (w : FVec Ideal S1x1024x256 .bf16) (ix3 0 i f)) f := by
  unfold part
  pointwise [halves]

theorem rotated (y : FVec Ideal S256x256 .f32) (n f : Fin 256) :
    dynamicRotate 0 255#32 none y rotates_S256x256_d0 (ix2 n f) = y (ix2 ⟨(n.val + 1) % 256, by omega⟩ f) := by
  unfold dynamicRotate
  refine congrArg y (funext fun a => Fin.ext ?_)
  match a with
  | ⟨0, _⟩ => show (n.val + 256 - (255 + 0) % 256) % 256 = (n.val + 1) % 256; omega
  | ⟨1, _⟩ => rfl

/-- The gelu of an array. -/
def acts (z : FVec Ideal S256x256 .f32) : FVec Ideal S256x256 .bf16 :=
  truncf .bf16 (mulf (mulf (broadcast S256x256 (Scalar.ofBits .f32 0x3F000000#32)) z) (addf (broadcast S256x256 (Scalar.ofBits .f32 0x3F800000#32))
    (tanh (mulf (broadcast S256x256 (Scalar.ofBits .f32 0x3F4C422A#32)) (addf z (mulf (broadcast S256x256 (Scalar.ofBits .f32 0x3D372713#32)) (mulf (mulf z z) z))))))) bitsLt_bf16_f32

theorem acts_at (z : FVec Ideal S256x256 .f32) (n f : Fin 256) : acts z (ix2 n f) = gelu (z (ix2 n f)) := by
  have e : acts z (ix2 n f) = half * z (ix2 n f) * (one + Ideal.tanh (Ideal.ofBits .f32 0x3F4C422A#32 * (z (ix2 n f) + Ideal.ofBits .f32 0x3D372713#32 * (z (ix2 n f) * z (ix2 n f) * z (ix2 n f))))) := by
    pointwise [acts]
  rw [e, gelu, mul_comm (G := EReal) half, mul_assoc (G := EReal)]

/-- The hidden values before the gelu. -/
def hid (x : Vec Ideal S1x1x256x1024 .f32) (p0 : Vec Ideal S1x1024 .f32) (w0 : Vec Ideal S1x1024x256 .bf16) (p1 : Vec Ideal S1x1024 .f32)
    (w1 : Vec Ideal S1x1024x256 .bf16) : FVec Ideal S256x256 .f32 :=
  addf (halves x p0 w0) (dynamicRotate 0 255#32 none (halves x p1 w1) rotates_S256x256_d0)

variable (x : Vec Ideal S1x1x256x1024 .f32) (p0 : Vec Ideal S1x1024 .f32) (w0 : Vec Ideal S1x1024x256 .bf16) (p1 : Vec Ideal S1x1024 .f32)
    (w1 : Vec Ideal S1x1024x256 .bf16)

theorem pay2_eq : k0_pay2 x p0 w0 p1 w1 = acts (hid x p0 w0 p1 w1) := rfl

/-- The keys' product with the second weights. -/
def keysOf (h : FVec Ideal S256x256 .bf16) (v : Vec Ideal S256x64 .bf16) : FVec Ideal S1x1x256x64 .bf16 := k0_pay3 h v

/-- The values' product with the second weights, transposed. -/
def valsOf (h : FVec Ideal S256x256 .bf16) (v : Vec Ideal S64x256 .bf16) : FVec Ideal S1x1x64x256 .bf16 :=
  shapeCast S1x1x64x256 (truncf .bf16 (matmul dot_S64x256_S256x256_S64x256_1_1_0_0_n_n none (shapeCast S64x256 v shapeCasts_S64x256_S64x256 : FVec Ideal S64x256 .bf16) h
    (constant S64x256 .f32 0x00000000#32)) bitsLt_bf16_f32) shapeCasts_S64x256_S1x1x64x256

theorem pay1_eq (v : Vec Ideal S64x256 .bf16) : k0_pay1 (k0_pay4 v) (k0_pay5 x p0 w0 p1 w1) (k0_pay6 x p0 w0 p1 w1) (k0_pay7 x p0 w0 p1 w1) k0_pay8
    = valsOf (acts (hid x p0 w0 p1 w1)) v := rfl

theorem keysOf_at (h : FVec Ideal S256x256 .bf16) (v : Vec Ideal S256x64 .bf16) (n : Fin 256) (j : Fin 64) :
    keysOf h v (ix4 0 0 n j) = ∑ f : Fin 256, h (ix2 n f) * (v : FVec Ideal S256x64 .bf16) (ix2 f j) := by
  pointwise [keysOf, k0_pay3]

theorem valsOf_at (h : FVec Ideal S256x256 .bf16) (v : Vec Ideal S64x256 .bf16) (n : Fin 256) (j : Fin 64) :
    valsOf h v (ix4 0 0 j n) = ∑ f : Fin 256, h (ix2 n f) * (v : FVec Ideal S64x256 .bf16) (ix2 j f) := by
  have e : valsOf h v (ix4 0 0 j n) = ∑ f : Fin 256, (v : FVec Ideal S64x256 .bf16) (ix2 j f) * h (ix2 n f) := by
    pointwise [valsOf]
  rw [e]
  exact Finset.sum_congr rfl fun f _ => mul_comm (G := EReal) _ _

theorem hid_at (n f : Fin 256) (n' : Fin 256) (hn : n'.val = (n.val + 1) % 256) :
    acts (hid x p0 w0 p1 w1) (ix2 n f) = gelu (part (fun i => (x : FVec Ideal S1x1x256x1024 .f32) (ix4 0 0 n i)) (fun i => (p0 : FVec Ideal S1x1024 .f32) (ix2 0 i))
        (fun i f => (w0 : FVec Ideal S1x1024x256 .bf16) (ix3 0 i f)) f
      + part (fun i => (x : FVec Ideal S1x1x256x1024 .f32) (ix4 0 0 n' i)) (fun i => (p1 : FVec Ideal S1x1024 .f32) (ix2 0 i))
        (fun i f => (w1 : FVec Ideal S1x1024x256 .bf16) (ix3 0 i f)) f) := by
  rw [acts_at]
  refine congrArg gelu (congrArg₂ (fun a b : EReal => a + b) (halves_at x p0 w0 n f) ((rotated _ n f).trans ?_))
  have e : (⟨(n.val + 1) % 256, by omega⟩ : Fin 256) = n' := Fin.ext (by dsimp only; omega)
  rw [e]
  exact halves_at x p1 w1 n' f

end Cmp

end
-- ==== Proof.CmpArgs.lean ====
/- The compression's run: its blocks as the call's arguments, what a point leaves, and the two results. -/
module

public import proofs.«01_k».proof.Proof.Gen.Kernel5Ideal.Frame
public import proofs.«01_k».proof.Proof.CmpRead
public import Idealize.ShloMosaic.Lib.ValueIdx
public import Idealize.ShloMosaic.Lib.Pipeline.FrameBody
public import Idealize.ShloMosaic.Lib.Pipeline.Value
public import Idealize.ShloMosaic.Lib.Pipeline.ValueKit.Geometry
public import Idealize.ShloMosaic.Lib.Pipeline.ValueKit.Tiles
public import Idealize.ShloMosaic.Lib.StableHlo.ReadAt

@[expose] public section

set_option maxRecDepth 100000

noncomputable section

namespace Cmp

open Idealize.ShloMosaic Idealize.ShloMosaic.TcCoe Idealize.SL.Sem
open Cert.Kernel5Ideal Cert.Kernel5Ideal.Gen Ffn

variable (m : (ℓ : Loc nD τ sig) → Buf (Elt Ideal) ℓ) (c : Dev nD)

abbrev aK : FVec Ideal S16x2x4096x64 .f32 := m (c, Proc.tc.devRef main_arg0)
abbrev aV : FVec Ideal S16x2x4096x64 .f32 := m (c, Proc.tc.devRef main_arg1)
abbrev aPK : FVec Ideal S32x64 .f32 := m (c, Proc.tc.devRef main_arg2)
abbrev aPV : FVec Ideal S32x64 .f32 := m (c, Proc.tc.devRef main_arg3)
abbrev aWK : FVec Ideal S2048x256 .f32 := m (c, Proc.tc.devRef main_arg4)
abbrev aUK : FVec Ideal S256x64 .f32 := m (c, Proc.tc.devRef main_arg5)
abbrev aWV : FVec Ideal S2048x256 .f32 := m (c, Proc.tc.devRef main_arg6)
abbrev aUV : FVec Ideal S256x64 .f32 := m (c, Proc.tc.devRef main_arg7)

/-! ### The arrays before the call -/

theorem host0 (b : Fin 16) (h : Fin 2) (n : Fin 256) (i : Fin 1024) : (V m c main_v0 : FVec Ideal S16x2x256x1024 .f32) (ix4 b h n i)
    = aK m c (ix4 b h ⟨16 * n.val + i.val / 64, by omega⟩ ⟨i.val % 64, by omega⟩) := by
  unfold V
  after_reads_at
  exact congrArg₂ (fun y z => aK m c (ix4 b h y z)) (Fin.ext (by dsimp only; omega)) (Fin.ext (by dsimp only))

theorem host1 (b : Fin 16) (h : Fin 2) (n : Fin 256) (i : Fin 1024) : (V m c main_v1 : FVec Ideal S16x2x256x1024 .f32) (ix4 b h n i)
    = aV m c (ix4 b h ⟨16 * n.val + i.val / 64, by omega⟩ ⟨i.val % 64, by omega⟩) := by
  unfold V
  after_reads_at
  exact congrArg₂ (fun y z => aV m c (ix4 b h y z)) (Fin.ext (by dsimp only; omega)) (Fin.ext (by dsimp only))

theorem host2 (s : Fin 2) (i : Fin 1024) : (V m c main_v2 : FVec Ideal S2x1024 .f32) (ix2 s i) = aPK m c (ix2 ⟨16 * s.val + i.val / 64, by omega⟩ ⟨i.val % 64, by omega⟩) := by
  unfold V
  after_reads_at
  exact congrArg₂ (fun y z => aPK m c (ix2 y z)) (Fin.ext (by dsimp only; omega)) (Fin.ext (by dsimp only))

theorem host3 (s : Fin 2) (i : Fin 1024) : (V m c main_v3 : FVec Ideal S2x1024 .f32) (ix2 s i) = aPV m c (ix2 ⟨16 * s.val + i.val / 64, by omega⟩ ⟨i.val % 64, by omega⟩) := by
  unfold V
  after_reads_at
  exact congrArg₂ (fun y z => aPV m c (ix2 y z)) (Fin.ext (by dsimp only; omega)) (Fin.ext (by dsimp only))

theorem host5 (s : Fin 2) (i : Fin 1024) (f : Fin 256) : (V m c main_v5 : FVec Ideal S2x1024x256 .bf16) (ix3 s i f) = aWK m c (ix2 ⟨1024 * s.val + i.val, by omega⟩ f) := by
  unfold V
  after_reads_at
  exact congrArg (fun y => aWK m c (ix2 y f)) (Fin.ext (by dsimp only; omega))

theorem host6 (f : Fin 256) (j : Fin 64) : (V m c main_v6 : FVec Ideal S256x64 .bf16) (ix2 f j) = aUK m c (ix2 f j) := by
  unfold V
  after_reads_at

theorem host8 (s : Fin 2) (i : Fin 1024) (f : Fin 256) : (V m c main_v8 : FVec Ideal S2x1024x256 .bf16) (ix3 s i f) = aWV m c (ix2 ⟨1024 * s.val + i.val, by omega⟩ f) := by
  unfold V
  after_reads_at
  exact congrArg (fun y => aWV m c (ix2 y f)) (Fin.ext (by dsimp only; omega))

theorem host10 (f : Fin 256) (j : Fin 64) : (V m c main_v10 : FVec Ideal S64x256 .bf16) (ix2 j f) = aUV m c (ix2 f j) := by
  unfold V
  after_reads_at

/-! ### The blocks of a point -/

theorem idx0 : ∀ t : Fin cfg0.N, win0_0.index t (0 : Fin 4) = t.val / 2 ∧ win0_0.index t (1 : Fin 4) = t.val % 2 ∧ win0_0.index t (2 : Fin 4) = 0 ∧ win0_0.index t (3 : Fin 4) = 0 := (by decide +kernel : ∀ t : Fin grid0.N, _)
theorem idx1 : ∀ t : Fin cfg0.N, win0_1.index t (0 : Fin 4) = t.val / 2 ∧ win0_1.index t (1 : Fin 4) = t.val % 2 ∧ win0_1.index t (2 : Fin 4) = 0 ∧ win0_1.index t (3 : Fin 4) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 4) = t.val / 2 ∧ win0_8.index t (1 : Fin 4) = t.val % 2 ∧ win0_8.index t (2 : Fin 4) = 0 ∧ win0_8.index t (3 : Fin 4) = 0 := (by decide +kernel : ∀ t : Fin grid0.N, _)
theorem idx9 : ∀ t : Fin cfg0.N, win0_9.index t (0 : Fin 4) = t.val / 2 ∧ win0_9.index t (1 : Fin 4) = t.val % 2 ∧ win0_9.index t (2 : Fin 4) = 0 ∧ win0_9.index t (3 : Fin 4) = 0 := (by decide +kernel : ∀ t : Fin grid0.N, _)

theorem blk0 (t : Fin cfg0.N) (b : Fin 16) (h : Fin 2) (hb : b.val = t.val / 2) (hh : h.val = t.val % 2) (n : Fin 256) (i : Fin 1024) :
    (iblk m c 0 t : FVec Ideal S1x1x256x1024 .f32) (ix4 0 0 n i) = (V m c main_v0 : FVec Ideal S16x2x256x1024 .f32) (ix4 b h n i) := by
  obtain ⟨e0, e1, e2, e3⟩ := idx0 t
  show V m c main_v0 (((cfg0.win 0).blk t).view.emb (ix4 0 0 n i)) = _
  refine congrArg (V m c main_v0 : FVec Ideal S16x2x256x1024 .f32) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 256 + 1 * n.val = n.val; omega
  | ⟨3, _⟩ => show win0_0.index t (3 : Fin 4) * 1024 + 1 * i.val = i.val; omega

theorem blk1 (t : Fin cfg0.N) (b : Fin 16) (h : Fin 2) (hb : b.val = t.val / 2) (hh : h.val = t.val % 2) (n : Fin 256) (i : Fin 1024) :
    (iblk m c 1 t : FVec Ideal S1x1x256x1024 .f32) (ix4 0 0 n i) = (V m c main_v1 : FVec Ideal S16x2x256x1024 .f32) (ix4 b h n i) := by
  obtain ⟨e0, e1, e2, e3⟩ := idx1 t
  show V m c main_v1 (((cfg0.win 1).blk t).view.emb (ix4 0 0 n i)) = _
  refine congrArg (V m c main_v1 : FVec Ideal S16x2x256x1024 .f32) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 256 + 1 * n.val = n.val; omega
  | ⟨3, _⟩ => show win0_1.index t (3 : Fin 4) * 1024 + 1 * i.val = i.val; omega

theorem blk2 (t : Fin cfg0.N) (s : Fin 2) (i : Fin 1024) : (iblk m c 2 t : FVec Ideal S2x1024 .f32) (ix2 s i) = (V m c main_v2 : FVec Ideal S2x1024 .f32) (ix2 s i) := by
  obtain ⟨e0, e1⟩ := idx2 t
  show V m c main_v2 (((cfg0.win 2).blk t).view.emb (ix2 s i)) = _
  refine congrArg (V m c main_v2 : FVec Ideal S2x1024 .f32) (funext fun a => Fin.ext ?_)
  match a with
  | ⟨0, _⟩ => show win0_2.index t (0 : Fin 2) * 2 + 1 * s.val = s.val; omega
  | ⟨1, _⟩ => show win0_2.index t (1 : Fin 2) * 1024 + 1 * i.val = i.val; omega

theorem blk3 (t : Fin cfg0.N) (s : Fin 2) (i : Fin 1024) : (iblk m c 3 t : FVec Ideal S2x1024 .f32) (ix2 s i) = (V m c main_v3 : FVec Ideal S2x1024 .f32) (ix2 s i) := by
  obtain ⟨e0, e1⟩ := idx3 t
  show V m c main_v3 (((cfg0.win 3).blk t).view.emb (ix2 s i)) = _
  refine congrArg (V m c main_v3 : FVec Ideal S2x1024 .f32) (funext fun a => Fin.ext ?_)
  match a with
  | ⟨0, _⟩ => show win0_3.index t (0 : Fin 2) * 2 + 1 * s.val = s.val; omega
  | ⟨1, _⟩ => show win0_3.index t (1 : Fin 2) * 1024 + 1 * i.val = i.val; omega

theorem blk4 (t : Fin cfg0.N) (s : Fin 2) (i : Fin 1024) (f : Fin 256) : (iblk m c 4 t : FVec Ideal S2x1024x256 .bf16) (ix3 s i f) = (V m c main_v5 : FVec Ideal S2x1024x256 .bf16) (ix3 s i f) := by
  obtain ⟨e0, e1, e2⟩ := idx4 t
  show V m c main_v5 (((cfg0.win 4).blk t).view.emb (ix3 s i f)) = _
  refine congrArg (V m c main_v5 : FVec Ideal S2x1024x256 .bf16) (funext fun a => Fin.ext ?_)
  match a with
  | ⟨0, _⟩ => show win0_4.index t (0 : Fin 3) * 2 + 1 * s.val = s.val; omega
  | ⟨1, _⟩ => show win0_4.index t (1 : Fin 3) * 1024 + 1 * i.val = i.val; omega
  | ⟨2, _⟩ => show win0_4.index t (2 : Fin 3) * 256 + 1 * f.val = f.val; omega

theorem blk5 (t : Fin cfg0.N) (f : Fin 256) (j : Fin 64) : (iblk m c 5 t : FVec Ideal S256x64 .bf16) (ix2 f j) = (V m c main_v6 : FVec Ideal S256x64 .bf16) (ix2 f j) := by
  obtain ⟨e0, e1⟩ := idx5 t
  show V m c main_v6 (((cfg0.win 5).blk t).view.emb (ix2 f j)) = _
  refine congrArg (V m c main_v6 : FVec Ideal S256x64 .bf16) (funext fun a => Fin.ext ?_)
  match a with
  | ⟨0, _⟩ => show win0_5.index t (0 : Fin 2) * 256 + 1 * f.val = f.val; omega
  | ⟨1, _⟩ => show win0_5.index t (1 : Fin 2) * 64 + 1 * j.val = j.val; omega

theorem blk6 (t : Fin cfg0.N) (s : Fin 2) (i : Fin 1024) (f : Fin 256) : (iblk m c 6 t : FVec Ideal S2x1024x256 .bf16) (ix3 s i f) = (V m c main_v8 : FVec Ideal S2x1024x256 .bf16) (ix3 s i f) := by
  obtain ⟨e0, e1, e2⟩ := idx6 t
  show V m c main_v8 (((cfg0.win 6).blk t).view.emb (ix3 s i f)) = _
  refine congrArg (V m c main_v8 : FVec Ideal S2x1024x256 .bf16) (funext fun a => Fin.ext ?_)
  match a with
  | ⟨0, _⟩ => show win0_6.index t (0 : Fin 3) * 2 + 1 * s.val = s.val; omega
  | ⟨1, _⟩ => show win0_6.index t (1 : Fin 3) * 1024 + 1 * i.val = i.val; omega
  | ⟨2, _⟩ => show win0_6.index t (2 : Fin 3) * 256 + 1 * f.val = f.val; omega

theorem blk7 (t : Fin cfg0.N) (j : Fin 64) (f : Fin 256) : (iblk m c 7 t : FVec Ideal S64x256 .bf16) (ix2 j f) = (V m c main_v10 : FVec Ideal S64x256 .bf16) (ix2 j f) := by
  obtain ⟨e0, e1⟩ := idx7 t
  show V m c main_v10 (((cfg0.win 7).blk t).view.emb (ix2 j f)) = _
  refine congrArg (V m c main_v10 : FVec Ideal S64x256 .bf16) (funext fun a => Fin.ext ?_)
  match a with
  | ⟨0, _⟩ => show win0_7.index t (0 : Fin 2) * 64 + 1 * j.val = j.val; omega
  | ⟨1, _⟩ => show win0_7.index t (1 : Fin 2) * 256 + 1 * f.val = f.val; omega

/-! ### What a point leaves -/

section
variable (x : Vec Ideal S1x1x256x1024 .f32) (p : Vec Ideal S2x1024 .f32) (w : Vec Ideal S2x1024x256 .bf16)

theorem ldx (n : Fin 256) (i : Fin 1024) : (View.ld (Val := Elt Ideal) x r0_0 : FVec Ideal S1x1x256x1024 .f32) (ix4 0 0 n i) = (x : FVec Ideal S1x1x256x1024 .f32) (ix4 0 0 n i) := by
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

theorem ldp0 (i : Fin 1024) : (View.ld (Val := Elt Ideal) p r0_1 : FVec Ideal S1x1024 .f32) (ix2 0 i) = (p : FVec Ideal S2x1024 .f32) (ix2 0 i) := by
  refine View.ld_unit_apply_of _ _ _ _ _ _ fun a => ?_
  match a with
  | ⟨0, _⟩ => rfl
  | ⟨1, _⟩ => exact (Nat.zero_add _).symm

theorem ldp1 (i : Fin 1024) : (View.ld (Val := Elt Ideal) p r0_3 : FVec Ideal S1x1024 .f32) (ix2 0 i) = (p : FVec Ideal S2x1024 .f32) (ix2 1 i) := by
  refine View.ld_unit_apply_of _ _ _ _ _ _ fun a => ?_
  match a with
  | ⟨0, _⟩ => rfl
  | ⟨1, _⟩ => exact (Nat.zero_add _).symm

theorem ldw0 (i : Fin 1024) (f : Fin 256) : (View.ld (Val := Elt Ideal) w r0_2 : FVec Ideal S1x1024x256 .bf16) (ix3 0 i f) = (w : FVec Ideal S2x1024x256 .bf16) (ix3 0 i f) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem ldw1 (i : Fin 1024) (f : Fin 256) : (View.ld (Val := Elt Ideal) w r0_4 : FVec Ideal S1x1024x256 .bf16) (ix3 0 i f) = (w : FVec Ideal S2x1024x256 .bf16) (ix3 1 i f) := by
  refine View.ld_unit_apply_of _ _ _ _ _ _ fun a => ?_
  match a with
  | ⟨0, _⟩ => rfl
  | ⟨1, _⟩ => exact (Nat.zero_add _).symm
  | ⟨2, _⟩ => exact (Nat.zero_add _).symm

theorem ldv (v : Vec Ideal S256x64 .bf16) (f : Fin 256) (j : Fin 64) : (View.ld (Val := Elt Ideal) v r0_5 : FVec Ideal S256x64 .bf16) (ix2 f j) = (v : FVec Ideal S256x64 .bf16) (ix2 f j) := by
  refine View.ld_unit_apply_of _ _ _ _ _ _ fun a => ?_
  match a with
  | ⟨0, _⟩ => exact (Nat.zero_add _).symm
  | ⟨1, _⟩ => exact (Nat.zero_add _).symm

theorem ldu (v : Vec Ideal S64x256 .bf16) (f : Fin 256) (j : Fin 64) : (View.ld (Val := Elt Ideal) v r0_7 : FVec Ideal S64x256 .bf16) (ix2 j f) = (v : FVec Ideal S64x256 .bf16) (ix2 j f) := by
  refine View.ld_unit_apply_of _ _ _ _ _ _ fun a => ?_
  match a with
  | ⟨0, _⟩ => exact (Nat.zero_add _).symm
  | ⟨1, _⟩ => exact (Nat.zero_add _).symm

/-- A hidden value after the gelu, of the blocks. -/
theorem act_of (n f n' : Fin 256) (hn : n'.val = (n.val + 1) % 256) :
    acts (hid (View.ld (Val := Elt Ideal) x r0_0) (View.ld (Val := Elt Ideal) p r0_1) (View.ld (Val := Elt Ideal) w r0_2) (View.ld (Val := Elt Ideal) p r0_3) (View.ld (Val := Elt Ideal) w r0_4)) (ix2 n f)
      = gelu (part (fun i => (x : FVec Ideal S1x1x256x1024 .f32) (ix4 0 0 n i)) (fun i => (p : FVec Ideal S2x1024 .f32) (ix2 0 i)) (fun i f => (w : FVec Ideal S2x1024x256 .bf16) (ix3 0 i f)) f
        + part (fun i => (x : FVec Ideal S1x1x256x1024 .f32) (ix4 0 0 n' i)) (fun i => (p : FVec Ideal S2x1024 .f32) (ix2 1 i)) (fun i f => (w : FVec Ideal S2x1024x256 .bf16) (ix3 1 i f)) f) := by
  rw [hid_at _ _ _ _ _ n f n' hn]
  refine congrArg gelu (congrArg₂ (fun y z : EReal => y + z) (Finset.sum_congr rfl fun i _ => ?_) (Finset.sum_congr rfl fun i _ => ?_))
  · exact congrArg₂ (fun y z : EReal => y * z) (congrArg₂ (fun y z : EReal => y + z) (ldx x n i) (ldp0 p i)) (ldw0 w i f)
  · exact congrArg₂ (fun y z : EReal => y * z) (congrArg₂ (fun y z : EReal => y + z) (ldx x n' i) (ldp1 p i)) (ldw1 w i f)
end

section
variable (x0 x1 : Vec Ideal S1x1x256x1024 .f32) (x2 x3 : Vec Ideal S2x1024 .f32) (x4 : Vec Ideal S2x1024x256 .bf16) (x5 : Vec Ideal S256x64 .bf16)
    (x6 : Vec Ideal S2x1024x256 .bf16) (x7 : Vec Ideal S64x256 .bf16)

theorem out8_at (n n' : Fin 256) (hn : n'.val = (n.val + 1) % 256) (j : Fin 64) :
    (out0_8 (F := Ideal) x0 x1 x2 x3 x4 x5 x6 x7 : FVec Ideal S1x1x256x64 .bf16) (ix4 0 0 n j)
      = unit (fun i => (x0 : FVec Ideal S1x1x256x1024 .f32) (ix4 0 0 n i)) (fun i => (x0 : FVec Ideal S1x1x256x1024 .f32) (ix4 0 0 n' i))
        (fun s i => (x2 : FVec Ideal S2x1024 .f32) (ix2 s i)) (fun s i f => (x4 : FVec Ideal S2x1024x256 .bf16) (ix3 s i f)) (fun f j => (x5 : FVec Ideal S256x64 .bf16) (ix2 f j)) j := by
  unfold out0_8
  rw [View.canon_cons_unit_lit _ _ _ (by decide), pay2_eq]
  refine (keysOf_at _ _ n j).trans (Finset.sum_congr rfl fun f _ => ?_)
  exact congrArg₂ (fun y z : EReal => y * z) (act_of x0 x2 x4 n f n' hn) (ldv x5 f j)

theorem out9_at (n n' : Fin 256) (hn : n'.val = (n.val + 1) % 256) (j : Fin 64) :
    (out0_9 (F := Ideal) x0 x1 x2 x3 x4 x5 x6 x7 : FVec Ideal S1x1x64x256 .bf16) (ix4 0 0 j n)
      = unit (fun i => (x1 : FVec Ideal S1x1x256x1024 .f32) (ix4 0 0 n i)) (fun i => (x1 : FVec Ideal S1x1x256x1024 .f32) (ix4 0 0 n' i))
        (fun s i => (x3 : FVec Ideal S2x1024 .f32) (ix2 s i)) (fun s i f => (x6 : FVec Ideal S2x1024x256 .bf16) (ix3 s i f)) (fun f j => (x7 : FVec Ideal S64x256 .bf16) (ix2 j f)) j := by
  unfold out0_9
  rw [View.canon_cons_unit_lit _ _ _ (by decide), pay1_eq]
  refine (valsOf_at _ _ n j).trans (Finset.sum_congr rfl fun f _ => ?_)
  exact congrArg₂ (fun y z : EReal => y * z) (act_of x1 x3 x6 n f n' hn) (ldu x7 f j)
end

/-- The block that starts at row `n` of the arguments, the last row's second half being the first row. -/
def whole (a : FVec Ideal S16x2x4096x64 .f32) (p : FVec Ideal S32x64 .f32) (w : FVec Ideal S2048x256 .f32) (v : FVec Ideal S256x64 .f32)
    (b : Fin 16) (h : Fin 2) (n : Fin 256) (j : Fin 64) : EReal :=
  unit (fun i => a (ix4 b h ⟨16 * n.val + i.val / 64, by omega⟩ ⟨i.val % 64, by omega⟩)) (fun i => a (ix4 b h ⟨16 * ((n.val + 1) % 256) + i.val / 64, by omega⟩ ⟨i.val % 64, by omega⟩))
    (fun s i => p (ix2 ⟨16 * s.val + i.val / 64, by omega⟩ ⟨i.val % 64, by omega⟩)) (fun s i f => w (ix2 ⟨1024 * s.val + i.val, by omega⟩ f)) (fun f j => v (ix2 f j)) j

theorem left8 (t : Fin cfg0.N) (b : Fin 16) (h : Fin 2) (hb : b.val = t.val / 2) (hh : h.val = t.val % 2) (n : Fin 256) (j : Fin 64) :
    ((dats m 0 c).after 8 t : FVec Ideal S1x1x256x64 .bf16) (ix4 0 0 n j) = whole (aK m c) (aPK m c) (aWK m c) (aUK m c) b h n j := by
  rw [after0_8]
  refine (out8_at _ _ _ _ _ _ _ _ n ⟨(n.val + 1) % 256, by omega⟩ rfl j).trans ?_
  unfold whole unit part
  have ex := fun n i => (blk0 m c t b h hb hh n i).trans (host0 m c b h n i)
  have ep := fun s i => (blk2 m c t s i).trans (host2 m c s i)
  have ew := fun s i f => (blk4 m c t s i f).trans (host5 m c s i f)
  have ev := fun f j => (blk5 m c t f j).trans (host6 m c f j)
  simp only [ex, ep, ew, ev]

theorem left9 (t : Fin cfg0.N) (b : Fin 16) (h : Fin 2) (hb : b.val = t.val / 2) (hh : h.val = t.val % 2) (n : Fin 256) (j : Fin 64) :
    ((dats m 0 c).after 9 t : FVec Ideal S1x1x64x256 .bf16) (ix4 0 0 j n) = whole (aV m c) (aPV m c) (aWV m c) (aUV m c) b h n j := by
  rw [after0_9]
  refine (out9_at _ _ _ _ _ _ _ _ n ⟨(n.val + 1) % 256, by omega⟩ rfl j).trans ?_
  unfold whole unit part
  have ex := fun n i => (blk1 m c t b h hb hh n i).trans (host1 m c b h n i)
  have ep := fun s i => (blk3 m c t s i).trans (host3 m c s i)
  have ew := fun s i f => (blk6 m c t s i f).trans (host8 m c s i f)
  have ev := fun f j => (blk7 m c t j f).trans (host10 m c f j)
  simp only [ex, ep, ew, ev]

end Cmp

end
-- ==== Proof.CmpRef.lean ====
/- The reference's results of the compression, read at an entry. -/
module

public import proofs.«01_k».proof.Proof.Gen.Reference5Ideal.Run
public import proofs.«01_k».proof.Proof.CmpRead
public import Idealize.ShloMosaic.Lib.Pointwise

@[expose] public section

noncomputable section

namespace Cmp.Ref

open Idealize.ShloMosaic Cert.Reference5Ideal Cert.Reference5Ideal.Gen Cert.Reference5Ideal.Value Cmp

/-- The blocks of thirty-two tokens. -/
def blocks (a : FVec Ideal S16x2x4096x64 .f32) (p : FVec Ideal S32x64 .f32) : FVec Ideal S16x2x255x2048 .f32 :=
  shapeCast S16x2x255x2048 (addf (fn_main_v3 (F := Ideal)
      (extractStridedSlice S16x2x255x16x64 ![0, 0, 0, 0, 0] (shapeCast S16x2x256x16x64 a shapeCasts_S16x2x4096x64_S16x2x256x16x64) slices_S16x2x256x16x64_S16x2x255x16x64_0_0_0_0_0)
      (extractStridedSlice S16x2x255x16x64 ![0, 0, 1, 0, 0] (shapeCast S16x2x256x16x64 a shapeCasts_S16x2x4096x64_S16x2x256x16x64) slices_S16x2x256x16x64_S16x2x255x16x64_0_0_1_0_0) : FVec Ideal S16x2x255x32x64 .f32)
    (broadcastInDim S16x2x255x32x64 ![0, 1, 2, 3, 4] bcast_S1x1x1x32x64_S16x2x255x32x64_0_1_2_3_4 (broadcastInDim S1x1x1x32x64 ![3, 4] bcast_S32x64_S1x1x1x32x64_3_4 p)))
    shapeCasts_S16x2x255x32x64_S16x2x255x2048

theorem blocks_at (a : FVec Ideal S16x2x4096x64 .f32) (p : FVec Ideal S32x64 .f32) (b : Fin 16) (h : Fin 2) (n : Fin 255) (q : Fin 2048) :
    blocks a p (ix4 b h n q) = a (ix4 b h ⟨16 * n.val + q.val / 64, by omega⟩ ⟨q.val % 64, by omega⟩) + p (ix2 ⟨q.val / 64, by omega⟩ ⟨q.val % 64, by omega⟩) := by
  pointwise [blocks, fn_main_v3]
  refine congrArg (fun z : EReal => z + _) ?_
  split <;> exact congrArg (fun z => a (ix4 b h z _)) (Fin.ext (by dsimp only; omega))

variable (a : FVec Ideal S16x2x4096x64 .f32) (p : FVec Ideal S32x64 .f32) (w : FVec Ideal S2048x256 .f32) (v : FVec Ideal S256x64 .f32)

/-- The first product of the perceptron. -/
def hidR : FVec Ideal S16x2x255x256 .f32 := Host.dotGeneral dot_S16x2x255x2048_S2048x256_S16x2x255x256_3_0_012_1_n_n none (blocks a p) w

theorem hidR_at (b : Fin 16) (h : Fin 2) (n : Fin 255) (f : Fin 256) : hidR a p w (ix4 b h n f)
    = part (fun i => a (ix4 b h ⟨16 * n.val + i.val / 64, by omega⟩ ⟨i.val % 64, by omega⟩)) (fun i => p (ix2 ⟨i.val / 64, by omega⟩ ⟨i.val % 64, by omega⟩))
        (fun i f => w (ix2 ⟨i.val, by omega⟩ f)) f
      + part (fun i => a (ix4 b h ⟨16 * (n.val + 1) + i.val / 64, by omega⟩ ⟨i.val % 64, by omega⟩)) (fun i => p (ix2 ⟨16 + i.val / 64, by omega⟩ ⟨i.val % 64, by omega⟩))
        (fun i f => w (ix2 ⟨1024 + i.val, by omega⟩ f)) f := by
  have e : hidR a p w (ix4 b h n f) = ∑ q : Fin 2048, blocks a p (ix4 b h n q) * w (ix2 q f) := by
    unfold hidR
    generalize blocks a p = y
    pointwise []
  rw [e, Fin.sum_univ_add (a := 1024) (b := 1024), part, part]
  refine congrArg₂ (fun y z : EReal => y + z) (Finset.sum_congr rfl fun i _ => ?_) (Finset.sum_congr rfl fun i _ => ?_)
  · rw [blocks_at]
    rfl
  · rw [blocks_at]
    refine congrArg₂ (fun y z : EReal => y * z) (congrArg₂ (fun y z : EReal => y + z) ?_ ?_) rfl
    · exact congrArg₂ (fun y z => a (ix4 b h y z)) (Fin.ext (by dsimp only [Fin.natAdd]; omega)) (Fin.ext (by dsimp only [Fin.natAdd]; omega))
    · exact congrArg₂ (fun y z => p (ix2 y z)) (Fin.ext (by dsimp only [Fin.natAdd]; omega)) (Fin.ext (by dsimp only [Fin.natAdd]; omega))

/-- The gelu of an array. -/
def actsR (z : FVec Ideal S16x2x255x256 .f32) : FVec Ideal S16x2x255x256 .f32 :=
  mulf z (mulf (broadcastInDim S16x2x255x256 ![] bcast_S_S16x2x255x256 (constant S_ .f32 0x3F000000#32))
    (addf (broadcastInDim S16x2x255x256 ![] bcast_S_S16x2x255x256 (constant S_ .f32 0x3F800000#32))
      (Host.tanh (mulf (broadcastInDim S16x2x255x256 ![] bcast_S_S16x2x255x256 (constant S_ .f32 0x3F4C422A#32))
        (addf z (mulf (broadcastInDim S16x2x255x256 ![] bcast_S_S16x2x255x256 (constant S_ .f32 0x3D372713#32)) (mulf (mulf z z) z)))))))

theorem actsR_at (z : FVec Ideal S16x2x255x256 .f32) (b : Fin 16) (h : Fin 2) (n : Fin 255) (f : Fin 256) : actsR z (ix4 b h n f) = gelu (z (ix4 b h n f)) := by
  unfold gelu
  pointwise [actsR]

/-- The second product of the perceptron. -/
def outR : FVec Ideal S16x2x255x64 .f32 := Host.dotGeneral dot_S16x2x255x256_S256x64_S16x2x255x64_3_0_012_1_n_n none (actsR (hidR a p w)) v

theorem outR_at (b : Fin 16) (h : Fin 2) (n : Fin 255) (j : Fin 64) : outR a p w v (ix4 b h n j) = Cmp.spec a p w v b h n j := by
  have e : outR a p w v (ix4 b h n j) = ∑ f : Fin 256, actsR (hidR a p w) (ix4 b h n f) * v (ix2 f j) := by
    unfold outR
    generalize actsR (hidR a p w) = y
    pointwise []
  rw [e]
  unfold spec unit
  refine Finset.sum_congr rfl fun f _ => congrArg (fun z : EReal => z * v (ix2 f j)) ?_
  rw [actsR_at, hidR_at]
  refine congrArg gelu (congrArg₂ (fun y z : EReal => y + z) (Finset.sum_congr rfl fun i _ => ?_) (Finset.sum_congr rfl fun i _ => ?_))
  · exact congrArg₂ (fun y z : EReal => (_ + y) * z) (congrArg (fun y => p (ix2 y _)) (Fin.ext (Nat.zero_add _).symm)) (congrArg (fun y => w (ix2 y f)) (Fin.ext (Nat.zero_add _).symm))
  · rfl

variable (m : (ℓ : Loc nD τ sig) → Buf (Elt Ideal) ℓ) (c : Dev nD)

theorem res0_at (b : Fin 16) (h : Fin 2) (n : Fin 255) (j : Fin 64) : (res_main_v23 m c : FVec Ideal S16x2x255x64 .bf16) (ix4 b h n j)
    = Cmp.spec (m ((c.tc : Thread nD τ).loc main_arg0)) (m ((c.tc : Thread nD τ).loc main_arg2)) (m ((c.tc : Thread nD τ).loc main_arg4)) (m ((c.tc : Thread nD τ).loc main_arg5)) b h n j := by
  rw [← outR_at]
  rfl

theorem res1_at (b : Fin 16) (h : Fin 2) (j : Fin 64) (n : Fin 255) : (res_main_v48 m c : FVec Ideal S16x2x64x255 .bf16) (ix4 b h j n)
    = Cmp.spec (m ((c.tc : Thread nD τ).loc main_arg1)) (m ((c.tc : Thread nD τ).loc main_arg3)) (m ((c.tc : Thread nD τ).loc main_arg6)) (m ((c.tc : Thread nD τ).loc main_arg7)) b h n j := by
  rw [← outR_at]
  have e : (res_main_v48 m c : FVec Ideal S16x2x64x255 .bf16) = truncf .bf16 (transpose S16x2x64x255 [0, 1, 3, 2]
    (outR (m ((c.tc : Thread nD τ).loc main_arg1)) (m ((c.tc : Thread nD τ).loc main_arg3)) (m ((c.tc : Thread nD τ).loc main_arg6)) (m ((c.tc : Thread nD τ).loc main_arg7)))
    transposes_S16x2x255x64_S16x2x64x255_0_1_3_2) bitsLt_bf16_f32 := rfl
  rw [e]
  generalize outR _ _ _ _ = y
  pointwise []

end Cmp.Ref

end
-- ==== Proof.CmpValue.lean ====
/- The compression's two results after the run, and the reference's results from the same arguments. -/
module

public import proofs.«01_k».proof.Proof.CmpArgs
public import proofs.«01_k».proof.Proof.CmpRef
public import proofs.«01_k».proof.Proof.InProjRead

@[expose] public section

set_option maxRecDepth 100000

noncomputable section

namespace Cmp

open Idealize.ShloMosaic Idealize.ShloMosaic.TcCoe Idealize.SL.Sem
open Cert.Kernel5Ideal Cert.Kernel5Ideal.Gen Ffn

variable (m : (ℓ : Loc nD τ sig) → Buf (Elt Ideal) ℓ) (c : Dev nD)

/-- The keys' array, its last row included. -/
def W8 : FVec Ideal S16x2x256x64 .bf16 := fun y => whole (aK m c) (aPK m c) (aWK m c) (aUK m c) (y 0) (y 1) (y 2) (y 3)

/-- The values' array, its last column included. -/
def W9 : FVec Ideal S16x2x64x256 .bf16 := fun y => whole (aV m c) (aPV m c) (aWV m c) (aUV m c) (y 0) (y 1) (y 3) (y 2)

/-- The keys' result. -/
def keys : FVec Ideal S16x2x255x64 .bf16 := fun y => spec (aK m c) (aPK m c) (aWK m c) (aUK m c) (y 0) (y 1) (y 2) (y 3)

/-- The values' result. -/
def vals : FVec Ideal S16x2x64x255 .bf16 := fun y => spec (aV m c) (aPV m c) (aWV m c) (aUV m c) (y 0) (y 1) (y 3) (y 2)

theorem agree8 (t : Fin cfg0.N) (n : Fin 256) (j : Fin 64) (b : Fin 16) (h : Fin 2) (n' : Fin 256) (j' : Fin 64) (hb : b.val = t.val / 2) (hh : h.val = t.val % 2)
    (hn : n'.val = n.val) (hj : j'.val = j.val) :
    ((dats m 0 c).after 8 t : FVec Ideal S1x1x256x64 .bf16) (ix4 0 0 n j) = whole (aK m c) (aPK m c) (aWK m c) (aUK m c) b h n' j' := by
  obtain rfl := Fin.ext hn
  obtain rfl := Fin.ext hj
  exact left8 m c t b h hb hh _ _

theorem agree9 (t : Fin cfg0.N) (n : Fin 256) (j : Fin 64) (b : Fin 16) (h : Fin 2) (n' : Fin 256) (j' : Fin 64) (hb : b.val = t.val / 2) (hh : h.val = t.val % 2)
    (hn : n'.val = n.val) (hj : j'.val = j.val) :
    ((dats m 0 c).after 9 t : FVec Ideal S1x1x64x256 .bf16) (ix4 0 0 j n) = whole (aV m c) (aPV m c) (aWV m c) (aUV m c) b h n' j' := by
  obtain rfl := Fin.ext hn
  obtain rfl := Fin.ext hj
  exact left9 m c t b h hb hh _ _

theorem result8 : (dats m 0 c).arrAt 8 cfg0.N = W8 m c := by
  refine (dats m 0 c).arrAt_eq_of_covers 8 _ (by decide +kernel) fun t hf y => ?_
  blk_simp
  obtain ⟨e0, e1, e2, e3⟩ := idx8 t
  obtain ⟨o, k, n, j, rfl⟩ := InProj.four (n := 1) (p := 1) (q := 256) (r := 64) y
  obtain rfl : o = 0 := Subsingleton.elim _ _
  obtain rfl : k = 0 := Subsingleton.elim _ _
  unfold W8
  refine agree8 m c t n j _ _ _ _ ?_ ?_ ?_ ?_
  · show win0_8.index t (0 : Fin 4) * 1 + 1 * 0 = t.val / 2; omega
  · show win0_8.index t (1 : Fin 4) * 1 + 1 * 0 = t.val % 2; omega
  · show win0_8.index t (2 : Fin 4) * 256 + 1 * n.val = n.val; omega
  · show win0_8.index t (3 : Fin 4) * 64 + 1 * j.val = j.val; omega

theorem result9 : (dats m 0 c).arrAt 9 cfg0.N = W9 m c := by
  refine (dats m 0 c).arrAt_eq_of_covers 9 _ (by decide +kernel) fun t hf y => ?_
  blk_simp
  obtain ⟨e0, e1, e2, e3⟩ := idx9 t
  obtain ⟨o, k, j, n, rfl⟩ := InProj.four (n := 1) (p := 1) (q := 64) (r := 256) y
  obtain rfl : o = 0 := Subsingleton.elim _ _
  obtain rfl : k = 0 := Subsingleton.elim _ _
  unfold W9
  refine agree9 m c t n j _ _ _ _ ?_ ?_ ?_ ?_
  · show win0_9.index t (0 : Fin 4) * 1 + 1 * 0 = t.val / 2; omega
  · show win0_9.index t (1 : Fin 4) * 1 + 1 * 0 = t.val % 2; omega
  · show win0_9.index t (3 : Fin 4) * 256 + 1 * n.val = n.val; omega
  · show win0_9.index t (2 : Fin 4) * 64 + 1 * j.val = j.val; omega

theorem whole_spec (a : FVec Ideal S16x2x4096x64 .f32) (p : FVec Ideal S32x64 .f32) (w : FVec Ideal S2048x256 .f32) (v : FVec Ideal S256x64 .f32)
    (b : Fin 16) (h : Fin 2) (n : Fin 255) (j : Fin 64) : whole a p w v b h ⟨n.val, by omega⟩ j = spec a p w v b h n j := by
  unfold whole spec unit part
  have e : ∀ i : Fin 1024, (⟨16 * ((n.val + 1) % 256) + i.val / 64, by omega⟩ : Fin 4096) = ⟨16 * (n.val + 1) + i.val / 64, by omega⟩ := fun i => Fin.ext (by dsimp only; omega)
  simp only [e]

theorem cut8 : extractStridedSlice S16x2x255x64 ![0, 0, 0, 0] (W8 m c) slices_S16x2x256x64_S16x2x255x64_0_0_0_0 = keys m c := by
  funext y
  obtain ⟨b, h, n, j, rfl⟩ := InProj.four (n := 16) (p := 2) (q := 255) (r := 64) y
  refine Eq.trans ?_ (whole_spec _ _ _ _ b h n j)
  show _ = W8 m c (ix4 b h ⟨n.val, by omega⟩ j)
  generalize W8 m c = z
  pointwise []

theorem cut9 : extractStridedSlice S16x2x64x255 ![0, 0, 0, 0] (W9 m c) slices_S16x2x64x256_S16x2x64x255_0_0_0_0 = vals m c := by
  funext y
  obtain ⟨b, h, j, n, rfl⟩ := InProj.four (n := 16) (p := 2) (q := 64) (r := 255) y
  refine Eq.trans ?_ (whole_spec _ _ _ _ b h n j)
  show _ = W9 m c (ix4 b h j ⟨n.val, by omega⟩)
  generalize W9 m c = z
  pointwise []

theorem after12 (U : Valuation τ sig (Elt Ideal)) : (StableHlo.after ([hostOps1].flatten : List (HloOp τ sig (Elt Ideal))) U (Proc.devRef .tc main_v12) : FVec Ideal S16x2x255x64 .bf16)
    = extractStridedSlice S16x2x255x64 ![0, 0, 0, 0] (U (Proc.devRef .tc main_v11_0) : FVec Ideal S16x2x256x64 .bf16) slices_S16x2x256x64_S16x2x255x64_0_0_0_0 := by
  simp only [hostOps1, List.flatten_cons, List.flatten_nil, List.append_nil]
  after_results_simp <;> rfl

theorem after13 (U : Valuation τ sig (Elt Ideal)) : (StableHlo.after ([hostOps1].flatten : List (HloOp τ sig (Elt Ideal))) U (Proc.devRef .tc main_v13) : FVec Ideal S16x2x64x255 .bf16)
    = extractStridedSlice S16x2x64x255 ![0, 0, 0, 0] (U (Proc.devRef .tc main_v11_1) : FVec Ideal S16x2x64x256 .bf16) slices_S16x2x64x256_S16x2x64x255_0_0_0_0 := by
  simp only [hostOps1, List.flatten_cons, List.flatten_nil, List.append_nil]
  after_results_simp <;> rfl

theorem exit8 : (Pipeline.withArrays (cfgs 0).spec c (V0 m c) (fun w => (dats m 0 c).arrAt w (cfgs 0).N) (Proc.devRef .tc main_v11_0) : FVec Ideal S16x2x256x64 .bf16) = W8 m c :=
  (Pipeline.withArrays_arr (cfgs 0).spec winFacts0.arr_inj c (V0 m c) (fun w => (dats m 0 c).arrAt w (cfgs 0).N) 8).trans (result8 m c)

theorem tail12 : Pipeline.afterTail₀ cfgs (dats m) 0 (V0 m) [hostOps1] c main_v12 = keys m c := by
  unfold Pipeline.afterTail₀
  refine (after12 (Pipeline.withArrays (cfgs 0).spec c (V0 m c) (fun w => (dats m 0 c).arrAt w (cfgs 0).N))).trans ?_
  rw [exit8]
  exact cut8 m c

theorem exit9 : (Pipeline.withArrays (cfgs 0).spec c (V0 m c) (fun w => (dats m 0 c).arrAt w (cfgs 0).N) (Proc.devRef .tc main_v11_1) : FVec Ideal S16x2x64x256 .bf16) = W9 m c :=
  (Pipeline.withArrays_arr (cfgs 0).spec winFacts0.arr_inj c (V0 m c) (fun w => (dats m 0 c).arrAt w (cfgs 0).N) 9).trans (result9 m c)

theorem tail13 : Pipeline.afterTail₀ cfgs (dats m) 0 (V0 m) [hostOps1] c main_v13 = vals m c := by
  unfold Pipeline.afterTail₀
  refine (after13 (Pipeline.withArrays (cfgs 0).spec c (V0 m c) (fun w => (dats m 0 c).arrAt w (cfgs 0).N))).trans ?_
  rw [exit9]
  exact cut9 m c

/-- From equal arguments the reference's results are the call's. -/
theorem value (m' : (ℓ : Loc Cert.Reference5Ideal.nD Cert.Reference5Ideal.τ Cert.Reference5Ideal.sig) → Buf (Elt Ideal) ℓ)
    (h0 : m' (c, Proc.tc.devRef Cert.Reference5Ideal.main_arg0) = aK m c) (h1 : m' (c, Proc.tc.devRef Cert.Reference5Ideal.main_arg1) = aV m c)
    (h2 : m' (c, Proc.tc.devRef Cert.Reference5Ideal.main_arg2) = aPK m c) (h3 : m' (c, Proc.tc.devRef Cert.Reference5Ideal.main_arg3) = aPV m c)
    (h4 : m' (c, Proc.tc.devRef Cert.Reference5Ideal.main_arg4) = aWK m c) (h5 : m' (c, Proc.tc.devRef Cert.Reference5Ideal.main_arg5) = aUK m c)
    (h6 : m' (c, Proc.tc.devRef Cert.Reference5Ideal.main_arg6) = aWV m c) (h7 : m' (c, Proc.tc.devRef Cert.Reference5Ideal.main_arg7) = aUV m c) :
    Cert.Reference5Ideal.Value.res_main_v23 m' c = keys m c ∧ Cert.Reference5Ideal.Value.res_main_v48 m' c = vals m c := by
  constructor
  · funext y
    obtain ⟨b, h, n, j, rfl⟩ := InProj.four (n := 16) (p := 2) (q := 255) (r := 64) y
    refine (Ref.res0_at m' c b h n j).trans ?_
    show Cmp.spec (m' (c, Proc.tc.devRef Cert.Reference5Ideal.main_arg0)) (m' (c, Proc.tc.devRef Cert.Reference5Ideal.main_arg2))
      (m' (c, Proc.tc.devRef Cert.Reference5Ideal.main_arg4)) (m' (c, Proc.tc.devRef Cert.Reference5Ideal.main_arg5)) b h n j = _
    rw [h0, h2, h4, h5]
    rfl
  · funext y
    obtain ⟨b, h, j, n, rfl⟩ := InProj.four (n := 16) (p := 2) (q := 64) (r := 255) y
    refine (Ref.res1_at m' c b h j n).trans ?_
    show Cmp.spec (m' (c, Proc.tc.devRef Cert.Reference5Ideal.main_arg1)) (m' (c, Proc.tc.devRef Cert.Reference5Ideal.main_arg3))
      (m' (c, Proc.tc.devRef Cert.Reference5Ideal.main_arg6)) (m' (c, Proc.tc.devRef Cert.Reference5Ideal.main_arg7)) b h n j = _
    rw [h1, h3, h6, h7]
    rfl

/-- The run of the call: the two results, and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v12) = keys m c
      ∧ r.2.mem ((c.tc : Thread nD τ).loc main_v13) = vals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    have q := (h c).2
    exact ⟨(q main_v12 (Pipeline.mem_restRefs_of main_v12 (by decide) (by decide))).trans (tail12 m c),
      (q main_v13 (Pipeline.mem_restRefs_of main_v13 (by decide) (by decide))).trans (tail13 m c),
      (q main_arg0 (Pipeline.mem_restRefs_of main_arg0 (by decide) (by decide))).trans (W_main_arg0 m (dats m) c),
      (q main_arg1 (Pipeline.mem_restRefs_of main_arg1 (by decide) (by decide))).trans (W_main_arg1 m (dats m) c),
      (q main_arg2 (Pipeline.mem_restRefs_of main_arg2 (by decide) (by decide))).trans (W_main_arg2 m (dats m) c),
      (q main_arg3 (Pipeline.mem_restRefs_of main_arg3 (by decide) (by decide))).trans (W_main_arg3 m (dats m) c),
      (q main_arg4 (Pipeline.mem_restRefs_of main_arg4 (by decide) (by decide))).trans (W_main_arg4 m (dats m) c),
      (q main_arg5 (Pipeline.mem_restRefs_of main_arg5 (by decide) (by decide))).trans (W_main_arg5 m (dats m) c),
      (q main_arg6 (Pipeline.mem_restRefs_of main_arg6 (by decide) (by decide))).trans (W_main_arg6 m (dats m) c),
      (q main_arg7 (Pipeline.mem_restRefs_of main_arg7 (by decide) (by decide))).trans (W_main_arg7 m (dats m) c)⟩)
    (run_main m ρ)

end Cmp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_conv
public import proofs.«01_k».proof.Proof.Gen.Pre_finite
public import proofs.«01_k».proof.Proof.Gen.Pre_finite_gate
public import proofs.«01_k».proof.Proof.Gen.Pre_finite_gate1
public import proofs.«01_k».proof.Proof.Gen.KernelIdeal.Value
public import proofs.«01_k».proof.Proof.Gen.ReferenceIdeal.Run
public import proofs.«01_k».proof.Proof.Gen.ReferenceIdeal.Step
public import proofs.«01_k».proof.Proof.GdnKernel
public import proofs.«01_k».proof.Proof.RefStep
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.FfnValue
public import proofs.«01_k».proof.Proof.InProjValue
public import proofs.«01_k».proof.Proof.CmpValue
public import Idealize.ShloMosaic.Adequacy
public import Idealize.ShloMosaic.Init

@[expose] public section

noncomputable section

namespace Cert.Proof

open Idealize.ShloMosaic Idealize.ShloMosaic.StableHlo Idealize.SL.Sem

/-- The reference runs without fault, ends with its counters at zero and leaves its arguments as they were. -/
theorem frame_reference : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2))
    (Cert.ReferenceIdeal.Value.run (F := Ideal) m g)

theorem frame_reference2 : Cert.quiescent_Reference2Ideal (hReference2Ideal := Cert.Reference2Ideal.Gen.facts) := fun m g _ =>
  (θ_run Cert.Reference2Ideal.defs _ _).mono (fun r h => And.intro (fun c => (h c).2) (sem_eq_zero_of_no_sems (by decide) r.2))
    (Cert.Reference2Ideal.Value.run (F := Ideal) m g)

theorem frame_reference3 : Cert.quiescent_Reference3Ideal (hReference3Ideal := Cert.Reference3Ideal.Gen.facts) := fun m g _ =>
  (θ_run Cert.Reference3Ideal.defs _ _).mono (fun r h => And.intro (fun c => (h c).2) (sem_eq_zero_of_no_sems (by decide) r.2))
    (Cert.Reference3Ideal.Value.run (F := Ideal) m g)

theorem frame_reference4 : Cert.quiescent_Reference4Ideal (hReference4Ideal := Cert.Reference4Ideal.Gen.facts) := fun m g _ =>
  (θ_run Cert.Reference4Ideal.defs _ _).mono (fun r h => And.intro (fun c => (h c).2.2.2.2.2.2.2.2.2.2.2) (sem_eq_zero_of_no_sems (by decide) r.2))
    (Cert.Reference4Ideal.Value.run (F := Ideal) m g)

theorem frame_reference5 : Cert.quiescent_Reference5Ideal (hReference5Ideal := Cert.Reference5Ideal.Gen.facts) := fun m g _ =>
  (θ_run Cert.Reference5Ideal.defs _ _).mono (fun r h => And.intro (fun c => (h c).2.2) (sem_eq_zero_of_no_sems (by decide) r.2))
    (Cert.Reference5Ideal.Value.run (F := Ideal) m g)

/-- A number whose size compares below infinity is real. -/
theorem real_of_lt {s : Shape} (x inf : FVec Ideal s .f32) (hi : ∀ i, inf i = ⊤) (h : cmpf .olt (Host.absf x) inf = fun _ => 1#1) (i : s.Idx) :
    x i = (((x i).toReal : ℝ) : EReal) := by
  have h1 := congrFun h i
  have h2 : max (x i) (-(x i)) < inf i := by
    by_contra hn
    have : cmpf .olt (Host.absf x) inf i = 0#1 := by
      show BitVec.ofBool (decide (max (x i) (-(x i)) < inf i)) = 0#1
      rw [decide_eq_false hn]
      rfl
    rw [this] at h1
    exact absurd h1 (by decide)
  rw [hi] at h2
  refine (EReal.coe_toReal (fun e => ?_) (fun e => ?_)).symm
  · rw [e] at h2; exact absurd h2 (by simp)
  · rw [e] at h2; exact absurd h2 (by simp)

theorem inf_eq : Ideal.ofBits .f32 0x7F800000#32 = ⊤ := by simp [Ideal.ofBits, Ideal.ieee]

open GatedDelta in
/-- The precondition makes the arguments finite. -/
theorem finite_args (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    (Kern.args m c).Finite := by
  obtain ⟨h0, h1, h2, h3, h4⟩ := h c
  exact ⟨real_of_lt _ _ (fun _ => inf_eq) h0, real_of_lt _ _ (fun _ => inf_eq) h1, real_of_lt _ _ (fun _ => inf_eq) h2,
    real_of_lt _ _ (fun _ => inf_eq) h3, real_of_lt _ _ (fun _ => inf_eq) h4⟩

open GatedDelta in
/-- THE VALUE: from equal finite arguments the kernel's result is the reference's. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : (Kern.args m c).Finite) (e : Ref.args m' c = Kern.args m c) :
    Cert.ReferenceIdeal.Value.out_main_v64 (Cert.ReferenceIdeal.Value.STEP^[4096]
        (entryContents Cert.ReferenceIdeal.Value.preI m' c)) = Cert.KernelIdeal.Value.G7 m c := by
  rw [Ref.result_of, (Ref.iterate_holds m' c 4096).2, Cert.ReferenceIdeal.Value.iter_main_arg1, Cert.ReferenceIdeal.Value.iter_main_arg6]
  funext i
  obtain ⟨s, n, l, rfl⟩ : ∃ (s : Fin 16) (n : Fin 4096) (l : Fin 512), i = ix3 s n l :=
    ⟨i 0, i 1, i 2, by funext a; match a with | ⟨0, _⟩ => rfl | ⟨1, _⟩ => rfl | ⟨2, _⟩ => rfl⟩
  obtain ⟨h, j, rfl⟩ : ∃ (h : Fin 4) (j : Fin 128), l = ⟨128 * h.val + j.val, by omega⟩ :=
    ⟨⟨l.val / 128, by omega⟩, ⟨l.val % 128, by omega⟩, Fin.ext (by show l.val = 128 * (l.val / 128) + l.val % 128; omega)⟩
  rw [Ref.result m' c (e ▸ hA) s n h j, e]
  exact (Kern.result m c hA s n h j).symm

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    GatedDelta.Ref.args m' c = GatedDelta.Kern.args m c := by
  obtain ⟨h0, h1, h2, h3, h4, h5, h6⟩ := h
  unfold GatedDelta.Ref.args
  rw [h0, h1, h2, h3, h4, h5, h6]
  rfl

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hargs =>
  ⟨fun c => Cert.KernelIdeal.Value.G7 m c,
    Cert.KernelIdeal.Value.run m g,
    (θ_run Cert.ReferenceIdeal.defs _ _).mono
      (fun _ h c => And.intro ((h c).1.trans (value m m' c (finite_args m hpre c) (args_eq m m' c (hargs c)))) (h c).2)
      (Cert.ReferenceIdeal.Value.run (F := Ideal) m' g')⟩

open Ffn in
/-- From equal arguments with real gate weights the reference's result is the kernel's. -/
theorem value2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (hp : Cert.Pre_Kernel2Ideal_finite_gate (hPre_finite_gate := Cert.Pre_finite_gate.Gen.facts) m)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) :
    Ref.wholeSecond (m' (c, Proc.tc.devRef Cert.Reference2Ideal.main_arg0)) (m' (c, Proc.tc.devRef Cert.Reference2Ideal.main_arg1)) (m' (c, Proc.tc.devRef Cert.Reference2Ideal.main_arg2)) (m' (c, Proc.tc.devRef Cert.Reference2Ideal.main_arg3)) (m' (c, Proc.tc.devRef Cert.Reference2Ideal.main_arg4)) (m' (c, Proc.tc.devRef Cert.Reference2Ideal.main_arg5)) (m' (c, Proc.tc.devRef Cert.Reference2Ideal.main_arg6)) (m' (c, Proc.tc.devRef Cert.Reference2Ideal.main_arg7)) (m' (c, Proc.tc.devRef Cert.Reference2Ideal.main_arg8)) (m' (c, Proc.tc.devRef Cert.Reference2Ideal.main_arg9)) (m' (c, Proc.tc.devRef Cert.Reference2Ideal.main_arg10)) = Second.whole m c siluT := by
  obtain ⟨h0, h1, h2, h3, h4, h5, h6, h7, h8, h9, h10⟩ := h
  have hg : ∀ i, ∃ r : ℝ, Second.aWg m c i = r := fun i => ⟨_, real_of_lt _ _ (fun _ => inf_eq) (hp c) i⟩
  rw [second_silu m c hg, second_ref]
  have e0 : m' (c, Proc.tc.devRef Cert.Reference2Ideal.main_arg0) = Second.aX m c := h0
  have e1 : m' (c, Proc.tc.devRef Cert.Reference2Ideal.main_arg1) = Second.aOg m c := h1
  have e2 : m' (c, Proc.tc.devRef Cert.Reference2Ideal.main_arg2) = Second.aOn m c := h2
  have e3 : m' (c, Proc.tc.devRef Cert.Reference2Ideal.main_arg3) = Second.aWo m c := h3
  have e4 : m' (c, Proc.tc.devRef Cert.Reference2Ideal.main_arg4) = Second.aG2 m c := h4
  have e5 : m' (c, Proc.tc.devRef Cert.Reference2Ideal.main_arg5) = Second.aB2 m c := h5
  have e6 : m' (c, Proc.tc.devRef Cert.Reference2Ideal.main_arg6) = Second.aWg m c := h6
  have e7 : m' (c, Proc.tc.devRef Cert.Reference2Ideal.main_arg7) = Second.aWu m c := h7
  have e8 : m' (c, Proc.tc.devRef Cert.Reference2Ideal.main_arg8) = Second.aWd m c := h8
  have e9 : m' (c, Proc.tc.devRef Cert.Reference2Ideal.main_arg9) = Second.aG3 m c := h9
  have e10 : m' (c, Proc.tc.devRef Cert.Reference2Ideal.main_arg10) = Second.aB3 m c := h10
  rw [e0, e1, e2, e3, e4, e5, e6, e7, e8, e9, e10]

theorem algebraic2 : Cert.algebraic_Kernel2Ideal_Reference2Ideal_pre_finite_gate (hKernel2Ideal := Cert.Kernel2Ideal.Gen.facts)
    (hReference2Ideal := Cert.Reference2Ideal.Gen.facts) (hPre_finite_gate := Cert.Pre_finite_gate.Gen.facts) := fun m g m' g' hpre hargs =>
  ⟨fun c => Ffn.Second.whole m c Ffn.siluT,
    (θ_run Cert.Kernel2Ideal.defs _ _).mono (fun _ h c => And.intro ((h c).1.trans (Ffn.Second.result m c)) (h c).2)
      (Cert.Kernel2Ideal.Value.run_blocks (F := Ideal) m g),
    (θ_run Cert.Reference2Ideal.defs _ _).mono (fun _ h c => And.intro ((h c).1.trans (value2 m m' c hpre (hargs c))) (h c).2)
      (Cert.Reference2Ideal.Value.run (F := Ideal) m' g')⟩

open Ffn in
/-- From equal arguments with real gate weights the reference's result is the kernel's. -/
theorem value3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (hp : Cert.Pre_Kernel3Ideal_finite_gate1 (hPre_finite_gate1 := Cert.Pre_finite_gate1.Gen.facts) m)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Value.res_main_v34 m' c = First.whole m c siluT := by
  obtain ⟨h0, h1, h2, h3, h4, h5⟩ := h
  have hg : ∀ i, ∃ r : ℝ, First.aWg m c i = r := fun i => ⟨_, real_of_lt _ _ (fun _ => inf_eq) (hp c) i⟩
  rw [first_silu m c hg, first_ref]
  rw [Ref.res_eq]
  have e0 : m' (c, Proc.tc.devRef Cert.Reference3Ideal.main_arg0) = First.aX m c := h0
  have e1 : m' (c, Proc.tc.devRef Cert.Reference3Ideal.main_arg1) = First.aWg m c := h1
  have e2 : m' (c, Proc.tc.devRef Cert.Reference3Ideal.main_arg2) = First.aWu m c := h2
  have e3 : m' (c, Proc.tc.devRef Cert.Reference3Ideal.main_arg3) = First.aWd m c := h3
  have e4 : m' (c, Proc.tc.devRef Cert.Reference3Ideal.main_arg4) = First.aG m c := h4
  have e5 : m' (c, Proc.tc.devRef Cert.Reference3Ideal.main_arg5) = First.aB m c := h5
  rw [e0, e1, e2, e3, e4, e5]

theorem algebraic3 : Cert.algebraic_Kernel3Ideal_Reference3Ideal_pre_finite_gate1 (hKernel3Ideal := Cert.Kernel3Ideal.Gen.facts)
    (hReference3Ideal := Cert.Reference3Ideal.Gen.facts) (hPre_finite_gate1 := Cert.Pre_finite_gate1.Gen.facts) := fun m g m' g' hpre hargs =>
  ⟨fun c => Ffn.First.whole m c Ffn.siluT,
    (θ_run Cert.Kernel3Ideal.defs _ _).mono (fun _ h c => And.intro ((h c).1.trans (Ffn.First.result m c)) (h c).2)
      (Cert.Kernel3Ideal.Value.run_blocks (F := Ideal) m g),
    (θ_run Cert.Reference3Ideal.defs _ _).mono (fun _ h c => And.intro ((h c).1.trans (value3 m m' c hpre (hargs c))) (h c).2)
      (Cert.Reference3Ideal.Value.run (F := Ideal) m' g')⟩

open InProj Ffn in
/-- Under the precondition the two silus agree. -/
theorem silu4 (m : (ℓ : Loc Cert.Kernel4Ideal.nD Cert.Kernel4Ideal.τ Cert.Kernel4Ideal.sig) → Buf (Elt Ideal) ℓ) (c : Dev Cert.Kernel4Ideal.nD)
    (hp : Cert.Pre_Kernel4Ideal_finite_conv (hPre_finite_conv := Cert.Pre_finite_conv.Gen.facts) m) (R : Fin 65536) (j : Fin 1536) :
    oQkv (PX m c) (CX m c) siluT R j = oQkv (PX m c) (CX m c) siluE R j := by
  obtain ⟨h0, h1, h2⟩ := hp c
  refine qkv_silu _ _ (fun s n j => dot_real _ _ (fun s n k => ⟨_, real_of_lt (aX m c) _ (fun _ => inf_eq) h0 (ix3 s n k)⟩) _ (fun k => ?_) s n)
    (fun d j => ⟨_, real_of_lt (aC m c) _ (fun _ => inf_eq) h2 (ix2 d j)⟩) R j
  have hw := real_of_lt (s := ⟨2, ![1024, 1536]⟩) _ _ (fun _ => inf_eq) h1 (ix2 k j)
  refine ⟨_, Eq.trans ?_ hw⟩
  pointwise []

open InProj Ffn in
/-- From equal arguments that satisfy the precondition the reference's results are the kernel's. -/
theorem value4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (hp : Cert.Pre_Kernel4Ideal_finite_conv (hPre_finite_conv := Cert.Pre_finite_conv.Gen.facts) m)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Value.res_main_v43 m' c = W5 m c
      ∧ Ref.rZ (Ref.prods (m' (c, Proc.tc.devRef Cert.Reference4Ideal.main_arg0)) (m' (c, Proc.tc.devRef Cert.Reference4Ideal.main_arg1))) = W6 m c
      ∧ Ref.rSmall (Ref.prods (m' (c, Proc.tc.devRef Cert.Reference4Ideal.main_arg0)) (m' (c, Proc.tc.devRef Cert.Reference4Ideal.main_arg1))) = W7 m c
      ∧ Ref.rKc (Ref.prods (m' (c, Proc.tc.devRef Cert.Reference4Ideal.main_arg0)) (m' (c, Proc.tc.devRef Cert.Reference4Ideal.main_arg1))) = W8 m c
      ∧ Ref.rVc (Ref.prods (m' (c, Proc.tc.devRef Cert.Reference4Ideal.main_arg0)) (m' (c, Proc.tc.devRef Cert.Reference4Ideal.main_arg1))) = W9 m c
      ∧ Ref.rKs (Ref.prods (m' (c, Proc.tc.devRef Cert.Reference4Ideal.main_arg0)) (m' (c, Proc.tc.devRef Cert.Reference4Ideal.main_arg1))) = W10 m c
      ∧ Ref.rKw (Ref.prods (m' (c, Proc.tc.devRef Cert.Reference4Ideal.main_arg0)) (m' (c, Proc.tc.devRef Cert.Reference4Ideal.main_arg1))) = W11 m c
      ∧ Ref.rQ (Ref.prods (m' (c, Proc.tc.devRef Cert.Reference4Ideal.main_arg0)) (m' (c, Proc.tc.devRef Cert.Reference4Ideal.main_arg1))) = W12 m c
      ∧ Ref.rVs (Ref.prods (m' (c, Proc.tc.devRef Cert.Reference4Ideal.main_arg0)) (m' (c, Proc.tc.devRef Cert.Reference4Ideal.main_arg1))) = W13 m c
      ∧ Ref.rVw (Ref.prods (m' (c, Proc.tc.devRef Cert.Reference4Ideal.main_arg0)) (m' (c, Proc.tc.devRef Cert.Reference4Ideal.main_arg1))) = W14 m c
      ∧ Ref.rG (Ref.prods (m' (c, Proc.tc.devRef Cert.Reference4Ideal.main_arg0)) (m' (c, Proc.tc.devRef Cert.Reference4Ideal.main_arg1))) = W15 m c := by
  obtain ⟨h0, h1, h2⟩ := h
  rw [Ref.res_eq]
  have e0 : m' (c, Proc.tc.devRef Cert.Reference4Ideal.main_arg0) = aX m c := h0
  have e1 : m' (c, Proc.tc.devRef Cert.Reference4Ideal.main_arg1) = aW m c := h1
  have e2 : m' (c, Proc.tc.devRef Cert.Reference4Ideal.main_arg2) = aC m c := h2
  rw [e0, e1, e2]
  exact ⟨whole_qkv m c (silu4 m c hp), whole_z m c, whole_small m c, whole_kc m c, whole_vc m c, whole_ks m c, whole_kw m c, whole_q m c, whole_vs m c, whole_vw m c, whole_g m c⟩

theorem algebraic4 : Cert.algebraic_Kernel4Ideal_Reference4Ideal_pre_finite_conv (hKernel4Ideal := Cert.Kernel4Ideal.Gen.facts)
    (hReference4Ideal := Cert.Reference4Ideal.Gen.facts) (hPre_finite_conv := Cert.Pre_finite_conv.Gen.facts) := fun m g m' g' hpre hargs =>
  ⟨fun c => InProj.W5 m c, fun c => InProj.W6 m c, fun c => InProj.W7 m c, fun c => InProj.W8 m c, fun c => InProj.W9 m c, fun c => InProj.W10 m c, fun c => InProj.W11 m c, fun c => InProj.W12 m c, fun c => InProj.W13 m c, fun c => InProj.W14 m c, fun c => InProj.W15 m c,
    (θ_run Cert.Kernel4Ideal.defs _ _).mono (fun _ h c => by
      obtain ⟨q0, q1, q2, q3, q4, q5, q6, q7, q8, q9, q10, rest⟩ := h c
      exact ⟨q0.trans (InProj.result5 m c), q1.trans (InProj.result6 m c), q2.trans (InProj.result7 m c), q3.trans (InProj.result8 m c), q4.trans (InProj.result9 m c), q5.trans (InProj.result10 m c), q6.trans (InProj.result11 m c), q7.trans (InProj.result12 m c), q8.trans (InProj.result13 m c), q9.trans (InProj.result14 m c), q10.trans (InProj.result15 m c), rest⟩)
      (Cert.Kernel4Ideal.Value.run_blocks (F := Ideal) m g),
    (θ_run Cert.Reference4Ideal.defs _ _).mono (fun _ h c => by
      obtain ⟨q0, q1, q2, q3, q4, q5, q6, q7, q8, q9, q10, rest⟩ := h c
      obtain ⟨v0, v1, v2, v3, v4, v5, v6, v7, v8, v9, v10⟩ := value4 m m' c hpre (hargs c)
      exact ⟨q0.trans v0, q1.trans v1, q2.trans v2, q3.trans v3, q4.trans v4, q5.trans v5, q6.trans v6, q7.trans v7, q8.trans v8, q9.trans v9, q10.trans v10, rest⟩)
      (Cert.Reference4Ideal.Value.run (F := Ideal) m' g')⟩

theorem algebraic5 : Cert.algebraic_Kernel5Ideal_Reference5Ideal (hKernel5Ideal := Cert.Kernel5Ideal.Gen.facts)
    (hReference5Ideal := Cert.Reference5Ideal.Gen.facts) := fun m g m' g' _ hargs =>
  ⟨fun c => Cmp.keys m c, fun c => Cmp.vals m c, Cmp.run m g,
    (θ_run Cert.Reference5Ideal.defs _ _).mono (fun _ h c => by
      obtain ⟨q0, q1, rest⟩ := h c
      obtain ⟨h0, h1, h2, h3, h4, h5, h6, h7⟩ := hargs c
      obtain ⟨v0, v1⟩ := Cmp.value m c m' h0 h1 h2 h3 h4 h5 h6 h7
      exact ⟨q0.trans v0, q1.trans v1, rest⟩)
      (Cert.Reference5Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite_gate.Gen.facts, Cert.Pre_finite_gate1.Gen.facts, Cert.Pre_finite_conv.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  frame_reference5,
  IdealRules.named_const.statement Cert.KernelIdeal.κ "masked" .f32 0xF1800000#32 ⊥ rfl,
  algebraic,
  trivial,
  algebraic2,
  trivial,
  algebraic3,
  trivial,
  algebraic4,
  trivial,
  algebraic5⟩

end Cert.Proof

end
